-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10)
      ∧ r.2.mem ((c.tc : Thread Cert.Kernel10.nD Cert.Kernel10.τ).loc Cert.Kernel10.main_arg11) = m ((c.tc : Thread Cert.Kernel10.nD Cert.Kernel10.τ).loc Cert.Kernel10.main_arg11)
      ∧ r.2.mem ((c.tc : Thread Cert.Kernel10.nD Cert.Kernel10.τ).loc Cert.Kernel10.main_arg12) = m ((c.tc : Thread Cert.Kernel10.nD Cert.Kernel10.τ).loc Cert.Kernel10.main_arg12)
      ∧ r.2.mem ((c.tc : Thread Cert.Kernel10.nD Cert.Kernel10.τ).loc Cert.Kernel10.main_arg13) = m ((c.tc : Thread Cert.Kernel10.nD Cert.Kernel10.τ).loc Cert.Kernel10.main_arg13)
      ∧ r.2.mem ((c.tc : Thread Cert.Kernel10.nD Cert.Kernel10.τ).loc Cert.Kernel10.main_arg14) = m ((c.tc : Thread Cert.Kernel10.nD Cert.Kernel10.τ).loc Cert.Kernel10.main_arg14))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
      ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
      ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
      ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11)
      ∧ r.2.mem ((c.tc : Thread Cert.Reference10Ideal.nD Cert.Reference10Ideal.τ).loc Cert.Reference10Ideal.main_arg12) = m ((c.tc : Thread Cert.Reference10Ideal.nD Cert.Reference10Ideal.τ).loc Cert.Reference10Ideal.main_arg12)
      ∧ r.2.mem ((c.tc : Thread Cert.Reference10Ideal.nD Cert.Reference10Ideal.τ).loc Cert.Reference10Ideal.main_arg13) = m ((c.tc : Thread Cert.Reference10Ideal.nD Cert.Reference10Ideal.τ).loc Cert.Reference10Ideal.main_arg13)
      ∧ r.2.mem ((c.tc : Thread Cert.Reference10Ideal.nD Cert.Reference10Ideal.τ).loc Cert.Reference10Ideal.main_arg14) = m ((c.tc : Thread Cert.Reference10Ideal.nD Cert.Reference10Ideal.τ).loc Cert.Reference10Ideal.main_arg14))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10)
      ∧ r.2.mem ((c.tc : Thread Cert.Kernel11.nD Cert.Kernel11.τ).loc Cert.Kernel11.main_arg11) = m ((c.tc : Thread Cert.Kernel11.nD Cert.Kernel11.τ).loc Cert.Kernel11.main_arg11)
      ∧ r.2.mem ((c.tc : Thread Cert.Kernel11.nD Cert.Kernel11.τ).loc Cert.Kernel11.main_arg12) = m ((c.tc : Thread Cert.Kernel11.nD Cert.Kernel11.τ).loc Cert.Kernel11.main_arg12)
      ∧ r.2.mem ((c.tc : Thread Cert.Kernel11.nD Cert.Kernel11.τ).loc Cert.Kernel11.main_arg13) = m ((c.tc : Thread Cert.Kernel11.nD Cert.Kernel11.τ).loc Cert.Kernel11.main_arg13)
      ∧ r.2.mem ((c.tc : Thread Cert.Kernel11.nD Cert.Kernel11.τ).loc Cert.Kernel11.main_arg14) = m ((c.tc : Thread Cert.Kernel11.nD Cert.Kernel11.τ).loc Cert.Kernel11.main_arg14)
      ∧ r.2.mem ((c.tc : Thread Cert.Kernel11.nD Cert.Kernel11.τ).loc Cert.Kernel11.main_arg15) = m ((c.tc : Thread Cert.Kernel11.nD Cert.Kernel11.τ).loc Cert.Kernel11.main_arg15)
      ∧ r.2.mem ((c.tc : Thread Cert.Kernel11.nD Cert.Kernel11.τ).loc Cert.Kernel11.main_arg16) = m ((c.tc : Thread Cert.Kernel11.nD Cert.Kernel11.τ).loc Cert.Kernel11.main_arg16)
      ∧ r.2.mem ((c.tc : Thread Cert.Kernel11.nD Cert.Kernel11.τ).loc Cert.Kernel11.main_arg17) = m ((c.tc : Thread Cert.Kernel11.nD Cert.Kernel11.τ).loc Cert.Kernel11.main_arg17)
      ∧ r.2.mem ((c.tc : Thread Cert.Kernel11.nD Cert.Kernel11.τ).loc Cert.Kernel11.main_arg18) = m ((c.tc : Thread Cert.Kernel11.nD Cert.Kernel11.τ).loc Cert.Kernel11.main_arg18)
      ∧ r.2.mem ((c.tc : Thread Cert.Kernel11.nD Cert.Kernel11.τ).loc Cert.Kernel11.main_arg19) = m ((c.tc : Thread Cert.Kernel11.nD Cert.Kernel11.τ).loc Cert.Kernel11.main_arg19)
      ∧ r.2.mem ((c.tc : Thread Cert.Kernel11.nD Cert.Kernel11.τ).loc Cert.Kernel11.main_arg20) = m ((c.tc : Thread Cert.Kernel11.nD Cert.Kernel11.τ).loc Cert.Kernel11.main_arg20)
      ∧ r.2.mem ((c.tc : Thread Cert.Kernel11.nD Cert.Kernel11.τ).loc Cert.Kernel11.main_arg21) = m ((c.tc : Thread Cert.Kernel11.nD Cert.Kernel11.τ).loc Cert.Kernel11.main_arg21)
      ∧ r.2.mem ((c.tc : Thread Cert.Kernel11.nD Cert.Kernel11.τ).loc Cert.Kernel11.main_arg22) = m ((c.tc : Thread Cert.Kernel11.nD Cert.Kernel11.τ).loc Cert.Kernel11.main_arg22)
      ∧ r.2.mem ((c.tc : Thread Cert.Kernel11.nD Cert.Kernel11.τ).loc Cert.Kernel11.main_arg23) = m ((c.tc : Thread Cert.Kernel11.nD Cert.Kernel11.τ).loc Cert.Kernel11.main_arg23)
      ∧ r.2.mem ((c.tc : Thread Cert.Kernel11.nD Cert.Kernel11.τ).loc Cert.Kernel11.main_arg24) = m ((c.tc : Thread Cert.Kernel11.nD Cert.Kernel11.τ).loc Cert.Kernel11.main_arg24)
      ∧ r.2.mem ((c.tc : Thread Cert.Kernel11.nD Cert.Kernel11.τ).loc Cert.Kernel11.main_arg25) = m ((c.tc : Thread Cert.Kernel11.nD Cert.Kernel11.τ).loc Cert.Kernel11.main_arg25)
      ∧ r.2.mem ((c.tc : Thread Cert.Kernel11.nD Cert.Kernel11.τ).loc Cert.Kernel11.main_arg26) = m ((c.tc : Thread Cert.Kernel11.nD Cert.Kernel11.τ).loc Cert.Kernel11.main_arg26)
      ∧ r.2.mem ((c.tc : Thread Cert.Kernel11.nD Cert.Kernel11.τ).loc Cert.Kernel11.main_arg27) = m ((c.tc : Thread Cert.Kernel11.nD Cert.Kernel11.τ).loc Cert.Kernel11.main_arg27)
      ∧ r.2.mem ((c.tc : Thread Cert.Kernel11.nD Cert.Kernel11.τ).loc Cert.Kernel11.main_arg28) = m ((c.tc : Thread Cert.Kernel11.nD Cert.Kernel11.τ).loc Cert.Kernel11.main_arg28)
      ∧ r.2.mem ((c.tc : Thread Cert.Kernel11.nD Cert.Kernel11.τ).loc Cert.Kernel11.main_arg29) = m ((c.tc : Thread Cert.Kernel11.nD Cert.Kernel11.τ).loc Cert.Kernel11.main_arg29)
      ∧ r.2.mem ((c.tc : Thread Cert.Kernel11.nD Cert.Kernel11.τ).loc Cert.Kernel11.main_arg30) = m ((c.tc : Thread Cert.Kernel11.nD Cert.Kernel11.τ).loc Cert.Kernel11.main_arg30)
      ∧ r.2.mem ((c.tc : Thread Cert.Kernel11.nD Cert.Kernel11.τ).loc Cert.Kernel11.main_arg31) = m ((c.tc : Thread Cert.Kernel11.nD Cert.Kernel11.τ).loc Cert.Kernel11.main_arg31)
      ∧ r.2.mem ((c.tc : Thread Cert.Kernel11.nD Cert.Kernel11.τ).loc Cert.Kernel11.main_arg32) = m ((c.tc : Thread Cert.Kernel11.nD Cert.Kernel11.τ).loc Cert.Kernel11.main_arg32)
      ∧ r.2.mem ((c.tc : Thread Cert.Kernel11.nD Cert.Kernel11.τ).loc Cert.Kernel11.main_arg33) = m ((c.tc : Thread Cert.Kernel11.nD Cert.Kernel11.τ).loc Cert.Kernel11.main_arg33)
      ∧ r.2.mem ((c.tc : Thread Cert.Kernel11.nD Cert.Kernel11.τ).loc Cert.Kernel11.main_arg34) = m ((c.tc : Thread Cert.Kernel11.nD Cert.Kernel11.τ).loc Cert.Kernel11.main_arg34)
      ∧ r.2.mem ((c.tc : Thread Cert.Kernel11.nD Cert.Kernel11.τ).loc Cert.Kernel11.main_arg35) = m ((c.tc : Thread Cert.Kernel11.nD Cert.Kernel11.τ).loc Cert.Kernel11.main_arg35))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
      ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
      ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
      ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13)
      ∧ r.2.mem ((c.tc : Thread Cert.Kernel11Ideal.nD Cert.Kernel11Ideal.τ).loc Cert.Kernel11Ideal.main_arg14) = m ((c.tc : Thread Cert.Kernel11Ideal.nD Cert.Kernel11Ideal.τ).loc Cert.Kernel11Ideal.main_arg14)
      ∧ r.2.mem ((c.tc : Thread Cert.Kernel11Ideal.nD Cert.Kernel11Ideal.τ).loc Cert.Kernel11Ideal.main_arg15) = m ((c.tc : Thread Cert.Kernel11Ideal.nD Cert.Kernel11Ideal.τ).loc Cert.Kernel11Ideal.main_arg15)
      ∧ r.2.mem ((c.tc : Thread Cert.Kernel11Ideal.nD Cert.Kernel11Ideal.τ).loc Cert.Kernel11Ideal.main_arg16) = m ((c.tc : Thread Cert.Kernel11Ideal.nD Cert.Kernel11Ideal.τ).loc Cert.Kernel11Ideal.main_arg16)
      ∧ r.2.mem ((c.tc : Thread Cert.Kernel11Ideal.nD Cert.Kernel11Ideal.τ).loc Cert.Kernel11Ideal.main_arg17) = m ((c.tc : Thread Cert.Kernel11Ideal.nD Cert.Kernel11Ideal.τ).loc Cert.Kernel11Ideal.main_arg17)
      ∧ r.2.mem ((c.tc : Thread Cert.Kernel11Ideal.nD Cert.Kernel11Ideal.τ).loc Cert.Kernel11Ideal.main_arg18) = m ((c.tc : Thread Cert.Kernel11Ideal.nD Cert.Kernel11Ideal.τ).loc Cert.Kernel11Ideal.main_arg18)
      ∧ r.2.mem ((c.tc : Thread Cert.Kernel11Ideal.nD Cert.Kernel11Ideal.τ).loc Cert.Kernel11Ideal.main_arg19) = m ((c.tc : Thread Cert.Kernel11Ideal.nD Cert.Kernel11Ideal.τ).loc Cert.Kernel11Ideal.main_arg19)
      ∧ r.2.mem ((c.tc : Thread Cert.Kernel11Ideal.nD Cert.Kernel11Ideal.τ).loc Cert.Kernel11Ideal.main_arg20) = m ((c.tc : Thread Cert.Kernel11Ideal.nD Cert.Kernel11Ideal.τ).loc Cert.Kernel11Ideal.main_arg20)
      ∧ r.2.mem ((c.tc : Thread Cert.Kernel11Ideal.nD Cert.Kernel11Ideal.τ).loc Cert.Kernel11Ideal.main_arg21) = m ((c.tc : Thread Cert.Kernel11Ideal.nD Cert.Kernel11Ideal.τ).loc Cert.Kernel11Ideal.main_arg21)
      ∧ r.2.mem ((c.tc : Thread Cert.Kernel11Ideal.nD Cert.Kernel11Ideal.τ).loc Cert.Kernel11Ideal.main_arg22) = m ((c.tc : Thread Cert.Kernel11Ideal.nD Cert.Kernel11Ideal.τ).loc Cert.Kernel11Ideal.main_arg22)
      ∧ r.2.mem ((c.tc : Thread Cert.Kernel11Ideal.nD Cert.Kernel11Ideal.τ).loc Cert.Kernel11Ideal.main_arg23) = m ((c.tc : Thread Cert.Kernel11Ideal.nD Cert.Kernel11Ideal.τ).loc Cert.Kernel11Ideal.main_arg23)
      ∧ r.2.mem ((c.tc : Thread Cert.Kernel11Ideal.nD Cert.Kernel11Ideal.τ).loc Cert.Kernel11Ideal.main_arg24) = m ((c.tc : Thread Cert.Kernel11Ideal.nD Cert.Kernel11Ideal.τ).loc Cert.Kernel11Ideal.main_arg24)
      ∧ r.2.mem ((c.tc : Thread Cert.Kernel11Ideal.nD Cert.Kernel11Ideal.τ).loc Cert.Kernel11Ideal.main_arg25) = m ((c.tc : Thread Cert.Kernel11Ideal.nD Cert.Kernel11Ideal.τ).loc Cert.Kernel11Ideal.main_arg25)
      ∧ r.2.mem ((c.tc : Thread Cert.Kernel11Ideal.nD Cert.Kernel11Ideal.τ).loc Cert.Kernel11Ideal.main_arg26) = m ((c.tc : Thread Cert.Kernel11Ideal.nD Cert.Kernel11Ideal.τ).loc Cert.Kernel11Ideal.main_arg26)
      ∧ r.2.mem ((c.tc : Thread Cert.Kernel11Ideal.nD Cert.Kernel11Ideal.τ).loc Cert.Kernel11Ideal.main_arg27) = m ((c.tc : Thread Cert.Kernel11Ideal.nD Cert.Kernel11Ideal.τ).loc Cert.Kernel11Ideal.main_arg27)
      ∧ r.2.mem ((c.tc : Thread Cert.Kernel11Ideal.nD Cert.Kernel11Ideal.τ).loc Cert.Kernel11Ideal.main_arg28) = m ((c.tc : Thread Cert.Kernel11Ideal.nD Cert.Kernel11Ideal.τ).loc Cert.Kernel11Ideal.main_arg28)
      ∧ r.2.mem ((c.tc : Thread Cert.Kernel11Ideal.nD Cert.Kernel11Ideal.τ).loc Cert.Kernel11Ideal.main_arg29) = m ((c.tc : Thread Cert.Kernel11Ideal.nD Cert.Kernel11Ideal.τ).loc Cert.Kernel11Ideal.main_arg29)
      ∧ r.2.mem ((c.tc : Thread Cert.Kernel11Ideal.nD Cert.Kernel11Ideal.τ).loc Cert.Kernel11Ideal.main_arg30) = m ((c.tc : Thread Cert.Kernel11Ideal.nD Cert.Kernel11Ideal.τ).loc Cert.Kernel11Ideal.main_arg30)
      ∧ r.2.mem ((c.tc : Thread Cert.Kernel11Ideal.nD Cert.Kernel11Ideal.τ).loc Cert.Kernel11Ideal.main_arg31) = m ((c.tc : Thread Cert.Kernel11Ideal.nD Cert.Kernel11Ideal.τ).loc Cert.Kernel11Ideal.main_arg31)
      ∧ r.2.mem ((c.tc : Thread Cert.Kernel11Ideal.nD Cert.Kernel11Ideal.τ).loc Cert.Kernel11Ideal.main_arg32) = m ((c.tc : Thread Cert.Kernel11Ideal.nD Cert.Kernel11Ideal.τ).loc Cert.Kernel11Ideal.main_arg32)
      ∧ r.2.mem ((c.tc : Thread Cert.Kernel11Ideal.nD Cert.Kernel11Ideal.τ).loc Cert.Kernel11Ideal.main_arg33) = m ((c.tc : Thread Cert.Kernel11Ideal.nD Cert.Kernel11Ideal.τ).loc Cert.Kernel11Ideal.main_arg33)
      ∧ r.2.mem ((c.tc : Thread Cert.Kernel11Ideal.nD Cert.Kernel11Ideal.τ).loc Cert.Kernel11Ideal.main_arg34) = m ((c.tc : Thread Cert.Kernel11Ideal.nD Cert.Kernel11Ideal.τ).loc Cert.Kernel11Ideal.main_arg34)
      ∧ r.2.mem ((c.tc : Thread Cert.Kernel11Ideal.nD Cert.Kernel11Ideal.τ).loc Cert.Kernel11Ideal.main_arg35) = m ((c.tc : Thread Cert.Kernel11Ideal.nD Cert.Kernel11Ideal.τ).loc Cert.Kernel11Ideal.main_arg35))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10)
      ∧ r.2.mem ((c.tc : Thread Cert.Reference11Ideal.nD Cert.Reference11Ideal.τ).loc Cert.Reference11Ideal.main_arg11) = m ((c.tc : Thread Cert.Reference11Ideal.nD Cert.Reference11Ideal.τ).loc Cert.Reference11Ideal.main_arg11)
      ∧ r.2.mem ((c.tc : Thread Cert.Reference11Ideal.nD Cert.Reference11Ideal.τ).loc Cert.Reference11Ideal.main_arg12) = m ((c.tc : Thread Cert.Reference11Ideal.nD Cert.Reference11Ideal.τ).loc Cert.Reference11Ideal.main_arg12)
      ∧ r.2.mem ((c.tc : Thread Cert.Reference11Ideal.nD Cert.Reference11Ideal.τ).loc Cert.Reference11Ideal.main_arg13) = m ((c.tc : Thread Cert.Reference11Ideal.nD Cert.Reference11Ideal.τ).loc Cert.Reference11Ideal.main_arg13)
      ∧ r.2.mem ((c.tc : Thread Cert.Reference11Ideal.nD Cert.Reference11Ideal.τ).loc Cert.Reference11Ideal.main_arg14) = m ((c.tc : Thread Cert.Reference11Ideal.nD Cert.Reference11Ideal.τ).loc Cert.Reference11Ideal.main_arg14)
      ∧ r.2.mem ((c.tc : Thread Cert.Reference11Ideal.nD Cert.Reference11Ideal.τ).loc Cert.Reference11Ideal.main_arg15) = m ((c.tc : Thread Cert.Reference11Ideal.nD Cert.Reference11Ideal.τ).loc Cert.Reference11Ideal.main_arg15)
      ∧ r.2.mem ((c.tc : Thread Cert.Reference11Ideal.nD Cert.Reference11Ideal.τ).loc Cert.Reference11Ideal.main_arg16) = m ((c.tc : Thread Cert.Reference11Ideal.nD Cert.Reference11Ideal.τ).loc Cert.Reference11Ideal.main_arg16)
      ∧ r.2.mem ((c.tc : Thread Cert.Reference11Ideal.nD Cert.Reference11Ideal.τ).loc Cert.Reference11Ideal.main_arg17) = m ((c.tc : Thread Cert.Reference11Ideal.nD Cert.Reference11Ideal.τ).loc Cert.Reference11Ideal.main_arg17)
      ∧ r.2.mem ((c.tc : Thread Cert.Reference11Ideal.nD Cert.Reference11Ideal.τ).loc Cert.Reference11Ideal.main_arg18) = m ((c.tc : Thread Cert.Reference11Ideal.nD Cert.Reference11Ideal.τ).loc Cert.Reference11Ideal.main_arg18)
      ∧ r.2.mem ((c.tc : Thread Cert.Reference11Ideal.nD Cert.Reference11Ideal.τ).loc Cert.Reference11Ideal.main_arg19) = m ((c.tc : Thread Cert.Reference11Ideal.nD Cert.Reference11Ideal.τ).loc Cert.Reference11Ideal.main_arg19)
      ∧ r.2.mem ((c.tc : Thread Cert.Reference11Ideal.nD Cert.Reference11Ideal.τ).loc Cert.Reference11Ideal.main_arg20) = m ((c.tc : Thread Cert.Reference11Ideal.nD Cert.Reference11Ideal.τ).loc Cert.Reference11Ideal.main_arg20)
      ∧ r.2.mem ((c.tc : Thread Cert.Reference11Ideal.nD Cert.Reference11Ideal.τ).loc Cert.Reference11Ideal.main_arg21) = m ((c.tc : Thread Cert.Reference11Ideal.nD Cert.Reference11Ideal.τ).loc Cert.Reference11Ideal.main_arg21)
      ∧ r.2.mem ((c.tc : Thread Cert.Reference11Ideal.nD Cert.Reference11Ideal.τ).loc Cert.Reference11Ideal.main_arg22) = m ((c.tc : Thread Cert.Reference11Ideal.nD Cert.Reference11Ideal.τ).loc Cert.Reference11Ideal.main_arg22)
      ∧ r.2.mem ((c.tc : Thread Cert.Reference11Ideal.nD Cert.Reference11Ideal.τ).loc Cert.Reference11Ideal.main_arg23) = m ((c.tc : Thread Cert.Reference11Ideal.nD Cert.Reference11Ideal.τ).loc Cert.Reference11Ideal.main_arg23)
      ∧ r.2.mem ((c.tc : Thread Cert.Reference11Ideal.nD Cert.Reference11Ideal.τ).loc Cert.Reference11Ideal.main_arg24) = m ((c.tc : Thread Cert.Reference11Ideal.nD Cert.Reference11Ideal.τ).loc Cert.Reference11Ideal.main_arg24)
      ∧ r.2.mem ((c.tc : Thread Cert.Reference11Ideal.nD Cert.Reference11Ideal.τ).loc Cert.Reference11Ideal.main_arg25) = m ((c.tc : Thread Cert.Reference11Ideal.nD Cert.Reference11Ideal.τ).loc Cert.Reference11Ideal.main_arg25)
      ∧ r.2.mem ((c.tc : Thread Cert.Reference11Ideal.nD Cert.Reference11Ideal.τ).loc Cert.Reference11Ideal.main_arg26) = m ((c.tc : Thread Cert.Reference11Ideal.nD Cert.Reference11Ideal.τ).loc Cert.Reference11Ideal.main_arg26)
      ∧ r.2.mem ((c.tc : Thread Cert.Reference11Ideal.nD Cert.Reference11Ideal.τ).loc Cert.Reference11Ideal.main_arg27) = m ((c.tc : Thread Cert.Reference11Ideal.nD Cert.Reference11Ideal.τ).loc Cert.Reference11Ideal.main_arg27)
      ∧ r.2.mem ((c.tc : Thread Cert.Reference11Ideal.nD Cert.Reference11Ideal.τ).loc Cert.Reference11Ideal.main_arg28) = m ((c.tc : Thread Cert.Reference11Ideal.nD Cert.Reference11Ideal.τ).loc Cert.Reference11Ideal.main_arg28)
      ∧ r.2.mem ((c.tc : Thread Cert.Reference11Ideal.nD Cert.Reference11Ideal.τ).loc Cert.Reference11Ideal.main_arg29) = m ((c.tc : Thread Cert.Reference11Ideal.nD Cert.Reference11Ideal.τ).loc Cert.Reference11Ideal.main_arg29)
      ∧ r.2.mem ((c.tc : Thread Cert.Reference11Ideal.nD Cert.Reference11Ideal.τ).loc Cert.Reference11Ideal.main_arg30) = m ((c.tc : Thread Cert.Reference11Ideal.nD Cert.Reference11Ideal.τ).loc Cert.Reference11Ideal.main_arg30)
      ∧ r.2.mem ((c.tc : Thread Cert.Reference11Ideal.nD Cert.Reference11Ideal.τ).loc Cert.Reference11Ideal.main_arg31) = m ((c.tc : Thread Cert.Reference11Ideal.nD Cert.Reference11Ideal.τ).loc Cert.Reference11Ideal.main_arg31)
      ∧ r.2.mem ((c.tc : Thread Cert.Reference11Ideal.nD Cert.Reference11Ideal.τ).loc Cert.Reference11Ideal.main_arg32) = m ((c.tc : Thread Cert.Reference11Ideal.nD Cert.Reference11Ideal.τ).loc Cert.Reference11Ideal.main_arg32)
      ∧ r.2.mem ((c.tc : Thread Cert.Reference11Ideal.nD Cert.Reference11Ideal.τ).loc Cert.Reference11Ideal.main_arg33) = m ((c.tc : Thread Cert.Reference11Ideal.nD Cert.Reference11Ideal.τ).loc Cert.Reference11Ideal.main_arg33)
      ∧ r.2.mem ((c.tc : Thread Cert.Reference11Ideal.nD Cert.Reference11Ideal.τ).loc Cert.Reference11Ideal.main_arg34) = m ((c.tc : Thread Cert.Reference11Ideal.nD Cert.Reference11Ideal.τ).loc Cert.Reference11Ideal.main_arg34)
      ∧ r.2.mem ((c.tc : Thread Cert.Reference11Ideal.nD Cert.Reference11Ideal.τ).loc Cert.Reference11Ideal.main_arg35) = m ((c.tc : Thread Cert.Reference11Ideal.nD Cert.Reference11Ideal.τ).loc Cert.Reference11Ideal.main_arg35))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)) (v9 : (c : Dev Cert.KernelIdeal.nD) → Buf (Elt Ideal) ((c.tc : Thread Cert.KernelIdeal.nD Cert.KernelIdeal.τ).loc Cert.KernelIdeal.main_v0_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_v0_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v138) = v1 c
          ∧ r.2.mem ((c.tc : Thread Cert.ReferenceIdeal.nD Cert.ReferenceIdeal.τ).loc Cert.ReferenceIdeal.main_v141) = v2 c
          ∧ r.2.mem ((c.tc : Thread Cert.ReferenceIdeal.nD Cert.ReferenceIdeal.τ).loc Cert.ReferenceIdeal.main_v145) = v3 c
          ∧ r.2.mem ((c.tc : Thread Cert.ReferenceIdeal.nD Cert.ReferenceIdeal.τ).loc Cert.ReferenceIdeal.main_v146) = v4 c
          ∧ r.2.mem ((c.tc : Thread Cert.ReferenceIdeal.nD Cert.ReferenceIdeal.τ).loc Cert.ReferenceIdeal.main_v147) = v5 c
          ∧ r.2.mem ((c.tc : Thread Cert.ReferenceIdeal.nD Cert.ReferenceIdeal.τ).loc Cert.ReferenceIdeal.main_v148) = v6 c
          ∧ r.2.mem ((c.tc : Thread Cert.ReferenceIdeal.nD Cert.ReferenceIdeal.τ).loc Cert.ReferenceIdeal.main_v140) = v7 c
          ∧ r.2.mem ((c.tc : Thread Cert.ReferenceIdeal.nD Cert.ReferenceIdeal.τ).loc Cert.ReferenceIdeal.main_v108) = v8 c
          ∧ r.2.mem ((c.tc : Thread Cert.ReferenceIdeal.nD Cert.ReferenceIdeal.τ).loc Cert.ReferenceIdeal.main_v111) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_v0_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_v18) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v40) = v0 c
          ∧ r.2.mem ((c.tc : Thread Cert.Reference6Ideal.nD Cert.Reference6Ideal.τ).loc Cert.Reference6Ideal.main_v23) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_v26) = v1 c
          ∧ r.2.mem ((c.tc : Thread Cert.Reference7Ideal.nD Cert.Reference7Ideal.τ).loc Cert.Reference7Ideal.main_v7) = v2 c
          ∧ r.2.mem ((c.tc : Thread Cert.Reference7Ideal.nD Cert.Reference7Ideal.τ).loc Cert.Reference7Ideal.main_v13) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v26) = v1 c
          ∧ r.2.mem ((c.tc : Thread Cert.Reference8Ideal.nD Cert.Reference8Ideal.τ).loc Cert.Reference8Ideal.main_v7) = v2 c
          ∧ r.2.mem ((c.tc : Thread Cert.Reference8Ideal.nD Cert.Reference8Ideal.τ).loc Cert.Reference8Ideal.main_v13) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v26) = v1 c
          ∧ r.2.mem ((c.tc : Thread Cert.Reference9Ideal.nD Cert.Reference9Ideal.τ).loc Cert.Reference9Ideal.main_v7) = v2 c
          ∧ r.2.mem ((c.tc : Thread Cert.Reference9Ideal.nD Cert.Reference9Ideal.τ).loc Cert.Reference9Ideal.main_v13) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)
      ∧ m' ((c.tc : Thread Cert.Reference10Ideal.nD Cert.Reference10Ideal.τ).loc Cert.Reference10Ideal.main_arg12) = m ((c.tc : Thread Cert.Kernel10Ideal.nD Cert.Kernel10Ideal.τ).loc Cert.Kernel10Ideal.main_arg12)
      ∧ m' ((c.tc : Thread Cert.Reference10Ideal.nD Cert.Reference10Ideal.τ).loc Cert.Reference10Ideal.main_arg13) = m ((c.tc : Thread Cert.Kernel10Ideal.nD Cert.Kernel10Ideal.τ).loc Cert.Kernel10Ideal.main_arg13)
      ∧ m' ((c.tc : Thread Cert.Reference10Ideal.nD Cert.Reference10Ideal.τ).loc Cert.Reference10Ideal.main_arg14) = m ((c.tc : Thread Cert.Kernel10Ideal.nD Cert.Kernel10Ideal.τ).loc Cert.Kernel10Ideal.main_arg14)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)) (v4 : (c : Dev Cert.Kernel10Ideal.nD) → Buf (Elt Ideal) ((c.tc : Thread Cert.Kernel10Ideal.nD Cert.Kernel10Ideal.τ).loc Cert.Kernel10Ideal.main_v0_4)) (v5 : (c : Dev Cert.Kernel10Ideal.nD) → Buf (Elt Ideal) ((c.tc : Thread Cert.Kernel10Ideal.nD Cert.Kernel10Ideal.τ).loc Cert.Kernel10Ideal.main_v0_5)) (v6 : (c : Dev Cert.Kernel10Ideal.nD) → Buf (Elt Ideal) ((c.tc : Thread Cert.Kernel10Ideal.nD Cert.Kernel10Ideal.τ).loc Cert.Kernel10Ideal.main_v0_6)) (v7 : (c : Dev Cert.Kernel10Ideal.nD) → Buf (Elt Ideal) ((c.tc : Thread Cert.Kernel10Ideal.nD Cert.Kernel10Ideal.τ).loc Cert.Kernel10Ideal.main_v0_7)) (v8 : (c : Dev Cert.Kernel10Ideal.nD) → Buf (Elt Ideal) ((c.tc : Thread Cert.Kernel10Ideal.nD Cert.Kernel10Ideal.τ).loc Cert.Kernel10Ideal.main_v0_8)) (v9 : (c : Dev Cert.Kernel10Ideal.nD) → Buf (Elt Ideal) ((c.tc : Thread Cert.Kernel10Ideal.nD Cert.Kernel10Ideal.τ).loc Cert.Kernel10Ideal.main_v0_9)) (v10 : (c : Dev Cert.Kernel10Ideal.nD) → Buf (Elt Ideal) ((c.tc : Thread Cert.Kernel10Ideal.nD Cert.Kernel10Ideal.τ).loc Cert.Kernel10Ideal.main_v0_10)) (v11 : (c : Dev Cert.Kernel10Ideal.nD) → Buf (Elt Ideal) ((c.tc : Thread Cert.Kernel10Ideal.nD Cert.Kernel10Ideal.τ).loc Cert.Kernel10Ideal.main_v0_11)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_v0_4) = v4 c
          ∧ r.2.mem ((c.tc : Thread Cert.Kernel10Ideal.nD Cert.Kernel10Ideal.τ).loc Cert.Kernel10Ideal.main_v0_5) = v5 c
          ∧ r.2.mem ((c.tc : Thread Cert.Kernel10Ideal.nD Cert.Kernel10Ideal.τ).loc Cert.Kernel10Ideal.main_v0_6) = v6 c
          ∧ r.2.mem ((c.tc : Thread Cert.Kernel10Ideal.nD Cert.Kernel10Ideal.τ).loc Cert.Kernel10Ideal.main_v0_7) = v7 c
          ∧ r.2.mem ((c.tc : Thread Cert.Kernel10Ideal.nD Cert.Kernel10Ideal.τ).loc Cert.Kernel10Ideal.main_v0_8) = v8 c
          ∧ r.2.mem ((c.tc : Thread Cert.Kernel10Ideal.nD Cert.Kernel10Ideal.τ).loc Cert.Kernel10Ideal.main_v0_9) = v9 c
          ∧ r.2.mem ((c.tc : Thread Cert.Kernel10Ideal.nD Cert.Kernel10Ideal.τ).loc Cert.Kernel10Ideal.main_v0_10) = v10 c
          ∧ r.2.mem ((c.tc : Thread Cert.Kernel10Ideal.nD Cert.Kernel10Ideal.τ).loc Cert.Kernel10Ideal.main_v0_11) = v11 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
          ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
          ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
          ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_v29) = v1 c
          ∧ r.2.mem ((c.tc : Thread Cert.Reference10Ideal.nD Cert.Reference10Ideal.τ).loc Cert.Reference10Ideal.main_v56) = v2 c
          ∧ r.2.mem ((c.tc : Thread Cert.Reference10Ideal.nD Cert.Reference10Ideal.τ).loc Cert.Reference10Ideal.main_v26) = v3 c
          ∧ r.2.mem ((c.tc : Thread Cert.Reference10Ideal.nD Cert.Reference10Ideal.τ).loc Cert.Reference10Ideal.main_v53) = v4 c
          ∧ r.2.mem ((c.tc : Thread Cert.Reference10Ideal.nD Cert.Reference10Ideal.τ).loc Cert.Reference10Ideal.main_v80) = v5 c
          ∧ r.2.mem ((c.tc : Thread Cert.Reference10Ideal.nD Cert.Reference10Ideal.τ).loc Cert.Reference10Ideal.main_v7) = v6 c
          ∧ r.2.mem ((c.tc : Thread Cert.Reference10Ideal.nD Cert.Reference10Ideal.τ).loc Cert.Reference10Ideal.main_v34) = v7 c
          ∧ r.2.mem ((c.tc : Thread Cert.Reference10Ideal.nD Cert.Reference10Ideal.τ).loc Cert.Reference10Ideal.main_v61) = v8 c
          ∧ r.2.mem ((c.tc : Thread Cert.Reference10Ideal.nD Cert.Reference10Ideal.τ).loc Cert.Reference10Ideal.main_v13) = v9 c
          ∧ r.2.mem ((c.tc : Thread Cert.Reference10Ideal.nD Cert.Reference10Ideal.τ).loc Cert.Reference10Ideal.main_v40) = v10 c
          ∧ r.2.mem ((c.tc : Thread Cert.Reference10Ideal.nD Cert.Reference10Ideal.τ).loc Cert.Reference10Ideal.main_v67) = v11 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11)
          ∧ r.2.mem ((c.tc : Thread Cert.Reference10Ideal.nD Cert.Reference10Ideal.τ).loc Cert.Reference10Ideal.main_arg12) = m' ((c.tc : Thread Cert.Reference10Ideal.nD Cert.Reference10Ideal.τ).loc Cert.Reference10Ideal.main_arg12)
          ∧ r.2.mem ((c.tc : Thread Cert.Reference10Ideal.nD Cert.Reference10Ideal.τ).loc Cert.Reference10Ideal.main_arg13) = m' ((c.tc : Thread Cert.Reference10Ideal.nD Cert.Reference10Ideal.τ).loc Cert.Reference10Ideal.main_arg13)
          ∧ r.2.mem ((c.tc : Thread Cert.Reference10Ideal.nD Cert.Reference10Ideal.τ).loc Cert.Reference10Ideal.main_arg14) = m' ((c.tc : Thread Cert.Reference10Ideal.nD Cert.Reference10Ideal.τ).loc Cert.Reference10Ideal.main_arg14))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)
      ∧ m' ((c.tc : Thread Cert.Reference11Ideal.nD Cert.Reference11Ideal.τ).loc Cert.Reference11Ideal.main_arg11) = m ((c.tc : Thread Cert.Kernel11Ideal.nD Cert.Kernel11Ideal.τ).loc Cert.Kernel11Ideal.main_arg11)
      ∧ m' ((c.tc : Thread Cert.Reference11Ideal.nD Cert.Reference11Ideal.τ).loc Cert.Reference11Ideal.main_arg12) = m ((c.tc : Thread Cert.Kernel11Ideal.nD Cert.Kernel11Ideal.τ).loc Cert.Kernel11Ideal.main_arg12)
      ∧ m' ((c.tc : Thread Cert.Reference11Ideal.nD Cert.Reference11Ideal.τ).loc Cert.Reference11Ideal.main_arg13) = m ((c.tc : Thread Cert.Kernel11Ideal.nD Cert.Kernel11Ideal.τ).loc Cert.Kernel11Ideal.main_arg13)
      ∧ m' ((c.tc : Thread Cert.Reference11Ideal.nD Cert.Reference11Ideal.τ).loc Cert.Reference11Ideal.main_arg14) = m ((c.tc : Thread Cert.Kernel11Ideal.nD Cert.Kernel11Ideal.τ).loc Cert.Kernel11Ideal.main_arg14)
      ∧ m' ((c.tc : Thread Cert.Reference11Ideal.nD Cert.Reference11Ideal.τ).loc Cert.Reference11Ideal.main_arg15) = m ((c.tc : Thread Cert.Kernel11Ideal.nD Cert.Kernel11Ideal.τ).loc Cert.Kernel11Ideal.main_arg15)
      ∧ m' ((c.tc : Thread Cert.Reference11Ideal.nD Cert.Reference11Ideal.τ).loc Cert.Reference11Ideal.main_arg16) = m ((c.tc : Thread Cert.Kernel11Ideal.nD Cert.Kernel11Ideal.τ).loc Cert.Kernel11Ideal.main_arg16)
      ∧ m' ((c.tc : Thread Cert.Reference11Ideal.nD Cert.Reference11Ideal.τ).loc Cert.Reference11Ideal.main_arg17) = m ((c.tc : Thread Cert.Kernel11Ideal.nD Cert.Kernel11Ideal.τ).loc Cert.Kernel11Ideal.main_arg17)
      ∧ m' ((c.tc : Thread Cert.Reference11Ideal.nD Cert.Reference11Ideal.τ).loc Cert.Reference11Ideal.main_arg18) = m ((c.tc : Thread Cert.Kernel11Ideal.nD Cert.Kernel11Ideal.τ).loc Cert.Kernel11Ideal.main_arg18)
      ∧ m' ((c.tc : Thread Cert.Reference11Ideal.nD Cert.Reference11Ideal.τ).loc Cert.Reference11Ideal.main_arg19) = m ((c.tc : Thread Cert.Kernel11Ideal.nD Cert.Kernel11Ideal.τ).loc Cert.Kernel11Ideal.main_arg19)
      ∧ m' ((c.tc : Thread Cert.Reference11Ideal.nD Cert.Reference11Ideal.τ).loc Cert.Reference11Ideal.main_arg20) = m ((c.tc : Thread Cert.Kernel11Ideal.nD Cert.Kernel11Ideal.τ).loc Cert.Kernel11Ideal.main_arg20)
      ∧ m' ((c.tc : Thread Cert.Reference11Ideal.nD Cert.Reference11Ideal.τ).loc Cert.Reference11Ideal.main_arg21) = m ((c.tc : Thread Cert.Kernel11Ideal.nD Cert.Kernel11Ideal.τ).loc Cert.Kernel11Ideal.main_arg21)
      ∧ m' ((c.tc : Thread Cert.Reference11Ideal.nD Cert.Reference11Ideal.τ).loc Cert.Reference11Ideal.main_arg22) = m ((c.tc : Thread Cert.Kernel11Ideal.nD Cert.Kernel11Ideal.τ).loc Cert.Kernel11Ideal.main_arg22)
      ∧ m' ((c.tc : Thread Cert.Reference11Ideal.nD Cert.Reference11Ideal.τ).loc Cert.Reference11Ideal.main_arg23) = m ((c.tc : Thread Cert.Kernel11Ideal.nD Cert.Kernel11Ideal.τ).loc Cert.Kernel11Ideal.main_arg23)
      ∧ m' ((c.tc : Thread Cert.Reference11Ideal.nD Cert.Reference11Ideal.τ).loc Cert.Reference11Ideal.main_arg24) = m ((c.tc : Thread Cert.Kernel11Ideal.nD Cert.Kernel11Ideal.τ).loc Cert.Kernel11Ideal.main_arg24)
      ∧ m' ((c.tc : Thread Cert.Reference11Ideal.nD Cert.Reference11Ideal.τ).loc Cert.Reference11Ideal.main_arg25) = m ((c.tc : Thread Cert.Kernel11Ideal.nD Cert.Kernel11Ideal.τ).loc Cert.Kernel11Ideal.main_arg25)
      ∧ m' ((c.tc : Thread Cert.Reference11Ideal.nD Cert.Reference11Ideal.τ).loc Cert.Reference11Ideal.main_arg26) = m ((c.tc : Thread Cert.Kernel11Ideal.nD Cert.Kernel11Ideal.τ).loc Cert.Kernel11Ideal.main_arg26)
      ∧ m' ((c.tc : Thread Cert.Reference11Ideal.nD Cert.Reference11Ideal.τ).loc Cert.Reference11Ideal.main_arg27) = m ((c.tc : Thread Cert.Kernel11Ideal.nD Cert.Kernel11Ideal.τ).loc Cert.Kernel11Ideal.main_arg27)
      ∧ m' ((c.tc : Thread Cert.Reference11Ideal.nD Cert.Reference11Ideal.τ).loc Cert.Reference11Ideal.main_arg28) = m ((c.tc : Thread Cert.Kernel11Ideal.nD Cert.Kernel11Ideal.τ).loc Cert.Kernel11Ideal.main_arg28)
      ∧ m' ((c.tc : Thread Cert.Reference11Ideal.nD Cert.Reference11Ideal.τ).loc Cert.Reference11Ideal.main_arg29) = m ((c.tc : Thread Cert.Kernel11Ideal.nD Cert.Kernel11Ideal.τ).loc Cert.Kernel11Ideal.main_arg29)
      ∧ m' ((c.tc : Thread Cert.Reference11Ideal.nD Cert.Reference11Ideal.τ).loc Cert.Reference11Ideal.main_arg30) = m ((c.tc : Thread Cert.Kernel11Ideal.nD Cert.Kernel11Ideal.τ).loc Cert.Kernel11Ideal.main_arg30)
      ∧ m' ((c.tc : Thread Cert.Reference11Ideal.nD Cert.Reference11Ideal.τ).loc Cert.Reference11Ideal.main_arg31) = m ((c.tc : Thread Cert.Kernel11Ideal.nD Cert.Kernel11Ideal.τ).loc Cert.Kernel11Ideal.main_arg31)
      ∧ m' ((c.tc : Thread Cert.Reference11Ideal.nD Cert.Reference11Ideal.τ).loc Cert.Reference11Ideal.main_arg32) = m ((c.tc : Thread Cert.Kernel11Ideal.nD Cert.Kernel11Ideal.τ).loc Cert.Kernel11Ideal.main_arg32)
      ∧ m' ((c.tc : Thread Cert.Reference11Ideal.nD Cert.Reference11Ideal.τ).loc Cert.Reference11Ideal.main_arg33) = m ((c.tc : Thread Cert.Kernel11Ideal.nD Cert.Kernel11Ideal.τ).loc Cert.Kernel11Ideal.main_arg33)
      ∧ m' ((c.tc : Thread Cert.Reference11Ideal.nD Cert.Reference11Ideal.τ).loc Cert.Reference11Ideal.main_arg34) = m ((c.tc : Thread Cert.Kernel11Ideal.nD Cert.Kernel11Ideal.τ).loc Cert.Kernel11Ideal.main_arg34)
      ∧ m' ((c.tc : Thread Cert.Reference11Ideal.nD Cert.Reference11Ideal.τ).loc Cert.Reference11Ideal.main_arg35) = m ((c.tc : Thread Cert.Kernel11Ideal.nD Cert.Kernel11Ideal.τ).loc Cert.Kernel11Ideal.main_arg35)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)) (v4 : (c : Dev Cert.Kernel11Ideal.nD) → Buf (Elt Ideal) ((c.tc : Thread Cert.Kernel11Ideal.nD Cert.Kernel11Ideal.τ).loc Cert.Kernel11Ideal.main_v0_4)) (v5 : (c : Dev Cert.Kernel11Ideal.nD) → Buf (Elt Ideal) ((c.tc : Thread Cert.Kernel11Ideal.nD Cert.Kernel11Ideal.τ).loc Cert.Kernel11Ideal.main_v0_5)) (v6 : (c : Dev Cert.Kernel11Ideal.nD) → Buf (Elt Ideal) ((c.tc : Thread Cert.Kernel11Ideal.nD Cert.Kernel11Ideal.τ).loc Cert.Kernel11Ideal.main_v0_6)) (v7 : (c : Dev Cert.Kernel11Ideal.nD) → Buf (Elt Ideal) ((c.tc : Thread Cert.Kernel11Ideal.nD Cert.Kernel11Ideal.τ).loc Cert.Kernel11Ideal.main_v0_7)) (v8 : (c : Dev Cert.Kernel11Ideal.nD) → Buf (Elt Ideal) ((c.tc : Thread Cert.Kernel11Ideal.nD Cert.Kernel11Ideal.τ).loc Cert.Kernel11Ideal.main_v0_8)) (v9 : (c : Dev Cert.Kernel11Ideal.nD) → Buf (Elt Ideal) ((c.tc : Thread Cert.Kernel11Ideal.nD Cert.Kernel11Ideal.τ).loc Cert.Kernel11Ideal.main_v0_9)) (v10 : (c : Dev Cert.Kernel11Ideal.nD) → Buf (Elt Ideal) ((c.tc : Thread Cert.Kernel11Ideal.nD Cert.Kernel11Ideal.τ).loc Cert.Kernel11Ideal.main_v0_10)) (v11 : (c : Dev Cert.Kernel11Ideal.nD) → Buf (Elt Ideal) ((c.tc : Thread Cert.Kernel11Ideal.nD Cert.Kernel11Ideal.τ).loc Cert.Kernel11Ideal.main_v0_11)) (v12 : (c : Dev Cert.Kernel11Ideal.nD) → Buf (Elt Ideal) ((c.tc : Thread Cert.Kernel11Ideal.nD Cert.Kernel11Ideal.τ).loc Cert.Kernel11Ideal.main_v0_12)) (v13 : (c : Dev Cert.Kernel11Ideal.nD) → Buf (Elt Ideal) ((c.tc : Thread Cert.Kernel11Ideal.nD Cert.Kernel11Ideal.τ).loc Cert.Kernel11Ideal.main_v0_13)) (v14 : (c : Dev Cert.Kernel11Ideal.nD) → Buf (Elt Ideal) ((c.tc : Thread Cert.Kernel11Ideal.nD Cert.Kernel11Ideal.τ).loc Cert.Kernel11Ideal.main_v0_14)) (v15 : (c : Dev Cert.Kernel11Ideal.nD) → Buf (Elt Ideal) ((c.tc : Thread Cert.Kernel11Ideal.nD Cert.Kernel11Ideal.τ).loc Cert.Kernel11Ideal.main_v0_15)) (v16 : (c : Dev Cert.Kernel11Ideal.nD) → Buf (Elt Ideal) ((c.tc : Thread Cert.Kernel11Ideal.nD Cert.Kernel11Ideal.τ).loc Cert.Kernel11Ideal.main_v0_16)) (v17 : (c : Dev Cert.Kernel11Ideal.nD) → Buf (Elt Ideal) ((c.tc : Thread Cert.Kernel11Ideal.nD Cert.Kernel11Ideal.τ).loc Cert.Kernel11Ideal.main_v0_17)) (v18 : (c : Dev Cert.Kernel11Ideal.nD) → Buf (Elt Ideal) ((c.tc : Thread Cert.Kernel11Ideal.nD Cert.Kernel11Ideal.τ).loc Cert.Kernel11Ideal.main_v0_18)) (v19 : (c : Dev Cert.Kernel11Ideal.nD) → Buf (Elt Ideal) ((c.tc : Thread Cert.Kernel11Ideal.nD Cert.Kernel11Ideal.τ).loc Cert.Kernel11Ideal.main_v0_19)) (v20 : (c : Dev Cert.Kernel11Ideal.nD) → Buf (Elt Ideal) ((c.tc : Thread Cert.Kernel11Ideal.nD Cert.Kernel11Ideal.τ).loc Cert.Kernel11Ideal.main_v0_20)) (v21 : (c : Dev Cert.Kernel11Ideal.nD) → Buf (Elt Ideal) ((c.tc : Thread Cert.Kernel11Ideal.nD Cert.Kernel11Ideal.τ).loc Cert.Kernel11Ideal.main_v0_21)) (v22 : (c : Dev Cert.Kernel11Ideal.nD) → Buf (Elt Ideal) ((c.tc : Thread Cert.Kernel11Ideal.nD Cert.Kernel11Ideal.τ).loc Cert.Kernel11Ideal.main_v0_22)) (v23 : (c : Dev Cert.Kernel11Ideal.nD) → Buf (Elt Ideal) ((c.tc : Thread Cert.Kernel11Ideal.nD Cert.Kernel11Ideal.τ).loc Cert.Kernel11Ideal.main_v0_23)) (v24 : (c : Dev Cert.Kernel11Ideal.nD) → Buf (Elt Ideal) ((c.tc : Thread Cert.Kernel11Ideal.nD Cert.Kernel11Ideal.τ).loc Cert.Kernel11Ideal.main_v0_24)) (v25 : (c : Dev Cert.Kernel11Ideal.nD) → Buf (Elt Ideal) ((c.tc : Thread Cert.Kernel11Ideal.nD Cert.Kernel11Ideal.τ).loc Cert.Kernel11Ideal.main_v0_25)) (v26 : (c : Dev Cert.Kernel11Ideal.nD) → Buf (Elt Ideal) ((c.tc : Thread Cert.Kernel11Ideal.nD Cert.Kernel11Ideal.τ).loc Cert.Kernel11Ideal.main_v0_26)) (v27 : (c : Dev Cert.Kernel11Ideal.nD) → Buf (Elt Ideal) ((c.tc : Thread Cert.Kernel11Ideal.nD Cert.Kernel11Ideal.τ).loc Cert.Kernel11Ideal.main_v0_27)) (v28 : (c : Dev Cert.Kernel11Ideal.nD) → Buf (Elt Ideal) ((c.tc : Thread Cert.Kernel11Ideal.nD Cert.Kernel11Ideal.τ).loc Cert.Kernel11Ideal.main_v0_28)) (v29 : (c : Dev Cert.Kernel11Ideal.nD) → Buf (Elt Ideal) ((c.tc : Thread Cert.Kernel11Ideal.nD Cert.Kernel11Ideal.τ).loc Cert.Kernel11Ideal.main_v0_29)) (v30 : (c : Dev Cert.Kernel11Ideal.nD) → Buf (Elt Ideal) ((c.tc : Thread Cert.Kernel11Ideal.nD Cert.Kernel11Ideal.τ).loc Cert.Kernel11Ideal.main_v0_30)) (v31 : (c : Dev Cert.Kernel11Ideal.nD) → Buf (Elt Ideal) ((c.tc : Thread Cert.Kernel11Ideal.nD Cert.Kernel11Ideal.τ).loc Cert.Kernel11Ideal.main_v0_31)) (v32 : (c : Dev Cert.Kernel11Ideal.nD) → Buf (Elt Ideal) ((c.tc : Thread Cert.Kernel11Ideal.nD Cert.Kernel11Ideal.τ).loc Cert.Kernel11Ideal.main_v0_32)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_v0_4) = v4 c
          ∧ r.2.mem ((c.tc : Thread Cert.Kernel11Ideal.nD Cert.Kernel11Ideal.τ).loc Cert.Kernel11Ideal.main_v0_5) = v5 c
          ∧ r.2.mem ((c.tc : Thread Cert.Kernel11Ideal.nD Cert.Kernel11Ideal.τ).loc Cert.Kernel11Ideal.main_v0_6) = v6 c
          ∧ r.2.mem ((c.tc : Thread Cert.Kernel11Ideal.nD Cert.Kernel11Ideal.τ).loc Cert.Kernel11Ideal.main_v0_7) = v7 c
          ∧ r.2.mem ((c.tc : Thread Cert.Kernel11Ideal.nD Cert.Kernel11Ideal.τ).loc Cert.Kernel11Ideal.main_v0_8) = v8 c
          ∧ r.2.mem ((c.tc : Thread Cert.Kernel11Ideal.nD Cert.Kernel11Ideal.τ).loc Cert.Kernel11Ideal.main_v0_9) = v9 c
          ∧ r.2.mem ((c.tc : Thread Cert.Kernel11Ideal.nD Cert.Kernel11Ideal.τ).loc Cert.Kernel11Ideal.main_v0_10) = v10 c
          ∧ r.2.mem ((c.tc : Thread Cert.Kernel11Ideal.nD Cert.Kernel11Ideal.τ).loc Cert.Kernel11Ideal.main_v0_11) = v11 c
          ∧ r.2.mem ((c.tc : Thread Cert.Kernel11Ideal.nD Cert.Kernel11Ideal.τ).loc Cert.Kernel11Ideal.main_v0_12) = v12 c
          ∧ r.2.mem ((c.tc : Thread Cert.Kernel11Ideal.nD Cert.Kernel11Ideal.τ).loc Cert.Kernel11Ideal.main_v0_13) = v13 c
          ∧ r.2.mem ((c.tc : Thread Cert.Kernel11Ideal.nD Cert.Kernel11Ideal.τ).loc Cert.Kernel11Ideal.main_v0_14) = v14 c
          ∧ r.2.mem ((c.tc : Thread Cert.Kernel11Ideal.nD Cert.Kernel11Ideal.τ).loc Cert.Kernel11Ideal.main_v0_15) = v15 c
          ∧ r.2.mem ((c.tc : Thread Cert.Kernel11Ideal.nD Cert.Kernel11Ideal.τ).loc Cert.Kernel11Ideal.main_v0_16) = v16 c
          ∧ r.2.mem ((c.tc : Thread Cert.Kernel11Ideal.nD Cert.Kernel11Ideal.τ).loc Cert.Kernel11Ideal.main_v0_17) = v17 c
          ∧ r.2.mem ((c.tc : Thread Cert.Kernel11Ideal.nD Cert.Kernel11Ideal.τ).loc Cert.Kernel11Ideal.main_v0_18) = v18 c
          ∧ r.2.mem ((c.tc : Thread Cert.Kernel11Ideal.nD Cert.Kernel11Ideal.τ).loc Cert.Kernel11Ideal.main_v0_19) = v19 c
          ∧ r.2.mem ((c.tc : Thread Cert.Kernel11Ideal.nD Cert.Kernel11Ideal.τ).loc Cert.Kernel11Ideal.main_v0_20) = v20 c
          ∧ r.2.mem ((c.tc : Thread Cert.Kernel11Ideal.nD Cert.Kernel11Ideal.τ).loc Cert.Kernel11Ideal.main_v0_21) = v21 c
          ∧ r.2.mem ((c.tc : Thread Cert.Kernel11Ideal.nD Cert.Kernel11Ideal.τ).loc Cert.Kernel11Ideal.main_v0_22) = v22 c
          ∧ r.2.mem ((c.tc : Thread Cert.Kernel11Ideal.nD Cert.Kernel11Ideal.τ).loc Cert.Kernel11Ideal.main_v0_23) = v23 c
          ∧ r.2.mem ((c.tc : Thread Cert.Kernel11Ideal.nD Cert.Kernel11Ideal.τ).loc Cert.Kernel11Ideal.main_v0_24) = v24 c
          ∧ r.2.mem ((c.tc : Thread Cert.Kernel11Ideal.nD Cert.Kernel11Ideal.τ).loc Cert.Kernel11Ideal.main_v0_25) = v25 c
          ∧ r.2.mem ((c.tc : Thread Cert.Kernel11Ideal.nD Cert.Kernel11Ideal.τ).loc Cert.Kernel11Ideal.main_v0_26) = v26 c
          ∧ r.2.mem ((c.tc : Thread Cert.Kernel11Ideal.nD Cert.Kernel11Ideal.τ).loc Cert.Kernel11Ideal.main_v0_27) = v27 c
          ∧ r.2.mem ((c.tc : Thread Cert.Kernel11Ideal.nD Cert.Kernel11Ideal.τ).loc Cert.Kernel11Ideal.main_v0_28) = v28 c
          ∧ r.2.mem ((c.tc : Thread Cert.Kernel11Ideal.nD Cert.Kernel11Ideal.τ).loc Cert.Kernel11Ideal.main_v0_29) = v29 c
          ∧ r.2.mem ((c.tc : Thread Cert.Kernel11Ideal.nD Cert.Kernel11Ideal.τ).loc Cert.Kernel11Ideal.main_v0_30) = v30 c
          ∧ r.2.mem ((c.tc : Thread Cert.Kernel11Ideal.nD Cert.Kernel11Ideal.τ).loc Cert.Kernel11Ideal.main_v0_31) = v31 c
          ∧ r.2.mem ((c.tc : Thread Cert.Kernel11Ideal.nD Cert.Kernel11Ideal.τ).loc Cert.Kernel11Ideal.main_v0_32) = v32 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10)
          ∧ r.2.mem ((c.tc : Thread Cert.Kernel11Ideal.nD Cert.Kernel11Ideal.τ).loc Cert.Kernel11Ideal.main_arg11) = m ((c.tc : Thread Cert.Kernel11Ideal.nD Cert.Kernel11Ideal.τ).loc Cert.Kernel11Ideal.main_arg11)
          ∧ r.2.mem ((c.tc : Thread Cert.Kernel11Ideal.nD Cert.Kernel11Ideal.τ).loc Cert.Kernel11Ideal.main_arg12) = m ((c.tc : Thread Cert.Kernel11Ideal.nD Cert.Kernel11Ideal.τ).loc Cert.Kernel11Ideal.main_arg12)
          ∧ r.2.mem ((c.tc : Thread Cert.Kernel11Ideal.nD Cert.Kernel11Ideal.τ).loc Cert.Kernel11Ideal.main_arg13) = m ((c.tc : Thread Cert.Kernel11Ideal.nD Cert.Kernel11Ideal.τ).loc Cert.Kernel11Ideal.main_arg13)
          ∧ r.2.mem ((c.tc : Thread Cert.Kernel11Ideal.nD Cert.Kernel11Ideal.τ).loc Cert.Kernel11Ideal.main_arg14) = m ((c.tc : Thread Cert.Kernel11Ideal.nD Cert.Kernel11Ideal.τ).loc Cert.Kernel11Ideal.main_arg14)
          ∧ r.2.mem ((c.tc : Thread Cert.Kernel11Ideal.nD Cert.Kernel11Ideal.τ).loc Cert.Kernel11Ideal.main_arg15) = m ((c.tc : Thread Cert.Kernel11Ideal.nD Cert.Kernel11Ideal.τ).loc Cert.Kernel11Ideal.main_arg15)
          ∧ r.2.mem ((c.tc : Thread Cert.Kernel11Ideal.nD Cert.Kernel11Ideal.τ).loc Cert.Kernel11Ideal.main_arg16) = m ((c.tc : Thread Cert.Kernel11Ideal.nD Cert.Kernel11Ideal.τ).loc Cert.Kernel11Ideal.main_arg16)
          ∧ r.2.mem ((c.tc : Thread Cert.Kernel11Ideal.nD Cert.Kernel11Ideal.τ).loc Cert.Kernel11Ideal.main_arg17) = m ((c.tc : Thread Cert.Kernel11Ideal.nD Cert.Kernel11Ideal.τ).loc Cert.Kernel11Ideal.main_arg17)
          ∧ r.2.mem ((c.tc : Thread Cert.Kernel11Ideal.nD Cert.Kernel11Ideal.τ).loc Cert.Kernel11Ideal.main_arg18) = m ((c.tc : Thread Cert.Kernel11Ideal.nD Cert.Kernel11Ideal.τ).loc Cert.Kernel11Ideal.main_arg18)
          ∧ r.2.mem ((c.tc : Thread Cert.Kernel11Ideal.nD Cert.Kernel11Ideal.τ).loc Cert.Kernel11Ideal.main_arg19) = m ((c.tc : Thread Cert.Kernel11Ideal.nD Cert.Kernel11Ideal.τ).loc Cert.Kernel11Ideal.main_arg19)
          ∧ r.2.mem ((c.tc : Thread Cert.Kernel11Ideal.nD Cert.Kernel11Ideal.τ).loc Cert.Kernel11Ideal.main_arg20) = m ((c.tc : Thread Cert.Kernel11Ideal.nD Cert.Kernel11Ideal.τ).loc Cert.Kernel11Ideal.main_arg20)
          ∧ r.2.mem ((c.tc : Thread Cert.Kernel11Ideal.nD Cert.Kernel11Ideal.τ).loc Cert.Kernel11Ideal.main_arg21) = m ((c.tc : Thread Cert.Kernel11Ideal.nD Cert.Kernel11Ideal.τ).loc Cert.Kernel11Ideal.main_arg21)
          ∧ r.2.mem ((c.tc : Thread Cert.Kernel11Ideal.nD Cert.Kernel11Ideal.τ).loc Cert.Kernel11Ideal.main_arg22) = m ((c.tc : Thread Cert.Kernel11Ideal.nD Cert.Kernel11Ideal.τ).loc Cert.Kernel11Ideal.main_arg22)
          ∧ r.2.mem ((c.tc : Thread Cert.Kernel11Ideal.nD Cert.Kernel11Ideal.τ).loc Cert.Kernel11Ideal.main_arg23) = m ((c.tc : Thread Cert.Kernel11Ideal.nD Cert.Kernel11Ideal.τ).loc Cert.Kernel11Ideal.main_arg23)
          ∧ r.2.mem ((c.tc : Thread Cert.Kernel11Ideal.nD Cert.Kernel11Ideal.τ).loc Cert.Kernel11Ideal.main_arg24) = m ((c.tc : Thread Cert.Kernel11Ideal.nD Cert.Kernel11Ideal.τ).loc Cert.Kernel11Ideal.main_arg24)
          ∧ r.2.mem ((c.tc : Thread Cert.Kernel11Ideal.nD Cert.Kernel11Ideal.τ).loc Cert.Kernel11Ideal.main_arg25) = m ((c.tc : Thread Cert.Kernel11Ideal.nD Cert.Kernel11Ideal.τ).loc Cert.Kernel11Ideal.main_arg25)
          ∧ r.2.mem ((c.tc : Thread Cert.Kernel11Ideal.nD Cert.Kernel11Ideal.τ).loc Cert.Kernel11Ideal.main_arg26) = m ((c.tc : Thread Cert.Kernel11Ideal.nD Cert.Kernel11Ideal.τ).loc Cert.Kernel11Ideal.main_arg26)
          ∧ r.2.mem ((c.tc : Thread Cert.Kernel11Ideal.nD Cert.Kernel11Ideal.τ).loc Cert.Kernel11Ideal.main_arg27) = m ((c.tc : Thread Cert.Kernel11Ideal.nD Cert.Kernel11Ideal.τ).loc Cert.Kernel11Ideal.main_arg27)
          ∧ r.2.mem ((c.tc : Thread Cert.Kernel11Ideal.nD Cert.Kernel11Ideal.τ).loc Cert.Kernel11Ideal.main_arg28) = m ((c.tc : Thread Cert.Kernel11Ideal.nD Cert.Kernel11Ideal.τ).loc Cert.Kernel11Ideal.main_arg28)
          ∧ r.2.mem ((c.tc : Thread Cert.Kernel11Ideal.nD Cert.Kernel11Ideal.τ).loc Cert.Kernel11Ideal.main_arg29) = m ((c.tc : Thread Cert.Kernel11Ideal.nD Cert.Kernel11Ideal.τ).loc Cert.Kernel11Ideal.main_arg29)
          ∧ r.2.mem ((c.tc : Thread Cert.Kernel11Ideal.nD Cert.Kernel11Ideal.τ).loc Cert.Kernel11Ideal.main_arg30) = m ((c.tc : Thread Cert.Kernel11Ideal.nD Cert.Kernel11Ideal.τ).loc Cert.Kernel11Ideal.main_arg30)
          ∧ r.2.mem ((c.tc : Thread Cert.Kernel11Ideal.nD Cert.Kernel11Ideal.τ).loc Cert.Kernel11Ideal.main_arg31) = m ((c.tc : Thread Cert.Kernel11Ideal.nD Cert.Kernel11Ideal.τ).loc Cert.Kernel11Ideal.main_arg31)
          ∧ r.2.mem ((c.tc : Thread Cert.Kernel11Ideal.nD Cert.Kernel11Ideal.τ).loc Cert.Kernel11Ideal.main_arg32) = m ((c.tc : Thread Cert.Kernel11Ideal.nD Cert.Kernel11Ideal.τ).loc Cert.Kernel11Ideal.main_arg32)
          ∧ r.2.mem ((c.tc : Thread Cert.Kernel11Ideal.nD Cert.Kernel11Ideal.τ).loc Cert.Kernel11Ideal.main_arg33) = m ((c.tc : Thread Cert.Kernel11Ideal.nD Cert.Kernel11Ideal.τ).loc Cert.Kernel11Ideal.main_arg33)
          ∧ r.2.mem ((c.tc : Thread Cert.Kernel11Ideal.nD Cert.Kernel11Ideal.τ).loc Cert.Kernel11Ideal.main_arg34) = m ((c.tc : Thread Cert.Kernel11Ideal.nD Cert.Kernel11Ideal.τ).loc Cert.Kernel11Ideal.main_arg34)
          ∧ r.2.mem ((c.tc : Thread Cert.Kernel11Ideal.nD Cert.Kernel11Ideal.τ).loc Cert.Kernel11Ideal.main_arg35) = m ((c.tc : Thread Cert.Kernel11Ideal.nD Cert.Kernel11Ideal.τ).loc Cert.Kernel11Ideal.main_arg35))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v216) = v0 c
          ∧ r.2.mem ((c.tc : Thread Cert.Reference11Ideal.nD Cert.Reference11Ideal.τ).loc Cert.Reference11Ideal.main_v19) = v1 c
          ∧ r.2.mem ((c.tc : Thread Cert.Reference11Ideal.nD Cert.Reference11Ideal.τ).loc Cert.Reference11Ideal.main_v5) = v2 c
          ∧ r.2.mem ((c.tc : Thread Cert.Reference11Ideal.nD Cert.Reference11Ideal.τ).loc Cert.Reference11Ideal.main_v10) = v3 c
          ∧ r.2.mem ((c.tc : Thread Cert.Reference11Ideal.nD Cert.Reference11Ideal.τ).loc Cert.Reference11Ideal.main_v13) = v4 c
          ∧ r.2.mem ((c.tc : Thread Cert.Reference11Ideal.nD Cert.Reference11Ideal.τ).loc Cert.Reference11Ideal.main_v20) = v5 c
          ∧ r.2.mem ((c.tc : Thread Cert.Reference11Ideal.nD Cert.Reference11Ideal.τ).loc Cert.Reference11Ideal.main_v21) = v6 c
          ∧ r.2.mem ((c.tc : Thread Cert.Reference11Ideal.nD Cert.Reference11Ideal.τ).loc Cert.Reference11Ideal.main_v22) = v7 c
          ∧ r.2.mem ((c.tc : Thread Cert.Reference11Ideal.nD Cert.Reference11Ideal.τ).loc Cert.Reference11Ideal.main_v23) = v8 c
          ∧ r.2.mem ((c.tc : Thread Cert.Reference11Ideal.nD Cert.Reference11Ideal.τ).loc Cert.Reference11Ideal.main_v47) = v9 c
          ∧ r.2.mem ((c.tc : Thread Cert.Reference11Ideal.nD Cert.Reference11Ideal.τ).loc Cert.Reference11Ideal.main_v71) = v10 c
          ∧ r.2.mem ((c.tc : Thread Cert.Reference11Ideal.nD Cert.Reference11Ideal.τ).loc Cert.Reference11Ideal.main_v95) = v11 c
          ∧ r.2.mem ((c.tc : Thread Cert.Reference11Ideal.nD Cert.Reference11Ideal.τ).loc Cert.Reference11Ideal.main_v119) = v12 c
          ∧ r.2.mem ((c.tc : Thread Cert.Reference11Ideal.nD Cert.Reference11Ideal.τ).loc Cert.Reference11Ideal.main_v143) = v13 c
          ∧ r.2.mem ((c.tc : Thread Cert.Reference11Ideal.nD Cert.Reference11Ideal.τ).loc Cert.Reference11Ideal.main_v167) = v14 c
          ∧ r.2.mem ((c.tc : Thread Cert.Reference11Ideal.nD Cert.Reference11Ideal.τ).loc Cert.Reference11Ideal.main_v191) = v15 c
          ∧ r.2.mem ((c.tc : Thread Cert.Reference11Ideal.nD Cert.Reference11Ideal.τ).loc Cert.Reference11Ideal.main_v215) = v16 c
          ∧ r.2.mem ((c.tc : Thread Cert.Reference11Ideal.nD Cert.Reference11Ideal.τ).loc Cert.Reference11Ideal.main_v28) = v17 c
          ∧ r.2.mem ((c.tc : Thread Cert.Reference11Ideal.nD Cert.Reference11Ideal.τ).loc Cert.Reference11Ideal.main_v52) = v18 c
          ∧ r.2.mem ((c.tc : Thread Cert.Reference11Ideal.nD Cert.Reference11Ideal.τ).loc Cert.Reference11Ideal.main_v76) = v19 c
          ∧ r.2.mem ((c.tc : Thread Cert.Reference11Ideal.nD Cert.Reference11Ideal.τ).loc Cert.Reference11Ideal.main_v100) = v20 c
          ∧ r.2.mem ((c.tc : Thread Cert.Reference11Ideal.nD Cert.Reference11Ideal.τ).loc Cert.Reference11Ideal.main_v124) = v21 c
          ∧ r.2.mem ((c.tc : Thread Cert.Reference11Ideal.nD Cert.Reference11Ideal.τ).loc Cert.Reference11Ideal.main_v148) = v22 c
          ∧ r.2.mem ((c.tc : Thread Cert.Reference11Ideal.nD Cert.Reference11Ideal.τ).loc Cert.Reference11Ideal.main_v172) = v23 c
          ∧ r.2.mem ((c.tc : Thread Cert.Reference11Ideal.nD Cert.Reference11Ideal.τ).loc Cert.Reference11Ideal.main_v196) = v24 c
          ∧ r.2.mem ((c.tc : Thread Cert.Reference11Ideal.nD Cert.Reference11Ideal.τ).loc Cert.Reference11Ideal.main_v34) = v25 c
          ∧ r.2.mem ((c.tc : Thread Cert.Reference11Ideal.nD Cert.Reference11Ideal.τ).loc Cert.Reference11Ideal.main_v58) = v26 c
          ∧ r.2.mem ((c.tc : Thread Cert.Reference11Ideal.nD Cert.Reference11Ideal.τ).loc Cert.Reference11Ideal.main_v82) = v27 c
          ∧ r.2.mem ((c.tc : Thread Cert.Reference11Ideal.nD Cert.Reference11Ideal.τ).loc Cert.Reference11Ideal.main_v106) = v28 c
          ∧ r.2.mem ((c.tc : Thread Cert.Reference11Ideal.nD Cert.Reference11Ideal.τ).loc Cert.Reference11Ideal.main_v130) = v29 c
          ∧ r.2.mem ((c.tc : Thread Cert.Reference11Ideal.nD Cert.Reference11Ideal.τ).loc Cert.Reference11Ideal.main_v154) = v30 c
          ∧ r.2.mem ((c.tc : Thread Cert.Reference11Ideal.nD Cert.Reference11Ideal.τ).loc Cert.Reference11Ideal.main_v178) = v31 c
          ∧ r.2.mem ((c.tc : Thread Cert.Reference11Ideal.nD Cert.Reference11Ideal.τ).loc Cert.Reference11Ideal.main_v202) = v32 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10)
          ∧ r.2.mem ((c.tc : Thread Cert.Reference11Ideal.nD Cert.Reference11Ideal.τ).loc Cert.Reference11Ideal.main_arg11) = m' ((c.tc : Thread Cert.Reference11Ideal.nD Cert.Reference11Ideal.τ).loc Cert.Reference11Ideal.main_arg11)
          ∧ r.2.mem ((c.tc : Thread Cert.Reference11Ideal.nD Cert.Reference11Ideal.τ).loc Cert.Reference11Ideal.main_arg12) = m' ((c.tc : Thread Cert.Reference11Ideal.nD Cert.Reference11Ideal.τ).loc Cert.Reference11Ideal.main_arg12)
          ∧ r.2.mem ((c.tc : Thread Cert.Reference11Ideal.nD Cert.Reference11Ideal.τ).loc Cert.Reference11Ideal.main_arg13) = m' ((c.tc : Thread Cert.Reference11Ideal.nD Cert.Reference11Ideal.τ).loc Cert.Reference11Ideal.main_arg13)
          ∧ r.2.mem ((c.tc : Thread Cert.Reference11Ideal.nD Cert.Reference11Ideal.τ).loc Cert.Reference11Ideal.main_arg14) = m' ((c.tc : Thread Cert.Reference11Ideal.nD Cert.Reference11Ideal.τ).loc Cert.Reference11Ideal.main_arg14)
          ∧ r.2.mem ((c.tc : Thread Cert.Reference11Ideal.nD Cert.Reference11Ideal.τ).loc Cert.Reference11Ideal.main_arg15) = m' ((c.tc : Thread Cert.Reference11Ideal.nD Cert.Reference11Ideal.τ).loc Cert.Reference11Ideal.main_arg15)
          ∧ r.2.mem ((c.tc : Thread Cert.Reference11Ideal.nD Cert.Reference11Ideal.τ).loc Cert.Reference11Ideal.main_arg16) = m' ((c.tc : Thread Cert.Reference11Ideal.nD Cert.Reference11Ideal.τ).loc Cert.Reference11Ideal.main_arg16)
          ∧ r.2.mem ((c.tc : Thread Cert.Reference11Ideal.nD Cert.Reference11Ideal.τ).loc Cert.Reference11Ideal.main_arg17) = m' ((c.tc : Thread Cert.Reference11Ideal.nD Cert.Reference11Ideal.τ).loc Cert.Reference11Ideal.main_arg17)
          ∧ r.2.mem ((c.tc : Thread Cert.Reference11Ideal.nD Cert.Reference11Ideal.τ).loc Cert.Reference11Ideal.main_arg18) = m' ((c.tc : Thread Cert.Reference11Ideal.nD Cert.Reference11Ideal.τ).loc Cert.Reference11Ideal.main_arg18)
          ∧ r.2.mem ((c.tc : Thread Cert.Reference11Ideal.nD Cert.Reference11Ideal.τ).loc Cert.Reference11Ideal.main_arg19) = m' ((c.tc : Thread Cert.Reference11Ideal.nD Cert.Reference11Ideal.τ).loc Cert.Reference11Ideal.main_arg19)
          ∧ r.2.mem ((c.tc : Thread Cert.Reference11Ideal.nD Cert.Reference11Ideal.τ).loc Cert.Reference11Ideal.main_arg20) = m' ((c.tc : Thread Cert.Reference11Ideal.nD Cert.Reference11Ideal.τ).loc Cert.Reference11Ideal.main_arg20)
          ∧ r.2.mem ((c.tc : Thread Cert.Reference11Ideal.nD Cert.Reference11Ideal.τ).loc Cert.Reference11Ideal.main_arg21) = m' ((c.tc : Thread Cert.Reference11Ideal.nD Cert.Reference11Ideal.τ).loc Cert.Reference11Ideal.main_arg21)
          ∧ r.2.mem ((c.tc : Thread Cert.Reference11Ideal.nD Cert.Reference11Ideal.τ).loc Cert.Reference11Ideal.main_arg22) = m' ((c.tc : Thread Cert.Reference11Ideal.nD Cert.Reference11Ideal.τ).loc Cert.Reference11Ideal.main_arg22)
          ∧ r.2.mem ((c.tc : Thread Cert.Reference11Ideal.nD Cert.Reference11Ideal.τ).loc Cert.Reference11Ideal.main_arg23) = m' ((c.tc : Thread Cert.Reference11Ideal.nD Cert.Reference11Ideal.τ).loc Cert.Reference11Ideal.main_arg23)
          ∧ r.2.mem ((c.tc : Thread Cert.Reference11Ideal.nD Cert.Reference11Ideal.τ).loc Cert.Reference11Ideal.main_arg24) = m' ((c.tc : Thread Cert.Reference11Ideal.nD Cert.Reference11Ideal.τ).loc Cert.Reference11Ideal.main_arg24)
          ∧ r.2.mem ((c.tc : Thread Cert.Reference11Ideal.nD Cert.Reference11Ideal.τ).loc Cert.Reference11Ideal.main_arg25) = m' ((c.tc : Thread Cert.Reference11Ideal.nD Cert.Reference11Ideal.τ).loc Cert.Reference11Ideal.main_arg25)
          ∧ r.2.mem ((c.tc : Thread Cert.Reference11Ideal.nD Cert.Reference11Ideal.τ).loc Cert.Reference11Ideal.main_arg26) = m' ((c.tc : Thread Cert.Reference11Ideal.nD Cert.Reference11Ideal.τ).loc Cert.Reference11Ideal.main_arg26)
          ∧ r.2.mem ((c.tc : Thread Cert.Reference11Ideal.nD Cert.Reference11Ideal.τ).loc Cert.Reference11Ideal.main_arg27) = m' ((c.tc : Thread Cert.Reference11Ideal.nD Cert.Reference11Ideal.τ).loc Cert.Reference11Ideal.main_arg27)
          ∧ r.2.mem ((c.tc : Thread Cert.Reference11Ideal.nD Cert.Reference11Ideal.τ).loc Cert.Reference11Ideal.main_arg28) = m' ((c.tc : Thread Cert.Reference11Ideal.nD Cert.Reference11Ideal.τ).loc Cert.Reference11Ideal.main_arg28)
          ∧ r.2.mem ((c.tc : Thread Cert.Reference11Ideal.nD Cert.Reference11Ideal.τ).loc Cert.Reference11Ideal.main_arg29) = m' ((c.tc : Thread Cert.Reference11Ideal.nD Cert.Reference11Ideal.τ).loc Cert.Reference11Ideal.main_arg29)
          ∧ r.2.mem ((c.tc : Thread Cert.Reference11Ideal.nD Cert.Reference11Ideal.τ).loc Cert.Reference11Ideal.main_arg30) = m' ((c.tc : Thread Cert.Reference11Ideal.nD Cert.Reference11Ideal.τ).loc Cert.Reference11Ideal.main_arg30)
          ∧ r.2.mem ((c.tc : Thread Cert.Reference11Ideal.nD Cert.Reference11Ideal.τ).loc Cert.Reference11Ideal.main_arg31) = m' ((c.tc : Thread Cert.Reference11Ideal.nD Cert.Reference11Ideal.τ).loc Cert.Reference11Ideal.main_arg31)
          ∧ r.2.mem ((c.tc : Thread Cert.Reference11Ideal.nD Cert.Reference11Ideal.τ).loc Cert.Reference11Ideal.main_arg32) = m' ((c.tc : Thread Cert.Reference11Ideal.nD Cert.Reference11Ideal.τ).loc Cert.Reference11Ideal.main_arg32)
          ∧ r.2.mem ((c.tc : Thread Cert.Reference11Ideal.nD Cert.Reference11Ideal.τ).loc Cert.Reference11Ideal.main_arg33) = m' ((c.tc : Thread Cert.Reference11Ideal.nD Cert.Reference11Ideal.τ).loc Cert.Reference11Ideal.main_arg33)
          ∧ r.2.mem ((c.tc : Thread Cert.Reference11Ideal.nD Cert.Reference11Ideal.τ).loc Cert.Reference11Ideal.main_arg34) = m' ((c.tc : Thread Cert.Reference11Ideal.nD Cert.Reference11Ideal.τ).loc Cert.Reference11Ideal.main_arg34)
          ∧ r.2.mem ((c.tc : Thread Cert.Reference11Ideal.nD Cert.Reference11Ideal.τ).loc Cert.Reference11Ideal.main_arg35) = m' ((c.tc : Thread Cert.Reference11Ideal.nD Cert.Reference11Ideal.τ).loc Cert.Reference11Ideal.main_arg35))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Kernel.lean ====
abbrev S2048x1024 : Shape := ⟨2, ![2048, 1024]⟩
abbrev S2048x256 : Shape := ⟨2, ![2048, 256]⟩
abbrev S1x1024 : Shape := ⟨2, ![1, 1024]⟩
abbrev S1024x1024 : Shape := ⟨2, ![1024, 1024]⟩
abbrev S8x1024x512 : Shape := ⟨3, ![8, 1024, 512]⟩
abbrev S4096x1024 : Shape := ⟨2, ![4096, 1024]⟩
abbrev S8x256x128 : Shape := ⟨3, ![8, 256, 128]⟩
abbrev S8x1024 : Shape := ⟨2, ![8, 1024]⟩
abbrev S2048x4096 : Shape := ⟨2, ![2048, 4096]⟩
abbrev S256x1024 : Shape := ⟨2, ![256, 1024]⟩
abbrev S256x256 : Shape := ⟨2, ![256, 256]⟩
abbrev S256x4096 : Shape := ⟨2, ![256, 4096]⟩
abbrev S256 : Shape := ⟨1, ![256]⟩
abbrev S256x1 : Shape := ⟨2, ![256, 1]⟩
abbrev S1x1024x512 : Shape := ⟨3, ![1, 1024, 512]⟩
abbrev S1024x512 : Shape := ⟨2, ![1024, 512]⟩
abbrev S256x512 : Shape := ⟨2, ![256, 512]⟩
abbrev S512x1024 : Shape := ⟨2, ![512, 1024]⟩
abbrev S1x256x128 : Shape := ⟨3, ![1, 256, 128]⟩
abbrev S256x128 : Shape := ⟨2, ![256, 128]⟩
abbrev S1 : Shape := ⟨1, ![1]⟩
abbrev S1x1 : Shape := ⟨2, ![1, 1]⟩
abbrev S1024 : Shape := ⟨1, ![1024]⟩

abbrev nBuf : Space → Nat
  | .hbm => 21
  | .vmem => 32
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .hbm, ⟨2, _⟩ => ⟨S2048x256, .f32⟩
  | .hbm, ⟨3, _⟩ => ⟨S2048x1024, .f32⟩
  | .hbm, ⟨4, _⟩ => ⟨S1x1024, .f32⟩
  | .hbm, ⟨5, _⟩ => ⟨S1x1024, .f32⟩
  | .hbm, ⟨6, _⟩ => ⟨S1024x1024, .bf16⟩
  | .hbm, ⟨7, _⟩ => ⟨S8x1024x512, .bf16⟩
  | .hbm, ⟨8, _⟩ => ⟨S4096x1024, .bf16⟩
  | .hbm, ⟨9, _⟩ => ⟨S1024x1024, .bf16⟩
  | .hbm, ⟨10, _⟩ => ⟨S8x256x128, .bf16⟩
  | .hbm, ⟨11, _⟩ => ⟨S8x1024, .f32⟩
  | .hbm, ⟨12, _⟩ => ⟨S2048x1024, .f32⟩
  | .hbm, ⟨13, _⟩ => ⟨S2048x1024, .f32⟩
  | .hbm, ⟨14, _⟩ => ⟨S2048x1024, .bf16⟩
  | .hbm, ⟨15, _⟩ => ⟨S2048x4096, .bf16⟩
  | .hbm, ⟨16, _⟩ => ⟨S2048x4096, .bf16⟩
  | .hbm, ⟨17, _⟩ => ⟨S2048x1024, .bf16⟩
  | .hbm, ⟨18, _⟩ => ⟨S1024x1024, .f32⟩
  | .hbm, ⟨19, _⟩ => ⟨S8x256x128, .f32⟩
  | .hbm, ⟨20, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x256, .f32⟩
  | .local _ .vmem, ⟨5, _⟩ => ⟨S256x256, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .bf16⟩
  | .local _ .vmem, ⟨11, _⟩ => ⟨S8x1024x512, .bf16⟩
  | .local _ .vmem, ⟨12, _⟩ => ⟨S4096x1024, .bf16⟩
  | .local _ .vmem, ⟨13, _⟩ => ⟨S1024x1024, .bf16⟩
  | .local _ .vmem, ⟨14, _⟩ => ⟨S8x256x128, .bf16⟩
  | .local _ .vmem, ⟨15, _⟩ => ⟨S8x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x4096, .bf16⟩
  | .local _ .vmem, ⟨23, _⟩ => ⟨S256x4096, .bf16⟩
  | .local _ .vmem, ⟨24, _⟩ => ⟨S256x4096, .bf16⟩
  | .local _ .vmem, ⟨25, _⟩ => ⟨S256x4096, .bf16⟩
  | .local _ .vmem, ⟨26, _⟩ => ⟨S256x1024, .bf16⟩
  | .local _ .vmem, ⟨27, _⟩ => ⟨S256x1024, .bf16⟩
  | .local _ .vmem, ⟨28, _⟩ => ⟨S1024x1024, .f32⟩
  | .local _ .vmem, ⟨29, _⟩ => ⟨S8x256x128, .f32⟩
  | .local _ .vmem, ⟨30, _⟩ => ⟨S1024x1024, .f32⟩
  | .local _ .vmem, ⟨31, _⟩ => ⟨S256x4096, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev main_v0_6 : Ref sig .tc := ⟨.hbm, 17, rfl⟩
abbrev main_v0_7 : Ref sig .tc := ⟨.hbm, 18, rfl⟩
abbrev main_v0_8 : Ref sig .tc := ⟨.hbm, 19, rfl⟩
abbrev main_v0_9 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg19_0 : Ref sig .tc := ⟨.vmem, 29, rfl⟩
abbrev cc0_stg20_0 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem19_0 : DmaSem sig := 29
abbrev cc0_sem20_0 : DmaSem sig := 30

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4096x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x256x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x4096 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x4096 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1024x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x256x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1024x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceIdeal.lean ====
abbrev S2048x1024 : Shape := ⟨2, ![2048, 1024]⟩
abbrev S2048x256 : Shape := ⟨2, ![2048, 256]⟩
abbrev S1x1024 : Shape := ⟨2, ![1, 1024]⟩
abbrev S1024x1024 : Shape := ⟨2, ![1024, 1024]⟩
abbrev S8x1024x512 : Shape := ⟨3, ![8, 1024, 512]⟩
abbrev S4096x1024 : Shape := ⟨2, ![4096, 1024]⟩
abbrev S8x256x128 : Shape := ⟨3, ![8, 256, 128]⟩
abbrev S_ : Shape := ⟨0, ![]⟩
abbrev S2048x4096 : Shape := ⟨2, ![2048, 4096]⟩
abbrev S2048 : Shape := ⟨1, ![2048]⟩
abbrev S2048x1 : Shape := ⟨2, ![2048, 1]⟩
abbrev S1024x8x512 : Shape := ⟨3, ![1024, 8, 512]⟩
abbrev S1024x4096 : Shape := ⟨2, ![1024, 4096]⟩
abbrev S256x8x128 : Shape := ⟨3, ![256, 8, 128]⟩
abbrev S256x1024 : Shape := ⟨2, ![256, 1024]⟩
abbrev S1024 : Shape := ⟨1, ![1024]⟩
abbrev S1024x256 : Shape := ⟨2, ![1024, 256]⟩
abbrev S5x1024 : Shape := ⟨2, ![5, 1024]⟩
abbrev S8x1024 : Shape := ⟨2, ![8, 1024]⟩

abbrev nBuf : Space → Nat
  | .hbm => 196
  | .vmem => 0
  | .smem => 0
  | _ => 0

abbrev hbmTy0_0 (i : Nat) : BufTy := match i % 128 with
  | 0 => ⟨S2048x1024, .f32⟩
  | 1 => ⟨S2048x1024, .bf16⟩
  | 2 => ⟨S2048x256, .f32⟩
  | 3 => ⟨S2048x1024, .f32⟩
  | 4 => ⟨S1x1024, .f32⟩
  | 5 => ⟨S1x1024, .f32⟩
  | 6 => ⟨S1024x1024, .bf16⟩
  | 7 => ⟨S8x1024x512, .bf16⟩
  | 8 => ⟨S4096x1024, .bf16⟩
  | 9 => ⟨S1024x1024, .bf16⟩
  | 10 => ⟨S8x256x128, .bf16⟩
  | 11 => ⟨S8x1024x512, .f32⟩
  | 12 => ⟨S4096x1024, .f32⟩
  | 13 => ⟨S2048x1024, .f32⟩
  | 14 => ⟨S1024x1024, .f32⟩
  | 15 => ⟨S1024x1024, .f32⟩
  | 16 => ⟨S8x256x128, .f32⟩
  | 17 => ⟨S_, .f32⟩
  | 18 => ⟨S2048x4096, .f32⟩
  | 19 => ⟨S_, .f32⟩
  | 20 => ⟨S2048x1024, .f32⟩
  | 21 => ⟨S2048x1024, .f32⟩
  | 22 => ⟨S2048x1024, .f32⟩
  | 23 => ⟨S2048x1024, .f32⟩
  | 24 => ⟨S_, .f32⟩
  | 25 => ⟨S2048, .f32⟩
  | 26 => ⟨S2048x1, .f32⟩
  | 27 => ⟨S_, .f32⟩
  | 28 => ⟨S2048x1, .f32⟩
  | 29 => ⟨S2048x1, .f32⟩
  | 30 => ⟨S_, .f32⟩
  | 31 => ⟨S2048x1, .f32⟩
  | 32 => ⟨S2048x1, .f32⟩
  | 33 => ⟨S2048x1, .f32⟩
  | 34 => ⟨S2048x1, .f32⟩
  | 35 => ⟨S_, .f32⟩
  | 36 => ⟨S2048x1, .f32⟩
  | 37 => ⟨S2048x1, .f32⟩
  | 38 => ⟨S2048x1024, .f32⟩
  | 39 => ⟨S2048x1024, .f32⟩
  | 40 => ⟨S2048x1024, .f32⟩
  | 41 => ⟨S2048x1024, .f32⟩
  | 42 => ⟨S1024x8x512, .f32⟩
  | 43 => ⟨S1024x4096, .f32⟩
  | 44 => ⟨S2048x4096, .f32⟩
  | 45 => ⟨S2048x4096, .f32⟩
  | 46 => ⟨S_, .f32⟩
  | 47 => ⟨S2048x4096, .f32⟩
  | 48 => ⟨S2048x4096, .f32⟩
  | 49 => ⟨S_, .f32⟩
  | 50 => ⟨S2048x4096, .f32⟩
  | 51 => ⟨S2048x4096, .i1⟩
  | 52 => ⟨S_, .f32⟩
  | 53 => ⟨S2048x4096, .f32⟩
  | 54 => ⟨S2048x4096, .f32⟩
  | 55 => ⟨S_, .f32⟩
  | 56 => ⟨S2048x4096, .f32⟩
  | 57 => ⟨S2048x4096, .f32⟩
  | 58 => ⟨S2048x1024, .f32⟩
  | 59 => ⟨S2048x1024, .f32⟩
  | 60 => ⟨S2048x1024, .f32⟩
  | 61 => ⟨S2048x1024, .f32⟩
  | 62 => ⟨S2048x1024, .f32⟩
  | 63 => ⟨S2048x1024, .f32⟩
  | 64 => ⟨S_, .f32⟩
  | 65 => ⟨S2048x1024, .f32⟩
  | 66 => ⟨S2048x1024, .f32⟩
  | 67 => ⟨S_, .f32⟩
  | 68 => ⟨S2048x1024, .f32⟩
  | 69 => ⟨S2048x1024, .f32⟩
  | 70 => ⟨S_, .f32⟩
  | 71 => ⟨S2048x1024, .f32⟩
  | 72 => ⟨S2048x1024, .f32⟩
  | 73 => ⟨S2048x1024, .f32⟩
  | 74 => ⟨S256x8x128, .f32⟩
  | 75 => ⟨S256x1024, .f32⟩
  | 76 => ⟨S2048x1024, .f32⟩
  | 77 => ⟨S2048x1024, .f32⟩
  | 78 => ⟨S2048x1024, .f32⟩
  | 79 => ⟨S2048x1024, .f32⟩
  | 80 => ⟨S_, .f32⟩
  | 81 => ⟨S2048, .f32⟩
  | 82 => ⟨S2048x1, .f32⟩
  | 83 => ⟨S_, .f32⟩
  | 84 => ⟨S2048x1, .f32⟩
  | 85 => ⟨S2048x1, .f32⟩
  | 86 => ⟨S_, .f32⟩
  | 87 => ⟨S2048x1, .f32⟩
  | 88 => ⟨S2048x1, .f32⟩
  | 89 => ⟨S2048x1, .f32⟩
  | 90 => ⟨S2048x1, .f32⟩
  | 91 => ⟨S_, .f32⟩
  | 92 => ⟨S2048x1, .f32⟩
  | 93 => ⟨S2048x1, .f32⟩
  | 94 => ⟨S2048x1024, .f32⟩
  | 95 => ⟨S2048x1024, .f32⟩
  | 96 => ⟨S2048x1024, .f32⟩
  | 97 => ⟨S2048x1024, .f32⟩
  | 98 => ⟨S2048x1024, .f32⟩
  | 99 => ⟨S2048x1024, .f32⟩
  | 100 => ⟨S_, .f32⟩
  | 101 => ⟨S2048x1024, .f32⟩
  | 102 => ⟨S2048x1024, .f32⟩
  | 103 => ⟨S_, .f32⟩
  | 104 => ⟨S2048, .f32⟩
  | 105 => ⟨S_, .f32⟩
  | 106 => ⟨S2048, .f32⟩
  | 107 => ⟨S2048, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S2048, .f32⟩
  | 116 => ⟨S_, .f32⟩
  | 117 => ⟨S2048, .f32⟩
  | 118 => ⟨S2048, .f32⟩
  | 119 => ⟨S2048x1024, .f32⟩
  | 120 => ⟨S2048x1024, .f32⟩
  | 121 => ⟨S2048x1024, .f32⟩
  | 122 => ⟨S_, .f32⟩
  | 123 => ⟨S1024, .f32⟩
  | 124 => ⟨S1x1024, .f32⟩
  | 125 => ⟨S2048x1024, .f32⟩
  | 126 => ⟨S2048x1024, .f32⟩
  | 127 => ⟨S2048x1024, .f32⟩
  | _ => ⟨S2048x1024, .f32⟩

abbrev hbmTy0_1 (i : Nat) : BufTy := match i % 128 with
  | 0 => ⟨S_, .f32⟩
  | 1 => ⟨S2048, .f32⟩
  | 2 => ⟨S2048x1, .f32⟩
  | 3 => ⟨S2048x1024, .f32⟩
  | 4 => ⟨S2048x1024, .f32⟩
  | 5 => ⟨S2048x1, .f32⟩
  | 6 => ⟨S_, .f32⟩
  | 7 => ⟨S2048x1, .f32⟩
  | 8 => ⟨S2048x1, .f32⟩
  | 9 => ⟨S_, .f32⟩
  | 10 => ⟨S2048, .f32⟩
  | 11 => ⟨S2048x1024, .f32⟩
  | 12 => ⟨S2048x1024, .f32⟩
  | 13 => ⟨S2048x1024, .f32⟩
  | 14 => ⟨S2048x1024, .f32⟩
  | 15 => ⟨S2048x1024, .f32⟩
  | 16 => ⟨S2048x1024, .f32⟩
  | 17 => ⟨S2048x1024, .f32⟩
  | 18 => ⟨S1024x256, .f32⟩
  | 19 => ⟨S256x1024, .f32⟩
  | 20 => ⟨S256x8x128, .f32⟩
  | 21 => ⟨S8x256x128, .f32⟩
  | 22 => ⟨S2048x1024, .f32⟩
  | 23 => ⟨S1024x1024, .f32⟩
  | 24 => ⟨S1024x1024, .f32⟩
  | 25 => ⟨S2048x1024, .f32⟩
  | 26 => ⟨S2048x1024, .f32⟩
  | 27 => ⟨S2048x4096, .f32⟩
  | 28 => ⟨S2048x4096, .f32⟩
  | 29 => ⟨S_, .f32⟩
  | 30 => ⟨S2048x4096, .f32⟩
  | 31 => ⟨S2048x4096, .f32⟩
  | 32 => ⟨S2048x1024, .f32⟩
  | 33 => ⟨S2048x1024, .f32⟩
  | 34 => ⟨S_, .f32⟩
  | 35 => ⟨S1024, .f32⟩
  | 36 => ⟨S1x1024, .f32⟩
  | 37 => ⟨S2048x1024, .f32⟩
  | 38 => ⟨S2048x1024, .f32⟩
  | 39 => ⟨S2048x1024, .f32⟩
  | 40 => ⟨S_, .f32⟩
  | 41 => ⟨S2048, .f32⟩
  | 42 => ⟨S2048x1, .f32⟩
  | 43 => ⟨S2048x1024, .f32⟩
  | 44 => ⟨S2048x1024, .f32⟩
  | 45 => ⟨S2048x1024, .f32⟩
  | 46 => ⟨S2048x1, .f32⟩
  | 47 => ⟨S_, .f32⟩
  | 48 => ⟨S2048x1, .f32⟩
  | 49 => ⟨S2048x1, .f32⟩
  | 50 => ⟨S_, .f32⟩
  | 51 => ⟨S2048, .f32⟩
  | 52 => ⟨S2048x1024, .f32⟩
  | 53 => ⟨S2048x1024, .f32⟩
  | 54 => ⟨S2048x1024, .f32⟩
  | 55 => ⟨S2048x1024, .f32⟩
  | 56 => ⟨S2048x1024, .f32⟩
  | 57 => ⟨S1024x1024, .f32⟩
  | 58 => ⟨S1024x1024, .f32⟩
  | 59 => ⟨S2048x1024, .f32⟩
  | 60 => ⟨S1x1024, .f32⟩
  | 61 => ⟨S_, .f32⟩
  | 62 => ⟨S5x1024, .f32⟩
  | 63 => ⟨S8x1024, .f32⟩
  | 64 => ⟨S2048x1024, .bf16⟩
  | 65 => ⟨S2048x4096, .bf16⟩
  | 66 => ⟨S2048x4096, .bf16⟩
  | 67 => ⟨S2048x1024, .bf16⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_cst_5 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_cst_7 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_cst_9 : Ref sig .tc := ⟨.hbm, 67, rfl⟩
abbrev main_v44 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_11 : Ref sig .tc := ⟨.hbm, 80, rfl⟩
abbrev main_v55 : Ref sig .tc := ⟨.hbm, 81, rfl⟩
abbrev main_v56 : Ref sig .tc := ⟨.hbm, 82, rfl⟩
abbrev main_cst_12 : Ref sig .tc := ⟨.hbm, 83, rfl⟩
abbrev main_v57 : Ref sig .tc := ⟨.hbm, 84, rfl⟩
abbrev main_v58 : Ref sig .tc := ⟨.hbm, 85, rfl⟩
abbrev main_cst_13 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_14 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_15 : Ref sig .tc := ⟨.hbm, 100, rfl⟩
abbrev main_v71 : Ref sig .tc := ⟨.hbm, 101, rfl⟩
abbrev main_v72 : Ref sig .tc := ⟨.hbm, 102, rfl⟩
abbrev main_cst_16 : Ref sig .tc := ⟨.hbm, 103, rfl⟩
abbrev main_v73 : Ref sig .tc := ⟨.hbm, 104, rfl⟩
abbrev main_cst_17 : Ref sig .tc := ⟨.hbm, 105, rfl⟩
abbrev main_v74 : Ref sig .tc := ⟨.hbm, 106, rfl⟩
abbrev main_v75 : Ref sig .tc := ⟨.hbm, 107, rfl⟩
abbrev main_cst_18 : Ref sig .tc := ⟨.hbm, 108, rfl⟩
abbrev main_v76 : Ref sig .tc := ⟨.hbm, 109, rfl⟩
abbrev main_cst_19 : Ref sig .tc := ⟨.hbm, 110, rfl⟩
abbrev main_v77 : Ref sig .tc := ⟨.hbm, 111, rfl⟩
abbrev main_cst_20 : Ref sig .tc := ⟨.hbm, 112, rfl⟩
abbrev main_cst_21 : Ref sig .tc := ⟨.hbm, 113, rfl⟩
abbrev main_v78 : Ref sig .tc := ⟨.hbm, 114, rfl⟩
abbrev main_v79 : Ref sig .tc := ⟨.hbm, 115, rfl⟩
abbrev main_cst_22 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_cst_23 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_cst_24 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_25 : Ref sig .tc := ⟨.hbm, 134, rfl⟩
abbrev main_v95 : Ref sig .tc := ⟨.hbm, 135, rfl⟩
abbrev main_v96 : Ref sig .tc := ⟨.hbm, 136, rfl⟩
abbrev main_cst_26 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_cst_27 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_cst_28 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_29 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_30 : Ref sig .tc := ⟨.hbm, 175, rfl⟩
abbrev main_v131 : Ref sig .tc := ⟨.hbm, 176, rfl⟩
abbrev main_v132 : Ref sig .tc := ⟨.hbm, 177, rfl⟩
abbrev main_cst_31 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_cst_32 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩

abbrev nD : Nat := 1
abbrev τ : Topo := Topo.v7x

variable {F : FTy → Type} [FloatOps F]
-- ==== Kernel2.lean ====
abbrev S2048x1024 : Shape := ⟨2, ![2048, 1024]⟩
abbrev S1x1024 : Shape := ⟨2, ![1, 1024]⟩
abbrev S1792x1024 : Shape := ⟨2, ![1792, 1024]⟩
abbrev S2048x768 : Shape := ⟨2, ![2048, 768]⟩
abbrev S512x1024 : Shape := ⟨2, ![512, 1024]⟩
abbrev S512x768 : Shape := ⟨2, ![512, 768]⟩
abbrev S512 : Shape := ⟨1, ![512]⟩
abbrev S512x1 : Shape := ⟨2, ![512, 1]⟩
abbrev S512x1792 : Shape := ⟨2, ![512, 1792]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1792x1024, .bf16⟩
  | .hbm, ⟨3, _⟩ => ⟨S2048x1024, .f32⟩
  | .hbm, ⟨4, _⟩ => ⟨S2048x768, .bf16⟩
  | .hbm, ⟨5, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1792x1024, .bf16⟩
  | .local _ .vmem, ⟨4, _⟩ => ⟨S512x1024, .f32⟩
  | .local _ .vmem, ⟨5, _⟩ => ⟨S512x1024, .f32⟩
  | .local _ .vmem, ⟨6, _⟩ => ⟨S512x768, .bf16⟩
  | .local _ .vmem, ⟨7, _⟩ => ⟨S512x768, .bf16⟩
  | .local _ .vmem, ⟨8, _⟩ => ⟨S512x1024, .bf16⟩
  | .local _ .vmem, ⟨9, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2048x1024 : Shape := ⟨2, ![2048, 1024]⟩
abbrev S1x1024 : Shape := ⟨2, ![1, 1024]⟩
abbrev S1792x1024 : Shape := ⟨2, ![1792, 1024]⟩
abbrev S_ : Shape := ⟨0, ![]⟩
abbrev S2048 : Shape := ⟨1, ![2048]⟩
abbrev S2048x1 : Shape := ⟨2, ![2048, 1]⟩
abbrev S1024x1792 : Shape := ⟨2, ![1024, 1792]⟩
abbrev S2048x1792 : Shape := ⟨2, ![2048, 1792]⟩
abbrev S2048x768 : Shape := ⟨2, ![2048, 768]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1792x1024, .bf16⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S1792x1024, .f32⟩
  | .hbm, ⟨19, _⟩ => ⟨S1024x1792, .f32⟩
  | .hbm, ⟨20, _⟩ => ⟨S2048x1792, .f32⟩
  | .hbm, ⟨21, _⟩ => ⟨S2048x1024, .f32⟩
  | .hbm, ⟨22, _⟩ => ⟨S2048x768, .f32⟩
  | .hbm, ⟨23, _⟩ => ⟨S2048x768, .bf16⟩
  | .hbm, ⟨24, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== Kernel3.lean ====
abbrev S2048x1024 : Shape := ⟨2, ![2048, 1024]⟩
abbrev S2048x4096 : Shape := ⟨2, ![2048, 4096]⟩
abbrev S8x1024x512 : Shape := ⟨3, ![8, 1024, 512]⟩
abbrev S2x1024x512 : Shape := ⟨3, ![2, 1024, 512]⟩
abbrev S1024x2048 : Shape := ⟨2, ![1024, 2048]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S8x1024x512, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2x1024x512, .f32⟩
  | .local _ .vmem, ⟨4, _⟩ => ⟨S2x1024x512, .f32⟩
  | .local _ .vmem, ⟨5, _⟩ => ⟨S1024x2048, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2048x1024 : Shape := ⟨2, ![2048, 1024]⟩
abbrev S2048x4096 : Shape := ⟨2, ![2048, 4096]⟩
abbrev S_ : Shape := ⟨0, ![]⟩
abbrev S8x1024x512 : Shape := ⟨3, ![8, 1024, 512]⟩
abbrev S1024x8x512 : Shape := ⟨3, ![1024, 8, 512]⟩
abbrev S1024x4096 : Shape := ⟨2, ![1024, 4096]⟩
abbrev S4096x1024 : Shape := ⟨2, ![4096, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S_, .f32⟩
  | .hbm, ⟨3, _⟩ => ⟨S8x1024x512, .f32⟩
  | .hbm, ⟨4, _⟩ => ⟨S2048x1024, .f32⟩
  | .hbm, ⟨5, _⟩ => ⟨S1024x8x512, .f32⟩
  | .hbm, ⟨6, _⟩ => ⟨S1024x4096, .f32⟩
  | .hbm, ⟨7, _⟩ => ⟨S2048x4096, .f32⟩
  | .hbm, ⟨8, _⟩ => ⟨S2048x4096, .f32⟩
  | .hbm, ⟨9, _⟩ => ⟨S4096x1024, .f32⟩
  | .hbm, ⟨10, _⟩ => ⟨S1024x4096, .f32⟩
  | .hbm, ⟨11, _⟩ => ⟨S1024x8x512, .f32⟩
  | .hbm, ⟨12, _⟩ => ⟨S8x1024x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel4.lean ====
abbrev S2048x4096 : Shape := ⟨2, ![2048, 4096]⟩
abbrev S2048x1024 : Shape := ⟨2, ![2048, 1024]⟩
abbrev S4096x1024 : Shape := ⟨2, ![4096, 1024]⟩
abbrev S1024x1024 : Shape := ⟨2, ![1024, 1024]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x2048, .bf16⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S2048x4096 : Shape := ⟨2, ![2048, 4096]⟩
abbrev S2048x1024 : Shape := ⟨2, ![2048, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .bf16⟩
  | .hbm, ⟨2, _⟩ => ⟨S_, .f32⟩
  | .hbm, ⟨3, _⟩ => ⟨S4096x1024, .f32⟩
  | .hbm, ⟨4, _⟩ => ⟨S2048x4096, .f32⟩
  | .hbm, ⟨5, _⟩ => ⟨S2048x1024, .f32⟩
  | .hbm, ⟨6, _⟩ => ⟨S2048x1024, .f32⟩
  | .hbm, ⟨7, _⟩ => ⟨S1024x4096, .f32⟩
  | .hbm, ⟨8, _⟩ => ⟨S4096x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S2048x1536 : Shape := ⟨2, ![2048, 1536]⟩
abbrev S2048x256 : Shape := ⟨2, ![2048, 256]⟩
abbrev S2048x1024 : Shape := ⟨2, ![2048, 1024]⟩
abbrev S1792x1024 : Shape := ⟨2, ![1792, 1024]⟩
abbrev S256x1024 : Shape := ⟨2, ![256, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2048x1536, .bf16⟩
  | .hbm, ⟨1, _⟩ => ⟨S2048x256, .bf16⟩
  | .hbm, ⟨2, _⟩ => ⟨S2048x1024, .bf16⟩
  | .hbm, ⟨3, _⟩ => ⟨S1792x1024, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c6_i32 : BitVec 32 := 6#32
  let v0 : BitVec 1 := Scalar.cmpi .slt arg0 c6_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c6_i32_0 : BitVec 32 := 6#32
  let v3 : BitVec 1 := Scalar.cmpi .eq arg0 c6_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c5_i32 : BitVec 32 := 5#32
  let v0 : BitVec 32 := Scalar.minsi arg0 c5_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S2048x1536 : Shape := ⟨2, ![2048, 1536]⟩
abbrev S2048x256 : Shape := ⟨2, ![2048, 256]⟩
abbrev S2048x1024 : Shape := ⟨2, ![2048, 1024]⟩
abbrev S2048x1792 : Shape := ⟨2, ![2048, 1792]⟩
abbrev S_ : Shape := ⟨0, ![]⟩
abbrev S1792x1024 : Shape := ⟨2, ![1792, 1024]⟩
abbrev S1024x1792 : Shape := ⟨2, ![1024, 1792]⟩

abbrev nBuf : Space → Nat
  | .hbm => 13
  | .vmem => 0
  | .smem => 0
  | _ => 0

abbrev bufTy : (tb : Table) → Fin (tcTables nBuf tb) → BufTy
  | .hbm, ⟨0, _⟩ => ⟨S2048x1536, .bf16⟩
  | .hbm, ⟨1, _⟩ => ⟨S2048x256, .bf16⟩
  | .hbm, ⟨2, _⟩ => ⟨S2048x1024, .bf16⟩
  | .hbm, ⟨3, _⟩ => ⟨S2048x1792, .bf16⟩
  | .hbm, ⟨4, _⟩ => ⟨S2048x1792, .f32⟩
  | .hbm, ⟨5, _⟩ => ⟨S_, .f32⟩
  | .hbm, ⟨6, _⟩ => ⟨S1792x1024, .f32⟩
  | .hbm, ⟨7, _⟩ => ⟨S2048x1024, .f32⟩
  | .hbm, ⟨8, _⟩ => ⟨S1024x1792, .f32⟩
  | .hbm, ⟨9, _⟩ => ⟨S2048x1792, .f32⟩
  | .hbm, ⟨10, _⟩ => ⟨S1792x1024, .f32⟩
  | .hbm, ⟨11, _⟩ => ⟨S1024x1792, .f32⟩
  | .hbm, ⟨12, _⟩ => ⟨S1792x1024, .f32⟩
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel6.lean ====
abbrev S2048x1024 : Shape := ⟨2, ![2048, 1024]⟩
abbrev S2048x1536 : Shape := ⟨2, ![2048, 1536]⟩
abbrev S2048x256 : Shape := ⟨2, ![2048, 256]⟩
abbrev S1x1024 : Shape := ⟨2, ![1, 1024]⟩
abbrev S1792x1024 : Shape := ⟨2, ![1792, 1024]⟩
abbrev S512x1024 : Shape := ⟨2, ![512, 1024]⟩
abbrev S512x1536 : Shape := ⟨2, ![512, 1536]⟩
abbrev S512x256 : Shape := ⟨2, ![512, 256]⟩
abbrev S1536x1024 : Shape := ⟨2, ![1536, 1024]⟩
abbrev S256x1024 : Shape := ⟨2, ![256, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1536, .bf16⟩
  | .hbm, ⟨3, _⟩ => ⟨S2048x256, .bf16⟩
  | .hbm, ⟨4, _⟩ => ⟨S1x1024, .f32⟩
  | .hbm, ⟨5, _⟩ => ⟨S1792x1024, .bf16⟩
  | .hbm, ⟨6, _⟩ => ⟨S2048x1024, .f32⟩
  | .hbm, ⟨7, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1536, .bf16⟩
  | .local _ .vmem, ⟨5, _⟩ => ⟨S512x1536, .bf16⟩
  | .local _ .vmem, ⟨6, _⟩ => ⟨S512x256, .bf16⟩
  | .local _ .vmem, ⟨7, _⟩ => ⟨S512x256, .bf16⟩
  | .local _ .vmem, ⟨8, _⟩ => ⟨S1x1024, .f32⟩
  | .local _ .vmem, ⟨9, _⟩ => ⟨S1792x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1792x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference6Ideal.lean ====
abbrev S2048x1024 : Shape := ⟨2, ![2048, 1024]⟩
abbrev S2048x1536 : Shape := ⟨2, ![2048, 1536]⟩
abbrev S2048x256 : Shape := ⟨2, ![2048, 256]⟩
abbrev S1x1024 : Shape := ⟨2, ![1, 1024]⟩
abbrev S1792x1024 : Shape := ⟨2, ![1792, 1024]⟩
abbrev S2048x1792 : Shape := ⟨2, ![2048, 1792]⟩
abbrev S_ : Shape := ⟨0, ![]⟩
abbrev S2048 : Shape := ⟨1, ![2048]⟩
abbrev S2048x1 : Shape := ⟨2, ![2048, 1]⟩
abbrev S1024x1792 : Shape := ⟨2, ![1024, 1792]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1536, .bf16⟩
  | .hbm, ⟨3, _⟩ => ⟨S2048x256, .bf16⟩
  | .hbm, ⟨4, _⟩ => ⟨S1x1024, .f32⟩
  | .hbm, ⟨5, _⟩ => ⟨S1792x1024, .bf16⟩
  | .hbm, ⟨6, _⟩ => ⟨S2048x1792, .bf16⟩
  | .hbm, ⟨7, _⟩ => ⟨S2048x1792, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S1792x1024, .f32⟩
  | .hbm, ⟨28, _⟩ => ⟨S1024x1792, .f32⟩
  | .hbm, ⟨29, _⟩ => ⟨S2048x1792, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_4 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩

abbrev nD : Nat := 1
abbrev τ : Topo := Topo.v7x

variable {F : FTy → Type} [FloatOps F]
-- ==== Kernel7.lean ====
abbrev S1024x512 : Shape := ⟨2, ![1024, 512]⟩
abbrev S3x1024x512 : Shape := ⟨3, ![3, 1024, 512]⟩
abbrev S512x512 : Shape := ⟨2, ![512, 512]⟩
abbrev S3x512x512 : Shape := ⟨3, ![3, 512, 512]⟩
abbrev S1x512x512 : Shape := ⟨3, ![1, 512, 512]⟩

abbrev nBuf : Space → Nat
  | .hbm => 9
  | .vmem => 18
  | .smem => 0
  | _ => 0

abbrev bufTy : (tb : Table) → Fin (tcTables nBuf tb) → BufTy
  | .hbm, ⟨0, _⟩ => ⟨S1024x512, .f32⟩
  | .hbm, ⟨1, _⟩ => ⟨S3x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S3x512x512, .bf16⟩
  | .local _ .vmem, ⟨3, _⟩ => ⟨S3x512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference7Ideal.lean ====
abbrev S1024x512 : Shape := ⟨2, ![1024, 512]⟩
abbrev S3x1024x512 : Shape := ⟨3, ![3, 1024, 512]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S3x1024x512, .bf16⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S3x1024x512, .f32⟩
  | .hbm, ⟨6, _⟩ => ⟨S_, .f32⟩
  | .hbm, ⟨7, _⟩ => ⟨S1024x512, .f32⟩
  | .hbm, ⟨8, _⟩ => ⟨S1024x512, .f32⟩
  | .hbm, ⟨9, _⟩ => ⟨S_, .f32⟩
  | .hbm, ⟨10, _⟩ => ⟨S1024x512, .f32⟩
  | .hbm, ⟨11, _⟩ => ⟨S1024x512, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S_, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S_, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S_, .f32⟩
  | .hbm, ⟨32, _⟩ => ⟨S1024x512, .f32⟩
  | .hbm, ⟨33, _⟩ => ⟨S1024x512, .f32⟩
  | .hbm, ⟨34, _⟩ => ⟨S1024x512, .f32⟩
  | .hbm, ⟨35, _⟩ => ⟨S_, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S_, .f32⟩
  | .hbm, ⟨40, _⟩ => ⟨S1024x512, .f32⟩
  | .hbm, ⟨41, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel8.lean ====
abbrev S512x1024 : Shape := ⟨2, ![512, 1024]⟩
abbrev S3x512x1024 : Shape := ⟨3, ![3, 512, 1024]⟩
abbrev S1x512x1024 : Shape := ⟨3, ![1, 512, 1024]⟩

abbrev nBuf : Space → Nat
  | .hbm => 9
  | .vmem => 9
  | .smem => 0
  | _ => 0

abbrev bufTy : (tb : Table) → Fin (tcTables nBuf tb) → BufTy
  | .hbm, ⟨0, _⟩ => ⟨S512x1024, .f32⟩
  | .hbm, ⟨1, _⟩ => ⟨S3x512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S512x1024, .f32⟩
  | .hbm, ⟨8, _⟩ => ⟨S512x1024, .f32⟩
  | .local _ .vmem, ⟨0, _⟩ => ⟨S512x1024, .f32⟩
  | .local _ .vmem, ⟨1, _⟩ => ⟨S3x512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference8Ideal.lean ====
abbrev S512x1024 : Shape := ⟨2, ![512, 1024]⟩
abbrev S3x512x1024 : Shape := ⟨3, ![3, 512, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S3x512x1024, .bf16⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S3x512x1024, .f32⟩
  | .hbm, ⟨6, _⟩ => ⟨S_, .f32⟩
  | .hbm, ⟨7, _⟩ => ⟨S512x1024, .f32⟩
  | .hbm, ⟨8, _⟩ => ⟨S512x1024, .f32⟩
  | .hbm, ⟨9, _⟩ => ⟨S_, .f32⟩
  | .hbm, ⟨10, _⟩ => ⟨S512x1024, .f32⟩
  | .hbm, ⟨11, _⟩ => ⟨S512x1024, .f32⟩
  | .hbm, ⟨12, _⟩ => ⟨S_, .f32⟩
  | .hbm, ⟨13, _⟩ => ⟨S512x1024, .f32⟩
  | .hbm, ⟨14, _⟩ => ⟨S512x1024, .f32⟩
  | .hbm, ⟨15, _⟩ => ⟨S512x1024, .f32⟩
  | .hbm, ⟨16, _⟩ => ⟨S_, .f32⟩
  | .hbm, ⟨17, _⟩ => ⟨S512x1024, .f32⟩
  | .hbm, ⟨18, _⟩ => ⟨S512x1024, .f32⟩
  | .hbm, ⟨19, _⟩ => ⟨S512x1024, .f32⟩
  | .hbm, ⟨20, _⟩ => ⟨S_, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S_, .f32⟩
  | .hbm, ⟨28, _⟩ => ⟨S512x1024, .f32⟩
  | .hbm, ⟨29, _⟩ => ⟨S512x1024, .f32⟩
  | .hbm, ⟨30, _⟩ => ⟨S512x1024, .f32⟩
  | .hbm, ⟨31, _⟩ => ⟨S_, .f32⟩
  | .hbm, ⟨32, _⟩ => ⟨S512x1024, .f32⟩
  | .hbm, ⟨33, _⟩ => ⟨S512x1024, .f32⟩
  | .hbm, ⟨34, _⟩ => ⟨S512x1024, .f32⟩
  | .hbm, ⟨35, _⟩ => ⟨S_, .f32⟩
  | .hbm, ⟨36, _⟩ => ⟨S512x1024, .f32⟩
  | .hbm, ⟨37, _⟩ => ⟨S512x1024, .f32⟩
  | .hbm, ⟨38, _⟩ => ⟨S512x1024, .f32⟩
  | .hbm, ⟨39, _⟩ => ⟨S_, .f32⟩
  | .hbm, ⟨40, _⟩ => ⟨S512x1024, .f32⟩
  | .hbm, ⟨41, _⟩ => ⟨S512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel9.lean ====
abbrev S224x1024 : Shape := ⟨2, ![224, 1024]⟩
abbrev S3x224x1024 : Shape := ⟨3, ![3, 224, 1024]⟩
abbrev S1x224x1024 : Shape := ⟨3, ![1, 224, 1024]⟩

abbrev nBuf : Space → Nat
  | .hbm => 9
  | .vmem => 9
  | .smem => 0
  | _ => 0

abbrev bufTy : (tb : Table) → Fin (tcTables nBuf tb) → BufTy
  | .hbm, ⟨0, _⟩ => ⟨S224x1024, .f32⟩
  | .hbm, ⟨1, _⟩ => ⟨S3x224x1024, .bf16⟩
  | .hbm, ⟨2, _⟩ => ⟨S224x1024, .f32⟩
  | .hbm, ⟨3, _⟩ => ⟨S224x1024, .f32⟩
  | .hbm, ⟨4, _⟩ => ⟨S224x1024, .f32⟩
  | .hbm, ⟨5, _⟩ => ⟨S224x1024, .f32⟩
  | .hbm, ⟨6, _⟩ => ⟨S224x1024, .f32⟩
  | .hbm, ⟨7, _⟩ => ⟨S224x1024, .f32⟩
  | .hbm, ⟨8, _⟩ => ⟨S224x1024, .f32⟩
  | .local _ .vmem, ⟨0, _⟩ => ⟨S224x1024, .f32⟩
  | .local _ .vmem, ⟨1, _⟩ => ⟨S3x224x1024, .bf16⟩
  | .local _ .vmem, ⟨2, _⟩ => ⟨S224x1024, .f32⟩
  | .local _ .vmem, ⟨3, _⟩ => ⟨S224x1024, .f32⟩
  | .local _ .vmem, ⟨4, _⟩ => ⟨S224x1024, .f32⟩
  | .local _ .vmem, ⟨5, _⟩ => ⟨S224x1024, .f32⟩
  | .local _ .vmem, ⟨6, _⟩ => ⟨S224x1024, .f32⟩
  | .local _ .vmem, ⟨7, _⟩ => ⟨S224x1024, .f32⟩
  | .local _ .vmem, ⟨8, _⟩ => ⟨S224x1024, .f32⟩
  | _, _ => ⟨S224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S224x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x224x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S224x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S224x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S224x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S224x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S224x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S224x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S224x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference9Ideal.lean ====
abbrev S224x1024 : Shape := ⟨2, ![224, 1024]⟩
abbrev S3x224x1024 : Shape := ⟨3, ![3, 224, 1024]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S224x1024, .f32⟩
  | .hbm, ⟨1, _⟩ => ⟨S3x224x1024, .bf16⟩
  | .hbm, ⟨2, _⟩ => ⟨S224x1024, .f32⟩
  | .hbm, ⟨3, _⟩ => ⟨S224x1024, .f32⟩
  | .hbm, ⟨4, _⟩ => ⟨S224x1024, .f32⟩
  | .hbm, ⟨5, _⟩ => ⟨S3x224x1024, .f32⟩
  | .hbm, ⟨6, _⟩ => ⟨S_, .f32⟩
  | .hbm, ⟨7, _⟩ => ⟨S224x1024, .f32⟩
  | .hbm, ⟨8, _⟩ => ⟨S224x1024, .f32⟩
  | .hbm, ⟨9, _⟩ => ⟨S_, .f32⟩
  | .hbm, ⟨10, _⟩ => ⟨S224x1024, .f32⟩
  | .hbm, ⟨11, _⟩ => ⟨S224x1024, .f32⟩
  | .hbm, ⟨12, _⟩ => ⟨S_, .f32⟩
  | .hbm, ⟨13, _⟩ => ⟨S224x1024, .f32⟩
  | .hbm, ⟨14, _⟩ => ⟨S224x1024, .f32⟩
  | .hbm, ⟨15, _⟩ => ⟨S224x1024, .f32⟩
  | .hbm, ⟨16, _⟩ => ⟨S_, .f32⟩
  | .hbm, ⟨17, _⟩ => ⟨S224x1024, .f32⟩
  | .hbm, ⟨18, _⟩ => ⟨S224x1024, .f32⟩
  | .hbm, ⟨19, _⟩ => ⟨S224x1024, .f32⟩
  | .hbm, ⟨20, _⟩ => ⟨S_, .f32⟩
  | .hbm, ⟨21, _⟩ => ⟨S224x1024, .f32⟩
  | .hbm, ⟨22, _⟩ => ⟨S224x1024, .f32⟩
  | .hbm, ⟨23, _⟩ => ⟨S224x1024, .f32⟩
  | .hbm, ⟨24, _⟩ => ⟨S_, .f32⟩
  | .hbm, ⟨25, _⟩ => ⟨S224x1024, .f32⟩
  | .hbm, ⟨26, _⟩ => ⟨S224x1024, .f32⟩
  | .hbm, ⟨27, _⟩ => ⟨S_, .f32⟩
  | .hbm, ⟨28, _⟩ => ⟨S224x1024, .f32⟩
  | .hbm, ⟨29, _⟩ => ⟨S224x1024, .f32⟩
  | .hbm, ⟨30, _⟩ => ⟨S224x1024, .f32⟩
  | .hbm, ⟨31, _⟩ => ⟨S_, .f32⟩
  | .hbm, ⟨32, _⟩ => ⟨S224x1024, .f32⟩
  | .hbm, ⟨33, _⟩ => ⟨S224x1024, .f32⟩
  | .hbm, ⟨34, _⟩ => ⟨S224x1024, .f32⟩
  | .hbm, ⟨35, _⟩ => ⟨S_, .f32⟩
  | .hbm, ⟨36, _⟩ => ⟨S224x1024, .f32⟩
  | .hbm, ⟨37, _⟩ => ⟨S224x1024, .f32⟩
  | .hbm, ⟨38, _⟩ => ⟨S224x1024, .f32⟩
  | .hbm, ⟨39, _⟩ => ⟨S_, .f32⟩
  | .hbm, ⟨40, _⟩ => ⟨S224x1024, .f32⟩
  | .hbm, ⟨41, _⟩ => ⟨S224x1024, .f32⟩
  | _, _ => ⟨S224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_8 : Ref sig .tc := ⟨.hbm, 39, rfl⟩
abbrev main_v25 : Ref sig .tc := ⟨.hbm, 40, rfl⟩
abbrev main_v26 : Ref sig .tc := ⟨.hbm, 41, rfl⟩

abbrev nD : Nat := 1
abbrev τ : Topo := Topo.v7x

variable {F : FTy → Type} [FloatOps F]
-- ==== Kernel10.lean ====
abbrev S128x1024 : Shape := ⟨2, ![128, 1024]⟩
abbrev S256x128 : Shape := ⟨2, ![256, 128]⟩
abbrev S3x128x1024 : Shape := ⟨3, ![3, 128, 1024]⟩
abbrev S3x256x128 : Shape := ⟨3, ![3, 256, 128]⟩
abbrev S1x128x1024 : Shape := ⟨3, ![1, 128, 1024]⟩
abbrev S1x256x128 : Shape := ⟨3, ![1, 256, 128]⟩

abbrev nBuf : Space → Nat
  | .hbm => 27
  | .vmem => 27
  | .smem => 0
  | _ => 0

abbrev bufTy : (tb : Table) → Fin (tcTables nBuf tb) → BufTy
  | .hbm, ⟨0, _⟩ => ⟨S128x1024, .f32⟩
  | .hbm, ⟨1, _⟩ => ⟨S256x128, .f32⟩
  | .hbm, ⟨2, _⟩ => ⟨S128x1024, .f32⟩
  | .hbm, ⟨3, _⟩ => ⟨S3x128x1024, .bf16⟩
  | .hbm, ⟨4, _⟩ => ⟨S3x256x128, .bf16⟩
  | .hbm, ⟨5, _⟩ => ⟨S3x128x1024, .bf16⟩
  | .hbm, ⟨6, _⟩ => ⟨S128x1024, .f32⟩
  | .hbm, ⟨7, _⟩ => ⟨S256x128, .f32⟩
  | .hbm, ⟨8, _⟩ => ⟨S128x1024, .f32⟩
  | .hbm, ⟨9, _⟩ => ⟨S128x1024, .f32⟩
  | .hbm, ⟨10, _⟩ => ⟨S256x128, .f32⟩
  | .hbm, ⟨11, _⟩ => ⟨S128x1024, .f32⟩
  | .hbm, ⟨12, _⟩ => ⟨S128x1024, .f32⟩
  | .hbm, ⟨13, _⟩ => ⟨S256x128, .f32⟩
  | .hbm, ⟨14, _⟩ => ⟨S128x1024, .f32⟩
  | .hbm, ⟨15, _⟩ => ⟨S128x1024, .f32⟩
  | .hbm, ⟨16, _⟩ => ⟨S256x128, .f32⟩
  | .hbm, ⟨17, _⟩ => ⟨S128x1024, .f32⟩
  | .hbm, ⟨18, _⟩ => ⟨S128x1024, .f32⟩
  | .hbm, ⟨19, _⟩ => ⟨S256x128, .f32⟩
  | .hbm, ⟨20, _⟩ => ⟨S128x1024, .f32⟩
  | .hbm, ⟨21, _⟩ => ⟨S128x1024, .f32⟩
  | .hbm, ⟨22, _⟩ => ⟨S256x128, .f32⟩
  | .hbm, ⟨23, _⟩ => ⟨S128x1024, .f32⟩
  | .hbm, ⟨24, _⟩ => ⟨S128x1024, .f32⟩
  | .hbm, ⟨25, _⟩ => ⟨S256x128, .f32⟩
  | .hbm, ⟨26, _⟩ => ⟨S128x1024, .f32⟩
  | .local _ .vmem, ⟨0, _⟩ => ⟨S128x1024, .f32⟩
  | .local _ .vmem, ⟨1, _⟩ => ⟨S256x128, .f32⟩
  | .local _ .vmem, ⟨2, _⟩ => ⟨S128x1024, .f32⟩
  | .local _ .vmem, ⟨3, _⟩ => ⟨S3x128x1024, .bf16⟩
  | .local _ .vmem, ⟨4, _⟩ => ⟨S3x256x128, .bf16⟩
  | .local _ .vmem, ⟨5, _⟩ => ⟨S3x128x1024, .bf16⟩
  | .local _ .vmem, ⟨6, _⟩ => ⟨S128x1024, .f32⟩
  | .local _ .vmem, ⟨7, _⟩ => ⟨S256x128, .f32⟩
  | .local _ .vmem, ⟨8, _⟩ => ⟨S128x1024, .f32⟩
  | .local _ .vmem, ⟨9, _⟩ => ⟨S128x1024, .f32⟩
  | .local _ .vmem, ⟨10, _⟩ => ⟨S256x128, .f32⟩
  | .local _ .vmem, ⟨11, _⟩ => ⟨S128x1024, .f32⟩
  | .local _ .vmem, ⟨12, _⟩ => ⟨S128x1024, .f32⟩
  | .local _ .vmem, ⟨13, _⟩ => ⟨S256x128, .f32⟩
  | .local _ .vmem, ⟨14, _⟩ => ⟨S128x1024, .f32⟩
  | .local _ .vmem, ⟨15, _⟩ => ⟨S128x1024, .f32⟩
  | .local _ .vmem, ⟨16, _⟩ => ⟨S256x128, .f32⟩
  | .local _ .vmem, ⟨17, _⟩ => ⟨S128x1024, .f32⟩
  | .local _ .vmem, ⟨18, _⟩ => ⟨S128x1024, .f32⟩
  | .local _ .vmem, ⟨19, _⟩ => ⟨S256x128, .f32⟩
  | .local _ .vmem, ⟨20, _⟩ => ⟨S128x1024, .f32⟩
  | .local _ .vmem, ⟨21, _⟩ => ⟨S128x1024, .f32⟩
  | .local _ .vmem, ⟨22, _⟩ => ⟨S256x128, .f32⟩
  | .local _ .vmem, ⟨23, _⟩ => ⟨S128x1024, .f32⟩
  | .local _ .vmem, ⟨24, _⟩ => ⟨S128x1024, .f32⟩
  | .local _ .vmem, ⟨25, _⟩ => ⟨S256x128, .f32⟩
  | .local _ .vmem, ⟨26, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev main_v0_7 : Ref sig .tc := ⟨.hbm, 22, rfl⟩
abbrev main_v0_8 : Ref sig .tc := ⟨.hbm, 23, rfl⟩
abbrev main_v0_9 : Ref sig .tc := ⟨.hbm, 24, rfl⟩
abbrev main_v0_10 : Ref sig .tc := ⟨.hbm, 25, rfl⟩
abbrev main_v0_11 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S256x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S256x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S128x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S128x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S256x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S128x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S128x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S256x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S128x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
-- ==== Reference10Ideal.lean ====
abbrev S128x1024 : Shape := ⟨2, ![128, 1024]⟩
abbrev S256x128 : Shape := ⟨2, ![256, 128]⟩
abbrev S3x128x1024 : Shape := ⟨3, ![3, 128, 1024]⟩
abbrev S3x256x128 : Shape := ⟨3, ![3, 256, 128]⟩
abbrev S_ : Shape := ⟨0, ![]⟩

abbrev nBuf : Space → Nat
  | .hbm => 126
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S256x128, .f32⟩
  | .hbm, ⟨2, _⟩ => ⟨S128x1024, .f32⟩
  | .hbm, ⟨3, _⟩ => ⟨S3x128x1024, .bf16⟩
  | .hbm, ⟨4, _⟩ => ⟨S3x256x128, .bf16⟩
  | .hbm, ⟨5, _⟩ => ⟨S3x128x1024, .bf16⟩
  | .hbm, ⟨6, _⟩ => ⟨S128x1024, .f32⟩
  | .hbm, ⟨7, _⟩ => ⟨S256x128, .f32⟩
  | .hbm, ⟨8, _⟩ => ⟨S128x1024, .f32⟩
  | .hbm, ⟨9, _⟩ => ⟨S128x1024, .f32⟩
  | .hbm, ⟨10, _⟩ => ⟨S256x128, .f32⟩
  | .hbm, ⟨11, _⟩ => ⟨S128x1024, .f32⟩
  | .hbm, ⟨12, _⟩ => ⟨S128x1024, .f32⟩
  | .hbm, ⟨13, _⟩ => ⟨S256x128, .f32⟩
  | .hbm, ⟨14, _⟩ => ⟨S128x1024, .f32⟩
  | .hbm, ⟨15, _⟩ => ⟨S3x128x1024, .f32⟩
  | .hbm, ⟨16, _⟩ => ⟨S_, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128x1024, .f32⟩
  | .hbm, ⟨43, _⟩ => ⟨S128x1024, .f32⟩
  | .hbm, ⟨44, _⟩ => ⟨S128x1024, .f32⟩
  | .hbm, ⟨45, _⟩ => ⟨S_, .f32⟩
  | .hbm, ⟨46, _⟩ => ⟨S128x1024, .f32⟩
  | .hbm, ⟨47, _⟩ => ⟨S128x1024, .f32⟩
  | .hbm, ⟨48, _⟩ => ⟨S128x1024, .f32⟩
  | .hbm, ⟨49, _⟩ => ⟨S_, .f32⟩
  | .hbm, ⟨50, _⟩ => ⟨S128x1024, .f32⟩
  | .hbm, ⟨51, _⟩ => ⟨S128x1024, .f32⟩
  | .hbm, ⟨52, _⟩ => ⟨S3x256x128, .f32⟩
  | .hbm, ⟨53, _⟩ => ⟨S_, .f32⟩
  | .hbm, ⟨54, _⟩ => ⟨S256x128, .f32⟩
  | .hbm, ⟨55, _⟩ => ⟨S256x128, .f32⟩
  | .hbm, ⟨56, _⟩ => ⟨S_, .f32⟩
  | .hbm, ⟨57, _⟩ => ⟨S256x128, .f32⟩
  | .hbm, ⟨58, _⟩ => ⟨S256x128, .f32⟩
  | .hbm, ⟨59, _⟩ => ⟨S_, .f32⟩
  | .hbm, ⟨60, _⟩ => ⟨S256x128, .f32⟩
  | .hbm, ⟨61, _⟩ => ⟨S256x128, .f32⟩
  | .hbm, ⟨62, _⟩ => ⟨S256x128, .f32⟩
  | .hbm, ⟨63, _⟩ => ⟨S_, .f32⟩
  | .hbm, ⟨64, _⟩ => ⟨S256x128, .f32⟩
  | .hbm, ⟨65, _⟩ => ⟨S256x128, .f32⟩
  | .hbm, ⟨66, _⟩ => ⟨S256x128, .f32⟩
  | .hbm, ⟨67, _⟩ => ⟨S_, .f32⟩
  | .hbm, ⟨68, _⟩ => ⟨S256x128, .f32⟩
  | .hbm, ⟨69, _⟩ => ⟨S256x128, .f32⟩
  | .hbm, ⟨70, _⟩ => ⟨S256x128, .f32⟩
  | .hbm, ⟨71, _⟩ => ⟨S_, .f32⟩
  | .hbm, ⟨72, _⟩ => ⟨S256x128, .f32⟩
  | .hbm, ⟨73, _⟩ => ⟨S256x128, .f32⟩
  | .hbm, ⟨74, _⟩ => ⟨S_, .f32⟩
  | .hbm, ⟨75, _⟩ => ⟨S256x128, .f32⟩
  | .hbm, ⟨76, _⟩ => ⟨S256x128, .f32⟩
  | .hbm, ⟨77, _⟩ => ⟨S256x128, .f32⟩
  | .hbm, ⟨78, _⟩ => ⟨S_, .f32⟩
  | .hbm, ⟨79, _⟩ => ⟨S256x128, .f32⟩
  | .hbm, ⟨80, _⟩ => ⟨S256x128, .f32⟩
  | .hbm, ⟨81, _⟩ => ⟨S256x128, .f32⟩
  | .hbm, ⟨82, _⟩ => ⟨S_, .f32⟩
  | .hbm, ⟨83, _⟩ => ⟨S256x128, .f32⟩
  | .hbm, ⟨84, _⟩ => ⟨S256x128, .f32⟩
  | .hbm, ⟨85, _⟩ => ⟨S256x128, .f32⟩
  | .hbm, ⟨86, _⟩ => ⟨S_, .f32⟩
  | .hbm, ⟨87, _⟩ => ⟨S256x128, .f32⟩
  | .hbm, ⟨88, _⟩ => ⟨S256x128, .f32⟩
  | .hbm, ⟨89, _⟩ => ⟨S3x128x1024, .f32⟩
  | .hbm, ⟨90, _⟩ => ⟨S_, .f32⟩
  | .hbm, ⟨91, _⟩ => ⟨S128x1024, .f32⟩
  | .hbm, ⟨92, _⟩ => ⟨S128x1024, .f32⟩
  | .hbm, ⟨93, _⟩ => ⟨S_, .f32⟩
  | .hbm, ⟨94, _⟩ => ⟨S128x1024, .f32⟩
  | .hbm, ⟨95, _⟩ => ⟨S128x1024, .f32⟩
  | .hbm, ⟨96, _⟩ => ⟨S_, .f32⟩
  | .hbm, ⟨97, _⟩ => ⟨S128x1024, .f32⟩
  | .hbm, ⟨98, _⟩ => ⟨S128x1024, .f32⟩
  | .hbm, ⟨99, _⟩ => ⟨S128x1024, .f32⟩
  | .hbm, ⟨100, _⟩ => ⟨S_, .f32⟩
  | .hbm, ⟨101, _⟩ => ⟨S128x1024, .f32⟩
  | .hbm, ⟨102, _⟩ => ⟨S128x1024, .f32⟩
  | .hbm, ⟨103, _⟩ => ⟨S128x1024, .f32⟩
  | .hbm, ⟨104, _⟩ => ⟨S_, .f32⟩
  | .hbm, ⟨105, _⟩ => ⟨S128x1024, .f32⟩
  | .hbm, ⟨106, _⟩ => ⟨S128x1024, .f32⟩
  | .hbm, ⟨107, _⟩ => ⟨S128x1024, .f32⟩
  | .hbm, ⟨108, _⟩ => ⟨S_, .f32⟩
  | .hbm, ⟨109, _⟩ => ⟨S128x1024, .f32⟩
  | .hbm, ⟨110, _⟩ => ⟨S128x1024, .f32⟩
  | .hbm, ⟨111, _⟩ => ⟨S_, .f32⟩
  | .hbm, ⟨112, _⟩ => ⟨S128x1024, .f32⟩
  | .hbm, ⟨113, _⟩ => ⟨S128x1024, .f32⟩
  | .hbm, ⟨114, _⟩ => ⟨S128x1024, .f32⟩
  | .hbm, ⟨115, _⟩ => ⟨S_, .f32⟩
  | .hbm, ⟨116, _⟩ => ⟨S128x1024, .f32⟩
  | .hbm, ⟨117, _⟩ => ⟨S128x1024, .f32⟩
  | .hbm, ⟨118, _⟩ => ⟨S128x1024, .f32⟩
  | .hbm, ⟨119, _⟩ => ⟨S_, .f32⟩
  | .hbm, ⟨120, _⟩ => ⟨S128x1024, .f32⟩
  | .hbm, ⟨121, _⟩ => ⟨S128x1024, .f32⟩
  | .hbm, ⟨122, _⟩ => ⟨S128x1024, .f32⟩
  | .hbm, ⟨123, _⟩ => ⟨S_, .f32⟩
  | .hbm, ⟨124, _⟩ => ⟨S128x1024, .f32⟩
  | .hbm, ⟨125, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_3 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_cst_4 : Ref sig .tc := ⟨.hbm, 34, rfl⟩
abbrev main_v14 : Ref sig .tc := ⟨.hbm, 35, rfl⟩
abbrev main_v15 : Ref sig .tc := ⟨.hbm, 36, rfl⟩
abbrev main_cst_5 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_6 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_7 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_8 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_cst_9 : Ref sig .tc := ⟨.hbm, 53, rfl⟩
abbrev main_v28 : Ref sig .tc := ⟨.hbm, 54, rfl⟩
abbrev main_v29 : Ref sig .tc := ⟨.hbm, 55, rfl⟩
abbrev main_cst_10 : Ref sig .tc := ⟨.hbm, 56, rfl⟩
abbrev main_v30 : Ref sig .tc := ⟨.hbm, 57, rfl⟩
abbrev main_v31 : Ref sig .tc := ⟨.hbm, 58, rfl⟩
abbrev main_cst_11 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_cst_12 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_13 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_14 : Ref sig .tc := ⟨.hbm, 71, rfl⟩
abbrev main_v41 : Ref sig .tc := ⟨.hbm, 72, rfl⟩
abbrev main_v42 : Ref sig .tc := ⟨.hbm, 73, rfl⟩
abbrev main_cst_15 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_cst_16 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_cst_17 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_18 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_cst_19 : Ref sig .tc := ⟨.hbm, 90, rfl⟩
abbrev main_v55 : Ref sig .tc := ⟨.hbm, 91, rfl⟩
abbrev main_v56 : Ref sig .tc := ⟨.hbm, 92, rfl⟩
abbrev main_cst_20 : Ref sig .tc := ⟨.hbm, 93, rfl⟩
abbrev main_v57 : Ref sig .tc := ⟨.hbm, 94, rfl⟩
abbrev main_v58 : Ref sig .tc := ⟨.hbm, 95, rfl⟩
abbrev main_cst_21 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_22 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_cst_23 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_cst_24 : Ref sig .tc := ⟨.hbm, 108, rfl⟩
abbrev main_v68 : Ref sig .tc := ⟨.hbm, 109, rfl⟩
abbrev main_v69 : Ref sig .tc := ⟨.hbm, 110, rfl⟩
abbrev main_cst_25 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_26 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_27 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_28 : Ref sig .tc := ⟨.hbm, 123, rfl⟩
abbrev main_v79 : Ref sig .tc := ⟨.hbm, 124, rfl⟩
abbrev main_v80 : Ref sig .tc := ⟨.hbm, 125, rfl⟩

abbrev nD : Nat := 1
abbrev τ : Topo := Topo.v7x

variable {F : FTy → Type} [FloatOps F]
-- ==== Kernel11.lean ====
abbrev S1x8x1024 : Shape := ⟨3, ![1, 8, 1024]⟩
abbrev S1x1x512 : Shape := ⟨3, ![1, 1, 512]⟩
abbrev S1x4x128x128 : Shape := ⟨4, ![1, 4, 128, 128]⟩
abbrev S1x4x128 : Shape := ⟨3, ![1, 4, 128]⟩
abbrev S1x9x32 : Shape := ⟨3, ![1, 9, 32]⟩
abbrev S3x8x1024 : Shape := ⟨3, ![3, 8, 1024]⟩
abbrev S3x1x512 : Shape := ⟨3, ![3, 1, 512]⟩
abbrev S3x4x128x128 : Shape := ⟨4, ![3, 4, 128, 128]⟩
abbrev S3x4x128 : Shape := ⟨3, ![3, 4, 128]⟩
abbrev S3x9x32 : Shape := ⟨3, ![3, 9, 32]⟩
abbrev S1x1x1024 : Shape := ⟨3, ![1, 1, 1024]⟩
abbrev S7x1x1024 : Shape := ⟨3, ![7, 1, 1024]⟩
abbrev S1x1024 : Shape := ⟨2, ![1, 1024]⟩
abbrev S1x512 : Shape := ⟨2, ![1, 512]⟩
abbrev S4x128x128 : Shape := ⟨3, ![4, 128, 128]⟩
abbrev S4x128 : Shape := ⟨2, ![4, 128]⟩
abbrev S1x8 : Shape := ⟨2, ![1, 8]⟩
abbrev S8x32 : Shape := ⟨2, ![8, 32]⟩
abbrev S1x1 : Shape := ⟨2, ![1, 1]⟩
abbrev S1x1x8 : Shape := ⟨3, ![1, 1, 8]⟩
abbrev S1x8x32 : Shape := ⟨3, ![1, 8, 32]⟩
abbrev S1x1x1 : Shape := ⟨3, ![1, 1, 1]⟩

abbrev nBuf : Space → Nat
  | .hbm => 69
  | .vmem => 69
  | .smem => 0
  | _ => 0

abbrev bufTy : (tb : Table) → Fin (tcTables nBuf tb) → BufTy
  | .hbm, ⟨0, _⟩ => ⟨S1x8x1024, .f32⟩
  | .hbm, ⟨1, _⟩ => ⟨S1x1x512, .f32⟩
  | .hbm, ⟨2, _⟩ => ⟨S1x4x128x128, .bf16⟩
  | .hbm, ⟨3, _⟩ => ⟨S1x4x128, .f32⟩
  | .hbm, ⟨4, _⟩ => ⟨S1x9x32, .f32⟩
  | .hbm, ⟨5, _⟩ => ⟨S3x8x1024, .f32⟩
  | .hbm, ⟨6, _⟩ => ⟨S3x1x512, .f32⟩
  | .hbm, ⟨7, _⟩ => ⟨S3x4x128x128, .bf16⟩
  | .hbm, ⟨8, _⟩ => ⟨S3x4x128, .f32⟩
  | .hbm, ⟨9, _⟩ => ⟨S3x9x32, .f32⟩
  | .hbm, ⟨10, _⟩ => ⟨S1x1x1024, .f32⟩
  | .hbm, ⟨11, _⟩ => ⟨S7x1x1024, .f32⟩
  | .hbm, ⟨12, _⟩ => ⟨S1x1024, .f32⟩
  | .hbm, ⟨13, _⟩ => ⟨S1x512, .f32⟩
  | .hbm, ⟨14, _⟩ => ⟨S4x128x128, .f32⟩
  | .hbm, ⟨15, _⟩ => ⟨S4x128, .f32⟩
  | .hbm, ⟨16, _⟩ => ⟨S1x8, .f32⟩
  | .hbm, ⟨17, _⟩ => ⟨S8x32, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x512, .f32⟩
  | .hbm, ⟨22, _⟩ => ⟨S4x128x128, .f32⟩
  | .hbm, ⟨23, _⟩ => ⟨S4x128, .f32⟩
  | .hbm, ⟨24, _⟩ => ⟨S1x8, .f32⟩
  | .hbm, ⟨25, _⟩ => ⟨S8x32, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1x512, .f32⟩
  | .hbm, ⟨30, _⟩ => ⟨S4x128x128, .f32⟩
  | .hbm, ⟨31, _⟩ => ⟨S4x128, .f32⟩
  | .hbm, ⟨32, _⟩ => ⟨S1x8, .f32⟩
  | .hbm, ⟨33, _⟩ => ⟨S8x32, .f32⟩
  | .hbm, ⟨34, _⟩ => ⟨S1x1024, .f32⟩
  | .hbm, ⟨35, _⟩ => ⟨S1x1024, .f32⟩
  | .hbm, ⟨36, _⟩ => ⟨S1x1, .f32⟩
  | .hbm, ⟨37, _⟩ => ⟨S1x1024, .f32⟩
  | .hbm, ⟨38, _⟩ => ⟨S1x512, .f32⟩
  | .hbm, ⟨39, _⟩ => ⟨S4x128x128, .f32⟩
  | .hbm, ⟨40, _⟩ => ⟨S4x128, .f32⟩
  | .hbm, ⟨41, _⟩ => ⟨S1x8, .f32⟩
  | .hbm, ⟨42, _⟩ => ⟨S8x32, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x512, .f32⟩
  | .hbm, ⟨47, _⟩ => ⟨S4x128x128, .f32⟩
  | .hbm, ⟨48, _⟩ => ⟨S4x128, .f32⟩
  | .hbm, ⟨49, _⟩ => ⟨S1x8, .f32⟩
  | .hbm, ⟨50, _⟩ => ⟨S8x32, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x512, .f32⟩
  | .hbm, ⟨55, _⟩ => ⟨S4x128x128, .f32⟩
  | .hbm, ⟨56, _⟩ => ⟨S4x128, .f32⟩
  | .hbm, ⟨57, _⟩ => ⟨S1x8, .f32⟩
  | .hbm, ⟨58, _⟩ => ⟨S8x32, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x512, .f32⟩
  | .hbm, ⟨63, _⟩ => ⟨S4x128x128, .f32⟩
  | .hbm, ⟨64, _⟩ => ⟨S4x128, .f32⟩
  | .hbm, ⟨65, _⟩ => ⟨S1x8, .f32⟩
  | .hbm, ⟨66, _⟩ => ⟨S8x32, .f32⟩
  | .hbm, ⟨67, _⟩ => ⟨S1x1024, .f32⟩
  | .hbm, ⟨68, _⟩ => ⟨S1x1024, .f32⟩
  | .local _ .vmem, ⟨0, _⟩ => ⟨S1x8x1024, .f32⟩
  | .local _ .vmem, ⟨1, _⟩ => ⟨S1x1x512, .f32⟩
  | .local _ .vmem, ⟨2, _⟩ => ⟨S1x4x128x128, .bf16⟩
  | .local _ .vmem, ⟨3, _⟩ => ⟨S1x4x128, .f32⟩
  | .local _ .vmem, ⟨4, _⟩ => ⟨S1x9x32, .f32⟩
  | .local _ .vmem, ⟨5, _⟩ => ⟨S3x8x1024, .f32⟩
  | .local _ .vmem, ⟨6, _⟩ => ⟨S3x1x512, .f32⟩
  | .local _ .vmem, ⟨7, _⟩ => ⟨S3x4x128x128, .bf16⟩
  | .local _ .vmem, ⟨8, _⟩ => ⟨S3x4x128, .f32⟩
  | .local _ .vmem, ⟨9, _⟩ => ⟨S3x9x32, .f32⟩
  | .local _ .vmem, ⟨10, _⟩ => ⟨S1x1x1024, .f32⟩
  | .local _ .vmem, ⟨11, _⟩ => ⟨S7x1x1024, .f32⟩
  | .local _ .vmem, ⟨12, _⟩ => ⟨S1x1024, .f32⟩
  | .local _ .vmem, ⟨13, _⟩ => ⟨S1x512, .f32⟩
  | .local _ .vmem, ⟨14, _⟩ => ⟨S4x128x128, .f32⟩
  | .local _ .vmem, ⟨15, _⟩ => ⟨S4x128, .f32⟩
  | .local _ .vmem, ⟨16, _⟩ => ⟨S1x8, .f32⟩
  | .local _ .vmem, ⟨17, _⟩ => ⟨S8x32, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x512, .f32⟩
  | .local _ .vmem, ⟨22, _⟩ => ⟨S4x128x128, .f32⟩
  | .local _ .vmem, ⟨23, _⟩ => ⟨S4x128, .f32⟩
  | .local _ .vmem, ⟨24, _⟩ => ⟨S1x8, .f32⟩
  | .local _ .vmem, ⟨25, _⟩ => ⟨S8x32, .f32⟩
  | .local _ .vmem, ⟨26, _⟩ => ⟨S1x1024, .f32⟩
  | .local _ .vmem, ⟨27, _⟩ => ⟨S1x1024, .f32⟩
  | .local _ .vmem, ⟨28, _⟩ => ⟨S1x1024, .f32⟩
  | .local _ .vmem, ⟨29, _⟩ => ⟨S1x512, .f32⟩
  | .local _ .vmem, ⟨30, _⟩ => ⟨S4x128x128, .f32⟩
  | .local _ .vmem, ⟨31, _⟩ => ⟨S4x128, .f32⟩
  | .local _ .vmem, ⟨32, _⟩ => ⟨S1x8, .f32⟩
  | .local _ .vmem, ⟨33, _⟩ => ⟨S8x32, .f32⟩
  | .local _ .vmem, ⟨34, _⟩ => ⟨S1x1024, .f32⟩
  | .local _ .vmem, ⟨35, _⟩ => ⟨S1x1024, .f32⟩
  | .local _ .vmem, ⟨36, _⟩ => ⟨S1x1, .f32⟩
  | .local _ .vmem, ⟨37, _⟩ => ⟨S1x1024, .f32⟩
  | .local _ .vmem, ⟨38, _⟩ => ⟨S1x512, .f32⟩
  | .local _ .vmem, ⟨39, _⟩ => ⟨S4x128x128, .f32⟩
  | .local _ .vmem, ⟨40, _⟩ => ⟨S4x128, .f32⟩
  | .local _ .vmem, ⟨41, _⟩ => ⟨S1x8, .f32⟩
  | .local _ .vmem, ⟨42, _⟩ => ⟨S8x32, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S1x512, .f32⟩
  | .local _ .vmem, ⟨47, _⟩ => ⟨S4x128x128, .f32⟩
  | .local _ .vmem, ⟨48, _⟩ => ⟨S4x128, .f32⟩
  | .local _ .vmem, ⟨49, _⟩ => ⟨S1x8, .f32⟩
  | .local _ .vmem, ⟨50, _⟩ => ⟨S8x32, .f32⟩
  | .local _ .vmem, ⟨51, _⟩ => ⟨S1x1024, .f32⟩
  | .local _ .vmem, ⟨52, _⟩ => ⟨S1x1024, .f32⟩
  | .local _ .vmem, ⟨53, _⟩ => ⟨S1x1024, .f32⟩
  | .local _ .vmem, ⟨54, _⟩ => ⟨S1x512, .f32⟩
  | .local _ .vmem, ⟨55, _⟩ => ⟨S4x128x128, .f32⟩
  | .local _ .vmem, ⟨56, _⟩ => ⟨S4x128, .f32⟩
  | .local _ .vmem, ⟨57, _⟩ => ⟨S1x8, .f32⟩
  | .local _ .vmem, ⟨58, _⟩ => ⟨S8x32, .f32⟩
  | .local _ .vmem, ⟨59, _⟩ => ⟨S1x1024, .f32⟩
  | .local _ .vmem, ⟨60, _⟩ => ⟨S1x1024, .f32⟩
  | .local _ .vmem, ⟨61, _⟩ => ⟨S1x1024, .f32⟩
  | .local _ .vmem, ⟨62, _⟩ => ⟨S1x512, .f32⟩
  | .local _ .vmem, ⟨63, _⟩ => ⟨S4x128x128, .f32⟩
  | .local _ .vmem, ⟨64, _⟩ => ⟨S4x128, .f32⟩
  | .local _ .vmem, ⟨65, _⟩ => ⟨S1x8, .f32⟩
  | .local _ .vmem, ⟨66, _⟩ => ⟨S8x32, .f32⟩
  | .local _ .vmem, ⟨67, _⟩ => ⟨S1x1024, .f32⟩
  | .local _ .vmem, ⟨68, _⟩ => ⟨S1x1024, .f32⟩
  | _, _ => ⟨S1x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | _, _ => false

abbrev semScoped : Fin 0 → Bool
  | ⟨_, h⟩ => absurd h (Nat.not_lt_zero _)

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  ofTc nBuf bufTy 0 69 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0_0 : Ref sig .tc := ⟨.hbm, 36, rfl⟩
abbrev main_v0_1 : Ref sig .tc := ⟨.hbm, 37, rfl⟩
abbrev main_v0_2 : Ref sig .tc := ⟨.hbm, 38, rfl⟩
abbrev main_v0_3 : Ref sig .tc := ⟨.hbm, 39, rfl⟩
abbrev main_v0_4 : Ref sig .tc := ⟨.hbm, 40, rfl⟩
abbrev main_v0_5 : Ref sig .tc := ⟨.hbm, 41, rfl⟩
abbrev main_v0_6 : Ref sig .tc := ⟨.hbm, 42, rfl⟩
abbrev main_v0_7 : Ref sig .tc := ⟨.hbm, 43, rfl⟩
abbrev main_v0_8 : Ref sig .tc := ⟨.hbm, 44, rfl⟩
abbrev main_v0_9 : Ref sig .tc := ⟨.hbm, 45, rfl⟩
abbrev main_v0_10 : Ref sig .tc := ⟨.hbm, 46, rfl⟩
abbrev main_v0_11 : Ref sig .tc := ⟨.hbm, 47, rfl⟩
abbrev main_v0_12 : Ref sig .tc := ⟨.hbm, 48, rfl⟩
abbrev main_v0_13 : Ref sig .tc := ⟨.hbm, 49, rfl⟩
abbrev main_v0_14 : Ref sig .tc := ⟨.hbm, 50, rfl⟩
abbrev main_v0_15 : Ref sig .tc := ⟨.hbm, 51, rfl⟩
abbrev main_v0_16 : Ref sig .tc := ⟨.hbm, 52, rfl⟩
abbrev main_v0_17 : Ref sig .tc := ⟨.hbm, 53, rfl⟩
abbrev main_v0_18 : Ref sig .tc := ⟨.hbm, 54, rfl⟩
abbrev main_v0_19 : Ref sig .tc := ⟨.hbm, 55, rfl⟩
abbrev main_v0_20 : Ref sig .tc := ⟨.hbm, 56, rfl⟩
abbrev main_v0_21 : Ref sig .tc := ⟨.hbm, 57, rfl⟩
abbrev main_v0_22 : Ref sig .tc := ⟨.hbm, 58, rfl⟩
abbrev main_v0_23 : Ref sig .tc := ⟨.hbm, 59, rfl⟩
abbrev main_v0_24 : Ref sig .tc := ⟨.hbm, 60, rfl⟩
abbrev main_v0_25 : Ref sig .tc := ⟨.hbm, 61, rfl⟩
abbrev main_v0_26 : Ref sig .tc := ⟨.hbm, 62, rfl⟩
abbrev main_v0_27 : Ref sig .tc := ⟨.hbm, 63, rfl⟩
abbrev main_v0_28 : Ref sig .tc := ⟨.hbm, 64, rfl⟩
abbrev main_v0_29 : Ref sig .tc := ⟨.hbm, 65, rfl⟩
abbrev main_v0_30 : Ref sig .tc := ⟨.hbm, 66, rfl⟩
abbrev main_v0_31 : Ref sig .tc := ⟨.hbm, 67, rfl⟩
abbrev main_v0_32 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68

abbrev nD : Nat := 1
abbrev τ : Topo := Topo.v7x

variable {F : FTy → Type} [FloatOps F]

abbrev grid0 : Pipeline.Grid := .none

abbrev stage0_0 : Fin 1 → Memref sig .tc .vmem S1x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4x128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x9x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3x4x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x9x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S7x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x8 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S8x32 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x512 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S4x128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S4x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x8 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S8x32 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S1x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x1024 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S1x512 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S4x128x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S4x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x8 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S8x32 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x1 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S1x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x512 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S4x128x128 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S4x128 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x8 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S8x32 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x1024 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x512 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S4x128x128 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S4x128 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S1x8 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S8x32 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x1024 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x1024 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x1024 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x512 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S4x128x128 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S4x128 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S1x8 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S8x32 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S1x1024 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x1024 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x1024 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x512 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S4x128x128 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S4x128 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x8 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S8x32 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S1x1024 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S1x1024 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))
-- ==== Reference11Ideal.lean ====
abbrev S1x8x1024 : Shape := ⟨3, ![1, 8, 1024]⟩
abbrev S1x1x512 : Shape := ⟨3, ![1, 1, 512]⟩
abbrev S1x4x128x128 : Shape := ⟨4, ![1, 4, 128, 128]⟩
abbrev S1x4x128 : Shape := ⟨3, ![1, 4, 128]⟩
abbrev S1x9x32 : Shape := ⟨3, ![1, 9, 32]⟩
abbrev S3x8x1024 : Shape := ⟨3, ![3, 8, 1024]⟩
abbrev S3x1x512 : Shape := ⟨3, ![3, 1, 512]⟩
abbrev S3x4x128x128 : Shape := ⟨4, ![3, 4, 128, 128]⟩
abbrev S3x4x128 : Shape := ⟨3, ![3, 4, 128]⟩
abbrev S3x9x32 : Shape := ⟨3, ![3, 9, 32]⟩
abbrev S1x1x1024 : Shape := ⟨3, ![1, 1, 1024]⟩
abbrev S7x1x1024 : Shape := ⟨3, ![7, 1, 1024]⟩
abbrev S1x1024 : Shape := ⟨2, ![1, 1024]⟩
abbrev S1x512 : Shape := ⟨2, ![1, 512]⟩
abbrev S4x128x128 : Shape := ⟨3, ![4, 128, 128]⟩
abbrev S4x128 : Shape := ⟨2, ![4, 128]⟩
abbrev S1x8 : Shape := ⟨2, ![1, 8]⟩
abbrev S8x32 : Shape := ⟨2, ![8, 32]⟩
abbrev S8x1024 : Shape := ⟨2, ![8, 1024]⟩
abbrev S_ : Shape := ⟨0, ![]⟩
abbrev S9x32 : Shape := ⟨2, ![9, 32]⟩
abbrev S1x1 : Shape := ⟨2, ![1, 1]⟩

abbrev nBuf : Space → Nat
  | .hbm => 331
  | .vmem => 0
  | .smem => 0
  | _ => 0

abbrev hbmTy0_0 (i : Nat) : BufTy := match i % 128 with
  | 0 => ⟨S1x8x1024, .f32⟩
  | 1 => ⟨S1x1x512, .f32⟩
  | 2 => ⟨S1x4x128x128, .bf16⟩
  | 3 => ⟨S1x4x128, .f32⟩
  | 4 => ⟨S1x9x32, .f32⟩
  | 5 => ⟨S3x8x1024, .f32⟩
  | 6 => ⟨S3x1x512, .f32⟩
  | 7 => ⟨S3x4x128x128, .bf16⟩
  | 8 => ⟨S3x4x128, .f32⟩
  | 9 => ⟨S3x9x32, .f32⟩
  | 10 => ⟨S1x1x1024, .f32⟩
  | 11 => ⟨S7x1x1024, .f32⟩
  | 12 => ⟨S1x1024, .f32⟩
  | 13 => ⟨S1x512, .f32⟩
  | 14 => ⟨S4x128x128, .f32⟩
  | 15 => ⟨S4x128, .f32⟩
  | 16 => ⟨S1x8, .f32⟩
  | 17 => ⟨S8x32, .f32⟩
  | 18 => ⟨S1x1024, .f32⟩
  | 19 => ⟨S1x1024, .f32⟩
  | 20 => ⟨S1x1024, .f32⟩
  | 21 => ⟨S1x512, .f32⟩
  | 22 => ⟨S4x128x128, .f32⟩
  | 23 => ⟨S4x128, .f32⟩
  | 24 => ⟨S1x8, .f32⟩
  | 25 => ⟨S8x32, .f32⟩
  | 26 => ⟨S1x1024, .f32⟩
  | 27 => ⟨S1x1024, .f32⟩
  | 28 => ⟨S1x1024, .f32⟩
  | 29 => ⟨S1x512, .f32⟩
  | 30 => ⟨S4x128x128, .f32⟩
  | 31 => ⟨S4x128, .f32⟩
  | 32 => ⟨S1x8, .f32⟩
  | 33 => ⟨S8x32, .f32⟩
  | 34 => ⟨S1x1024, .f32⟩
  | 35 => ⟨S1x1024, .f32⟩
  | 36 => ⟨S8x1024, .f32⟩
  | 37 => ⟨S_, .f32⟩
  | 38 => ⟨S8x1024, .f32⟩
  | 39 => ⟨S8x1024, .f32⟩
  | 40 => ⟨S1x512, .f32⟩
  | 41 => ⟨S_, .f32⟩
  | 42 => ⟨S1x512, .f32⟩
  | 43 => ⟨S1x512, .f32⟩
  | 44 => ⟨S4x128x128, .bf16⟩
  | 45 => ⟨S3x4x128x128, .f32⟩
  | 46 => ⟨S_, .f32⟩
  | 47 => ⟨S4x128x128, .f32⟩
  | 48 => ⟨S4x128x128, .f32⟩
  | 49 => ⟨S4x128x128, .f32⟩
  | 50 => ⟨S4x128, .f32⟩
  | 51 => ⟨S_, .f32⟩
  | 52 => ⟨S4x128, .f32⟩
  | 53 => ⟨S4x128, .f32⟩
  | 54 => ⟨S9x32, .f32⟩
  | 55 => ⟨S_, .f32⟩
  | 56 => ⟨S9x32, .f32⟩
  | 57 => ⟨S9x32, .f32⟩
  | 58 => ⟨S1x1024, .f32⟩
  | 59 => ⟨S_, .f32⟩
  | 60 => ⟨S1x1024, .f32⟩
  | 61 => ⟨S1x1024, .f32⟩
  | 62 => ⟨S1x8, .f32⟩
  | 63 => ⟨S8x32, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S1x1024, .f32⟩
  | 73 => ⟨S_, .f32⟩
  | 74 => ⟨S1x1024, .f32⟩
  | 75 => ⟨S1x1024, .f32⟩
  | 76 => ⟨S1x1024, .f32⟩
  | 77 => ⟨S_, .f32⟩
  | 78 => ⟨S1x1024, .f32⟩
  | 79 => ⟨S1x1024, .f32⟩
  | 80 => ⟨S1x1024, .f32⟩
  | 81 => ⟨S_, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S_, .f32⟩
  | 100 => ⟨S1x512, .f32⟩
  | 101 => ⟨S1x512, .f32⟩
  | 102 => ⟨S_, .f32⟩
  | 103 => ⟨S1x512, .f32⟩
  | 104 => ⟨S1x512, .f32⟩
  | 105 => ⟨S1x512, .f32⟩
  | 106 => ⟨S_, .f32⟩
  | 107 => ⟨S1x512, .f32⟩
  | 108 => ⟨S1x512, .f32⟩
  | 109 => ⟨S1x512, .f32⟩
  | 110 => ⟨S_, .f32⟩
  | 111 => ⟨S1x512, .f32⟩
  | 112 => ⟨S1x512, .f32⟩
  | 113 => ⟨S1x512, .f32⟩
  | 114 => ⟨S_, .f32⟩
  | 115 => ⟨S1x512, .f32⟩
  | 116 => ⟨S1x512, .f32⟩
  | 117 => ⟨S_, .f32⟩
  | 118 => ⟨S1x512, .f32⟩
  | 119 => ⟨S1x512, .f32⟩
  | 120 => ⟨S1x512, .f32⟩
  | 121 => ⟨S_, .f32⟩
  | 122 => ⟨S1x512, .f32⟩
  | 123 => ⟨S1x512, .f32⟩
  | 124 => ⟨S1x512, .f32⟩
  | 125 => ⟨S_, .f32⟩
  | 126 => ⟨S1x512, .f32⟩
  | 127 => ⟨S1x512, .f32⟩
  | _ => ⟨S1x8x1024, .f32⟩

abbrev hbmTy0_1 (i : Nat) : BufTy := match i % 128 with
  | 0 => ⟨S1x512, .f32⟩
  | 1 => ⟨S_, .f32⟩
  | 2 => ⟨S1x512, .f32⟩
  | 3 => ⟨S1x512, .f32⟩
  | 4 => ⟨S_, .f32⟩
  | 5 => ⟨S4x128x128, .f32⟩
  | 6 => ⟨S4x128x128, .f32⟩
  | 7 => ⟨S_, .f32⟩
  | 8 => ⟨S4x128x128, .f32⟩
  | 9 => ⟨S4x128x128, .f32⟩
  | 10 => ⟨S4x128x128, .f32⟩
  | 11 => ⟨S_, .f32⟩
  | 12 => ⟨S4x128x128, .f32⟩
  | 13 => ⟨S4x128x128, .f32⟩
  | 14 => ⟨S4x128x128, .f32⟩
  | 15 => ⟨S_, .f32⟩
  | 16 => ⟨S4x128x128, .f32⟩
  | 17 => ⟨S4x128x128, .f32⟩
  | 18 => ⟨S4x128x128, .f32⟩
  | 19 => ⟨S_, .f32⟩
  | 20 => ⟨S4x128x128, .f32⟩
  | 21 => ⟨S4x128x128, .f32⟩
  | 22 => ⟨S_, .f32⟩
  | 23 => ⟨S4x128x128, .f32⟩
  | 24 => ⟨S4x128x128, .f32⟩
  | 25 => ⟨S4x128x128, .f32⟩
  | 26 => ⟨S_, .f32⟩
  | 27 => ⟨S4x128x128, .f32⟩
  | 28 => ⟨S4x128x128, .f32⟩
  | 29 => ⟨S4x128x128, .f32⟩
  | 30 => ⟨S_, .f32⟩
  | 31 => ⟨S4x128x128, .f32⟩
  | 32 => ⟨S4x128x128, .f32⟩
  | 33 => ⟨S4x128x128, .f32⟩
  | 34 => ⟨S_, .f32⟩
  | 35 => ⟨S4x128x128, .f32⟩
  | 36 => ⟨S4x128x128, .f32⟩
  | 37 => ⟨S_, .f32⟩
  | 38 => ⟨S4x128, .f32⟩
  | 39 => ⟨S4x128, .f32⟩
  | 40 => ⟨S_, .f32⟩
  | 41 => ⟨S4x128, .f32⟩
  | 42 => ⟨S4x128, .f32⟩
  | 43 => ⟨S4x128, .f32⟩
  | 44 => ⟨S_, .f32⟩
  | 45 => ⟨S4x128, .f32⟩
  | 46 => ⟨S4x128, .f32⟩
  | 47 => ⟨S4x128, .f32⟩
  | 48 => ⟨S_, .f32⟩
  | 49 => ⟨S4x128, .f32⟩
  | 50 => ⟨S4x128, .f32⟩
  | 51 => ⟨S4x128, .f32⟩
  | 52 => ⟨S_, .f32⟩
  | 53 => ⟨S4x128, .f32⟩
  | 54 => ⟨S4x128, .f32⟩
  | 55 => ⟨S_, .f32⟩
  | 56 => ⟨S4x128, .f32⟩
  | 57 => ⟨S4x128, .f32⟩
  | 58 => ⟨S4x128, .f32⟩
  | 59 => ⟨S_, .f32⟩
  | 60 => ⟨S4x128, .f32⟩
  | 61 => ⟨S4x128, .f32⟩
  | 62 => ⟨S4x128, .f32⟩
  | 63 => ⟨S_, .f32⟩
  | 64 => ⟨S4x128, .f32⟩
  | 65 => ⟨S4x128, .f32⟩
  | 66 => ⟨S4x128, .f32⟩
  | 67 => ⟨S_, .f32⟩
  | 68 => ⟨S4x128, .f32⟩
  | 69 => ⟨S4x128, .f32⟩
  | 70 => ⟨S_, .f32⟩
  | 71 => ⟨S1x8, .f32⟩
  | 72 => ⟨S1x8, .f32⟩
  | 73 => ⟨S_, .f32⟩
  | 74 => ⟨S1x8, .f32⟩
  | 75 => ⟨S1x8, .f32⟩
  | 76 => ⟨S1x8, .f32⟩
  | 77 => ⟨S_, .f32⟩
  | 78 => ⟨S1x8, .f32⟩
  | 79 => ⟨S1x8, .f32⟩
  | 80 => ⟨S1x8, .f32⟩
  | 81 => ⟨S_, .f32⟩
  | 82 => ⟨S1x8, .f32⟩
  | 83 => ⟨S1x8, .f32⟩
  | 84 => ⟨S1x8, .f32⟩
  | 85 => ⟨S_, .f32⟩
  | 86 => ⟨S1x8, .f32⟩
  | 87 => ⟨S1x8, .f32⟩
  | 88 => ⟨S_, .f32⟩
  | 89 => ⟨S1x8, .f32⟩
  | 90 => ⟨S1x8, .f32⟩
  | 91 => ⟨S1x8, .f32⟩
  | 92 => ⟨S_, .f32⟩
  | 93 => ⟨S1x8, .f32⟩
  | 94 => ⟨S1x8, .f32⟩
  | 95 => ⟨S1x8, .f32⟩
  | 96 => ⟨S_, .f32⟩
  | 97 => ⟨S1x8, .f32⟩
  | 98 => ⟨S1x8, .f32⟩
  | 99 => ⟨S1x8, .f32⟩
  | 100 => ⟨S_, .f32⟩
  | 101 => ⟨S1x8, .f32⟩
  | 102 => ⟨S1x8, .f32⟩
  | 103 => ⟨S_, .f32⟩
  | 104 => ⟨S8x32, .f32⟩
  | 105 => ⟨S8x32, .f32⟩
  | 106 => ⟨S_, .f32⟩
  | 107 => ⟨S8x32, .f32⟩
  | 108 => ⟨S8x32, .f32⟩
  | 109 => ⟨S8x32, .f32⟩
  | 110 => ⟨S_, .f32⟩
  | 111 => ⟨S8x32, .f32⟩
  | 112 => ⟨S8x32, .f32⟩
  | 113 => ⟨S8x32, .f32⟩
  | 114 => ⟨S_, .f32⟩
  | 115 => ⟨S8x32, .f32⟩
  | 116 => ⟨S8x32, .f32⟩
  | 117 => ⟨S8x32, .f32⟩
  | 118 => ⟨S_, .f32⟩
  | 119 => ⟨S8x32, .f32⟩
  | 120 => ⟨S8x32, .f32⟩
  | 121 => ⟨S_, .f32⟩
  | 122 => ⟨S8x32, .f32⟩
  | 123 => ⟨S8x32, .f32⟩
  | 124 => ⟨S8x32, .f32⟩
  | 125 => ⟨S_, .f32⟩
  | 126 => ⟨S8x32, .f32⟩
  | 127 => ⟨S8x32, .f32⟩
  | _ => ⟨S1x8x1024, .f32⟩

abbrev hbmTy0_2 (i : Nat) : BufTy := match i % 128 with
  | 0 => ⟨S8x32, .f32⟩
  | 1 => ⟨S_, .f32⟩
  | 2 => ⟨S8x32, .f32⟩
  | 3 => ⟨S8x32, .f32⟩
  | 4 => ⟨S8x32, .f32⟩
  | 5 => ⟨S_, .f32⟩
  | 6 => ⟨S8x32, .f32⟩
  | 7 => ⟨S8x32, .f32⟩
  | 8 => ⟨S_, .f32⟩
  | 9 => ⟨S1x1024, .f32⟩
  | 10 => ⟨S1x1024, .f32⟩
  | 11 => ⟨S_, .f32⟩
  | 12 => ⟨S1x1024, .f32⟩
  | 13 => ⟨S1x1024, .f32⟩
  | 14 => ⟨S1x1024, .f32⟩
  | 15 => ⟨S_, .f32⟩
  | 16 => ⟨S1x1024, .f32⟩
  | 17 => ⟨S1x1024, .f32⟩
  | 18 => ⟨S1x1024, .f32⟩
  | 19 => ⟨S_, .f32⟩
  | 20 => ⟨S1x1024, .f32⟩
  | 21 => ⟨S1x1024, .f32⟩
  | 22 => ⟨S1x1024, .f32⟩
  | 23 => ⟨S_, .f32⟩
  | 24 => ⟨S1x1024, .f32⟩
  | 25 => ⟨S1x1024, .f32⟩
  | 26 => ⟨S_, .f32⟩
  | 27 => ⟨S1x1024, .f32⟩
  | 28 => ⟨S1x1024, .f32⟩
  | 29 => ⟨S1x1024, .f32⟩
  | 30 => ⟨S_, .f32⟩
  | 31 => ⟨S1x1024, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S1x1024, .f32⟩
  | 38 => ⟨S_, .f32⟩
  | 39 => ⟨S1x1024, .f32⟩
  | 40 => ⟨S1x1024, .f32⟩
  | 41 => ⟨S_, .f32⟩
  | 42 => ⟨S1x1024, .f32⟩
  | 43 => ⟨S1x1024, .f32⟩
  | 44 => ⟨S_, .f32⟩
  | 45 => ⟨S1x1024, .f32⟩
  | 46 => ⟨S1x1024, .f32⟩
  | 47 => ⟨S1x1024, .f32⟩
  | 48 => ⟨S_, .f32⟩
  | 49 => ⟨S1x1024, .f32⟩
  | 50 => ⟨S1x1024, .f32⟩
  | 51 => ⟨S1x1024, .f32⟩
  | 52 => ⟨S_, .f32⟩
  | 53 => ⟨S1x1024, .f32⟩
  | 54 => ⟨S1x1024, .f32⟩
  | 55 => ⟨S1x1024, .f32⟩
  | 56 => ⟨S_, .f32⟩
  | 57 => ⟨S1x1024, .f32⟩
  | 58 => ⟨S1x1024, .f32⟩
  | 59 => ⟨S_, .f32⟩
  | 60 => ⟨S1x1024, .f32⟩
  | 61 => ⟨S1x1024, .f32⟩
  | 62 => ⟨S1x1024, .f32⟩
  | 63 => ⟨S_, .f32⟩
  | 64 => ⟨S1x1024, .f32⟩
  | 65 => ⟨S1x1024, .f32⟩
  | 66 => ⟨S1x1024, .f32⟩
  | 67 => ⟨S_, .f32⟩
  | 68 => ⟨S1x1024, .f32⟩
  | 69 => ⟨S1x1024, .f32⟩
  | 70 => ⟨S1x1024, .f32⟩
  | 71 => ⟨S_, .f32⟩
  | 72 => ⟨S1x1024, .f32⟩
  | 73 => ⟨S1x1024, .f32⟩
  | 74 => ⟨S1x1, .f32⟩
  | _ => ⟨S1x8x1024, .f32⟩

abbrev hbmTy (i : Nat) : BufTy := match i / 128 with
  | 0 => hbmTy0_0 i
  | 1 => hbmTy0_1 i
  | 2 => hbmTy0_2 i
  | _ => ⟨S1x8x1024, .f32⟩

abbrev bufTy : (tb : Table) → Fin (tcTables nBuf tb) → BufTy
  | .hbm, ⟨i, _⟩ => hbmTy i
  | _, _ => ⟨S1x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_v0 : Ref sig .tc := ⟨.hbm, 36, rfl⟩
abbrev main_cst : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_cst_0 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_cst_1 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst_2 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_3 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_cst_4 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_cst_5 : Ref sig .tc := ⟨.hbm, 66, rfl⟩
abbrev main_v24 : Ref sig .tc := ⟨.hbm, 67, rfl⟩
abbrev main_v25 : Ref sig .tc := ⟨.hbm, 68, rfl⟩
abbrev main_cst_6 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_cst_7 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_cst_8 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_cst_9 : Ref sig .tc := ⟨.hbm, 81, rfl⟩
abbrev main_v35 : Ref sig .tc := ⟨.hbm, 82, rfl⟩
abbrev main_v36 : Ref sig .tc := ⟨.hbm, 83, rfl⟩
abbrev main_cst_10 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_cst_11 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_cst_12 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_cst_13 : Ref sig .tc := ⟨.hbm, 96, rfl⟩
abbrev main_v46 : Ref sig .tc := ⟨.hbm, 97, rfl⟩
abbrev main_v47 : Ref sig .tc := ⟨.hbm, 98, rfl⟩
abbrev main_cst_14 : Ref sig .tc := ⟨.hbm, 99, rfl⟩
abbrev main_v48 : Ref sig .tc := ⟨.hbm, 100, rfl⟩
abbrev main_v49 : Ref sig .tc := ⟨.hbm, 101, rfl⟩
abbrev main_cst_15 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_cst_16 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_cst_17 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_cst_18 : Ref sig .tc := ⟨.hbm, 114, rfl⟩
abbrev main_v59 : Ref sig .tc := ⟨.hbm, 115, rfl⟩
abbrev main_v60 : Ref sig .tc := ⟨.hbm, 116, rfl⟩
abbrev main_cst_19 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_cst_20 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_cst_21 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_cst_22 : Ref sig .tc := ⟨.hbm, 129, rfl⟩
abbrev main_v70 : Ref sig .tc := ⟨.hbm, 130, rfl⟩
abbrev main_v71 : Ref sig .tc := ⟨.hbm, 131, rfl⟩
abbrev main_cst_23 : Ref sig .tc := ⟨.hbm, 132, rfl⟩
abbrev main_v72 : Ref sig .tc := ⟨.hbm, 133, rfl⟩
abbrev main_v73 : Ref sig .tc := ⟨.hbm, 134, rfl⟩
abbrev main_cst_24 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_cst_25 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_cst_26 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_cst_27 : Ref sig .tc := ⟨.hbm, 147, rfl⟩
abbrev main_v83 : Ref sig .tc := ⟨.hbm, 148, rfl⟩
abbrev main_v84 : Ref sig .tc := ⟨.hbm, 149, rfl⟩
abbrev main_cst_28 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_cst_29 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_cst_30 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_cst_31 : Ref sig .tc := ⟨.hbm, 162, rfl⟩
abbrev main_v94 : Ref sig .tc := ⟨.hbm, 163, rfl⟩
abbrev main_v95 : Ref sig .tc := ⟨.hbm, 164, rfl⟩
abbrev main_cst_32 : Ref sig .tc := ⟨.hbm, 165, rfl⟩
abbrev main_v96 : Ref sig .tc := ⟨.hbm, 166, rfl⟩
abbrev main_v97 : Ref sig .tc := ⟨.hbm, 167, rfl⟩
abbrev main_cst_33 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_cst_34 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_cst_35 : Ref sig .tc := ⟨.hbm, 176, rfl⟩
abbrev main_v104 : Ref sig .tc := ⟨.hbm, 177, rfl⟩
abbrev main_v105 : Ref sig .tc := ⟨.hbm, 178, rfl⟩
abbrev main_v106 : Ref sig .tc := ⟨.hbm, 179, rfl⟩
abbrev main_cst_36 : Ref sig .tc := ⟨.hbm, 180, rfl⟩
abbrev main_v107 : Ref sig .tc := ⟨.hbm, 181, rfl⟩
abbrev main_v108 : Ref sig .tc := ⟨.hbm, 182, rfl⟩
abbrev main_cst_37 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_cst_38 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_cst_39 : Ref sig .tc := ⟨.hbm, 191, rfl⟩
abbrev main_v115 : Ref sig .tc := ⟨.hbm, 192, rfl⟩
abbrev main_v116 : Ref sig .tc := ⟨.hbm, 193, rfl⟩
abbrev main_v117 : Ref sig .tc := ⟨.hbm, 194, rfl⟩
abbrev main_cst_40 : Ref sig .tc := ⟨.hbm, 195, rfl⟩
abbrev main_v118 : Ref sig .tc := ⟨.hbm, 196, rfl⟩
abbrev main_v119 : Ref sig .tc := ⟨.hbm, 197, rfl⟩
abbrev main_cst_41 : Ref sig .tc := ⟨.hbm, 198, rfl⟩
abbrev main_v120 : Ref sig .tc := ⟨.hbm, 199, rfl⟩
abbrev main_v121 : Ref sig .tc := ⟨.hbm, 200, rfl⟩
abbrev main_cst_42 : Ref sig .tc := ⟨.hbm, 201, rfl⟩
abbrev main_v122 : Ref sig .tc := ⟨.hbm, 202, rfl⟩
abbrev main_v123 : Ref sig .tc := ⟨.hbm, 203, rfl⟩
abbrev main_v124 : Ref sig .tc := ⟨.hbm, 204, rfl⟩
abbrev main_cst_43 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_cst_44 : Ref sig .tc := ⟨.hbm, 209, rfl⟩
abbrev main_v128 : Ref sig .tc := ⟨.hbm, 210, rfl⟩
abbrev main_v129 : Ref sig .tc := ⟨.hbm, 211, rfl⟩
abbrev main_v130 : Ref sig .tc := ⟨.hbm, 212, rfl⟩
abbrev main_cst_45 : Ref sig .tc := ⟨.hbm, 213, rfl⟩
abbrev main_v131 : Ref sig .tc := ⟨.hbm, 214, rfl⟩
abbrev main_v132 : Ref sig .tc := ⟨.hbm, 215, rfl⟩
abbrev main_cst_46 : Ref sig .tc := ⟨.hbm, 216, rfl⟩
abbrev main_v133 : Ref sig .tc := ⟨.hbm, 217, rfl⟩
abbrev main_v134 : Ref sig .tc := ⟨.hbm, 218, rfl⟩
abbrev main_v135 : Ref sig .tc := ⟨.hbm, 219, rfl⟩
abbrev main_cst_47 : Ref sig .tc := ⟨.hbm, 220, rfl⟩
abbrev main_v136 : Ref sig .tc := ⟨.hbm, 221, rfl⟩
abbrev main_v137 : Ref sig .tc := ⟨.hbm, 222, rfl⟩
abbrev main_v138 : Ref sig .tc := ⟨.hbm, 223, rfl⟩
abbrev main_cst_48 : Ref sig .tc := ⟨.hbm, 224, rfl⟩
abbrev main_v139 : Ref sig .tc := ⟨.hbm, 225, rfl⟩
abbrev main_v140 : Ref sig .tc := ⟨.hbm, 226, rfl⟩
abbrev main_v141 : Ref sig .tc := ⟨.hbm, 227, rfl⟩
abbrev main_cst_49 : Ref sig .tc := ⟨.hbm, 228, rfl⟩
abbrev main_v142 : Ref sig .tc := ⟨.hbm, 229, rfl⟩
abbrev main_v143 : Ref sig .tc := ⟨.hbm, 230, rfl⟩
abbrev main_cst_50 : Ref sig .tc := ⟨.hbm, 231, rfl⟩
abbrev main_v144 : Ref sig .tc := ⟨.hbm, 232, rfl⟩
abbrev main_v145 : Ref sig .tc := ⟨.hbm, 233, rfl⟩
abbrev main_cst_51 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩
abbrev main_cst_52 : Ref sig .tc := ⟨.hbm, 238, rfl⟩
abbrev main_v149 : Ref sig .tc := ⟨.hbm, 239, rfl⟩
abbrev main_v150 : Ref sig .tc := ⟨.hbm, 240, rfl⟩
abbrev main_v151 : Ref sig .tc := ⟨.hbm, 241, rfl⟩
abbrev main_cst_53 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_cst_54 : Ref sig .tc := ⟨.hbm, 246, rfl⟩
abbrev main_v155 : Ref sig .tc := ⟨.hbm, 247, rfl⟩
abbrev main_v156 : Ref sig .tc := ⟨.hbm, 248, rfl⟩
abbrev main_cst_55 : Ref sig .tc := ⟨.hbm, 249, rfl⟩
abbrev main_v157 : Ref sig .tc := ⟨.hbm, 250, rfl⟩
abbrev main_v158 : Ref sig .tc := ⟨.hbm, 251, rfl⟩
abbrev main_v159 : Ref sig .tc := ⟨.hbm, 252, rfl⟩
abbrev main_cst_56 : Ref sig .tc := ⟨.hbm, 253, rfl⟩
abbrev main_v160 : Ref sig .tc := ⟨.hbm, 254, rfl⟩
abbrev main_v161 : Ref sig .tc := ⟨.hbm, 255, rfl⟩
abbrev main_v162 : Ref sig .tc := ⟨.hbm, 256, rfl⟩
abbrev main_cst_57 : Ref sig .tc := ⟨.hbm, 257, rfl⟩
abbrev main_v163 : Ref sig .tc := ⟨.hbm, 258, rfl⟩
abbrev main_v164 : Ref sig .tc := ⟨.hbm, 259, rfl⟩
abbrev main_v165 : Ref sig .tc := ⟨.hbm, 260, rfl⟩
abbrev main_cst_58 : Ref sig .tc := ⟨.hbm, 261, rfl⟩
abbrev main_v166 : Ref sig .tc := ⟨.hbm, 262, rfl⟩
abbrev main_v167 : Ref sig .tc := ⟨.hbm, 263, rfl⟩
abbrev main_cst_59 : Ref sig .tc := ⟨.hbm, 264, rfl⟩
abbrev main_v168 : Ref sig .tc := ⟨.hbm, 265, rfl⟩
abbrev main_v169 : Ref sig .tc := ⟨.hbm, 266, rfl⟩
abbrev main_cst_60 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_cst_61 : Ref sig .tc := ⟨.hbm, 271, rfl⟩
abbrev main_v173 : Ref sig .tc := ⟨.hbm, 272, rfl⟩
abbrev main_v174 : Ref sig .tc := ⟨.hbm, 273, rfl⟩
abbrev main_v175 : Ref sig .tc := ⟨.hbm, 274, rfl⟩
abbrev main_cst_62 : Ref sig .tc := ⟨.hbm, 275, rfl⟩
abbrev main_v176 : Ref sig .tc := ⟨.hbm, 276, rfl⟩
abbrev main_v177 : Ref sig .tc := ⟨.hbm, 277, rfl⟩
abbrev main_v178 : Ref sig .tc := ⟨.hbm, 278, rfl⟩
abbrev main_cst_63 : Ref sig .tc := ⟨.hbm, 279, rfl⟩
abbrev main_v179 : Ref sig .tc := ⟨.hbm, 280, rfl⟩
abbrev main_v180 : Ref sig .tc := ⟨.hbm, 281, rfl⟩
abbrev main_cst_64 : Ref sig .tc := ⟨.hbm, 282, rfl⟩
abbrev main_v181 : Ref sig .tc := ⟨.hbm, 283, rfl⟩
abbrev main_v182 : Ref sig .tc := ⟨.hbm, 284, rfl⟩
abbrev main_v183 : Ref sig .tc := ⟨.hbm, 285, rfl⟩
abbrev main_cst_65 : Ref sig .tc := ⟨.hbm, 286, rfl⟩
abbrev main_v184 : Ref sig .tc := ⟨.hbm, 287, rfl⟩
abbrev main_v185 : Ref sig .tc := ⟨.hbm, 288, rfl⟩
abbrev main_v186 : Ref sig .tc := ⟨.hbm, 289, rfl⟩
abbrev main_cst_66 : Ref sig .tc := ⟨.hbm, 290, rfl⟩
abbrev main_v187 : Ref sig .tc := ⟨.hbm, 291, rfl⟩
abbrev main_v188 : Ref sig .tc := ⟨.hbm, 292, rfl⟩
abbrev main_v189 : Ref sig .tc := ⟨.hbm, 293, rfl⟩
abbrev main_cst_67 : Ref sig .tc := ⟨.hbm, 294, rfl⟩
abbrev main_v190 : Ref sig .tc := ⟨.hbm, 295, rfl⟩
abbrev main_v191 : Ref sig .tc := ⟨.hbm, 296, rfl⟩
abbrev main_cst_68 : Ref sig .tc := ⟨.hbm, 297, rfl⟩
abbrev main_v192 : Ref sig .tc := ⟨.hbm, 298, rfl⟩
abbrev main_v193 : Ref sig .tc := ⟨.hbm, 299, rfl⟩
abbrev main_cst_69 : Ref sig .tc := ⟨.hbm, 300, rfl⟩
abbrev main_v194 : Ref sig .tc := ⟨.hbm, 301, rfl⟩
abbrev main_v195 : Ref sig .tc := ⟨.hbm, 302, rfl⟩
abbrev main_v196 : Ref sig .tc := ⟨.hbm, 303, rfl⟩
abbrev main_cst_70 : Ref sig .tc := ⟨.hbm, 304, rfl⟩
abbrev main_v197 : Ref sig .tc := ⟨.hbm, 305, rfl⟩
abbrev main_v198 : Ref sig .tc := ⟨.hbm, 306, rfl⟩
abbrev main_v199 : Ref sig .tc := ⟨.hbm, 307, rfl⟩
abbrev main_cst_71 : Ref sig .tc := ⟨.hbm, 308, rfl⟩
abbrev main_v200 : Ref sig .tc := ⟨.hbm, 309, rfl⟩
abbrev main_v201 : Ref sig .tc := ⟨.hbm, 310, rfl⟩
abbrev main_v202 : Ref sig .tc := ⟨.hbm, 311, rfl⟩
abbrev main_cst_72 : Ref sig .tc := ⟨.hbm, 312, rfl⟩
abbrev main_v203 : Ref sig .tc := ⟨.hbm, 313, rfl⟩
abbrev main_v204 : Ref sig .tc := ⟨.hbm, 314, rfl⟩
abbrev main_cst_73 : Ref sig .tc := ⟨.hbm, 315, rfl⟩
abbrev main_v205 : Ref sig .tc := ⟨.hbm, 316, rfl⟩
abbrev main_v206 : Ref sig .tc := ⟨.hbm, 317, rfl⟩
abbrev main_v207 : Ref sig .tc := ⟨.hbm, 318, rfl⟩
abbrev main_cst_74 : Ref sig .tc := ⟨.hbm, 319, rfl⟩
abbrev main_v208 : Ref sig .tc := ⟨.hbm, 320, rfl⟩
abbrev main_v209 : Ref sig .tc := ⟨.hbm, 321, rfl⟩
abbrev main_v210 : Ref sig .tc := ⟨.hbm, 322, rfl⟩
abbrev main_cst_75 : Ref sig .tc := ⟨.hbm, 323, rfl⟩
abbrev main_v211 : Ref sig .tc := ⟨.hbm, 324, rfl⟩
abbrev main_v212 : Ref sig .tc := ⟨.hbm, 325, rfl⟩
abbrev main_v213 : Ref sig .tc := ⟨.hbm, 326, rfl⟩
abbrev main_cst_76 : Ref sig .tc := ⟨.hbm, 327, rfl⟩
abbrev main_v214 : Ref sig .tc := ⟨.hbm, 328, rfl⟩
abbrev main_v215 : Ref sig .tc := ⟨.hbm, 329, rfl⟩
abbrev main_v216 : Ref sig .tc := ⟨.hbm, 330, rfl⟩

abbrev nD : Nat := 1
abbrev τ : Topo := Topo.v7x

variable {F : FTy → Type} [FloatOps F]
-- ==== Proof.Rows.lean ====
/-
  Facts about extended reals that the norm's derivative needs: none asks the numbers to be finite.
-/
module

public import Idealize.ShloMosaic.PureOps.Ideal
public import Idealize.ShloMosaic.Lib.IdealHost

@[expose] public section

noncomputable section

open Idealize.ShloMosaic

namespace Cert.Rows

/-- The f32 word of 1024 denotes 1024. -/
theorem word_1024 : Ideal.ofBits .f32 0x44800000#32 = ((1024 : ℝ) : EReal) := by
  simp [Ideal.ofBits, Ideal.ieee, -EReal.coe_mul]; norm_num

/-- The f32 word of one half, negated, denotes it. -/
theorem word_neg_half : Ideal.ofBits .f32 0xBF000000#32 = ((-(1 / 2) : ℝ) : EReal) := by
  simp [Ideal.ofBits, Ideal.ieee, -EReal.coe_mul]; norm_num

/-- The norm's small constant is a positive real. -/
theorem word_eps : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

/-- A square is not negative, at the infinities too. -/
theorem square_nonneg (a : EReal) : 0 ≤ a * a := by
  induction a with
  | bot => simp
  | top => simp
  | coe r => rw [← EReal.coe_mul]; exact EReal.coe_nonneg.mpr (mul_self_nonneg r)

/-- The mean of the squares of a row plus the small constant: what the norm takes the root of. -/
def meanSq {n : ℕ} (f : Fin n → EReal) : EReal :=
  Ideal.div (∑ k, f k * f k) (Ideal.ofBits .f32 0x44800000#32) + Ideal.ofBits .f32 0x358637BD#32

/-- It is positive. -/
theorem meanSq_pos {n : ℕ} (f : Fin n → EReal) : 0 < meanSq f := by
  obtain ⟨e, he, hw⟩ := word_eps
  unfold meanSq
  rw [hw, word_1024, Ideal.div_coe (by norm_num)]
  have h0 : (0 : EReal) ≤ (∑ k, f k * f k) * ((1 / 1024 : ℝ) : EReal) :=
    mul_nonneg (Finset.sum_nonneg fun k _ => square_nonneg (f k)) (EReal.coe_nonneg.mpr (by norm_num))
  calc (0 : EReal) < (e : EReal) := EReal.coe_pos.mpr he
    _ = 0 + (e : EReal) := (zero_add _).symm
    _ ≤ _ := add_le_add_left h0 _

/-- The reciprocal root over the number under it is the root's cube. -/
theorem rsqrt_div (v : EReal) (h : 0 < v) : Ideal.div (Ideal.rsqrt v) v = Ideal.rsqrt v * Ideal.rsqrt v * Ideal.rsqrt v := by
  induction v with
  | bot => simp at h
  | top => simp [Ideal.div]
  | coe r =>
    have hr : 0 < r := EReal.coe_pos.mp h
    rw [Ideal.rsqrt_coe, if_neg (not_lt.mpr hr.le), if_neg hr.ne', Ideal.div_coe hr.ne', ← EReal.coe_mul, ← EReal.coe_mul, ← EReal.coe_mul]
    congr 1
    have hs : Real.sqrt r * Real.sqrt r = r := Real.mul_self_sqrt hr.le
    have hp : Real.sqrt r ≠ 0 := (Real.sqrt_pos.mpr hr).ne'
    field_simp
    nlinarith [hs]

/-- A number and itself make its double. -/
theorem add_self (a : EReal) : a + a = ((2 : ℝ) : EReal) * a := by
  induction a with
  | bot => rw [EReal.coe_mul_bot_of_pos (by norm_num)]; rfl
  | top => rw [EReal.coe_mul_top_of_pos (by norm_num)]; rfl
  | coe r => rw [← EReal.coe_add, ← EReal.coe_mul, two_mul]

/-- The two equal parts that a square contributes to a derivative, with the root's own derivative written out, are the one
    subtracted term of the norm's derivative. -/
theorem two_parts (x s v : EReal) (h : 0 < v) :
    x * Ideal.div (s * (Ideal.ofBits .f32 0xBF000000#32 * Ideal.div (Ideal.rsqrt v) v)) (Ideal.ofBits .f32 0x44800000#32)
      + Ideal.div (s * (Ideal.ofBits .f32 0xBF000000#32 * Ideal.div (Ideal.rsqrt v) v)) (Ideal.ofBits .f32 0x44800000#32) * x
      = -(x * (Ideal.rsqrt v * Ideal.rsqrt v * Ideal.rsqrt v * Ideal.div s (Ideal.ofBits .f32 0x44800000#32))) := by
  rw [rsqrt_div v h, word_1024, word_neg_half, Ideal.div_coe (by norm_num), Ideal.div_coe (by norm_num)]
  generalize Ideal.rsqrt v * Ideal.rsqrt v * Ideal.rsqrt v = q
  rw [mul_comm _ x, add_self]
  have h2 : ((2 : ℝ) : EReal) * ((-(1 / 2) : ℝ) : EReal) = -1 := by
    rw [← EReal.coe_mul]; norm_num
  calc ((2 : ℝ) : EReal) * (x * (s * (((-(1 / 2) : ℝ) : EReal) * q) * ((1 / 1024 : ℝ) : EReal)))
      = (((2 : ℝ) : EReal) * ((-(1 / 2) : ℝ) : EReal)) * (x * (q * (s * ((1 / 1024 : ℝ) : EReal)))) := by ac_rfl
    _ = _ := by rw [h2, neg_mul, one_mul]

/-- The norm's derivative with respect to its row, as the two programs add it up. -/
theorem norm_back (d x u s v : EReal) (h : 0 < v) :
    d + u * Ideal.rsqrt v
      + x * Ideal.div (s * (Ideal.ofBits .f32 0xBF000000#32 * Ideal.div (Ideal.rsqrt v) v)) (Ideal.ofBits .f32 0x44800000#32)
      + Ideal.div (s * (Ideal.ofBits .f32 0xBF000000#32 * Ideal.div (Ideal.rsqrt v) v)) (Ideal.ofBits .f32 0x44800000#32) * x
      = d + (Ideal.rsqrt v * u
        - x * (Ideal.rsqrt v * Ideal.rsqrt v * Ideal.rsqrt v * Ideal.div s (Ideal.ofBits .f32 0x44800000#32))) := by
  rw [add_assoc, two_parts x s v h, add_assoc, sub_eq_add_neg, mul_comm u]

/-- The same with the reference's sums over an axis of one element, and its sum along the row given as another sum. -/
theorem norm_back_unit (d x u s s' v : EReal) (h : 0 < v) (hs : s = s') :
    d + u * Ideal.rsqrt v
      + x * (∑ _i : Fin 1, Ideal.div (s * (Ideal.ofBits .f32 0xBF000000#32 * Ideal.div (Ideal.rsqrt v) v)) (Ideal.ofBits .f32 0x44800000#32))
      + (∑ _i : Fin 1, Ideal.div (s * (Ideal.ofBits .f32 0xBF000000#32 * Ideal.div (Ideal.rsqrt v) v)) (Ideal.ofBits .f32 0x44800000#32)) * x
      = d + (Ideal.rsqrt v * u
        - x * (Ideal.rsqrt v * Ideal.rsqrt v * Ideal.rsqrt v * Ideal.div s' (Ideal.ofBits .f32 0x44800000#32))) := by
  rw [Fin.sum_univ_one, norm_back d x u s v h, hs]

end Cert.Rows

end
-- ==== Proof.TailMath.lean ====
/-
  The step's tail as mathematics, on matrices of extended reals: the output projection, the normed squared-relu layer, the gated
  projection of the pooled rows, the final norm and the squared error, and behind each its derivative.  Everything but the
  weights' gradients, the gains' and the loss is said one row at a time.
-/
module

public import proofs.«01_k».proof.Proof.Rows

@[expose] public section

noncomputable section

open Idealize.ShloMosaic
open Cert.Rows

namespace Cert.Tail

/-- What the tail is given: the rows `x`, the mixer's rows, the rows to project, the target, two gains and five weights. -/
structure Args where
  x : Fin 2048 → Fin 1024 → EReal
  mix : Fin 2048 → Fin 1024 → EReal
  p : Fin 2048 → Fin 256 → EReal
  t : Fin 2048 → Fin 1024 → EReal
  g2 : Fin 1024 → EReal
  gf : Fin 1024 → EReal
  wo : Fin 1024 → Fin 1024 → EReal
  w1 : Fin 1024 → Fin 4096 → EReal
  w2 : Fin 4096 → Fin 1024 → EReal
  wg : Fin 1024 → Fin 1024 → EReal
  wp : Fin 256 → Fin 1024 → EReal

/-- A norm's derivative with respect to its row `f`, of factor `r`, for the derivative `d` at the normed row. -/
def normBack {n : ℕ} (r : EReal) (f d : Fin n → EReal) (k : Fin n) : EReal :=
  r * d k - f k * (r * r * r * Ideal.div (∑ l, d l * f l) (Ideal.ofBits .f32 0x44800000#32))

/-- A half over 1024, times twice a number, is the number over 1024. -/
theorem half_twice (e : EReal) :
    Ideal.div (Ideal.ofBits .f32 0x3F000000#32) (Ideal.ofBits .f32 0x44800000#32)
        * (Ideal.ofBits .f32 0x40000000#32 * e) = e * Ideal.ofBits .f32 0x3A800000#32 := by
  have h1 : Ideal.ofBits .f32 0x3F000000#32 = ((1 / 2 : ℝ) : EReal) := by
    simp [Ideal.ofBits, Ideal.ieee, -EReal.coe_mul]; norm_num
  have h3 : Ideal.ofBits .f32 0x40000000#32 = ((2 : ℝ) : EReal) := by
    simp [Ideal.ofBits, Ideal.ieee, -EReal.coe_mul]; norm_num
  have h4 : Ideal.ofBits .f32 0x3A800000#32 = ((1 / 1024 : ℝ) : EReal) := by
    simp [Ideal.ofBits, Ideal.ieee, -EReal.coe_mul]; norm_num
  rw [h1, h3, h4, word_1024, Ideal.div_coe (by norm_num), mul_comm e, ← mul_assoc, ← EReal.coe_mul, ← EReal.coe_mul]
  congr 2
  norm_num

/-- The norm's derivative as the two programs add it up, with nothing else beside it. -/
theorem norm_back_alone (x u s s' v : EReal) (h : 0 < v) (hs : s = s') :
    u * Ideal.rsqrt v
      + x * (∑ _i : Fin 1, Ideal.div (s * (Ideal.ofBits .f32 0xBF000000#32 * Ideal.div (Ideal.rsqrt v) v)) (Ideal.ofBits .f32 0x44800000#32))
      + (∑ _i : Fin 1, Ideal.div (s * (Ideal.ofBits .f32 0xBF000000#32 * Ideal.div (Ideal.rsqrt v) v)) (Ideal.ofBits .f32 0x44800000#32)) * x
      = Ideal.rsqrt v * u
        - x * (Ideal.rsqrt v * Ideal.rsqrt v * Ideal.rsqrt v * Ideal.div s' (Ideal.ofBits .f32 0x44800000#32)) := by
  have h' := norm_back_unit 0 x u s s' v h hs
  rwa [zero_add, zero_add] at h'

/-- Where a relu is cut off, what is multiplied by its value is zero anyway. -/
theorem relu_gate (f s c : EReal) : (if 0 < f then s * (c * max f 0) else 0) = s * (c * max f 0) := by
  split_ifs with h
  · rfl
  · rw [max_eq_right (not_lt.mp h), mul_zero, mul_zero]

/-- The loss as a sum over the rows: the means' sum, halved, is the sum of the rows' squares times one constant. -/
theorem loss_sum {n : ℕ} (s : Fin n → EReal) :
    Ideal.ofBits .f32 0x3F000000#32 * ∑ i, Ideal.div (s i) (Ideal.ofBits .f32 0x44800000#32)
      = ∑ i, s i * Ideal.ofBits .f32 0x3A000000#32 := by
  have h1 : Ideal.ofBits .f32 0x3F000000#32 = ((1 / 2 : ℝ) : EReal) := by
    simp [Ideal.ofBits, Ideal.ieee, -EReal.coe_mul]; norm_num
  have h4 : Ideal.ofBits .f32 0x3A000000#32 = ((1 / 2 * (1 / 1024) : ℝ) : EReal) := by
    simp [Ideal.ofBits, Ideal.ieee, -EReal.coe_mul]; norm_num
  rw [h1, h4, word_1024, EReal.coe_mul]
  have hd : ∀ (S : Finset (Fin n)), ((1 / 2 : ℝ) : EReal) * ∑ i ∈ S, Ideal.div (s i) ((1024 : ℝ) : EReal)
      = ∑ i ∈ S, s i * (((1 / 2 : ℝ) : EReal) * ((1 / 1024 : ℝ) : EReal)) := by
    intro S
    induction S using Finset.induction_on with
    | empty => simp
    | insert a S ha ih =>
      rw [Finset.sum_insert ha, Finset.sum_insert ha, ← ih, EReal.left_distrib_of_nonneg_of_ne_top (EReal.coe_nonneg.mpr (by norm_num)) (EReal.coe_ne_top _),
        Ideal.div_coe (by norm_num)]
      congr 1
      ac_rfl
  exact hd _

namespace Args

variable (A : Args)

/-- The rows after the output projection. -/
def h1 (i : Fin 2048) (k : Fin 1024) : EReal := A.x i k + ∑ l : Fin 1024, A.mix i l * A.wo l k

/-- Their norm factor. -/
def r1 (i : Fin 2048) : EReal := Ideal.rsqrt (meanSq (A.h1 i))

/-- The normed rows with the gain. -/
def hn (i : Fin 2048) (k : Fin 1024) : EReal := A.h1 i k * A.r1 i * A.g2 k

/-- The layer's inner values, before the relu. -/
def f (i : Fin 2048) (j : Fin 4096) : EReal := ∑ l : Fin 1024, A.hn i l * A.w1 l j

/-- After the relu. -/
def pos (i : Fin 2048) (j : Fin 4096) : EReal := max (A.f i j) 0

/-- Squared. -/
def act (i : Fin 2048) (j : Fin 4096) : EReal := A.pos i j * A.pos i j

/-- The rows after the layer. -/
def h2 (i : Fin 2048) (k : Fin 1024) : EReal := A.h1 i k + ∑ j : Fin 4096, A.act i j * A.w2 j k

/-- The gate. -/
def gate (i : Fin 2048) (k : Fin 1024) : EReal := Ideal.logistic (∑ l : Fin 1024, A.h2 i l * A.wg l k)

/-- The projected rows. -/
def pp (i : Fin 2048) (k : Fin 1024) : EReal := ∑ l : Fin 256, A.p i l * A.wp l k

/-- The rows with the gated projection. -/
def h3 (i : Fin 2048) (k : Fin 1024) : EReal := A.h2 i k + A.gate i k * A.pp i k

/-- Their norm factor. -/
def rf (i : Fin 2048) : EReal := Ideal.rsqrt (meanSq (A.h3 i))

/-- The error of the normed rows. -/
def err (i : Fin 2048) (k : Fin 1024) : EReal := A.h3 i k * A.rf i * A.gf k - A.t i k

/-- A row's part of the loss. -/
def lossRow (i : Fin 2048) : EReal := (∑ k : Fin 1024, A.err i k * A.err i k) * Ideal.ofBits .f32 0x3A000000#32

/-- The loss's derivative at the error. -/
def dy (i : Fin 2048) (k : Fin 1024) : EReal := A.err i k * Ideal.ofBits .f32 0x3A800000#32

/-- A row's part of the final gain's gradient. -/
def partGf (i : Fin 2048) (k : Fin 1024) : EReal := A.dy i k * (A.h3 i k * A.rf i)

/-- The derivative at the rows with the gated projection. -/
def dh3 (i : Fin 2048) (k : Fin 1024) : EReal := normBack (A.rf i) (A.h3 i) (fun l => A.dy i l * A.gf l) k

/-- The derivative at the projected rows. -/
def dpp (i : Fin 2048) (k : Fin 1024) : EReal := A.dh3 i k * A.gate i k

/-- The derivative at the gate's argument. -/
def dgl (i : Fin 2048) (k : Fin 1024) : EReal :=
  A.dh3 i k * A.pp i k * (A.gate i k * (Ideal.ofBits .f32 0x3F800000#32 - A.gate i k))

/-- The derivative at the rows after the layer. -/
def dh2 (i : Fin 2048) (k : Fin 1024) : EReal := A.dh3 i k + ∑ l : Fin 1024, A.dgl i l * A.wg k l

/-- The derivative at the layer's inner values. -/
def df (i : Fin 2048) (j : Fin 4096) : EReal :=
  (∑ k : Fin 1024, A.dh2 i k * A.w2 j k) * (Ideal.ofBits .f32 0x40000000#32 * A.pos i j)

/-- The derivative at the normed rows. -/
def dhn (i : Fin 2048) (k : Fin 1024) : EReal := ∑ j : Fin 4096, A.df i j * A.w1 k j

/-- A row's part of the gain's gradient. -/
def partG2 (i : Fin 2048) (k : Fin 1024) : EReal := A.dhn i k * (A.h1 i k * A.r1 i)

/-- The derivative at the rows after the output projection. -/
def dh1 (i : Fin 2048) (k : Fin 1024) : EReal :=
  A.dh2 i k + normBack (A.r1 i) (A.h1 i) (fun l => A.dhn i l * A.g2 l) k

/-- The derivative at the mixer's rows. -/
def dmix (i : Fin 2048) (k : Fin 1024) : EReal := ∑ l : Fin 1024, A.dh1 i l * A.wo k l

/-- The first result: the two gains' gradients, the loss along a row, and five rows of zeros. -/
def small (s : Fin 8) (k : Fin 1024) : EReal :=
  if s.val = 0 then ∑ i, A.partG2 i k else if s.val = 1 then ∑ i, A.partGf i k else if s.val = 2 then ∑ i, A.lossRow i else 0

end Args

/-- A column of the projection's weight by its block and its place there. -/
def col (q : Fin 8) (r : Fin 128) : Fin 1024 := ⟨q.val * 128 + r.val, by have h := q.isLt; have h' := r.isLt; omega⟩

end Cert.Tail

end
-- ==== Proof.TailRef.lean ====
/-
  The reference's values: each of its named intermediate arrays is the array of the same quantity in `Cert.Tail`.
-/
module

public import proofs.«01_k».proof.Defs
public import proofs.«01_k».proof.Proof.TailMath
public import proofs.«01_k».proof.Proof.Gen.ReferenceIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Cert.Rows Cert.Tail

namespace Cert.ReferenceIdeal.Tail

open Cert.ReferenceIdeal Cert.ReferenceIdeal.Value Cert.ReferenceIdeal.Gen

/-- The arguments as matrices. -/
def args (V0 : Valuation τ sig (Elt Ideal)) : Cert.Tail.Args where
  x i k := (V0 (Proc.devRef .tc main_arg0) : FVec Ideal S2048x1024 .f32) (ix2 i k)
  mix i k := (V0 (Proc.devRef .tc main_arg1) : FVec Ideal S2048x1024 .bf16) (ix2 i k)
  p i k := (V0 (Proc.devRef .tc main_arg2) : FVec Ideal S2048x256 .f32) (ix2 i k)
  t i k := (V0 (Proc.devRef .tc main_arg3) : FVec Ideal S2048x1024 .f32) (ix2 i k)
  g2 k := (V0 (Proc.devRef .tc main_arg4) : FVec Ideal S1x1024 .f32) (ix2 0 k)
  gf k := (V0 (Proc.devRef .tc main_arg5) : FVec Ideal S1x1024 .f32) (ix2 0 k)
  wo i k := (V0 (Proc.devRef .tc main_arg6) : FVec Ideal S1024x1024 .bf16) (ix2 i k)
  w1 l j := (V0 (Proc.devRef .tc main_arg7) : FVec Ideal S8x1024x512 .bf16)
    (ix3 ⟨j.val / 512, by have h := j.isLt; omega⟩ l ⟨j.val % 512, Nat.mod_lt _ (by decide)⟩)
  w2 j k := (V0 (Proc.devRef .tc main_arg8) : FVec Ideal S4096x1024 .bf16) (ix2 j k)
  wg i k := (V0 (Proc.devRef .tc main_arg9) : FVec Ideal S1024x1024 .bf16) (ix2 i k)
  wp l k := (V0 (Proc.devRef .tc main_arg10) : FVec Ideal S8x256x128 .bf16)
    (ix3 ⟨k.val / 128, by have h := k.isLt; omega⟩ l ⟨k.val % 128, Nat.mod_lt _ (by decide)⟩)

variable (V0 : Valuation τ sig (Elt Ideal))

/-- The rows after the output projection. -/
theorem h1_eq : res_main_v9 V0 = fun j : S2048x1024.Idx => (args V0).h1 (j 0) (j 1) := by
  funext j
  pointwise [res_main_v9, res_main_v2, res_main_v3, args, Cert.Tail.Args.h1]

/-- What the first norm takes the root of. -/
theorem v1_eq : res_main_v16 V0 = fun j : S2048x1.Idx => meanSq ((args V0).h1 (j 0)) := by
  unfold res_main_v16
  rw [h1_eq]
  funext j
  unfold meanSq
  pointwise

/-- The first norm's factors. -/
theorem r1_eq : res_main_v17 V0 = fun j : S2048x1.Idx => (args V0).r1 (j 0) := by
  unfold res_main_v17
  rw [v1_eq]
  funext j
  unfold Cert.Tail.Args.r1
  pointwise

/-- The normed rows without the gain. -/
theorem n1_eq : res_main_v22 V0 = fun j : S2048x1024.Idx => (args V0).h1 (j 0) (j 1) * (args V0).r1 (j 0) := by
  unfold res_main_v22
  rw [h1_eq, r1_eq]
  funext j
  pointwise

/-- The normed rows. -/
theorem hn_eq : res_main_v24 V0 = fun j : S2048x1024.Idx => (args V0).hn (j 0) (j 1) := by
  unfold res_main_v24
  rw [n1_eq]
  funext j
  unfold Cert.Tail.Args.hn
  generalize (args V0).h1 = a, (args V0).r1 = b
  pointwise [args]

/-- The layer's first weight, its eight blocks of columns side by side. -/
theorem w1_eq : res_main_v26 V0 = fun j : S1024x4096.Idx => (args V0).w1 (j 0) (j 1) := by
  unfold res_main_v26
  funext j
  pointwise [args]

/-- The layer's second weight. -/
theorem w2_eq : res_main_v1 V0 = fun j : S4096x1024.Idx => (args V0).w2 (j 0) (j 1) := by
  unfold res_main_v1
  funext j
  pointwise [args]

/-- The gate's weight. -/
theorem wg_eq : res_main_v4 V0 = fun j : S1024x1024.Idx => (args V0).wg (j 0) (j 1) := by
  unfold res_main_v4
  funext j
  pointwise [args]

/-- The output projection's weight. -/
theorem wo_eq : res_main_v3 V0 = fun j : S1024x1024.Idx => (args V0).wo (j 0) (j 1) := by
  unfold res_main_v3
  funext j
  pointwise [args]

/-- The mixer's rows. -/
theorem mix_eq : res_main_v2 V0 = fun j : S2048x1024.Idx => (args V0).mix (j 0) (j 1) := by
  unfold res_main_v2
  funext j
  pointwise [args]

/-- The layer's inner values. -/
theorem f_eq : res_main_v28 V0 = fun j : S2048x4096.Idx => (args V0).f (j 0) (j 1) := by
  unfold res_main_v28
  rw [hn_eq, w1_eq]
  funext j
  unfold Cert.Tail.Args.f
  pointwise

/-- After the relu. -/
theorem pos_eq : res_main_v29 V0 = fun j : S2048x4096.Idx => (args V0).pos (j 0) (j 1) := by
  unfold res_main_v29
  rw [f_eq]
  funext j
  unfold Cert.Tail.Args.pos
  pointwise

/-- Squared. -/
theorem act_eq : res_main_v33 V0 = fun j : S2048x4096.Idx => (args V0).act (j 0) (j 1) := by
  unfold res_main_v33
  rw [pos_eq]
  funext j
  unfold Cert.Tail.Args.act
  pointwise

/-- The rows after the layer. -/
theorem h2_eq : res_main_v38 V0 = fun j : S2048x1024.Idx => (args V0).h2 (j 0) (j 1) := by
  unfold res_main_v38
  rw [h1_eq, act_eq, w2_eq]
  funext j
  unfold Cert.Tail.Args.h2
  pointwise

/-- The gate. -/
theorem gate_eq : res_main_v45 V0 = fun j : S2048x1024.Idx => (args V0).gate (j 0) (j 1) := by
  unfold res_main_v45
  rw [h2_eq, wg_eq]
  funext j
  unfold Cert.Tail.Args.gate Ideal.logistic
  pointwise

/-- The projected rows. -/
theorem pp_eq : res_main_v51 V0 = fun j : S2048x1024.Idx => (args V0).pp (j 0) (j 1) := by
  unfold res_main_v51
  funext j
  unfold Cert.Tail.Args.pp
  pointwise [args]

/-- The rows with the gated projection. -/
theorem h3_eq : res_main_v53 V0 = fun j : S2048x1024.Idx => (args V0).h3 (j 0) (j 1) := by
  unfold res_main_v53
  rw [h2_eq, gate_eq, pp_eq]
  funext j
  unfold Cert.Tail.Args.h3
  pointwise

/-- What the final norm takes the root of. -/
theorem vf_eq : res_main_v60 V0 = fun j : S2048x1.Idx => meanSq ((args V0).h3 (j 0)) := by
  unfold res_main_v60
  rw [h3_eq]
  funext j
  unfold meanSq
  pointwise

/-- The final norm's factors. -/
theorem rf_eq : res_main_v61 V0 = fun j : S2048x1.Idx => (args V0).rf (j 0) := by
  unfold res_main_v61
  rw [vf_eq]
  funext j
  unfold Cert.Tail.Args.rf
  pointwise

/-- The finally normed rows without the gain. -/
theorem nf_eq : res_main_v66 V0 = fun j : S2048x1024.Idx => (args V0).h3 (j 0) (j 1) * (args V0).rf (j 0) := by
  unfold res_main_v66
  rw [h3_eq, rf_eq]
  funext j
  pointwise

/-- The error. -/
theorem err_eq : res_main_v69 V0 = fun j : S2048x1024.Idx => (args V0).err (j 0) (j 1) := by
  unfold res_main_v69
  rw [nf_eq]
  funext j
  unfold Cert.Tail.Args.err
  generalize (args V0).h3 = a, (args V0).rf = b
  pointwise [args]

/-- The loss's derivative at the error: a half of twice the error, over the row's length. -/
theorem dy_eq : res_main_v83 V0 = fun j : S2048x1024.Idx => (args V0).dy (j 0) (j 1) := by
  unfold res_main_v83
  rw [err_eq]
  funext j
  unfold Cert.Tail.Args.dy
  pointwise
  exact half_twice _

/-- With the final gain. -/
theorem dn3_eq : res_main_v88 V0 = fun j : S2048x1024.Idx => (args V0).dy (j 0) (j 1) * (args V0).gf (j 1) := by
  unfold res_main_v88
  rw [dy_eq]
  funext j
  generalize (args V0).dy = a
  pointwise [args]

/-- The derivative at the rows with the gated projection. -/
theorem dh3_eq : res_main_v102 V0 = fun j : S2048x1024.Idx => (args V0).dh3 (j 0) (j 1) := by
  unfold res_main_v102 res_main_v98
  rw [dn3_eq, h3_eq, rf_eq, vf_eq]
  funext j
  unfold Cert.Tail.Args.dh3 Cert.Tail.normBack Cert.Tail.Args.rf
  pointwise
  exact norm_back_alone _ _ _ _ _ (meanSq_pos ((args V0).h3 (j 0))) (Fin.sum_fin_congr fun l => mul_comm _ _)

/-- The derivative at the gate's argument. -/
theorem dgl_eq : res_main_v109 V0 = fun j : S2048x1024.Idx => (args V0).dgl (j 0) (j 1) := by
  unfold res_main_v109
  rw [dh3_eq, pp_eq, gate_eq]
  funext j
  unfold Cert.Tail.Args.dgl
  pointwise

/-- The derivative at the rows after the layer. -/
theorem dh2_eq : res_main_v113 V0 = fun j : S2048x1024.Idx => (args V0).dh2 (j 0) (j 1) := by
  unfold res_main_v113
  rw [dh3_eq, dgl_eq, wg_eq]
  funext j
  unfold Cert.Tail.Args.dh2
  pointwise

/-- The derivative at the layer's inner values: where the relu is cut off, its value is zero and so is the product. -/
theorem df_eq : res_main_v117 V0 = fun j : S2048x4096.Idx => (args V0).df (j 0) (j 1) := by
  unfold res_main_v117
  rw [f_eq, dh2_eq, w2_eq, pos_eq]
  funext j
  unfold Cert.Tail.Args.df Cert.Tail.Args.pos
  pointwise
  exact relu_gate _ _ _

/-- The derivative at the normed rows. -/
theorem dhn_eq : res_main_v118 V0 = fun j : S2048x1024.Idx => (args V0).dhn (j 0) (j 1) := by
  unfold res_main_v118
  rw [df_eq, w1_eq]
  funext j
  unfold Cert.Tail.Args.dhn
  pointwise

/-- With the gain. -/
theorem dn1_eq : res_main_v123 V0 = fun j : S2048x1024.Idx => (args V0).dhn (j 0) (j 1) * (args V0).g2 (j 1) := by
  unfold res_main_v123
  rw [dhn_eq]
  funext j
  generalize (args V0).dhn = a
  pointwise [args]

/-- The derivative at the rows after the output projection. -/
theorem dh1_eq : res_main_v138 V0 = fun j : S2048x1024.Idx => (args V0).dh1 (j 0) (j 1) := by
  unfold res_main_v138 res_main_v134
  rw [dn1_eq, dh2_eq, h1_eq, r1_eq, v1_eq]
  funext j
  unfold Cert.Tail.Args.dh1 Cert.Tail.normBack Cert.Tail.Args.r1
  pointwise
  exact norm_back_unit _ _ _ _ _ _ (meanSq_pos ((args V0).h1 (j 0))) (Fin.sum_fin_congr fun l => mul_comm _ _)

/-- The reference runs, and its ten results are the tail's quantities of its arguments. -/
theorem run_values (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v144) = (fun j : S8x1024.Idx => (args (StableHlo.launchContents m c)).small (j 0) (j 1))
      ∧ r.2.mem ((c.tc : Thread nD τ).loc main_v138) = (fun j : S2048x1024.Idx => (args (StableHlo.launchContents m c)).dh1 (j 0) (j 1))
      ∧ r.2.mem ((c.tc : Thread nD τ).loc main_v141) = (fun j : S2048x1024.Idx => (args (StableHlo.launchContents m c)).dmix (j 0) (j 1))
      ∧ r.2.mem ((c.tc : Thread nD τ).loc main_v145) = (fun j : S2048x1024.Idx => (args (StableHlo.launchContents m c)).hn (j 0) (j 1))
      ∧ r.2.mem ((c.tc : Thread nD τ).loc main_v146) = (fun j : S2048x4096.Idx => (args (StableHlo.launchContents m c)).act (j 0) (j 1))
      ∧ r.2.mem ((c.tc : Thread nD τ).loc main_v147) = (fun j : S2048x4096.Idx => (args (StableHlo.launchContents m c)).df (j 0) (j 1))
      ∧ r.2.mem ((c.tc : Thread nD τ).loc main_v148) = (fun j : S2048x1024.Idx => (args (StableHlo.launchContents m c)).dh2 (j 0) (j 1))
      ∧ r.2.mem ((c.tc : Thread nD τ).loc main_v140) = (fun j : S1024x1024.Idx => ∑ i : Fin 2048, (args (StableHlo.launchContents m c)).mix i (j 0) * (args (StableHlo.launchContents m c)).dh1 i (j 1))
      ∧ r.2.mem ((c.tc : Thread nD τ).loc main_v108) = (fun j : S8x256x128.Idx => ∑ i : Fin 2048, (args (StableHlo.launchContents m c)).p i (j 1) * (args (StableHlo.launchContents m c)).dpp i (col (j 0) (j 2)))
      ∧ r.2.mem ((c.tc : Thread nD τ).loc main_v111) = (fun j : S1024x1024.Idx => ∑ i : Fin 2048, (args (StableHlo.launchContents m c)).h2 i (j 0) * (args (StableHlo.launchContents m c)).dgl i (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) := by
  refine (θ_run defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2⟩) (run (F := Ideal) m ρ)
  · clear h
    rw [n1_eq, dhn_eq, nf_eq, dy_eq, err_eq]
    funext j
    unfold Cert.Tail.Args.small
    pointwise
    rw [loss_sum]
    unfold Cert.Tail.Args.partG2 Cert.Tail.Args.partGf Cert.Tail.Args.lossRow
    by_cases h0 : (j 0).val = 0
    · rw [dif_pos (by omega), if_pos h0]
      exact Fin.sum_fin_congr fun i => mul_comm _ _
    rw [dif_neg (by omega), if_neg h0]
    by_cases h1 : (j 0).val = 1
    · rw [dif_pos (by omega), if_pos h1]
      exact Fin.sum_fin_congr fun i => mul_comm _ _
    rw [dif_neg (by omega), if_neg h1]
    by_cases h2 : (j 0).val = 2
    · rw [dif_pos (by omega), if_pos h2]
    rw [dif_neg (by omega), if_neg h2]
  · exact dh1_eq _
  · rw [dh1_eq, wo_eq]
    funext j
    unfold Cert.Tail.Args.dmix
    pointwise
  · rw [hn_eq]
    funext j
    pointwise
  · rw [act_eq]
    funext j
    pointwise
  · rw [df_eq]
    funext j
    pointwise
  · rw [dh2_eq]
    funext j
    pointwise
  · rw [dh1_eq, mix_eq]
    funext j
    pointwise
    exact Fin.sum_fin_congr fun i => mul_comm _ _
  · rw [gate_eq, dh3_eq]
    funext j
    unfold Cert.Tail.Args.dpp
    generalize (args (StableHlo.launchContents m c)).gate = a, (args (StableHlo.launchContents m c)).dh3 = b
    pointwise [args]
    refine Fin.sum_fin_congr fun i => ?_
    rw [mul_comm, mul_comm (a _ _)]
    rfl
  · rw [dgl_eq, h2_eq]
    funext j
    pointwise
    exact Fin.sum_fin_congr fun i => mul_comm _ _

end Cert.ReferenceIdeal.Tail

end
-- ==== Proof.TailParts.lean ====
/-
  The tail's sums over the wide layer's 4096 columns, added up in eight blocks of 512.
-/
module

public import proofs.«01_k».proof.Proof.TailMath
public import Idealize.ShloMosaic.Lib.Pipeline.ValueKit

@[expose] public section

noncomputable section

open Idealize.ShloMosaic

namespace Cert.Tail

/-- Column `s` of block `q` of the 4096. -/
def ch (q : ℕ) (s : Fin 512) : Fin 4096 := ⟨(q * 512 + s.val) % 4096, Nat.mod_lt _ (by decide)⟩

/-- Its number. -/
theorem ch_val {q : ℕ} (hq : q < 8) (s : Fin 512) : (ch q s).val = q * 512 + s.val := by
  have h := s.isLt
  exact Nat.mod_eq_of_lt (by omega)

/-- A sum over the 4096 columns, added block by block to a number. -/
def accum (a : EReal) (g : Fin 4096 → EReal) : ℕ → EReal
  | 0 => a
  | q + 1 => accum a g q + ∑ s : Fin 512, g (ch q s)

/-- After eight blocks it is the whole sum. -/
theorem accum_eight (a : EReal) (g : Fin 4096 → EReal) : accum a g 8 = a + ∑ j : Fin 4096, g j := by
  have h : ∑ q : Fin 8, ∑ s : Fin 512, g (ch q.val s) = ∑ j : Fin 4096, g j :=
    Fin.sum_mul_add_congr (L := 4096) (S := 8) (n := 512) fun s k hl => congrArg g (Fin.ext (ch_val s.isLt k))
  rw [← h, Fin.sum_univ_eight]
  simp only [accum, add_assoc]
  rfl

namespace Args

variable (A : Args)

/-- The rows after the layer's first `n` blocks. -/
def part (n : ℕ) (i : Fin 2048) (k : Fin 1024) : EReal := accum (A.h1 i k) (fun j => A.act i j * A.w2 j k) n

/-- After all of them. -/
theorem part_eight : A.part 8 = A.h2 := by
  funext i k
  exact accum_eight _ _

/-- The derivative at the normed rows, from the first `n` blocks. -/
def dpart (n : ℕ) (i : Fin 2048) (k : Fin 1024) : EReal := accum 0 (fun j => A.df i j * A.w1 k j) n

/-- From all of them. -/
theorem dpart_eight : A.dpart 8 = A.dhn := by
  funext i k
  exact (accum_eight _ _).trans (zero_add _)

end Args

end Cert.Tail

end
-- ==== Proof.TailPoint.lean ====
/-
  What one point of the grid computes, on its 256 rows: each of the values it holds is the rows' part of the same quantity in
  `Cert.Tail`.
-/
module

public import proofs.«01_k».proof.Defs
public import proofs.«01_k».proof.Proof.TailMath
public import proofs.«01_k».proof.Proof.TailParts
public import proofs.«01_k».proof.Proof.Gen.KernelIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Rows Cert.Tail

namespace Cert.KernelIdeal.Tail

open Cert.KernelIdeal Cert.KernelIdeal.Gen

variable (m : (ℓ : Loc nD τ sig) → Buf (Elt Ideal) ℓ)

/-- The arguments as matrices. -/
def args (c : Dev nD) : Cert.Tail.Args where
  x i k := (m ((c : Thread nD τ).loc main_arg0) : FVec Ideal S2048x1024 .f32) (ix2 i k)
  mix i k := (m ((c : Thread nD τ).loc main_arg1) : FVec Ideal S2048x1024 .bf16) (ix2 i k)
  p i k := (m ((c : Thread nD τ).loc main_arg2) : FVec Ideal S2048x256 .f32) (ix2 i k)
  t i k := (m ((c : Thread nD τ).loc main_arg3) : FVec Ideal S2048x1024 .f32) (ix2 i k)
  g2 k := (m ((c : Thread nD τ).loc main_arg4) : FVec Ideal S1x1024 .f32) (ix2 0 k)
  gf k := (m ((c : Thread nD τ).loc main_arg5) : FVec Ideal S1x1024 .f32) (ix2 0 k)
  wo i k := (m ((c : Thread nD τ).loc main_arg6) : FVec Ideal S1024x1024 .bf16) (ix2 i k)
  w1 l j := (m ((c : Thread nD τ).loc main_arg7) : FVec Ideal S8x1024x512 .bf16)
    (ix3 ⟨j.val / 512, by have h := j.isLt; omega⟩ l ⟨j.val % 512, Nat.mod_lt _ (by decide)⟩)
  w2 j k := (m ((c : Thread nD τ).loc main_arg8) : FVec Ideal S4096x1024 .bf16) (ix2 j k)
  wg i k := (m ((c : Thread nD τ).loc main_arg9) : FVec Ideal S1024x1024 .bf16) (ix2 i k)
  wp l k := (m ((c : Thread nD τ).loc main_arg10) : FVec Ideal S8x256x128 .bf16)
    (ix3 ⟨k.val / 128, by have h := k.isLt; omega⟩ l ⟨k.val % 128, Nat.mod_lt _ (by decide)⟩)

/-- The array's row that is a point's row `r`. -/
def row (t : Fin cfg0.N) (r : Fin 256) : Fin 2048 :=
  ⟨t.val * 256 + r.val, by have h : t.val < 8 := lt_of_lt_of_eq t.isLt (show cfg0.N = 8 from N_0); have h' := r.isLt; omega⟩

/-- A point's rows of a matrix of 1024 columns. -/
def rows (t : Fin cfg0.N) (g : Fin 2048 → Fin 1024 → EReal) : S256x1024.Idx → EReal := fun y => g (row t (y 0)) (y 1)

/-- A point's rows of a column. -/
def ones (t : Fin cfg0.N) (g : Fin 2048 → EReal) : S256x1.Idx → EReal := fun y => g (row t (y 0))

/-- A point's rows of a matrix of 256 columns. -/
def narrow (t : Fin cfg0.N) (g : Fin 2048 → Fin 256 → EReal) : S256x256.Idx → EReal := fun y => g (row t (y 0)) (y 1)

/-- A point's rows of block `q` of a matrix of 4096 columns. -/
def cols (t : Fin cfg0.N) (q : ℕ) (g : Fin 2048 → Fin 4096 → EReal) : S256x512.Idx → EReal :=
  fun y => g (row t (y 0)) (ch q (y 1))

/-- Block `q` of the first weight's columns. -/
def w1b (A : Cert.Tail.Args) (q : ℕ) : S1x1024x512.Idx → EReal := fun z => A.w1 (z 1) (ch q (z 2))

/-- Block `q` of the second weight's rows. -/
def w2b (A : Cert.Tail.Args) (q : ℕ) : S512x1024.Idx → EReal := fun z => A.w2 (ch q (z 0)) (z 1)

/-- Column `s` of block `q` of the projection's 1024. -/
def co (q : ℕ) (s : Fin 128) : Fin 1024 := ⟨(q * 128 + s.val) % 1024, Nat.mod_lt _ (by decide)⟩

/-- Its number. -/
theorem co_val {q : ℕ} (hq : q < 8) (s : Fin 128) : (co q s).val = q * 128 + s.val := by
  have h := s.isLt
  exact Nat.mod_eq_of_lt (by omega)

/-- Block `q` of the projection's weight. -/
def wpb (A : Cert.Tail.Args) (q : ℕ) : S1x256x128.Idx → EReal := fun z => A.wp (z 1) (co q (z 2))

/-- Block `q` of a point's projected rows. -/
def ppb (A : Cert.Tail.Args) (t : Fin cfg0.N) (q : ℕ) : S256x128.Idx → EReal := fun y => A.pp (row t (y 0)) (co q (y 1))

/-- A whole weight. -/
def sq (g : Fin 1024 → Fin 1024 → EReal) : S1024x1024.Idx → EReal := fun z => g (z 0) (z 1)

/-- A gain. -/
def gain (g : Fin 1024 → EReal) : S1x1024.Idx → EReal := fun z => g (z 1)

/-- Which block each window reads or writes at each grid point. -/
theorem where_blocks : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![0, 0]
    ∧ win0_7.index t = ![0, 0, 0]
    ∧ win0_8.index t = ![0, 0]
    ∧ win0_9.index t = ![0, 0]
    ∧ win0_10.index t = ![0, 0, 0]
    ∧ win0_11.index t = ![0, 0]
    ∧ win0_12.index t = ![t.val, 0]
    ∧ win0_13.index t = ![t.val, 0]
    ∧ win0_14.index t = ![t.val, 0]
    ∧ win0_15.index t = ![t.val, 0]
    ∧ win0_16.index t = ![t.val, 0]
    ∧ win0_17.index t = ![t.val, 0]
    ∧ win0_18.index t = ![0, 0]
    ∧ win0_19.index t = ![0, 0, 0]
    ∧ win0_20.index t = ![0, 0] :=
  (by decide +kernel : ∀ t : Fin grid0.N, _)

variable (c : Dev nD) (t : Fin cfg0.N)

/-- What the point reads of argument 0. -/
theorem in_x : iblk m c 0 t = rows t (args m c).x := by
  funext y
  unfold rows args row
  blk_point [iblk, V, where_blocks t]

/-- What the point reads of argument 1. -/
theorem in_mix : iblk m c 1 t = rows t (args m c).mix := by
  funext y
  unfold rows args row
  blk_point [iblk, V, where_blocks t]

/-- What the point reads of argument 2. -/
theorem in_p : iblk m c 2 t = narrow t (args m c).p := by
  funext y
  unfold narrow args row
  blk_point [iblk, V, where_blocks t]

/-- What the point reads of argument 3. -/
theorem in_t : iblk m c 3 t = rows t (args m c).t := by
  funext y
  unfold rows args row
  blk_point [iblk, V, where_blocks t]

/-- What the point reads of argument 4. -/
theorem in_g2 : iblk m c 4 t = gain (args m c).g2 := by
  funext y
  unfold gain args
  blk_point [iblk, V, where_blocks t]

/-- What the point reads of argument 5. -/
theorem in_gf : iblk m c 5 t = gain (args m c).gf := by
  funext y
  unfold gain args
  blk_point [iblk, V, where_blocks t]

/-- What the point reads of argument 6. -/
theorem in_wo : iblk m c 6 t = sq (args m c).wo := by
  funext y
  unfold sq args
  blk_point [iblk, V, where_blocks t]

/-- What the point reads of argument 9. -/
theorem in_wg : iblk m c 9 t = sq (args m c).wg := by
  funext y
  unfold sq args
  blk_point [iblk, V, where_blocks t]

/-- Block `q` of the first weight, as loaded. -/
theorem ld_w1 (q : ℕ) (h) : View.ld (iblk m c 7 t) (Rect.unit ![q, 0, 0] ![1, 1024, 512] h) = w1b (args m c) q := by
  funext y
  unfold w1b args
  have hq : q < 8 := by have := h 0; simpa using this
  blk_point [iblk, V, where_blocks t]
  all_goals
    have e := ch_val hq (y 2)
    omega

/-- Block `q` of the second weight, as loaded. -/
theorem ld_w2 (q : ℕ) (o : ℕ) (ho : q * 512 = o) (h) : View.ld (iblk m c 8 t) (Rect.unit ![o, 0] ![512, 1024] h) = w2b (args m c) q := by
  funext y
  unfold w2b args
  subst ho
  have hq : q < 8 := by have := h 0; simp at this; omega
  blk_point [iblk, V, where_blocks t]
  have e := ch_val hq (y 0)
  omega

/-- Block `q` of the projection's weight, as loaded. -/
theorem ld_wp (q : ℕ) (h) : View.ld (iblk m c 10 t) (Rect.unit ![q, 0, 0] ![1, 256, 128] h) = wpb (args m c) q := by
  funext y
  unfold wpb args
  have hq : q < 8 := by have := h 0; simpa using this
  blk_point [iblk, V, where_blocks t]
  all_goals
    have e := co_val hq (y 2)
    omega

variable (A : Cert.Tail.Args)

/-- The rows after the output projection. -/
theorem pay8 : k0_pay8 (F := Ideal) (rows t A.x) (rows t A.mix) (sq A.wo) = rows t A.h1 := by
  funext y
  pointwise [k0_pay8]
  rfl

/-- Their norm factors. -/
theorem pay9 : k0_pay9 (F := Ideal) (rows t A.x) (rows t A.mix) (sq A.wo) = ones t A.r1 := by
  unfold k0_pay9
  rw [pay8]
  funext y
  pointwise
  rfl

/-- The normed rows. -/
theorem pay10 : k0_pay10 (F := Ideal) (rows t A.x) (rows t A.mix) (sq A.wo) (gain A.g2) = rows t A.hn := by
  unfold k0_pay10
  rw [pay8, pay9]
  funext y
  pointwise
  rfl

/-- A block of the inner values. -/
theorem pay11 (q : ℕ) : k0_pay11 (F := Ideal) (rows t A.hn) (w1b A q) = cols t q A.f := by
  funext y
  pointwise [k0_pay11]
  rfl

/-- A block of the inner values. -/
theorem pay14 (q : ℕ) : k0_pay14 (F := Ideal) (rows t A.hn) (w1b A q) = cols t q A.f := by
  funext y
  pointwise [k0_pay14]
  rfl

/-- A block of the inner values. -/
theorem pay23 (q : ℕ) : k0_pay23 (F := Ideal) (rows t A.hn) (w1b A q) = cols t q A.f := by
  funext y
  pointwise [k0_pay23]
  rfl

/-- A block of the inner values. -/
theorem pay31 (q : ℕ) : k0_pay31 (F := Ideal) (rows t A.hn) (w1b A q) = cols t q A.f := by
  funext y
  pointwise [k0_pay31]
  rfl

/-- A block of the inner values. -/
theorem pay35 (q : ℕ) : k0_pay35 (F := Ideal) (rows t A.hn) (w1b A q) = cols t q A.f := by
  funext y
  pointwise [k0_pay35]
  rfl

/-- A block of the inner values. -/
theorem pay39 (q : ℕ) : k0_pay39 (F := Ideal) (rows t A.hn) (w1b A q) = cols t q A.f := by
  funext y
  pointwise [k0_pay39]
  rfl

/-- The same, as kept. -/
theorem pay15 (q : ℕ) : k0_pay15 (F := Ideal) (rows t A.hn) (w1b A q) = cols t q A.f := by
  unfold k0_pay15
  rw [pay14]
  funext y
  pointwise

/-- The same, as kept. -/
theorem pay24 (q : ℕ) : k0_pay24 (F := Ideal) (rows t A.hn) (w1b A q) = cols t q A.f := by
  unfold k0_pay24
  rw [pay23]
  funext y
  pointwise

/-- The same, as kept. -/
theorem pay32 (q : ℕ) : k0_pay32 (F := Ideal) (rows t A.hn) (w1b A q) = cols t q A.f := by
  unfold k0_pay32
  rw [pay31]
  funext y
  pointwise

/-- The same, as kept. -/
theorem pay36 (q : ℕ) : k0_pay36 (F := Ideal) (rows t A.hn) (w1b A q) = cols t q A.f := by
  unfold k0_pay36
  rw [pay35]
  funext y
  pointwise

/-- The same, as kept. -/
theorem pay40 (q : ℕ) : k0_pay40 (F := Ideal) (rows t A.hn) (w1b A q) = cols t q A.f := by
  unfold k0_pay40
  rw [pay39]
  funext y
  pointwise

/-- The same, after the relu and squared. -/
theorem pay16 (q : ℕ) : k0_pay16 (F := Ideal) (rows t A.hn) (w1b A q) = cols t q A.act := by
  unfold k0_pay16
  rw [pay14]
  funext y
  pointwise
  rfl

/-- The same, after the relu and squared. -/
theorem pay25 (q : ℕ) : k0_pay25 (F := Ideal) (rows t A.hn) (w1b A q) = cols t q A.act := by
  unfold k0_pay25
  rw [pay23]
  funext y
  pointwise
  rfl

/-- The same, after the relu and squared. -/
theorem pay33 (q : ℕ) : k0_pay33 (F := Ideal) (rows t A.hn) (w1b A q) = cols t q A.act := by
  unfold k0_pay33
  rw [pay31]
  funext y
  pointwise
  rfl

/-- The same, after the relu and squared. -/
theorem pay37 (q : ℕ) : k0_pay37 (F := Ideal) (rows t A.hn) (w1b A q) = cols t q A.act := by
  unfold k0_pay37
  rw [pay35]
  funext y
  pointwise
  rfl

/-- The same, after the relu and squared. -/
theorem pay41 (q : ℕ) : k0_pay41 (F := Ideal) (rows t A.hn) (w1b A q) = cols t q A.act := by
  unfold k0_pay41
  rw [pay39]
  funext y
  pointwise
  rfl

/-- The same, as kept. -/
theorem pay12 (q : ℕ) : k0_pay12 (F := Ideal) (cols t q A.f) = cols t q A.f := by
  unfold k0_pay12
  funext y
  pointwise

/-- The same, after the relu and squared. -/
theorem pay13 (q : ℕ) : k0_pay13 (F := Ideal) (cols t q A.f) = cols t q A.act := by
  funext y
  pointwise [k0_pay13]
  rfl

/-- The normed rows, read again. -/
theorem pay18 : k0_pay18 (F := Ideal) (rows t A.hn) = rows t A.hn := by
  unfold k0_pay18
  funext y
  pointwise

/-- The normed rows, read again. -/
theorem pay27 : k0_pay27 (F := Ideal) (rows t A.hn) = rows t A.hn := by
  unfold k0_pay27
  funext y
  pointwise

/-- Block `q` of the first weight as a matrix. -/
def w1m (A : Cert.Tail.Args) (q : ℕ) : S1024x512.Idx → EReal := fun z => A.w1 (z 0) (ch q (z 1))

/-- It is the block as loaded. -/
theorem pay19 (q : ℕ) : k0_pay19 (F := Ideal) (w1b A q) = w1m A q := by
  funext y
  pointwise [k0_pay19]
  rfl

/-- A block of the inner values. -/
theorem pay20 (q : ℕ) : k0_pay20 (F := Ideal) (rows t A.hn) (w1m A q) (Idealize.ShloMosaic.constant S256x512 .f32 0x00000000#32) = cols t q A.f := by
  funext y
  pointwise [k0_pay20]
  rfl

/-- The same, as kept. -/
theorem pay21 (q : ℕ) : k0_pay21 (F := Ideal) (rows t A.hn) (w1m A q) (Idealize.ShloMosaic.constant S256x512 .f32 0x00000000#32) = cols t q A.f := by
  unfold k0_pay21
  rw [pay20]
  funext y
  pointwise

/-- The same, after the relu and squared. -/
theorem pay22 (q : ℕ) : k0_pay22 (F := Ideal) (rows t A.hn) (w1m A q) (Idealize.ShloMosaic.constant S256x512 .f32 0x00000000#32) = cols t q A.act := by
  unfold k0_pay22
  rw [pay20]
  funext y
  pointwise
  rfl

/-- A block of the inner values. -/
theorem pay28 (q : ℕ) : k0_pay28 (F := Ideal) (rows t A.hn) (w1b A q) = cols t q A.f := by
  funext y
  pointwise [k0_pay28]
  rfl

/-- The same, as kept. -/
theorem pay29 (q : ℕ) : k0_pay29 (F := Ideal) (rows t A.hn) (w1b A q) = cols t q A.f := by
  unfold k0_pay29
  rw [pay28]
  funext y
  pointwise

/-- The same, after the relu and squared. -/
theorem pay30 (q : ℕ) : k0_pay30 (F := Ideal) (rows t A.hn) (w1b A q) = cols t q A.act := by
  unfold k0_pay30
  rw [pay28]
  funext y
  pointwise
  rfl

/-- The rows after two blocks of the layer. -/
theorem pay17 : k0_pay17 (F := Ideal) (rows t A.h1) (cols t 0 A.f) (w2b A 0) (rows t A.hn) (w1b A 1) (w2b A 1) = (rows t (A.part 2)) := by
  unfold k0_pay17
  rw [pay13, pay16]
  funext y
  pointwise
  rfl

/-- After four. -/
theorem pay26 : k0_pay26 (F := Ideal) (rows t (A.part 2)) (rows t A.hn) (w1m A 2) (Idealize.ShloMosaic.constant S256x512 .f32 0x00000000#32) (w2b A 2) (rows t A.hn) (w1b A 3) (w2b A 3) = (rows t (A.part 4)) := by
  unfold k0_pay26
  rw [pay22, pay25]
  funext y
  pointwise
  rfl

/-- After six. -/
theorem pay34 : k0_pay34 (F := Ideal) (rows t (A.part 4)) (rows t A.hn) (w1b A 4) (w2b A 4) (rows t A.hn) (w1b A 5) (w2b A 5) = (rows t (A.part 6)) := by
  unfold k0_pay34
  rw [pay30, pay33]
  funext y
  pointwise
  rfl

/-- After seven. -/
theorem pay38 : k0_pay38 (F := Ideal) (rows t (A.part 6)) (rows t A.hn) (w1b A 6) (w2b A 6) = (rows t (A.part 7)) := by
  unfold k0_pay38
  rw [pay37]
  funext y
  pointwise
  rfl

/-- After all eight. -/
theorem pay42 : k0_pay42 (F := Ideal) (rows t (A.part 7)) (cols t 7 A.act) (w2b A 7) (Idealize.ShloMosaic.constant S256x1024 .f32 0x00000000#32) = rows t A.h2 := by
  rw [← A.part_eight]
  unfold k0_pay42
  funext y
  pointwise
  rfl

/-- The same, rounded. -/
theorem pay43 : k0_pay43 (F := Ideal) (rows t (A.part 7)) (cols t 7 A.act) (w2b A 7) (Idealize.ShloMosaic.constant S256x1024 .f32 0x00000000#32) = rows t A.h2 := by
  unfold k0_pay43
  rw [pay42]
  funext y
  pointwise

/-- The gate. -/
theorem pay44 : k0_pay44 (F := Ideal) (rows t (A.part 7)) (cols t 7 A.act) (w2b A 7) (Idealize.ShloMosaic.constant S256x1024 .f32 0x00000000#32) (sq A.wg) = rows t A.gate := by
  unfold k0_pay44
  rw [pay43]
  funext y
  pointwise
  rfl

/-- The rows to project, rounded. -/
theorem pay45 : k0_pay45 (F := Ideal) (narrow t A.p) = narrow t A.p := by
  unfold k0_pay45
  funext y
  pointwise

/-- A block of the projected rows. -/
theorem pay46 (q : ℕ) : k0_pay46 (F := Ideal) (narrow t A.p) (wpb A q) = ppb A t q := by
  unfold k0_pay46
  rw [pay45]
  funext y
  pointwise
  rfl

/-- A block of the projected rows. -/
theorem pay47 (q : ℕ) : k0_pay47 (F := Ideal) (narrow t A.p) (wpb A q) = ppb A t q := by
  unfold k0_pay47
  rw [pay45]
  funext y
  pointwise
  rfl

/-- A block of the projected rows. -/
theorem pay48 (q : ℕ) : k0_pay48 (F := Ideal) (narrow t A.p) (wpb A q) = ppb A t q := by
  unfold k0_pay48
  rw [pay45]
  funext y
  pointwise
  rfl

/-- A block of the projected rows. -/
theorem pay49 (q : ℕ) : k0_pay49 (F := Ideal) (narrow t A.p) (wpb A q) = ppb A t q := by
  unfold k0_pay49
  rw [pay45]
  funext y
  pointwise
  rfl

/-- A block of the projected rows. -/
theorem pay50 (q : ℕ) : k0_pay50 (F := Ideal) (narrow t A.p) (wpb A q) = ppb A t q := by
  unfold k0_pay50
  rw [pay45]
  funext y
  pointwise
  rfl

/-- A block of the projected rows. -/
theorem pay51 (q : ℕ) : k0_pay51 (F := Ideal) (narrow t A.p) (wpb A q) = ppb A t q := by
  unfold k0_pay51
  rw [pay45]
  funext y
  pointwise
  rfl

/-- Block `q` of the projection's weight as a matrix. -/
def wpm (A : Cert.Tail.Args) (q : ℕ) : S256x128.Idx → EReal := fun z => A.wp (z 0) (co q (z 1))

/-- It is the block as loaded. -/
theorem pay52 (q : ℕ) : k0_pay52 (F := Ideal) (wpb A q) = wpm A q := by
  funext y
  pointwise [k0_pay52]
  rfl

/-- A value of a block of the projected rows is one of the projected rows. -/
theorem ppb_at (q : ℕ) (y : S256x1024.Idx) (v : ℕ) (hv : v < 128) (h : q * 128 + v = (y 1).val) (hq : q < 8) :
    ppb A t q (ix2 (y 0) ⟨v, hv⟩) = rows t A.pp y :=
  congrArg (A.pp (row t (y 0))) (Fin.ext ((co_val hq ⟨v, hv⟩).trans h))

/-- The projected rows. -/
theorem pay53 : k0_pay53 (F := Ideal) (narrow t A.p) (ppb A t 0) (ppb A t 1) (ppb A t 2) (ppb A t 3) (ppb A t 4) (ppb A t 5) (wpm A 6) (wpb A 7) = rows t A.pp := by
  unfold k0_pay53
  funext y
  pointwise
  have hy : (y 1).val < 1024 := (y 1).isLt
  by_cases h0 : (y 1).val < 128
  · rw [dif_pos h0]
    refine ppb_at t A 0 y _ _ ?_ (by decide)
    omega
  rw [dif_neg h0]
  by_cases h1 : (y 1).val - 128 < 128
  · rw [dif_pos h1]
    refine ppb_at t A 1 y _ _ ?_ (by decide)
    omega
  rw [dif_neg h1]
  by_cases h2 : (y 1).val - 128 - 128 < 128
  · rw [dif_pos h2]
    refine ppb_at t A 2 y _ _ ?_ (by decide)
    omega
  rw [dif_neg h2]
  by_cases h3 : (y 1).val - 128 - 128 - 128 < 128
  · rw [dif_pos h3]
    refine ppb_at t A 3 y _ _ ?_ (by decide)
    omega
  rw [dif_neg h3]
  by_cases h4 : (y 1).val - 128 - 128 - 128 - 128 < 128
  · rw [dif_pos h4]
    refine ppb_at t A 4 y _ _ ?_ (by decide)
    omega
  rw [dif_neg h4]
  by_cases h5 : (y 1).val - 128 - 128 - 128 - 128 - 128 < 128
  · rw [dif_pos h5]
    refine ppb_at t A 5 y _ _ ?_ (by decide)
    omega
  rw [dif_neg h5]
  by_cases h6 : (y 1).val - 128 - 128 - 128 - 128 - 128 - 128 < 128
  · rw [dif_pos h6]
    refine Eq.trans ?_ (ppb_at t A 6 y ((y 1).val - 128 - 128 - 128 - 128 - 128 - 128) h6 ?_ (by decide))
    · rfl
    · omega
  rw [dif_neg h6]
  refine Eq.trans ?_ (ppb_at t A 7 y ((y 1).val - 128 - 128 - 128 - 128 - 128 - 128 - 128) (by omega) ?_ (by decide))
  · rfl
  · omega

/-- The rows with the gated projection. -/
theorem pay54 : k0_pay54 (F := Ideal) (rows t A.h2) (rows t A.gate) (narrow t A.p) (ppb A t 0) (ppb A t 1) (ppb A t 2) (ppb A t 3) (ppb A t 4) (ppb A t 5) (wpm A 6) (wpb A 7) = rows t A.h3 := by
  unfold k0_pay54
  rw [pay53]
  funext y
  pointwise
  rfl

/-- Their norm factors. -/
theorem pay55 : k0_pay55 (F := Ideal) (rows t A.h2) (rows t A.gate) (narrow t A.p) (ppb A t 0) (ppb A t 1) (ppb A t 2) (ppb A t 3) (ppb A t 4) (ppb A t 5) (wpm A 6) (wpb A 7) = ones t A.rf := by
  unfold k0_pay55
  rw [pay54]
  funext y
  pointwise
  rfl

/-- The error. -/
theorem pay56 : k0_pay56 (F := Ideal) (rows t A.h2) (rows t A.gate) (narrow t A.p) (ppb A t 0) (ppb A t 1) (ppb A t 2) (ppb A t 3) (ppb A t 4) (ppb A t 5) (wpm A 6) (wpb A 7) (gain A.gf) (rows t A.t) = rows t A.err := by
  unfold k0_pay56
  rw [pay54, pay55]
  funext y
  pointwise
  rfl

/-- The loss's derivative at the error. -/
theorem pay58 : k0_pay58 (F := Ideal) (rows t A.h2) (rows t A.gate) (narrow t A.p) (ppb A t 0) (ppb A t 1) (ppb A t 2) (ppb A t 3) (ppb A t 4) (ppb A t 5) (wpm A 6) (wpb A 7) (gain A.gf) (rows t A.t) = rows t A.dy := by
  unfold k0_pay58
  rw [pay56]
  funext y
  pointwise
  rfl

/-- The derivative at the rows with the gated projection. -/
theorem pay60 : k0_pay60 (F := Ideal) (rows t A.h3) (ones t A.rf) (gain A.gf) (rows t A.dy) = rows t A.dh3 := by
  funext y
  pointwise [k0_pay60]
  rfl

/-- The derivative at the gate's argument. -/
theorem pay70 : k0_pay70 (F := Ideal) (rows t A.gate) (rows t A.pp) (rows t A.dh3) = rows t A.dgl := by
  funext y
  pointwise [k0_pay70, rows, Cert.Tail.Args.dgl]

/-- The derivative at the rows after the layer. -/
theorem pay72 : k0_pay72 (F := Ideal) (rows t A.gate) (rows t A.pp) (rows t A.dh3) (sq A.wg) = rows t A.dh2 := by
  unfold k0_pay72
  rw [pay70]
  funext y
  pointwise
  rfl

/-- The same, rounded. -/
theorem pay73 : k0_pay73 (F := Ideal) (rows t A.gate) (rows t A.pp) (rows t A.dh3) (sq A.wg) = rows t A.dh2 := by
  unfold k0_pay73
  rw [pay72]
  funext y
  pointwise

/-- A block of the derivative at the inner values. -/
theorem pay75 (q : ℕ) : k0_pay75 (F := Ideal) (rows t A.dh2) (w2b A q) (cols t q A.f) = cols t q A.df := by
  funext y
  pointwise [k0_pay75]
  rfl

/-- A block of the derivative at the inner values. -/
theorem pay77 (q : ℕ) : k0_pay77 (F := Ideal) (rows t A.dh2) (w2b A q) (cols t q A.f) = cols t q A.df := by
  funext y
  pointwise [k0_pay77]
  rfl

/-- A block of the derivative at the inner values. -/
theorem pay78 (q : ℕ) : k0_pay78 (F := Ideal) (rows t A.dh2) (w2b A q) (cols t q A.f) = cols t q A.df := by
  funext y
  pointwise [k0_pay78]
  rfl

/-- A block of the derivative at the inner values. -/
theorem pay80 (q : ℕ) : k0_pay80 (F := Ideal) (rows t A.dh2) (w2b A q) (cols t q A.f) = cols t q A.df := by
  funext y
  pointwise [k0_pay80]
  rfl

/-- A block of the derivative at the inner values. -/
theorem pay81 (q : ℕ) : k0_pay81 (F := Ideal) (rows t A.dh2) (w2b A q) (cols t q A.f) = cols t q A.df := by
  funext y
  pointwise [k0_pay81]
  rfl

/-- A block of the derivative at the inner values. -/
theorem pay83 (q : ℕ) : k0_pay83 (F := Ideal) (rows t A.dh2) (w2b A q) (cols t q A.f) = cols t q A.df := by
  funext y
  pointwise [k0_pay83]
  rfl

/-- A block of the derivative at the inner values. -/
theorem pay84 (q : ℕ) : k0_pay84 (F := Ideal) (rows t A.dh2) (w2b A q) (cols t q A.f) = cols t q A.df := by
  funext y
  pointwise [k0_pay84]
  rfl

/-- Its first sum, of no blocks. -/
theorem pay74 : k0_pay74 (F := Ideal) = rows t (A.dpart 0) := by
  funext y
  pointwise [k0_pay74]
  rfl

/-- The derivative at the normed rows, from one block. -/
theorem pay76 : k0_pay76 (F := Ideal) (rows t (A.dpart 0)) (rows t A.dh2) (w2b A 0) (cols t 0 A.f) (w1b A 0) = (rows t (A.dpart 1)) := by
  unfold k0_pay76
  rw [pay75]
  funext y
  pointwise
  rfl

/-- From 3 blocks. -/
theorem pay79 : k0_pay79 (F := Ideal) (rows t (A.dpart 1)) (cols t 1 A.df) (w1b A 1) (rows t A.dh2) (w2b A 2) (cols t 2 A.f) (w1b A 2) = (rows t (A.dpart 3)) := by
  unfold k0_pay79
  rw [pay78]
  funext y
  pointwise
  rfl

/-- From 5 blocks. -/
theorem pay82 : k0_pay82 (F := Ideal) (rows t (A.dpart 3)) (cols t 3 A.df) (w1b A 3) (rows t A.dh2) (w2b A 4) (cols t 4 A.f) (w1b A 4) = (rows t (A.dpart 5)) := by
  unfold k0_pay82
  rw [pay81]
  funext y
  pointwise
  rfl

/-- From 7 blocks. -/
theorem pay85 : k0_pay85 (F := Ideal) (rows t (A.dpart 5)) (cols t 5 A.df) (w1b A 5) (rows t A.dh2) (w2b A 6) (cols t 6 A.f) (w1b A 6) = (rows t (A.dpart 7)) := by
  unfold k0_pay85
  rw [pay84]
  funext y
  pointwise
  rfl

/-- A block of the products that the derivative at the inner values starts from. -/
def prod (A : Cert.Tail.Args) (t : Fin cfg0.N) (q : ℕ) : S256x512.Idx → EReal :=
  fun y => ∑ k : Fin 1024, A.dh2 (row t (y 0)) k * A.w2 (ch q (y 1)) k

/-- The last block of these products. -/
theorem pay86 (q : ℕ) : k0_pay86 (F := Ideal) (rows t A.dh2) (w2b A q) = prod A t q := by
  funext y
  pointwise [k0_pay86]
  rfl

/-- The last block after the relu. -/
theorem pay87 (q : ℕ) : k0_pay87 (F := Ideal) (cols t q A.f) = cols t q A.pos := by
  funext y
  pointwise [k0_pay87]
  rfl

/-- The last block of the derivative at the inner values. -/
theorem pay88 (q : ℕ) : k0_pay88 (F := Ideal) (prod A t q) (cols t q A.pos) (Scalar.ofBits .f32 0x40000000#32 : Ideal .f32) = cols t q A.df := by
  funext y
  pointwise [k0_pay88]
  rfl

/-- The derivative at the normed rows. -/
theorem pay89 : k0_pay89 (F := Ideal) (rows t (A.dpart 7)) (prod A t 7) (cols t 7 A.pos) (Scalar.ofBits .f32 0x40000000#32 : Ideal .f32) (w1b A 7) = rows t A.dhn := by
  unfold k0_pay89
  rw [pay88, ← A.dpart_eight]
  funext y
  pointwise
  rfl

/-- The rows after the output projection, read again. -/
theorem pay90 : k0_pay90 (F := Ideal) (rows t A.h1) = rows t A.h1 := by
  unfold k0_pay90
  funext y
  pointwise

/-- The derivative at the rows after the output projection. -/
theorem pay92 : k0_pay92 (F := Ideal) (ones t A.r1) (rows t (A.dpart 7)) (prod A t 7) (cols t 7 A.pos) (Scalar.ofBits .f32 0x40000000#32 : Ideal .f32) (w1b A 7) (rows t A.h1) (rows t A.dh2) (gain A.g2) = rows t A.dh1 := by
  unfold k0_pay92
  rw [pay89, pay90]
  funext y
  pointwise
  rfl

/-- The derivative at the mixer's rows. -/
theorem pay3 : k0_pay3 (F := Ideal) (rows t A.dh1) (sq A.wo) = rows t A.dmix := by
  funext y
  pointwise [k0_pay3, k0_pay1]
  rfl

/-- A row number of the loss may be multiplied by the constant before the rows are added. -/
theorem loss_rows {n : ℕ} (s : Fin n → EReal) : (∑ i, s i) * Ideal.ofBits .f32 0x3A000000#32 = ∑ i, s i * Ideal.ofBits .f32 0x3A000000#32 := by
  have h4 : Ideal.ofBits .f32 0x3A000000#32 = ((1 / 2048 : ℝ) : EReal) := by
    simp [Ideal.ofBits, Ideal.ieee, -EReal.coe_mul]; norm_num
  rw [h4]
  have hd : ∀ (S : Finset (Fin n)), (∑ i ∈ S, s i) * ((1 / 2048 : ℝ) : EReal) = ∑ i ∈ S, s i * ((1 / 2048 : ℝ) : EReal) := by
    intro S
    induction S using Finset.induction_on with
    | empty => simp
    | insert a S ha ih =>
      rw [Finset.sum_insert ha, Finset.sum_insert ha, ← ih,
        EReal.right_distrib_of_nonneg_of_ne_top (EReal.coe_nonneg.mpr (by norm_num)) (EReal.coe_ne_top _)]
  exact hd _

/-- A point's part of the mixer weight's gradient. -/
theorem pay2 (a : FVec Ideal S1024x1024 .f32) : k0_pay2 (F := Ideal) (rows t A.dh1) a (rows t A.mix) = fun j => a j + ∑ r : Fin 256, A.mix (row t r) (j 0) * A.dh1 (row t r) (j 1) := by
  funext y
  pointwise [k0_pay2, k0_pay1]
  rfl

/-- A point's part of the gate weight's gradient. -/
theorem pay71 (a : FVec Ideal S1024x1024 .f32) : k0_pay71 (F := Ideal) (rows t A.h2) (rows t A.gate) (rows t A.pp) (rows t A.dh3) a = fun j => a j + ∑ r : Fin 256, A.h2 (row t r) (j 0) * A.dgl (row t r) (j 1) := by
  unfold k0_pay71
  rw [pay70]
  funext y
  pointwise
  rfl

/-- A point's part of the loss. -/
theorem pay57 (a : FVec Ideal S1x1024 .f32) : k0_pay57 (F := Ideal) (rows t A.h2) (rows t A.gate) (narrow t A.p) (ppb A t 0) (ppb A t 1) (ppb A t 2) (ppb A t 3) (ppb A t 4) (ppb A t 5) (wpm A 6) (wpb A 7) (gain A.gf) (rows t A.t) a = fun j => a j + ∑ r : Fin 256, A.lossRow (row t r) := by
  unfold k0_pay57
  rw [pay56]
  funext y
  pointwise
  rw [loss_rows]
  rfl

/-- A point's part of the final gain's gradient. -/
theorem pay59 (a : FVec Ideal S1x1024 .f32) : k0_pay59 (F := Ideal) (rows t A.h3) (ones t A.rf) (rows t A.dy) a = fun j => a j + ∑ r : Fin 256, A.partGf (row t r) (j 1) := by
  funext y
  pointwise [k0_pay59]
  rfl

/-- A point's part of the gain's gradient. -/
theorem pay91 (a : FVec Ideal S1x1024 .f32) : k0_pay91 (F := Ideal) (ones t A.r1) (rows t (A.dpart 7)) (prod A t 7) (cols t 7 A.pos) (Scalar.ofBits .f32 0x40000000#32 : Ideal .f32) (w1b A 7) (rows t A.h1) a = fun j => a j + ∑ r : Fin 256, A.partG2 (row t r) (j 1) := by
  unfold k0_pay91
  rw [pay89, pay90]
  funext y
  pointwise
  rfl

/-- A point's part of the projection weight's gradient. -/
def wide (A : Cert.Tail.Args) (t : Fin cfg0.N) : S256x1024.Idx → EReal :=
  fun y => ∑ r : Fin 256, A.p (row t r) (y 0) * A.dpp (row t r) (y 1)

/-- One value of it, by its column's block. -/
theorem wide_at (i : Fin 256) (k : Fin 1024) (q : ℕ) (s : Fin 128) (hq : q < 8) (h : q * 128 + s.val = k.val) :
    wide A t (ix2 i k) = ∑ r : Fin 256, A.p (row t r) i * A.dpp (row t r) (co q s) := by
  have e : k = co q s := Fin.ext (h.symm.trans (co_val hq s).symm)
  subst e
  rfl

/-- A point's part of the projection weight's gradient. -/
theorem pay61 : k0_pay61 (F := Ideal) (rows t A.gate) (narrow t A.p) (rows t A.h3) (ones t A.rf) (gain A.gf) (rows t A.dy) = wide A t := by
  unfold k0_pay61
  rw [pay60]
  funext y
  pointwise
  rfl

/-- Its block 0, added to what the block held. -/
theorem pay62 (a : FVec Ideal S1x256x128 .f32) : k0_pay62 (F := Ideal) (rows t A.gate) (narrow t A.p) (rows t A.h3) (ones t A.rf) (gain A.gf) (rows t A.dy) a = fun z => a z + ∑ r : Fin 256, A.p (row t r) (z 1) * A.dpp (row t r) (co 0 (z 2)) := by
  unfold k0_pay62
  rw [pay61]
  funext y
  pointwise
  exact congrArg (a y + ·) (wide_at t A (y 1) _ 0 (y 2) (by decide) (Nat.zero_add _))

/-- Its block 1, added to what the block held. -/
theorem pay63 (a : FVec Ideal S1x256x128 .f32) : k0_pay63 (F := Ideal) (rows t A.gate) (narrow t A.p) (rows t A.h3) (ones t A.rf) (gain A.gf) (rows t A.dy) a = fun z => a z + ∑ r : Fin 256, A.p (row t r) (z 1) * A.dpp (row t r) (co 1 (z 2)) := by
  unfold k0_pay63
  rw [pay61]
  funext y
  pointwise
  exact congrArg (a y + ·) (wide_at t A (y 1) _ 1 (y 2) (by decide) rfl)

/-- Its block 2, added to what the block held. -/
theorem pay64 (a : FVec Ideal S1x256x128 .f32) : k0_pay64 (F := Ideal) (wide A t) a = fun z => a z + ∑ r : Fin 256, A.p (row t r) (z 1) * A.dpp (row t r) (co 2 (z 2)) := by
  unfold k0_pay64
  funext y
  pointwise
  exact congrArg (a y + ·) (wide_at t A (y 1) _ 2 (y 2) (by decide) rfl)

/-- Its block 3, added to what the block held. -/
theorem pay65 (a : FVec Ideal S1x256x128 .f32) : k0_pay65 (F := Ideal) (wide A t) a = fun z => a z + ∑ r : Fin 256, A.p (row t r) (z 1) * A.dpp (row t r) (co 3 (z 2)) := by
  unfold k0_pay65
  funext y
  pointwise
  exact congrArg (a y + ·) (wide_at t A (y 1) _ 3 (y 2) (by decide) rfl)

/-- Its block 4, added to what the block held. -/
theorem pay66 (a : FVec Ideal S1x256x128 .f32) : k0_pay66 (F := Ideal) (wide A t) a = fun z => a z + ∑ r : Fin 256, A.p (row t r) (z 1) * A.dpp (row t r) (co 4 (z 2)) := by
  unfold k0_pay66
  funext y
  pointwise
  exact congrArg (a y + ·) (wide_at t A (y 1) _ 4 (y 2) (by decide) rfl)

/-- Its block 5, added to what the block held. -/
theorem pay67 (a : FVec Ideal S1x256x128 .f32) : k0_pay67 (F := Ideal) (wide A t) a = fun z => a z + ∑ r : Fin 256, A.p (row t r) (z 1) * A.dpp (row t r) (co 5 (z 2)) := by
  unfold k0_pay67
  funext y
  pointwise
  exact congrArg (a y + ·) (wide_at t A (y 1) _ 5 (y 2) (by decide) rfl)

/-- Its block 6, added to what the block held. -/
theorem pay68 (a : FVec Ideal S1x256x128 .f32) : k0_pay68 (F := Ideal) (wide A t) a = fun z => a z + ∑ r : Fin 256, A.p (row t r) (z 1) * A.dpp (row t r) (co 6 (z 2)) := by
  unfold k0_pay68
  funext y
  pointwise
  exact congrArg (a y + ·) (wide_at t A (y 1) _ 6 (y 2) (by decide) rfl)

/-- Its block 7, added to what the block held. -/
theorem pay69 (a : FVec Ideal S1x256x128 .f32) : k0_pay69 (F := Ideal) (wide A t) a = fun z => a z + ∑ r : Fin 256, A.p (row t r) (z 1) * A.dpp (row t r) (co 7 (z 2)) := by
  unfold k0_pay69
  funext y
  pointwise
  exact congrArg (a y + ·) (wide_at t A (y 1) _ 7 (y 2) (by decide) rfl)

end Cert.KernelIdeal.Tail

end
-- ==== Proof.TailOut.lean ====
/-
  What the kernel leaves in each of its ten arrays: the array of the same quantity in `Cert.Tail`.  Six are written block by
  block, and four are added up over the grid's points.
-/
module

public import proofs.«01_k».proof.Proof.TailPoint

@[expose] public section

set_option maxRecDepth 16384

noncomputable section

open Idealize.ShloMosaic Idealize.ShloMosaic.TcCoe Idealize.SL.Sem
open Idealize.ShloMosaic.Pipeline (Dat)
open Cert.Rows Cert.Tail

namespace Cert.KernelIdeal.Tail

open Cert.KernelIdeal Cert.KernelIdeal.Gen

variable (m : (ℓ : Loc nD τ sig) → Buf (Elt Ideal) ℓ)

/-- A value of a block of the wide rows is one of the wide rows. -/
theorem cols_at (t : Fin cfg0.N) (q : ℕ) (hq : q < 8) (g : Fin 2048 → Fin 4096 → EReal) (x : S256x512.Idx) (y : S256x4096.Idx)
    (h0 : (y 0).val = (x 0).val) (h1 : (y 1).val = q * 512 + (x 1).val) : cols t q g x = g (row t (y 0)) (y 1) :=
  congrArg₂ g (congrArg (row t) (Fin.ext h0.symm)) (Fin.ext ((ch_val hq _).trans h1.symm))

/-- The eight blocks of a point's wide rows, put side by side. -/
theorem side_by_side (t : Fin cfg0.N) (g : Fin 2048 → Fin 4096 → EReal) :
    View.canon (Val := Elt Ideal) (s := S256x4096) (e := .f32) [⟨Rect.unit ![0, 3584] ![256, 512] inb_S256x4096_S256x512_0_3584, cols t 7 g⟩,
      ⟨Rect.unit ![0, 3072] ![256, 512] inb_S256x4096_S256x512_0_3072, cols t 6 g⟩,
      ⟨Rect.unit ![0, 2560] ![256, 512] inb_S256x4096_S256x512_0_2560, cols t 5 g⟩,
      ⟨Rect.unit ![0, 2048] ![256, 512] inb_S256x4096_S256x512_0_2048, cols t 4 g⟩,
      ⟨Rect.unit ![0, 1536] ![256, 512] inb_S256x4096_S256x512_0_1536, cols t 3 g⟩,
      ⟨Rect.unit ![0, 1024] ![256, 512] inb_S256x4096_S256x512_0_1024, cols t 2 g⟩,
      ⟨Rect.unit ![0, 512] ![256, 512] inb_S256x4096_S256x512_0_512, cols t 1 g⟩,
      ⟨Rect.unit ![0, 0] ![256, 512] inb_S256x4096_S256x512_0_0, cols t 0 g⟩]
      = fun y : S256x4096.Idx => g (row t (y 0)) (y 1) := by
  funext y
  canon_tiles x h
  · exact cols_at t 7 (by decide) g x y h0 h1
  · exact cols_at t 6 (by decide) g x y h0 h1
  · exact cols_at t 5 (by decide) g x y h0 h1
  · exact cols_at t 4 (by decide) g x y h0 h1
  · exact cols_at t 3 (by decide) g x y h0 h1
  · exact cols_at t 2 (by decide) g x y h0 h1
  · exact cols_at t 1 (by decide) g x y h0 h1
  · exact cols_at t 0 (by decide) g x y h0 (by omega)

/-- The eight blocks of a point's wide rows, put side by side, rounded. -/
theorem side_by_side' (t : Fin cfg0.N) (g : Fin 2048 → Fin 4096 → EReal) :
    View.canon (Val := Elt Ideal) (s := S256x4096) (e := .bf16) [⟨Rect.unit ![0, 3584] ![256, 512] inb_S256x4096_S256x512_0_3584, cols t 7 g⟩,
      ⟨Rect.unit ![0, 3072] ![256, 512] inb_S256x4096_S256x512_0_3072, cols t 6 g⟩,
      ⟨Rect.unit ![0, 2560] ![256, 512] inb_S256x4096_S256x512_0_2560, cols t 5 g⟩,
      ⟨Rect.unit ![0, 2048] ![256, 512] inb_S256x4096_S256x512_0_2048, cols t 4 g⟩,
      ⟨Rect.unit ![0, 1536] ![256, 512] inb_S256x4096_S256x512_0_1536, cols t 3 g⟩,
      ⟨Rect.unit ![0, 1024] ![256, 512] inb_S256x4096_S256x512_0_1024, cols t 2 g⟩,
      ⟨Rect.unit ![0, 512] ![256, 512] inb_S256x4096_S256x512_0_512, cols t 1 g⟩,
      ⟨Rect.unit ![0, 0] ![256, 512] inb_S256x4096_S256x512_0_0, cols t 0 g⟩]
      = fun y : S256x4096.Idx => g (row t (y 0)) (y 1) := by
  funext y
  canon_tiles x h
  · exact cols_at t 7 (by decide) g x y h0 h1
  · exact cols_at t 6 (by decide) g x y h0 h1
  · exact cols_at t 5 (by decide) g x y h0 h1
  · exact cols_at t 4 (by decide) g x y h0 h1
  · exact cols_at t 3 (by decide) g x y h0 h1
  · exact cols_at t 2 (by decide) g x y h0 h1
  · exact cols_at t 1 (by decide) g x y h0 h1
  · exact cols_at t 0 (by decide) g x y h0 (by omega)

/-- A block of the wide rows, read back. -/
theorem read_back (t : Fin cfg0.N) (q o : ℕ) (hq : q < 8) (ho : q * 512 = o) (g : Fin 2048 → Fin 4096 → EReal) (h) :
    (View.whole cc0_scratch0).readCov (Val := Elt Ideal) [⟨Rect.unit ![0, 3584] ![256, 512] inb_S256x4096_S256x512_0_3584, cols t 7 g⟩,
      ⟨Rect.unit ![0, 3072] ![256, 512] inb_S256x4096_S256x512_0_3072, cols t 6 g⟩,
      ⟨Rect.unit ![0, 2560] ![256, 512] inb_S256x4096_S256x512_0_2560, cols t 5 g⟩,
      ⟨Rect.unit ![0, 2048] ![256, 512] inb_S256x4096_S256x512_0_2048, cols t 4 g⟩,
      ⟨Rect.unit ![0, 1536] ![256, 512] inb_S256x4096_S256x512_0_1536, cols t 3 g⟩,
      ⟨Rect.unit ![0, 1024] ![256, 512] inb_S256x4096_S256x512_0_1024, cols t 2 g⟩,
      ⟨Rect.unit ![0, 512] ![256, 512] inb_S256x4096_S256x512_0_512, cols t 1 g⟩,
      ⟨Rect.unit ![0, 0] ![256, 512] inb_S256x4096_S256x512_0_0, cols t 0 g⟩]
      (Rect.unit ![0, o] ![256, 512] h).toLoadRect = cols t q g := by
  subst ho
  rw [View.readCov_eq_canon']
  funext j
  refine (congrFun (side_by_side t g) _).trans ?_
  refine (cols_at t q hq g j _ ?_ ?_).symm
  · rw [Rect.idx_unit_val]
    exact Nat.zero_add _
  · rw [Rect.idx_unit_val]
    rfl

/-- This array is the derivative at the rows after the output projection. -/
theorem final12 (c : Dev nD) : (dats m 0 c).arrAt 12 cfg0.N = fun j : S2048x1024.Idx => (args m c).dh1 (j 0) (j 1) := by
  refine (dats m 0 c).arrAt_eq_of_covers 12 _ (by decide +kernel) fun t _ y => ?_
  blk_simp
  rw [after0_12]
  by_cases h0 : t.val % 8 = 0
  · rw [outsAt0_A m c t h0]
    frame_out
    simp only [in_x, in_mix, in_p, in_t, in_g2, in_gf, in_wo, in_wg, ld_w1, ld_w2 m c t 0 0 rfl, ld_w2 m c t 1 512 rfl, ld_w2 m c t 2 1024 rfl, ld_w2 m c t 3 1536 rfl, ld_w2 m c t 4 2048 rfl, ld_w2 m c t 5 2560 rfl, ld_w2 m c t 6 3072 rfl, ld_w2 m c t 7 3584 rfl, ld_wp]
    simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3]
    simp only [read_back t 0 0 (by decide) rfl, read_back t 1 512 (by decide) rfl, read_back t 2 1024 (by decide) rfl, read_back t 3 1536 (by decide) rfl, read_back t 4 2048 (by decide) rfl, read_back t 5 2560 (by decide) rfl, read_back t 6 3072 (by decide) rfl, read_back t 7 3584 (by decide) rfl]
    simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3]
    generalize (args m c).dh1 = g
    unfold rows row
    refine congrArg₂ g (Fin.ext ?_) (Fin.ext ?_)
    · blk_simp [where_blocks t]
    · blk_simp [where_blocks t]
  · rw [outsAt0_B m c t h0]
    frame_out
    simp only [in_x, in_mix, in_p, in_t, in_g2, in_gf, in_wo, in_wg, ld_w1, ld_w2 m c t 0 0 rfl, ld_w2 m c t 1 512 rfl, ld_w2 m c t 2 1024 rfl, ld_w2 m c t 3 1536 rfl, ld_w2 m c t 4 2048 rfl, ld_w2 m c t 5 2560 rfl, ld_w2 m c t 6 3072 rfl, ld_w2 m c t 7 3584 rfl, ld_wp]
    simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3]
    simp only [read_back t 0 0 (by decide) rfl, read_back t 1 512 (by decide) rfl, read_back t 2 1024 (by decide) rfl, read_back t 3 1536 (by decide) rfl, read_back t 4 2048 (by decide) rfl, read_back t 5 2560 (by decide) rfl, read_back t 6 3072 (by decide) rfl, read_back t 7 3584 (by decide) rfl]
    simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3]
    generalize (args m c).dh1 = g
    unfold rows row
    refine congrArg₂ g (Fin.ext ?_) (Fin.ext ?_)
    · blk_simp [where_blocks t]
    · blk_simp [where_blocks t]

/-- This array is the derivative at the mixer's rows. -/
theorem final13 (c : Dev nD) : (dats m 0 c).arrAt 13 cfg0.N = fun j : S2048x1024.Idx => (args m c).dmix (j 0) (j 1) := by
  refine (dats m 0 c).arrAt_eq_of_covers 13 _ (by decide +kernel) fun t _ y => ?_
  blk_simp
  rw [after0_13]
  by_cases h0 : t.val % 8 = 0
  · rw [outsAt0_A m c t h0]
    frame_out
    simp only [in_x, in_mix, in_p, in_t, in_g2, in_gf, in_wo, in_wg, ld_w1, ld_w2 m c t 0 0 rfl, ld_w2 m c t 1 512 rfl, ld_w2 m c t 2 1024 rfl, ld_w2 m c t 3 1536 rfl, ld_w2 m c t 4 2048 rfl, ld_w2 m c t 5 2560 rfl, ld_w2 m c t 6 3072 rfl, ld_w2 m c t 7 3584 rfl, ld_wp]
    simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3]
    simp only [read_back t 0 0 (by decide) rfl, read_back t 1 512 (by decide) rfl, read_back t 2 1024 (by decide) rfl, read_back t 3 1536 (by decide) rfl, read_back t 4 2048 (by decide) rfl, read_back t 5 2560 (by decide) rfl, read_back t 6 3072 (by decide) rfl, read_back t 7 3584 (by decide) rfl]
    simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3]
    generalize (args m c).dmix = g
    unfold rows row
    refine congrArg₂ g (Fin.ext ?_) (Fin.ext ?_)
    · blk_simp [where_blocks t]
    · blk_simp [where_blocks t]
  · rw [outsAt0_B m c t h0]
    frame_out
    simp only [in_x, in_mix, in_p, in_t, in_g2, in_gf, in_wo, in_wg, ld_w1, ld_w2 m c t 0 0 rfl, ld_w2 m c t 1 512 rfl, ld_w2 m c t 2 1024 rfl, ld_w2 m c t 3 1536 rfl, ld_w2 m c t 4 2048 rfl, ld_w2 m c t 5 2560 rfl, ld_w2 m c t 6 3072 rfl, ld_w2 m c t 7 3584 rfl, ld_wp]
    simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3]
    simp only [read_back t 0 0 (by decide) rfl, read_back t 1 512 (by decide) rfl, read_back t 2 1024 (by decide) rfl, read_back t 3 1536 (by decide) rfl, read_back t 4 2048 (by decide) rfl, read_back t 5 2560 (by decide) rfl, read_back t 6 3072 (by decide) rfl, read_back t 7 3584 (by decide) rfl]
    simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3]
    generalize (args m c).dmix = g
    unfold rows row
    refine congrArg₂ g (Fin.ext ?_) (Fin.ext ?_)
    · blk_simp [where_blocks t]
    · blk_simp [where_blocks t]

/-- This array is the normed rows. -/
theorem final14 (c : Dev nD) : (dats m 0 c).arrAt 14 cfg0.N = fun j : S2048x1024.Idx => (args m c).hn (j 0) (j 1) := by
  refine (dats m 0 c).arrAt_eq_of_covers 14 _ (by decide +kernel) fun t _ y => ?_
  blk_simp
  rw [after0_14]
  by_cases h0 : t.val % 8 = 0
  · rw [outsAt0_A m c t h0]
    frame_out
    simp only [in_x, in_mix, in_p, in_t, in_g2, in_gf, in_wo, in_wg, ld_w1, ld_w2 m c t 0 0 rfl, ld_w2 m c t 1 512 rfl, ld_w2 m c t 2 1024 rfl, ld_w2 m c t 3 1536 rfl, ld_w2 m c t 4 2048 rfl, ld_w2 m c t 5 2560 rfl, ld_w2 m c t 6 3072 rfl, ld_w2 m c t 7 3584 rfl, ld_wp]
    simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3]
    generalize (args m c).hn = g
    unfold rows row
    refine congrArg₂ g (Fin.ext ?_) (Fin.ext ?_)
    · blk_simp [where_blocks t]
    · blk_simp [where_blocks t]
  · rw [outsAt0_B m c t h0]
    frame_out
    simp only [in_x, in_mix, in_p, in_t, in_g2, in_gf, in_wo, in_wg, ld_w1, ld_w2 m c t 0 0 rfl, ld_w2 m c t 1 512 rfl, ld_w2 m c t 2 1024 rfl, ld_w2 m c t 3 1536 rfl, ld_w2 m c t 4 2048 rfl, ld_w2 m c t 5 2560 rfl, ld_w2 m c t 6 3072 rfl, ld_w2 m c t 7 3584 rfl, ld_wp]
    simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3]
    generalize (args m c).hn = g
    unfold rows row
    refine congrArg₂ g (Fin.ext ?_) (Fin.ext ?_)
    · blk_simp [where_blocks t]
    · blk_simp [where_blocks t]

/-- This array is the layer's squared inner values. -/
theorem final15 (c : Dev nD) : (dats m 0 c).arrAt 15 cfg0.N = fun j : S2048x4096.Idx => (args m c).act (j 0) (j 1) := by
  refine (dats m 0 c).arrAt_eq_of_covers 15 _ (by decide +kernel) fun t _ y => ?_
  blk_simp
  rw [after0_15]
  by_cases h0 : t.val % 8 = 0
  · rw [outsAt0_A m c t h0]
    frame_out
    simp only [in_x, in_mix, in_p, in_t, in_g2, in_gf, in_wo, in_wg, ld_w1, ld_w2 m c t 0 0 rfl, ld_w2 m c t 1 512 rfl, ld_w2 m c t 2 1024 rfl, ld_w2 m c t 3 1536 rfl, ld_w2 m c t 4 2048 rfl, ld_w2 m c t 5 2560 rfl, ld_w2 m c t 6 3072 rfl, ld_w2 m c t 7 3584 rfl, ld_wp]
    simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3]
    refine (congrFun (side_by_side' t _) y).trans ?_
    generalize (args m c).act = g
    unfold row
    refine congrArg₂ g (Fin.ext ?_) (Fin.ext ?_)
    · blk_simp [where_blocks t]
    · blk_simp [where_blocks t]
  · rw [outsAt0_B m c t h0]
    frame_out
    simp only [in_x, in_mix, in_p, in_t, in_g2, in_gf, in_wo, in_wg, ld_w1, ld_w2 m c t 0 0 rfl, ld_w2 m c t 1 512 rfl, ld_w2 m c t 2 1024 rfl, ld_w2 m c t 3 1536 rfl, ld_w2 m c t 4 2048 rfl, ld_w2 m c t 5 2560 rfl, ld_w2 m c t 6 3072 rfl, ld_w2 m c t 7 3584 rfl, ld_wp]
    simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3]
    refine (congrFun (side_by_side' t _) y).trans ?_
    generalize (args m c).act = g
    unfold row
    refine congrArg₂ g (Fin.ext ?_) (Fin.ext ?_)
    · blk_simp [where_blocks t]
    · blk_simp [where_blocks t]

/-- This array is the derivative at the layer's inner values. -/
theorem final16 (c : Dev nD) : (dats m 0 c).arrAt 16 cfg0.N = fun j : S2048x4096.Idx => (args m c).df (j 0) (j 1) := by
  refine (dats m 0 c).arrAt_eq_of_covers 16 _ (by decide +kernel) fun t _ y => ?_
  blk_simp
  rw [after0_16]
  by_cases h0 : t.val % 8 = 0
  · rw [outsAt0_A m c t h0]
    frame_out
    simp only [in_x, in_mix, in_p, in_t, in_g2, in_gf, in_wo, in_wg, ld_w1, ld_w2 m c t 0 0 rfl, ld_w2 m c t 1 512 rfl, ld_w2 m c t 2 1024 rfl, ld_w2 m c t 3 1536 rfl, ld_w2 m c t 4 2048 rfl, ld_w2 m c t 5 2560 rfl, ld_w2 m c t 6 3072 rfl, ld_w2 m c t 7 3584 rfl, ld_wp]
    simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3]
    simp only [read_back t 0 0 (by decide) rfl, read_back t 1 512 (by decide) rfl, read_back t 2 1024 (by decide) rfl, read_back t 3 1536 (by decide) rfl, read_back t 4 2048 (by decide) rfl, read_back t 5 2560 (by decide) rfl, read_back t 6 3072 (by decide) rfl, read_back t 7 3584 (by decide) rfl]
    simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3]
    refine (congrFun (side_by_side' t _) y).trans ?_
    generalize (args m c).df = g
    unfold row
    refine congrArg₂ g (Fin.ext ?_) (Fin.ext ?_)
    · blk_simp [where_blocks t]
    · blk_simp [where_blocks t]
  · rw [outsAt0_B m c t h0]
    frame_out
    simp only [in_x, in_mix, in_p, in_t, in_g2, in_gf, in_wo, in_wg, ld_w1, ld_w2 m c t 0 0 rfl, ld_w2 m c t 1 512 rfl, ld_w2 m c t 2 1024 rfl, ld_w2 m c t 3 1536 rfl, ld_w2 m c t 4 2048 rfl, ld_w2 m c t 5 2560 rfl, ld_w2 m c t 6 3072 rfl, ld_w2 m c t 7 3584 rfl, ld_wp]
    simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3]
    simp only [read_back t 0 0 (by decide) rfl, read_back t 1 512 (by decide) rfl, read_back t 2 1024 (by decide) rfl, read_back t 3 1536 (by decide) rfl, read_back t 4 2048 (by decide) rfl, read_back t 5 2560 (by decide) rfl, read_back t 6 3072 (by decide) rfl, read_back t 7 3584 (by decide) rfl]
    simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3]
    refine (congrFun (side_by_side' t _) y).trans ?_
    generalize (args m c).df = g
    unfold row
    refine congrArg₂ g (Fin.ext ?_) (Fin.ext ?_)
    · blk_simp [where_blocks t]
    · blk_simp [where_blocks t]

/-- This array is the derivative at the rows after the layer. -/
theorem final17 (c : Dev nD) : (dats m 0 c).arrAt 17 cfg0.N = fun j : S2048x1024.Idx => (args m c).dh2 (j 0) (j 1) := by
  refine (dats m 0 c).arrAt_eq_of_covers 17 _ (by decide +kernel) fun t _ y => ?_
  blk_simp
  rw [after0_17]
  by_cases h0 : t.val % 8 = 0
  · rw [outsAt0_A m c t h0]
    frame_out
    simp only [in_x, in_mix, in_p, in_t, in_g2, in_gf, in_wo, in_wg, ld_w1, ld_w2 m c t 0 0 rfl, ld_w2 m c t 1 512 rfl, ld_w2 m c t 2 1024 rfl, ld_w2 m c t 3 1536 rfl, ld_w2 m c t 4 2048 rfl, ld_w2 m c t 5 2560 rfl, ld_w2 m c t 6 3072 rfl, ld_w2 m c t 7 3584 rfl, ld_wp]
    simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3]
    generalize (args m c).dh2 = g
    unfold rows row
    refine congrArg₂ g (Fin.ext ?_) (Fin.ext ?_)
    · blk_simp [where_blocks t]
    · blk_simp [where_blocks t]
  · rw [outsAt0_B m c t h0]
    frame_out
    simp only [in_x, in_mix, in_p, in_t, in_g2, in_gf, in_wo, in_wg, ld_w1, ld_w2 m c t 0 0 rfl, ld_w2 m c t 1 512 rfl, ld_w2 m c t 2 1024 rfl, ld_w2 m c t 3 1536 rfl, ld_w2 m c t 4 2048 rfl, ld_w2 m c t 5 2560 rfl, ld_w2 m c t 6 3072 rfl, ld_w2 m c t 7 3584 rfl, ld_wp]
    simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3]
    generalize (args m c).dh2 = g
    unfold rows row
    refine congrArg₂ g (Fin.ext ?_) (Fin.ext ?_)
    · blk_simp [where_blocks t]
    · blk_simp [where_blocks t]

end Cert.KernelIdeal.Tail

end
-- ==== Proof.TailStore.lean ====
/-
  Reading what a point has stored, row by row and slab by slab, in the two arrays that it adds to one row or slab at a time.
-/
module

public import proofs.«01_k».proof.Proof.TailPoint
public import Idealize.ShloMosaic.Lib.WritesUnit

@[expose] public section

set_option maxRecDepth 16384

noncomputable section

open Idealize.ShloMosaic Idealize.ShloMosaic.TcCoe Idealize.SL.Sem
open Cert.Rows Cert.Tail

namespace Cert.KernelIdeal.Tail

open Cert.KernelIdeal Cert.KernelIdeal.Gen

/-- A slab's index in the whole array. -/
theorem slab_idx (k : ℕ) (h) (y : S8x256x128.Idx) (hk : (y 0).val = k) :
    (Rect.unit (s := S8x256x128) ![k, 0, 0] ![1, 256, 128] h).idx (ix3 0 (y 1) (y 2)) = y := by
  funext a
  refine Fin.ext ?_
  rw [Rect.idx_unit_val]
  fin_cases a
  · exact (Nat.add_zero k).trans hk.symm
  · exact Nat.zero_add _
  · exact Nat.zero_add _

/-- A slab has only its own indices. -/
theorem not_slab (k : ℕ) (h) (y : S8x256x128.Idx) (hk : (y 0).val ≠ k) :
    y ∉ (Rect.unit (s := S8x256x128) ![k, 0, 0] ![1, 256, 128] h).set := by
  intro hm
  have hx : k ≤ (y 0).val ∧ (y 0).val < k + 1 := Rect.mem_set_unit.mp hm 0
  omega

/-- After a slab was stored, the array holds it there and what it held elsewhere. -/
theorem canon_slab (k : ℕ) (h) (w : S1x256x128.Idx → EReal) (L : List (View.Piece (Elt Ideal) S8x256x128 .f32)) (y : S8x256x128.Idx) :
    View.canon (Val := Elt Ideal) (s := S8x256x128) (e := .f32) (⟨Rect.unit ![k, 0, 0] ![1, 256, 128] h, w⟩ :: L) y
      = if (y 0).val = k then w (ix3 0 (y 1) (y 2)) else View.canon L y := by
  by_cases hk : (y 0).val = k
  · rw [if_pos hk]
    conv_lhs => rw [← slab_idx k h y hk]
    exact View.canon_cons_emb _ _ _ _
  · rw [if_neg hk]
    exact View.canon_cons_of_not_mem _ _ (not_slab k h y hk)

/-- A slab read after another was stored. -/
theorem read_off_slab {κ : Kind} {sp : Space} (v : View sig κ sp S8x256x128 .f32) (k q : ℕ) (hk) (hq) (w : S1x256x128.Idx → EReal)
    (L : List (View.Piece (Elt Ideal) S8x256x128 .f32)) (hne : q ≠ k) :
    v.readCov (Val := Elt Ideal) (⟨Rect.unit ![k, 0, 0] ![1, 256, 128] hk, w⟩ :: L) (Rect.unit ![q, 0, 0] ![1, 256, 128] hq).toLoadRect
      = v.readCov (Val := Elt Ideal) L (Rect.unit ![q, 0, 0] ![1, 256, 128] hq).toLoadRect := by
  rw [View.readCov_eq_canon', View.readCov_eq_canon']
  funext j
  refine View.canon_cons_of_not_mem _ _ (not_slab k hk _ ?_)
  have hj : (j 0).val < 1 := (j 0).isLt
  show q + 1 * (j 0).val ≠ k
  omega

/-- A slab of nothing. -/
def none3 : S1x256x128.Idx → EReal := fun _ => 0

/-- The whole array when it was cleared. -/
theorem canon_clear3 (h) (y : S8x256x128.Idx) : View.canon (Val := Elt Ideal) (s := S8x256x128) (e := .f32) [⟨Rect.unit ![0, 0, 0] ![8, 256, 128] h, k0_pay6 (F := Ideal)⟩] y = 0 := by
  have e : (Rect.unit (s := S8x256x128) ![0, 0, 0] ![8, 256, 128] h).idx y = y := by
    funext a
    refine Fin.ext ?_
    rw [Rect.idx_unit_val]
    fin_cases a
    · exact Nat.zero_add _
    · exact Nat.zero_add _
    · exact Nat.zero_add _
  conv_lhs => rw [← e]
  refine (View.canon_cons_emb _ _ _ _).trans ?_
  pointwise [k0_pay6]

/-- A slab read after the whole array was cleared. -/
theorem read_clear3 {κ : Kind} {sp : Space} (v : View sig κ sp S8x256x128 .f32) (q : ℕ) (h) (hq) :
    v.readCov (Val := Elt Ideal) [⟨Rect.unit ![0, 0, 0] ![8, 256, 128] h, k0_pay6 (F := Ideal)⟩]
      (Rect.unit ![q, 0, 0] ![1, 256, 128] hq).toLoadRect = none3 := by
  rw [View.readCov_eq_canon']
  funext j
  exact canon_clear3 h _

/-- A slab of an array, at an index. -/
theorem ld_slab (X : S8x256x128.Idx → EReal) (k : ℕ) (h) (y : S8x256x128.Idx) (hk : (y 0).val = k) :
    View.ld (Val := Elt Ideal) (S := S8x256x128) (e' := .f32) X (Rect.unit ![k, 0, 0] ![1, 256, 128] h) (ix3 0 (y 1) (y 2)) = X y :=
  congrArg X (slab_idx k h y hk)

/-- A line's index in the whole array. -/
theorem line_idx (k : ℕ) (h) (y : S8x1024.Idx) (hk : (y 0).val = k) :
    (Rect.unit (s := S8x1024) ![k, 0] ![1, 1024] h).idx (ix2 0 (y 1)) = y := by
  funext a
  refine Fin.ext ?_
  rw [Rect.idx_unit_val]
  fin_cases a
  · exact (Nat.add_zero k).trans hk.symm
  · exact Nat.zero_add _

/-- A line has only its own indices. -/
theorem not_line (k : ℕ) (h) (y : S8x1024.Idx) (hk : (y 0).val ≠ k) :
    y ∉ (Rect.unit (s := S8x1024) ![k, 0] ![1, 1024] h).set := by
  intro hm
  have hx : k ≤ (y 0).val ∧ (y 0).val < k + 1 := Rect.mem_set_unit.mp hm 0
  omega

/-- After a line was stored, the array holds it there and what it held elsewhere. -/
theorem canon_line (k : ℕ) (h) (w : S1x1024.Idx → EReal) (L : List (View.Piece (Elt Ideal) S8x1024 .f32)) (y : S8x1024.Idx) :
    View.canon (Val := Elt Ideal) (s := S8x1024) (e := .f32) (⟨Rect.unit ![k, 0] ![1, 1024] h, w⟩ :: L) y
      = if (y 0).val = k then w (ix2 0 (y 1)) else View.canon L y := by
  by_cases hk : (y 0).val = k
  · rw [if_pos hk]
    conv_lhs => rw [← line_idx k h y hk]
    exact View.canon_cons_emb _ _ _ _
  · rw [if_neg hk]
    exact View.canon_cons_of_not_mem _ _ (not_line k h y hk)

/-- A line read after another was stored. -/
theorem read_off_line {κ : Kind} {sp : Space} (v : View sig κ sp S8x1024 .f32) (k q : ℕ) (hk) (hq) (w : S1x1024.Idx → EReal)
    (L : List (View.Piece (Elt Ideal) S8x1024 .f32)) (hne : q ≠ k) :
    v.readCov (Val := Elt Ideal) (⟨Rect.unit ![k, 0] ![1, 1024] hk, w⟩ :: L) (Rect.unit ![q, 0] ![1, 1024] hq).toLoadRect
      = v.readCov (Val := Elt Ideal) L (Rect.unit ![q, 0] ![1, 1024] hq).toLoadRect := by
  rw [View.readCov_eq_canon', View.readCov_eq_canon']
  funext j
  refine View.canon_cons_of_not_mem _ _ (not_line k hk _ ?_)
  have hj : (j 0).val < 1 := (j 0).isLt
  show q + 1 * (j 0).val ≠ k
  omega

/-- A line of nothing. -/
def none2 : S1x1024.Idx → EReal := fun _ => 0

/-- The whole array when it was cleared. -/
theorem canon_clear2 (h) (y : S8x1024.Idx) : View.canon (Val := Elt Ideal) (s := S8x1024) (e := .f32) [⟨Rect.unit ![0, 0] ![8, 1024] h, k0_pay4 (F := Ideal)⟩] y = 0 := by
  have e : (Rect.unit (s := S8x1024) ![0, 0] ![8, 1024] h).idx y = y := by
    funext a
    refine Fin.ext ?_
    rw [Rect.idx_unit_val]
    fin_cases a
    · exact Nat.zero_add _
    · exact Nat.zero_add _
  conv_lhs => rw [← e]
  refine (View.canon_cons_emb _ _ _ _).trans ?_
  pointwise [k0_pay4]

/-- A line read after the whole array was cleared. -/
theorem read_clear2 {κ : Kind} {sp : Space} (v : View sig κ sp S8x1024 .f32) (q : ℕ) (h) (hq) :
    v.readCov (Val := Elt Ideal) [⟨Rect.unit ![0, 0] ![8, 1024] h, k0_pay4 (F := Ideal)⟩]
      (Rect.unit ![q, 0] ![1, 1024] hq).toLoadRect = none2 := by
  rw [View.readCov_eq_canon']
  funext j
  exact canon_clear2 h _

/-- A line of an array, at an index. -/
theorem ld_line (X : S8x1024.Idx → EReal) (k : ℕ) (h) (y : S8x1024.Idx) (hk : (y 0).val = k) :
    View.ld (Val := Elt Ideal) (S := S8x1024) (e' := .f32) X (Rect.unit ![k, 0] ![1, 1024] h) (ix2 0 (y 1)) = X y :=
  congrArg X (line_idx k h y hk)

/-- After a line was stored over what an array held, the array holds it there and what it held elsewhere. -/
theorem over_line {κ : Kind} {sp : Space} (v : View sig κ sp S8x1024 .f32) (f : v.ty.Contents (Elt Ideal)) (k : ℕ) (h) (w : S1x1024.Idx → EReal)
    (L : List (View.Piece (Elt Ideal) S8x1024 .f32)) (y : S8x1024.Idx) :
    v.read (Elt Ideal) (v.writes (Elt Ideal) f (⟨Rect.unit ![k, 0] ![1, 1024] h, w⟩ :: L)) y
      = if (y 0).val = k then w (ix2 0 (y 1)) else v.read (Elt Ideal) (v.writes (Elt Ideal) f L) y := by
  by_cases hk : (y 0).val = k
  · rw [if_pos hk]
    refine View.read_writes_cons_unit_of_mem v f h w L y (ix2 0 (y 1)) rfl fun a => ?_
    fin_cases a
    · exact hk
    · exact (Nat.zero_add _).symm
  · rw [if_neg hk]
    refine View.read_writes_cons_unit_of_not_mem v f h w L y rfl 0 ?_
    show (y 0).val < k ∨ k + 1 ≤ (y 0).val
    omega

variable (A : Cert.Tail.Args) (t : Fin cfg0.N)

/-- A point's part of slab `q` of the projection weight's gradient, added to what the slab held. -/
def slab (q : ℕ) (a : S1x256x128.Idx → EReal) : S1x256x128.Idx → EReal :=
  fun z => a z + ∑ r : Fin 256, A.p (row t r) (z 1) * A.dpp (row t r) (co q (z 2))

/-- The eight slabs, put together. -/
theorem eight_slabs (a0 a1 a2 a3 a4 a5 a6 a7 : S1x256x128.Idx → EReal) (h0) (h1) (h2) (h3) (h4) (h5) (h6) (h7)
    (L : List (View.Piece (Elt Ideal) S8x256x128 .f32)) (y : S8x256x128.Idx) (X : EReal)
    (x0 : (y 0).val = 0 → a0 (ix3 0 (y 1) (y 2)) = X)
    (x1 : (y 0).val = 1 → a1 (ix3 0 (y 1) (y 2)) = X)
    (x2 : (y 0).val = 2 → a2 (ix3 0 (y 1) (y 2)) = X)
    (x3 : (y 0).val = 3 → a3 (ix3 0 (y 1) (y 2)) = X)
    (x4 : (y 0).val = 4 → a4 (ix3 0 (y 1) (y 2)) = X)
    (x5 : (y 0).val = 5 → a5 (ix3 0 (y 1) (y 2)) = X)
    (x6 : (y 0).val = 6 → a6 (ix3 0 (y 1) (y 2)) = X)
    (x7 : (y 0).val = 7 → a7 (ix3 0 (y 1) (y 2)) = X) :
    View.canon (Val := Elt Ideal) (s := S8x256x128) (e := .f32)
      (⟨Rect.unit ![7, 0, 0] ![1, 256, 128] h7, slab A t 7 a7⟩ :: ⟨Rect.unit ![6, 0, 0] ![1, 256, 128] h6, slab A t 6 a6⟩ :: ⟨Rect.unit ![5, 0, 0] ![1, 256, 128] h5, slab A t 5 a5⟩ :: ⟨Rect.unit ![4, 0, 0] ![1, 256, 128] h4, slab A t 4 a4⟩ :: ⟨Rect.unit ![3, 0, 0] ![1, 256, 128] h3, slab A t 3 a3⟩ :: ⟨Rect.unit ![2, 0, 0] ![1, 256, 128] h2, slab A t 2 a2⟩ :: ⟨Rect.unit ![1, 0, 0] ![1, 256, 128] h1, slab A t 1 a1⟩ :: ⟨Rect.unit ![0, 0, 0] ![1, 256, 128] h0, slab A t 0 a0⟩ :: L) y
      = X + ∑ r : Fin 256, A.p (row t r) (y 1) * A.dpp (row t r) (col (y 0) (y 2)) := by
  have hc : ∀ q : ℕ, (y 0).val = q → q < 8 → co q (y 2) = col (y 0) (y 2) := fun q hq hq8 =>
    Fin.ext ((co_val hq8 _).trans (congrArg (· * 128 + (y 2).val) hq.symm))
  have hy : (y 0).val < 8 := (y 0).isLt
  simp only [canon_slab]
  by_cases e7 : (y 0).val = 7
  · rw [if_pos e7, ← x7 e7, ← hc 7 e7 (by decide)]
    rfl
  rw [if_neg e7]
  by_cases e6 : (y 0).val = 6
  · rw [if_pos e6, ← x6 e6, ← hc 6 e6 (by decide)]
    rfl
  rw [if_neg e6]
  by_cases e5 : (y 0).val = 5
  · rw [if_pos e5, ← x5 e5, ← hc 5 e5 (by decide)]
    rfl
  rw [if_neg e5]
  by_cases e4 : (y 0).val = 4
  · rw [if_pos e4, ← x4 e4, ← hc 4 e4 (by decide)]
    rfl
  rw [if_neg e4]
  by_cases e3 : (y 0).val = 3
  · rw [if_pos e3, ← x3 e3, ← hc 3 e3 (by decide)]
    rfl
  rw [if_neg e3]
  by_cases e2 : (y 0).val = 2
  · rw [if_pos e2, ← x2 e2, ← hc 2 e2 (by decide)]
    rfl
  rw [if_neg e2]
  by_cases e1 : (y 0).val = 1
  · rw [if_pos e1, ← x1 e1, ← hc 1 e1 (by decide)]
    rfl
  rw [if_neg e1]
  by_cases e0 : (y 0).val = 0
  · rw [if_pos e0, ← x0 e0, ← hc 0 e0 (by decide)]
    rfl
  rw [if_neg e0]
  omega
/-- What the point stores in slab 0. -/
theorem slab0 (a : S1x256x128.Idx → EReal) : k0_pay62 (F := Ideal) (rows t A.gate) (narrow t A.p) (rows t A.h3) (ones t A.rf) (gain A.gf) (rows t A.dy) a = slab A t 0 a := pay62 t A a

/-- What the point stores in slab 1. -/
theorem slab1 (a : S1x256x128.Idx → EReal) : k0_pay63 (F := Ideal) (rows t A.gate) (narrow t A.p) (rows t A.h3) (ones t A.rf) (gain A.gf) (rows t A.dy) a = slab A t 1 a := pay63 t A a

/-- What the point stores in slab 2. -/
theorem slab2 (a : S1x256x128.Idx → EReal) : k0_pay64 (F := Ideal) (wide A t) a = slab A t 2 a := pay64 t A a

/-- What the point stores in slab 3. -/
theorem slab3 (a : S1x256x128.Idx → EReal) : k0_pay65 (F := Ideal) (wide A t) a = slab A t 3 a := pay65 t A a

/-- What the point stores in slab 4. -/
theorem slab4 (a : S1x256x128.Idx → EReal) : k0_pay66 (F := Ideal) (wide A t) a = slab A t 4 a := pay66 t A a

/-- What the point stores in slab 5. -/
theorem slab5 (a : S1x256x128.Idx → EReal) : k0_pay67 (F := Ideal) (wide A t) a = slab A t 5 a := pay67 t A a

/-- What the point stores in slab 6. -/
theorem slab6 (a : S1x256x128.Idx → EReal) : k0_pay68 (F := Ideal) (wide A t) a = slab A t 6 a := pay68 t A a

/-- What the point stores in slab 7. -/
theorem slab7 (a : S1x256x128.Idx → EReal) : k0_pay69 (F := Ideal) (wide A t) a = slab A t 7 a := pay69 t A a

/-- A point's part of one of the small array's lines, added to what the line held. -/
def line (g : Fin 2048 → Fin 1024 → EReal) (a : S1x1024.Idx → EReal) : S1x1024.Idx → EReal :=
  fun z => a z + ∑ r : Fin 256, g (row t r) (z 1)

/-- One row's part of the small array. -/
def tiny (i : Fin 2048) (s : Fin 8) (k : Fin 1024) : EReal :=
  if s.val = 0 then A.partG2 i k else if s.val = 1 then A.partGf i k else if s.val = 2 then A.lossRow i else 0

/-- The rows' parts add up to the small array. -/
theorem small_sum (s : Fin 8) (k : Fin 1024) : A.small s k = ∑ i, tiny A i s k := by
  unfold Cert.Tail.Args.small tiny
  split_ifs
  · rfl
  · rfl
  · rfl
  · exact Finset.sum_const_zero.symm

/-- What the point stores in the first line. -/
theorem line0 (a : S1x1024.Idx → EReal) : k0_pay91 (F := Ideal) (ones t A.r1) (rows t (A.dpart 7)) (prod A t 7) (cols t 7 A.pos) (Scalar.ofBits .f32 0x40000000#32 : Ideal .f32) (w1b A 7) (rows t A.h1) a = line t A.partG2 a := pay91 t A a

/-- In the second. -/
theorem line1 (a : S1x1024.Idx → EReal) : k0_pay59 (F := Ideal) (rows t A.h3) (ones t A.rf) (rows t A.dy) a = line t A.partGf a := pay59 t A a

/-- In the third. -/
theorem line2 (a : S1x1024.Idx → EReal) : k0_pay57 (F := Ideal) (rows t A.h2) (rows t A.gate) (narrow t A.p) (ppb A t 0) (ppb A t 1) (ppb A t 2) (ppb A t 3) (ppb A t 4) (ppb A t 5) (wpm A 6) (wpb A 7) (gain A.gf) (rows t A.t) a = line t (fun i _ => A.lossRow i) a := pay57 t A a

/-- The three lines over what the array held. -/
theorem three_lines (a0 a1 a2 : S1x1024.Idx → EReal) (y : S8x1024.Idx) (X rest : EReal)
    (x0 : (y 0).val = 0 → a0 (ix2 0 (y 1)) = X) (x1 : (y 0).val = 1 → a1 (ix2 0 (y 1)) = X)
    (x2 : (y 0).val = 2 → a2 (ix2 0 (y 1)) = X) (x3 : rest = X) :
    (if (y 0).val = 0 then line t A.partG2 a0 (ix2 0 (y 1)) else if (y 0).val = 1 then line t A.partGf a1 (ix2 0 (y 1))
        else if (y 0).val = 2 then line t (fun i _ => A.lossRow i) a2 (ix2 0 (y 1)) else rest)
      = X + ∑ r : Fin 256, tiny A (row t r) (y 0) (y 1) := by
  unfold tiny
  by_cases e0 : (y 0).val = 0
  · simp only [if_pos e0, ← x0 e0]
    rfl
  simp only [if_neg e0]
  by_cases e1 : (y 0).val = 1
  · simp only [if_pos e1, ← x1 e1]
    rfl
  simp only [if_neg e1]
  by_cases e2 : (y 0).val = 2
  · simp only [if_pos e2, ← x2 e2]
    rfl
  simp only [if_neg e2]
  rw [Finset.sum_const_zero, add_zero, x3]

end Cert.KernelIdeal.Tail

end
-- ==== Proof.TailAcc.lean ====
/-
  The kernel's four arrays that are added up over the grid's points: the weights' gradients, and the small array with the gains'
  gradients and the loss.
-/
module

public import proofs.«01_k».proof.Proof.TailOut
public import proofs.«01_k».proof.Proof.TailStore

@[expose] public section

set_option maxRecDepth 16384

noncomputable section

open Idealize.ShloMosaic Idealize.ShloMosaic.TcCoe Idealize.SL.Sem
open Idealize.ShloMosaic.Pipeline (Dat)
open Cert.Rows Cert.Tail

namespace Cert.KernelIdeal.Tail

open Cert.KernelIdeal Cert.KernelIdeal.Gen

variable (m : (ℓ : Loc nD τ sig) → Buf (Elt Ideal) ℓ)

/-- This array is the output projection's gradient. -/
theorem final18 (c : Dev nD) : (dats m 0 c).arrAt 18 cfg0.N = fun j : S1024x1024.Idx => ∑ i : Fin 2048, (args m c).mix i (j 0) * (args m c).dh1 i (j 1) := by
  refine (dats m 0 c).arrAt_eq_of_after_last 18 t0_7 (by decide +kernel) _ fun j => ?_
  blk_simp
  rw [after0_18, Pipeline.eq_sum_fin_of_reset_step_apply_last (fun n h => (outsAt0 m c n h).2.2.2.2.2.2.2.1) 8 (fun _ => (0 : EReal))
    (fun t j => ∑ r : Fin 256, (args m c).mix (row t r) (j 0) * (args m c).dh1 (row t r) (j 1))
    (fun t h j => by
      rw [outsAt0_A m c t h]
      frame_out
      simp only [in_x, in_mix, in_p, in_t, in_g2, in_gf, in_wo, in_wg, ld_w1, ld_w2 m c t 0 0 rfl, ld_w2 m c t 1 512 rfl, ld_w2 m c t 2 1024 rfl, ld_w2 m c t 3 1536 rfl, ld_w2 m c t 4 2048 rfl, ld_w2 m c t 5 2560 rfl, ld_w2 m c t 6 3072 rfl, ld_w2 m c t 7 3584 rfl, ld_wp]
      simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3, pay61]
      simp only [read_back t 0 0 (by decide) rfl, read_back t 1 512 (by decide) rfl, read_back t 2 1024 (by decide) rfl, read_back t 3 1536 (by decide) rfl, read_back t 4 2048 (by decide) rfl, read_back t 5 2560 (by decide) rfl, read_back t 6 3072 (by decide) rfl, read_back t 7 3584 (by decide) rfl]
      simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3, pay61]
      refine (congrFun (pay2 t (args m c) _) j).trans (congrArg (· + _) ?_)
      pointwise [k0_pay5])
    (fun t h j => by
      rw [outsAt0_B m c t h]
      frame_out
      simp only [in_x, in_mix, in_p, in_t, in_g2, in_gf, in_wo, in_wg, ld_w1, ld_w2 m c t 0 0 rfl, ld_w2 m c t 1 512 rfl, ld_w2 m c t 2 1024 rfl, ld_w2 m c t 3 1536 rfl, ld_w2 m c t 4 2048 rfl, ld_w2 m c t 5 2560 rfl, ld_w2 m c t 6 3072 rfl, ld_w2 m c t 7 3584 rfl, ld_wp]
      simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3, pay61]
      simp only [read_back t 0 0 (by decide) rfl, read_back t 1 512 (by decide) rfl, read_back t 2 1024 (by decide) rfl, read_back t 3 1536 (by decide) rfl, read_back t 4 2048 (by decide) rfl, read_back t 5 2560 (by decide) rfl, read_back t 6 3072 (by decide) rfl, read_back t 7 3584 (by decide) rfl]
      simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3, pay61]
      exact congrFun (pay2 t (args m c) _) j)
    (le_of_eq N_0) t0_7 rfl _, zero_add]
  refine Fin.sum_mul_add_congr (L := 2048) (S := 8) (n := 256) fun s k hl => ?_
  rfl

/-- This array is the gate's gradient. -/
theorem final20 (c : Dev nD) : (dats m 0 c).arrAt 20 cfg0.N = fun j : S1024x1024.Idx => ∑ i : Fin 2048, (args m c).h2 i (j 0) * (args m c).dgl i (j 1) := by
  refine (dats m 0 c).arrAt_eq_of_after_last 20 t0_7 (by decide +kernel) _ fun j => ?_
  blk_simp
  rw [after0_20, Pipeline.eq_sum_fin_of_reset_step_apply_last (fun n h => (outsAt0 m c n h).2.2.2.2.2.2.2.2.2) 8 (fun _ => (0 : EReal))
    (fun t j => ∑ r : Fin 256, (args m c).h2 (row t r) (j 0) * (args m c).dgl (row t r) (j 1))
    (fun t h j => by
      rw [outsAt0_A m c t h]
      frame_out
      simp only [in_x, in_mix, in_p, in_t, in_g2, in_gf, in_wo, in_wg, ld_w1, ld_w2 m c t 0 0 rfl, ld_w2 m c t 1 512 rfl, ld_w2 m c t 2 1024 rfl, ld_w2 m c t 3 1536 rfl, ld_w2 m c t 4 2048 rfl, ld_w2 m c t 5 2560 rfl, ld_w2 m c t 6 3072 rfl, ld_w2 m c t 7 3584 rfl, ld_wp]
      simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3, pay61]
      refine (congrFun (pay71 t (args m c) _) j).trans (congrArg (· + _) ?_)
      pointwise [k0_pay7])
    (fun t h j => by
      rw [outsAt0_B m c t h]
      frame_out
      simp only [in_x, in_mix, in_p, in_t, in_g2, in_gf, in_wo, in_wg, ld_w1, ld_w2 m c t 0 0 rfl, ld_w2 m c t 1 512 rfl, ld_w2 m c t 2 1024 rfl, ld_w2 m c t 3 1536 rfl, ld_w2 m c t 4 2048 rfl, ld_w2 m c t 5 2560 rfl, ld_w2 m c t 6 3072 rfl, ld_w2 m c t 7 3584 rfl, ld_wp]
      simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3, pay61]
      exact congrFun (pay71 t (args m c) _) j)
    (le_of_eq N_0) t0_7 rfl _, zero_add]
  refine Fin.sum_mul_add_congr (L := 2048) (S := 8) (n := 256) fun s k hl => ?_
  rfl

/-- A point whose number is no multiple of 8 adds its part to what this array held; the first clears it before. -/
theorem step19 (c : Dev nD) (t : Fin cfg0.N) (j : S8x256x128.Idx) :
    ((h : t.val % 8 = 0) → (outsAt0 m c t.val t.isLt).2.2.2.2.2.2.2.2.1 j = 0 + ∑ r : Fin 256, (args m c).p (row t r) (j 1) * (args m c).dpp (row t r) (col (j 0) (j 2)))
      ∧ ((h : ¬ t.val % 8 = 0) → (outsAt0 m c t.val t.isLt).2.2.2.2.2.2.2.2.1 j
          = (outsAt0 m c (t.val - 1) (lt_of_le_of_lt (Nat.sub_le _ _) t.isLt)).2.2.2.2.2.2.2.2.1 j + ∑ r : Fin 256, (args m c).p (row t r) (j 1) * (args m c).dpp (row t r) (col (j 0) (j 2))) := by
  constructor
  · intro h
    rw [outsAt0_A m c t h]
    frame_out
    simp only [in_x, in_mix, in_p, in_t, in_g2, in_gf, in_wo, in_wg, ld_w1, ld_w2 m c t 0 0 rfl, ld_w2 m c t 1 512 rfl, ld_w2 m c t 2 1024 rfl, ld_w2 m c t 3 1536 rfl, ld_w2 m c t 4 2048 rfl, ld_w2 m c t 5 2560 rfl, ld_w2 m c t 6 3072 rfl, ld_w2 m c t 7 3584 rfl, ld_wp]
    simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3, pay61]
    simp (config := {decide := true}) only [slab0, slab1, slab2, slab3, slab4, slab5, slab6, slab7, read_clear3, read_off_slab, ne_eq, not_false_eq_true]
    refine eight_slabs (args m c) t _ _ _ _ _ _ _ _ _ _ _ _ _ _ _ _ _ j 0 ?_ ?_ ?_ ?_ ?_ ?_ ?_ ?_ <;> exact fun _ => rfl
  · intro h
    rw [outsAt0_B m c t h]
    frame_out
    simp only [in_x, in_mix, in_p, in_t, in_g2, in_gf, in_wo, in_wg, ld_w1, ld_w2 m c t 0 0 rfl, ld_w2 m c t 1 512 rfl, ld_w2 m c t 2 1024 rfl, ld_w2 m c t 3 1536 rfl, ld_w2 m c t 4 2048 rfl, ld_w2 m c t 5 2560 rfl, ld_w2 m c t 6 3072 rfl, ld_w2 m c t 7 3584 rfl, ld_wp]
    simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3, pay61]
    simp only [slab0, slab1, slab2, slab3, slab4, slab5, slab6, slab7]
    refine eight_slabs (args m c) t _ _ _ _ _ _ _ _ _ _ _ _ _ _ _ _ _ j _ ?_ ?_ ?_ ?_ ?_ ?_ ?_ ?_
    · exact ld_slab _ 0 _ j
    · exact ld_slab _ 1 _ j
    · exact ld_slab _ 2 _ j
    · exact ld_slab _ 3 _ j
    · exact ld_slab _ 4 _ j
    · exact ld_slab _ 5 _ j
    · exact ld_slab _ 6 _ j
    · exact ld_slab _ 7 _ j

/-- This array is the projection's gradient. -/
theorem final19 (c : Dev nD) : (dats m 0 c).arrAt 19 cfg0.N = fun j : S8x256x128.Idx => ∑ i : Fin 2048, (args m c).p i (j 1) * (args m c).dpp i (col (j 0) (j 2)) := by
  refine (dats m 0 c).arrAt_eq_of_after_last 19 t0_7 (by decide +kernel) _ fun j => ?_
  blk_simp
  rw [after0_19, Pipeline.eq_sum_fin_of_reset_step_apply_last (fun n h => (outsAt0 m c n h).2.2.2.2.2.2.2.2.1) 8 (fun _ => (0 : EReal))
    (fun t j => ∑ r : Fin 256, (args m c).p (row t r) (j 1) * (args m c).dpp (row t r) (col (j 0) (j 2)))
    (fun t h j => (step19 m c t j).1 h)
    (fun t h j => (step19 m c t j).2 h)
    (le_of_eq N_0) t0_7 rfl _, zero_add]
  refine Fin.sum_mul_add_congr (L := 2048) (S := 8) (n := 256) fun s k hl => ?_
  rfl

/-- A point whose number is no multiple of 8 adds its part to what this array held; the first clears it before. -/
theorem step11 (c : Dev nD) (t : Fin cfg0.N) (j : S8x1024.Idx) :
    ((h : t.val % 8 = 0) → (outsAt0 m c t.val t.isLt).1 j = 0 + ∑ r : Fin 256, tiny (args m c) (row t r) (j 0) (j 1))
      ∧ ((h : ¬ t.val % 8 = 0) → (outsAt0 m c t.val t.isLt).1 j
          = (outsAt0 m c (t.val - 1) (lt_of_le_of_lt (Nat.sub_le _ _) t.isLt)).1 j + ∑ r : Fin 256, tiny (args m c) (row t r) (j 0) (j 1)) := by
  constructor
  · intro h
    rw [outsAt0_A m c t h]
    frame_out
    simp only [in_x, in_mix, in_p, in_t, in_g2, in_gf, in_wo, in_wg, ld_w1, ld_w2 m c t 0 0 rfl, ld_w2 m c t 1 512 rfl, ld_w2 m c t 2 1024 rfl, ld_w2 m c t 3 1536 rfl, ld_w2 m c t 4 2048 rfl, ld_w2 m c t 5 2560 rfl, ld_w2 m c t 6 3072 rfl, ld_w2 m c t 7 3584 rfl, ld_wp]
    simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3, pay61]
    simp only [read_back t 0 0 (by decide) rfl, read_back t 1 512 (by decide) rfl, read_back t 2 1024 (by decide) rfl, read_back t 3 1536 (by decide) rfl, read_back t 4 2048 (by decide) rfl, read_back t 5 2560 (by decide) rfl, read_back t 6 3072 (by decide) rfl, read_back t 7 3584 (by decide) rfl]
    simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3, pay61]
    simp (config := {decide := true}) only [line0, line1, line2, read_clear2, read_off_line, ne_eq, not_false_eq_true, canon_line, canon_clear2]
    exact three_lines (args m c) t _ _ _ j 0 0 (fun _ => rfl) (fun _ => rfl) (fun _ => rfl) rfl
  · intro h
    rw [outsAt0_B m c t h]
    frame_out
    simp only [in_x, in_mix, in_p, in_t, in_g2, in_gf, in_wo, in_wg, ld_w1, ld_w2 m c t 0 0 rfl, ld_w2 m c t 1 512 rfl, ld_w2 m c t 2 1024 rfl, ld_w2 m c t 3 1536 rfl, ld_w2 m c t 4 2048 rfl, ld_w2 m c t 5 2560 rfl, ld_w2 m c t 6 3072 rfl, ld_w2 m c t 7 3584 rfl, ld_wp]
    simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3, pay61]
    simp only [read_back t 0 0 (by decide) rfl, read_back t 1 512 (by decide) rfl, read_back t 2 1024 (by decide) rfl, read_back t 3 1536 (by decide) rfl, read_back t 4 2048 (by decide) rfl, read_back t 5 2560 (by decide) rfl, read_back t 6 3072 (by decide) rfl, read_back t 7 3584 (by decide) rfl]
    simp only [pay8, pay9, pay13, pay16, pay22, pay25, pay30, pay33, pay37, pay88, pay10, pay11, pay12, pay14, pay15, pay18, pay19, pay20, pay21, pay23, pay24, pay27, pay28, pay29, pay31, pay32, pay35, pay36, pay39, pay40, pay41, pay17, pay26, pay34, pay38, pay42, pay43, pay44, pay45, pay46, pay47, pay48, pay49, pay50, pay51, pay52, pay53, pay54, pay55, pay56, pay58, pay60, pay70, pay72, pay73, pay74 t (args m c), pay75, pay76, pay77, pay78, pay79, pay80, pay81, pay82, pay83, pay84, pay85, pay86, pay87, pay89, pay90, pay92, pay3, pay61]
    simp only [line0, line1, line2, over_line]
    refine three_lines (args m c) t _ _ _ j _ _ (ld_line _ 0 _ j) (ld_line _ 1 _ j) (ld_line _ 2 _ j) ?_
    exact congrFun (Memref.IsWhole.read_unread _ _) j

/-- This array is the two gains' gradients and the loss. -/
theorem final11 (c : Dev nD) : (dats m 0 c).arrAt 11 cfg0.N = fun j : S8x1024.Idx => (args m c).small (j 0) (j 1) := by
  refine (dats m 0 c).arrAt_eq_of_after_last 11 t0_7 (by decide +kernel) _ fun j => ?_
  blk_simp
  rw [after0_11, Pipeline.eq_sum_fin_of_reset_step_apply_last (fun n h => (outsAt0 m c n h).1) 8 (fun _ => (0 : EReal))
    (fun t j => ∑ r : Fin 256, tiny (args m c) (row t r) (j 0) (j 1))
    (fun t h j => (step11 m c t j).1 h)
    (fun t h j => (step11 m c t j).2 h)
    (le_of_eq N_0) t0_7 rfl _, zero_add]
  refine Eq.trans ?_ (small_sum (args m c) _ _).symm
  refine Fin.sum_mul_add_congr (L := 2048) (S := 8) (n := 256) fun s k hl => ?_
  rfl

end Cert.KernelIdeal.Tail

end
-- ==== Proof.Tail.lean ====
/-
  The tail of the step: the kernel and the reference end with the same ten arrays.
-/
module

public import proofs.«01_k».proof.Proof.TailRef
public import proofs.«01_k».proof.Proof.TailAcc

@[expose] public section

set_option maxRecDepth 16384

noncomputable section

open Idealize.ShloMosaic Idealize.ShloMosaic.TcCoe Idealize.SL.Sem

/-- The kernel's arguments and the reference's, when they agree, are the same matrices. -/
theorem Cert.Tail.args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.Tail.args (StableHlo.launchContents m' c) = Cert.KernelIdeal.Tail.args m c := by
  have e0 : StableHlo.launchContents m' c (Proc.devRef .tc Cert.ReferenceIdeal.main_arg0) = m ((c.tc : Thread Cert.KernelIdeal.nD Cert.KernelIdeal.τ).loc Cert.KernelIdeal.main_arg0) := h0
  have e1 : StableHlo.launchContents m' c (Proc.devRef .tc Cert.ReferenceIdeal.main_arg1) = m ((c.tc : Thread Cert.KernelIdeal.nD Cert.KernelIdeal.τ).loc Cert.KernelIdeal.main_arg1) := h1
  have e2 : StableHlo.launchContents m' c (Proc.devRef .tc Cert.ReferenceIdeal.main_arg2) = m ((c.tc : Thread Cert.KernelIdeal.nD Cert.KernelIdeal.τ).loc Cert.KernelIdeal.main_arg2) := h2
  have e3 : StableHlo.launchContents m' c (Proc.devRef .tc Cert.ReferenceIdeal.main_arg3) = m ((c.tc : Thread Cert.KernelIdeal.nD Cert.KernelIdeal.τ).loc Cert.KernelIdeal.main_arg3) := h3
  have e4 : StableHlo.launchContents m' c (Proc.devRef .tc Cert.ReferenceIdeal.main_arg4) = m ((c.tc : Thread Cert.KernelIdeal.nD Cert.KernelIdeal.τ).loc Cert.KernelIdeal.main_arg4) := h4
  have e5 : StableHlo.launchContents m' c (Proc.devRef .tc Cert.ReferenceIdeal.main_arg5) = m ((c.tc : Thread Cert.KernelIdeal.nD Cert.KernelIdeal.τ).loc Cert.KernelIdeal.main_arg5) := h5
  have e6 : StableHlo.launchContents m' c (Proc.devRef .tc Cert.ReferenceIdeal.main_arg6) = m ((c.tc : Thread Cert.KernelIdeal.nD Cert.KernelIdeal.τ).loc Cert.KernelIdeal.main_arg6) := h6
  have e7 : StableHlo.launchContents m' c (Proc.devRef .tc Cert.ReferenceIdeal.main_arg7) = m ((c.tc : Thread Cert.KernelIdeal.nD Cert.KernelIdeal.τ).loc Cert.KernelIdeal.main_arg7) := h7
  have e8 : StableHlo.launchContents m' c (Proc.devRef .tc Cert.ReferenceIdeal.main_arg8) = m ((c.tc : Thread Cert.KernelIdeal.nD Cert.KernelIdeal.τ).loc Cert.KernelIdeal.main_arg8) := h8
  have e9 : StableHlo.launchContents m' c (Proc.devRef .tc Cert.ReferenceIdeal.main_arg9) = m ((c.tc : Thread Cert.KernelIdeal.nD Cert.KernelIdeal.τ).loc Cert.KernelIdeal.main_arg9) := h9
  have e10 : StableHlo.launchContents m' c (Proc.devRef .tc Cert.ReferenceIdeal.main_arg10) = m ((c.tc : Thread Cert.KernelIdeal.nD Cert.KernelIdeal.τ).loc Cert.KernelIdeal.main_arg10) := h10
  unfold Cert.ReferenceIdeal.Tail.args Cert.KernelIdeal.Tail.args
  rw [e0, e1, e2, e3, e4, e5, e6, e7, e8, e9, e10]

/-- The kernel and the reference end with the same ten arrays and leave their arguments alone. -/
theorem Cert.Proof.tail_value :
    Cert.algebraic_KernelIdeal_ReferenceIdeal (hKernelIdeal := Cert.KernelIdeal.Gen.facts) (hReferenceIdeal := Cert.ReferenceIdeal.Gen.facts) := by
  intro m ρ m' ρ' _ hagree
  refine ⟨_, _, _, _, _, _, _, _, _, _, (θ_run _ _ _).mono (fun r h c => h c) (Cert.KernelIdeal.Value.run_blocks m ρ), ?_⟩
  have ha : ∀ c : Dev Cert.KernelIdeal.nD, Cert.ReferenceIdeal.Tail.args (StableHlo.launchContents m' c) = Cert.KernelIdeal.Tail.args m c := fun c =>
    Cert.Tail.args_eq m m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2
  refine (θ_run Cert.ReferenceIdeal.defs _ _).mono
    (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2⟩) (Cert.ReferenceIdeal.Tail.run_values m' ρ')
  · rw [Cert.KernelIdeal.Tail.final11 m c, ha c]
  · rw [Cert.KernelIdeal.Tail.final12 m c, ha c]
  · rw [Cert.KernelIdeal.Tail.final13 m c, ha c]
  · rw [Cert.KernelIdeal.Tail.final14 m c, ha c]
  · rw [Cert.KernelIdeal.Tail.final15 m c, ha c]
  · rw [Cert.KernelIdeal.Tail.final16 m c, ha c]
  · rw [Cert.KernelIdeal.Tail.final17 m c, ha c]
  · rw [Cert.KernelIdeal.Tail.final18 m c, ha c]
  · rw [Cert.KernelIdeal.Tail.final19 m c, ha c]
  · rw [Cert.KernelIdeal.Tail.final20 m c, ha c]

end
-- ==== Proof.InProj.lean ====
/-
  The layer's first norm and its input product, block of rows after block of rows: the value of program 7.
-/
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel2Ideal.InProj

open Cert.Kernel2Ideal Cert.Kernel2Ideal.Gen

/-- A row of `x` over its root mean square, times the gain. -/
def normed (x : FVec Ideal S2048x1024 .f32) (g : FVec Ideal S1x1024 .f32) (i : Fin 2048) (k : Fin 1024) : EReal :=
  x (ix2 i k)
    * Ideal.rsqrt (Ideal.div (∑ l : Fin 1024, x (ix2 i l) * x (ix2 i l)) (Ideal.ofBits .f32 0x44800000#32)
        + Ideal.ofBits .f32 0x358637BD#32)
    * g (ix2 0 k)

/-- The normed rows times the weight: column `j` of row `i`. -/
def projected (x : FVec Ideal S2048x1024 .f32) (g : FVec Ideal S1x1024 .f32) (w : FVec Ideal S1792x1024 .bf16)
    (i : Fin 2048) (j : Fin 1792) : EReal :=
  ∑ k : Fin 1024, normed x g i k * w (ix2 j k)

variable (m : (ℓ : Loc nD τ sig) → Buf (Elt Ideal) ℓ)

/-- Which block each window reads or writes at each grid point. -/
theorem where_blocks : ∀ t : Fin cfg0.N, win0_0.index t = ![t.val, 0] ∧ win0_1.index t = ![0, 0] ∧ win0_2.index t = ![0, 0]
      ∧ win0_3.index t = ![t.val, 0] ∧ win0_4.index t = ![t.val, 0] ∧ win0_5.index t = ![t.val, 0] :=
  (by decide +kernel : ∀ t : Fin grid0.N, _)

/-- The normed rows of a point's block are the normed rows of the array. -/
theorem rows (c : Dev nD) (t : Fin cfg0.N) (y : S512x1024.Idx) (i : Fin 2048) (k : Fin 1024)
    (hi : i.val = t.val * 512 + (y 0 : ℕ)) (hk : k.val = (y 1 : ℕ)) :
    k0_pay1 (iblk m c 0 t) (iblk m c 1 t) y
      = normed (m ((c : Thread nD τ).loc main_arg0)) (m ((c : Thread nD τ).loc main_arg1)) i k := by
  unfold normed
  pointwise [k0_pay1]
  blk_point [iblk, V, where_blocks t]

/-- The product of a point's block with the weight is the array's. -/
theorem cols (c : Dev nD) (t : Fin cfg0.N) (y : S512x1792.Idx) (i : Fin 2048) (j : Fin 1792)
    (hi : i.val = t.val * 512 + (y 0 : ℕ)) (hj : j.val = (y 1 : ℕ)) :
    k0_pay2 (iblk m c 0 t) (iblk m c 1 t) (iblk m c 2 t) y
      = projected (m ((c : Thread nD τ).loc main_arg0)) (m ((c : Thread nD τ).loc main_arg1)) (m ((c : Thread nD τ).loc main_arg2)) i j := by
  unfold projected
  pointwise [k0_pay2]
  refine Finset.sum_congr rfl fun k _ => congrArg₂ (· * ·) (rows m c t _ i k hi rfl) ?_
  blk_point [iblk, V, where_blocks t]

/-- The first output, the columns of the gMLP. -/
theorem final3 (c : Dev nD) : (dats m 0 c).arrAt 3 cfg0.N = fun j : S2048x1024.Idx =>
    projected (m ((c : Thread nD τ).loc main_arg0)) (m ((c : Thread nD τ).loc main_arg1)) (m ((c : Thread nD τ).loc main_arg2))
      (j 0) ⟨(j 1).val, lt_trans (j 1).isLt (by decide)⟩ := by
  refine (dats m 0 c).arrAt_eq_of_covers 3 _ (by decide +kernel) fun t _ y => ?_
  blk_simp
  rw [after0_3]
  frame_out
  obtain_idx i : S512x1792 := [(y 0 : ℕ), (y 1 : ℕ)] with hi
  refine Eq.trans (b := k0_pay2 (F := Ideal) (iblk m c 0 t) (iblk m c 1 t) (iblk m c 2 t) i) ?_ (cols m c t i _ _ ?_ ?_)
  · open_payloads
    pointwise
    blk_ext
  · blk_simp [where_blocks t] <;> try omega
  · blk_simp [where_blocks t]
    exact hi1.symm

/-- The second output, the columns of the attention. -/
theorem final4 (c : Dev nD) : (dats m 0 c).arrAt 4 cfg0.N = fun j : S2048x768.Idx =>
    projected (m ((c : Thread nD τ).loc main_arg0)) (m ((c : Thread nD τ).loc main_arg1)) (m ((c : Thread nD τ).loc main_arg2))
      (j 0) ⟨1024 + (j 1).val, by have h : (j 1).val < 768 := (j 1).isLt; omega⟩ := by
  refine (dats m 0 c).arrAt_eq_of_covers 4 _ (by decide +kernel) fun t _ y => ?_
  blk_simp
  rw [after0_4]
  frame_out
  obtain_idx i : S512x1792 := [(y 0 : ℕ), 1024 + (y 1 : ℕ)] with hi
  refine Eq.trans (b := k0_pay2 (F := Ideal) (iblk m c 0 t) (iblk m c 1 t) (iblk m c 2 t) i) ?_ (cols m c t i _ _ ?_ ?_)
  · open_payloads
    pointwise
    blk_ext
  · blk_simp [where_blocks t] <;> try omega
  · blk_simp [where_blocks t]
    exact hi1.symm

/-- The third output, the normed rows. -/
theorem final5 (c : Dev nD) : (dats m 0 c).arrAt 5 cfg0.N = fun j : S2048x1024.Idx =>
    normed (m ((c : Thread nD τ).loc main_arg0)) (m ((c : Thread nD τ).loc main_arg1)) (j 0) (j 1) := by
  refine (dats m 0 c).arrAt_eq_of_covers 5 _ (by decide +kernel) fun t _ y => ?_
  blk_simp
  rw [after0_5]
  frame_out
  refine rows m c t y _ _ ?_ ?_
  all_goals (blk_simp [where_blocks t] <;> try omega)

end Cert.Kernel2Ideal.InProj

/-- The kernel and the reference end with the same three arrays and leave their arguments alone. -/
theorem Cert.Proof.in_proj_value :
    Cert.algebraic_Kernel2Ideal_Reference2Ideal (hKernel2Ideal := Cert.Kernel2Ideal.Gen.facts)
      (hReference2Ideal := Cert.Reference2Ideal.Gen.facts) := by
  intro m ρ m' ρ' _ hagree
  refine ⟨_, _, _, (θ_run _ _ _).mono (fun r h c => h c) (Cert.Kernel2Ideal.Value.run_blocks m ρ), ?_⟩
  refine (θ_run Cert.Reference2Ideal.defs _ _).mono
    (fun _ h c => ⟨(h c).1.trans ?_, (h c).2.1.trans ?_, (h c).2.2.1.trans ?_, (h c).2.2.2⟩) (Cert.Reference2Ideal.Value.run m' ρ')
  · rw [(hagree c).1, (hagree c).2.1, (hagree c).2.2, Cert.Kernel2Ideal.InProj.final3 m c]
    funext j
    unfold Cert.Kernel2Ideal.InProj.projected Cert.Kernel2Ideal.InProj.normed
    pointwise
  · rw [(hagree c).1, (hagree c).2.1, (hagree c).2.2, Cert.Kernel2Ideal.InProj.final4 m c]
    funext j
    unfold Cert.Kernel2Ideal.InProj.projected Cert.Kernel2Ideal.InProj.normed
    pointwise
  · rw [(hagree c).1, (hagree c).2.1, Cert.Kernel2Ideal.InProj.final5 m c]
    funext j
    unfold Cert.Kernel2Ideal.InProj.normed
    pointwise

end
-- ==== Proof.WgradFf1.lean ====
/-
  The weight gradient of the first feed-forward product, laid out as the eight devices' columns: the value of program 3.
-/
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ValueKit.Held
public import Idealize.ShloMosaic.Lib.Pipeline.ReadBack
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel3Ideal.Ff1

open Cert.Kernel3Ideal Cert.Kernel3Ideal.Gen

variable (m : (ℓ : Loc nD τ sig) → Buf (Elt Ideal) ℓ)

/-- The reference's result as a function of the two arguments: `(dfᵀ · h)ᵀ`, its columns grouped by the eight owning devices. -/
abbrev target (h : FVec Ideal S2048x1024 .bf16) (d : FVec Ideal S2048x4096 .bf16) : FVec Ideal S8x1024x512 .f32 :=
  transpose S8x1024x512 [1, 0, 2]
    (shapeCast Cert.Reference3Ideal.S1024x8x512
      (transpose Cert.Reference3Ideal.S1024x4096 [1, 0]
        (Host.dotGeneral Cert.Reference3Ideal.dot_S2048x4096_S2048x1024_S4096x1024_0_0_1_1_n_n none
          (extf .f32 d Cert.Reference3Ideal.Gen.bitsLt_bf16_f32) (extf .f32 h Cert.Reference3Ideal.Gen.bitsLt_bf16_f32))
        Cert.Reference3Ideal.Gen.transposes_S4096x1024_S1024x4096_1_0)
      Cert.Reference3Ideal.Gen.shapeCasts_S1024x4096_S1024x8x512)
    Cert.Reference3Ideal.Gen.transposes_S1024x8x512_S8x1024x512_1_0_2

/-- Which block each window reads or writes at each grid point. -/
theorem where_blocks : ∀ t : Fin cfg0.N, win0_0.index t = ![0, 0] ∧ win0_1.index t = ![0, t.val] ∧ win0_2.index t = ![t.val, 0, 0] :=
  (by decide +kernel : ∀ t : Fin grid0.N, _)

/-- The scratch holds the transposed activations after every point: they are written at the first one and kept. -/
theorem held (c : Dev nD) (t : Fin cfg0.N) (j : S1024x2048.Idx) :
    (outsAt0 m c t.val t.isLt).2 j = k0_pay1 (iblk m c 0 ⟨4 * (t.val / 4), Pipeline.run_start_lt t⟩) j := by
  refine Pipeline.eq_of_write_hold_apply (fun n h => (outsAt0 m c n h).2) 4 (fun u => k0_pay1 (iblk m c 0 u)) ?_ ?_ t j
  · intro u hu i
    rw [outsAt0_A m c u hu]
    frame_out
  · intro u hu i
    rw [outsAt0_B m c u hu]
    rfl

/-- The transposed block of the first window is the transposed first argument, at every point. -/
theorem turned (c : Dev nD) (t : Fin cfg0.N) (i : Fin 1024) (s : Fin 2048) :
    k0_pay1 (iblk m c 0 t) (ix2 i s) = m ((c : Thread nD τ).loc main_arg0) (ix2 s i) := by
  pointwise [k0_pay1]
  blk_point [iblk, V, where_blocks t]

/-- The product with the scratch's contents `w` is the reference's result, once `w` is the transposed first argument. -/
theorem core (c : Dev nD) (t : Fin cfg0.N) (w : FVec Ideal S1024x2048 .bf16)
    (hw : ∀ (i : Fin 1024) (s : Fin 2048), w (ix2 i s) = m ((c : Thread nD τ).loc main_arg0) (ix2 s i))
    (y : S2x1024x512.Idx) (i : S1024x1024.Idx) (j : S8x1024x512.Idx)
    (hi0 : (i 0 : ℕ) = y 1) (hi1 : (i 1 : ℕ) = 512 * (y 0 : ℕ) + y 2)
    (hj0 : (j 0 : ℕ) = t.val * 2 + y 0) (hj1 : (j 1 : ℕ) = y 1) (hj2 : (j 2 : ℕ) = y 2) :
    k0_pay2 w (iblk m c 1 t) i = target (m ((c : Thread nD τ).loc main_arg0)) (m ((c : Thread nD τ).loc main_arg1)) j := by
  pointwise [k0_pay2, target]
  refine Finset.sum_congr rfl fun s _ => (mul_comm _ _).trans (congrArg₂ (· * ·) ?_ ((hw _ _).trans ?_))
  all_goals blk_point [iblk, V, where_blocks t]

/-- The output array after the run is the reference's result. -/
theorem final (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t _ y => ?_
  have hN : t.val < 4 := lt_of_lt_of_eq t.isLt (show cfg0.N = 4 from N_0)
  blk_simp
  rw [after0_2]
  obtain_idx i : S1024x1024 := [(y 1 : ℕ), 512 * (y 0 : ℕ) + (y 2 : ℕ)] with hi
  by_cases h0 : t.val % 4 = 0
  · rw [outsAt0_A m c t h0]
    frame_out
    refine Eq.trans (b := k0_pay2 (F := Ideal) (k0_pay1 (iblk m c 0 t)) (iblk m c 1 t) i) ?_
      (core m c t _ (turned m c t) y i _ hi0 hi1 ?_ ?_ ?_)
    · canon_tiles x h
      all_goals (open_payloads; pointwise; blk_ext)
    all_goals (blk_simp [where_blocks t] <;> try omega)
  · rw [outsAt0_B m c t h0]
    frame_out
    rw [read_unread_whole]
    refine Eq.trans (b := k0_pay2 (F := Ideal) (outsAt0 m c (t.val - 1) (Nat.lt_of_le_of_lt (Nat.sub_le _ _) t.isLt)).2 (iblk m c 1 t) i) ?_
      (core m c t _ (fun i s => (held m c ⟨t.val - 1, Nat.lt_of_le_of_lt (Nat.sub_le _ _) t.isLt⟩ (ix2 i s)).trans (turned m c _ i s)) y i _ hi0 hi1 ?_ ?_ ?_)
    · canon_tiles x h
      all_goals (open_payloads; pointwise; blk_ext)
    all_goals (blk_simp [where_blocks t] <;> try omega)

end Cert.Kernel3Ideal.Ff1

/-- The kernel and the reference, end with the same array and leave their arguments alone. -/
theorem Cert.Proof.ff1_value :
    Cert.algebraic_Kernel3Ideal_Reference3Ideal (hKernel3Ideal := Cert.Kernel3Ideal.Gen.facts)
      (hReference3Ideal := Cert.Reference3Ideal.Gen.facts) := by
  intro m ρ m' ρ' _ hagree
  refine ⟨_, (θ_run _ _ _).mono (fun r h c => h c) (Cert.Kernel3Ideal.Value.run_blocks m ρ), ?_⟩
  refine (θ_run Cert.Reference3Ideal.defs _ _).mono (fun _ h c => ⟨(h c).1.trans ?_, (h c).2.1, (h c).2.2⟩) (Cert.Reference3Ideal.Value.run m' ρ')
  rw [(hagree c).1, (hagree c).2]
  exact (Cert.Kernel3Ideal.Ff1.final m c).symm

end
-- ==== Proof.WgradFf2.lean ====
/-
  The weight gradient of the second feed-forward product, block after block: the value of program 4.
-/
module

public import proofs.«01_k».proof.Defs
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel4Ideal.Ff2

open Cert.Kernel4Ideal Cert.Kernel4Ideal.Gen

variable (m : (ℓ : Loc nD τ sig) → Buf (Elt Ideal) ℓ)

/-- The reference's result as a function of the two arguments: `(xᵀ · a)ᵀ`, with the products summed over the tokens. -/
abbrev target (a : FVec Ideal S2048x4096 .bf16) (x : FVec Ideal S2048x1024 .bf16) : FVec Ideal S4096x1024 .f32 :=
  transpose S4096x1024 [1, 0]
    (Host.dotGeneral Cert.Reference4Ideal.dot_S2048x1024_S2048x4096_S1024x4096_0_0_1_1_n_n none
      (extf .f32 x Cert.Reference4Ideal.Gen.bitsLt_bf16_f32) (extf .f32 a Cert.Reference4Ideal.Gen.bitsLt_bf16_f32))
    Cert.Reference4Ideal.Gen.transposes_S1024x4096_S4096x1024_1_0

/-- Which block each window reads or writes at each grid point. -/
theorem where_blocks : ∀ t : Fin cfg0.N, win0_0.index t = ![0, t.val] ∧ win0_1.index t = ![0, 0] ∧ win0_2.index t = ![t.val, 0] :=
  (by decide +kernel : ∀ t : Fin grid0.N, _)

/-- What the body stores at `y` of point `t`'s block is the reference's result at the array index of `y`. -/
theorem at_point (c : Dev nD) (t : Fin cfg0.N) (y : S1024x1024.Idx) :
    k0_pay2 (k0_pay1 (iblk m c 0 t)) (iblk m c 1 t) y
      = target (m ((c : Thread nD τ).loc main_arg0)) (m ((c : Thread nD τ).loc main_arg1)) (((cfg0.win 2).blk t).view.emb y) := by
  pointwise [k0_pay1, k0_pay2, target]
  refine Finset.sum_congr rfl fun s _ => (mul_comm _ _).trans ?_
  blk_point [iblk, V, where_blocks t]

/-- The output array after the run is the reference's result. -/
theorem final (c : Dev nD) : (dats m 0 c).arrAt 2 cfg0.N
    = target (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  frame_out
  exact at_point m c t y

end Cert.Kernel4Ideal.Ff2

/-- The kernel and the reference, end with the same array and leave their arguments alone. -/
theorem Cert.Proof.ff2_value :
    Cert.algebraic_Kernel4Ideal_Reference4Ideal (hKernel4Ideal := Cert.Kernel4Ideal.Gen.facts)
      (hReference4Ideal := Cert.Reference4Ideal.Gen.facts) := by
  intro m ρ m' ρ' _ hagree
  refine ⟨_, (θ_run _ _ _).mono (fun r h c => h c) (Cert.Kernel4Ideal.Value.run_blocks m ρ), ?_⟩
  refine (θ_run Cert.Reference4Ideal.defs _ _).mono (fun _ h c => ⟨(h c).1.trans ?_, (h c).2.1, (h c).2.2⟩) (Cert.Reference4Ideal.Value.run m' ρ')
  rw [(hagree c).1, (hagree c).2]
  exact (Cert.Kernel4Ideal.Ff2.final m c).symm

end
-- ==== Proof.WgradIn.lean ====
/-
  The weight gradient of the layer's first product: the value of program 5.
-/
module

public import proofs.«01_k».proof.Defs
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.Quiescent

@[expose] public section

set_option maxRecDepth 16384

noncomputable section

open Idealize.ShloMosaic Idealize.ShloMosaic.TcCoe Idealize.SL.Sem
open Idealize.ShloMosaic.Pipeline (Dat)

namespace Cert.Kernel5Ideal.In

open Cert.Kernel5Ideal Cert.Kernel5Ideal.Gen

variable (m : (ℓ : Loc nD τ sig) → Buf (Elt Ideal) ℓ)

/-- The reference's result as a function of the three arguments: `dᵀ · h`, where the columns of `d` are those of its two parts. -/
abbrev target (d : FVec Ideal S2048x1536 .bf16) (e : FVec Ideal S2048x256 .bf16) (h : FVec Ideal S2048x1024 .bf16) : FVec Ideal S1792x1024 .f32 :=
  transpose S1792x1024 [1, 0]
    (transpose Cert.Reference5Ideal.S1024x1792 [1, 0]
      (Host.dotGeneral Cert.Reference5Ideal.dot_S2048x1792_S2048x1024_S1792x1024_0_0_1_1_n_n none
        (extf .f32 (concatenate Cert.Reference5Ideal.S2048x1792 1 [⟨S2048x1536, d⟩, ⟨S2048x256, e⟩]
          Cert.Reference5Ideal.Gen.concatenates_S2048x1536_S2048x256_S2048x1792_d1) Cert.Reference5Ideal.Gen.bitsLt_bf16_f32)
        (extf .f32 h Cert.Reference5Ideal.Gen.bitsLt_bf16_f32))
      Cert.Reference5Ideal.Gen.transposes_S1792x1024_S1024x1792_1_0)
    Cert.Reference5Ideal.Gen.transposes_S1024x1792_S1792x1024_1_0

/-- Which block each window reads or writes at each grid point. -/
theorem where_blocks : ∀ t : Fin cfg0.N, win0_0.index t = ![0, min t.val 5] ∧ win0_1.index t = ![0, 0] ∧ win0_2.index t = ![0, 0]
      ∧ win0_3.index t = ![t.val, 0] :=
  (by decide +kernel : ∀ t : Fin grid0.N, _)

/-- The output array after the run is the reference's result. -/
theorem final (c : Dev nD) : (dats m 0 c).arrAt 3 cfg0.N
    = target (m ((c : Thread nD τ).loc main_arg0)) (m ((c : Thread nD τ).loc main_arg1)) (m ((c : Thread nD τ).loc main_arg2)) := by
  refine (dats m 0 c).arrAt_eq_of_covers 3 _ (by decide +kernel) fun t _ y => ?_
  have hN := lt_of_lt_of_eq t.isLt (show cfg0.N = 7 from N_0)
  blk_simp
  rw [after0_3]
  by_cases h0 : t.val < 6
  · rw [outsAt0_A m c t h0 (by omega)]
    frame_out
    pointwise [k0_pay1, target]
    refine Fin.sum_fin_congr fun s => ?_
    have hrow : ((((cfg0.win 3).blk t).view.emb y 0 : ℕ)) < 1536 := by
      blk_simp [where_blocks t]
      idx_bounds
      omega
    rw [dif_pos hrow]
    blk_point [iblk, V, where_blocks t]
  · rw [outsAt0_B m c t h0 (by omega)]
    frame_out
    pointwise [k0_pay2, target]
    refine Fin.sum_fin_congr fun s => ?_
    have hrow : ¬ ((((cfg0.win 3).blk t).view.emb y 0 : ℕ)) < 1536 := by
      blk_simp [where_blocks t]
      idx_bounds
      omega
    rw [dif_neg hrow]
    blk_point [iblk, V, where_blocks t]

end Cert.Kernel5Ideal.In

/-- The kernel and the reference, end with the same array and leave their arguments alone. -/
theorem Cert.Proof.in_value :
    Cert.algebraic_Kernel5Ideal_Reference5Ideal (hKernel5Ideal := Cert.Kernel5Ideal.Gen.facts)
      (hReference5Ideal := Cert.Reference5Ideal.Gen.facts) := by
  intro m ρ m' ρ' _ hagree
  refine ⟨_, (θ_run _ _ _).mono (fun r h c => h c) (Cert.Kernel5Ideal.Value.run_blocks m ρ), ?_⟩
  refine (θ_run Cert.Reference5Ideal.defs _ _).mono (fun _ h c => ⟨(h c).1.trans ?_, (h c).2.1, (h c).2.2⟩) (Cert.Reference5Ideal.Value.run m' ρ')
  rw [(hagree c).1, (hagree c).2.1, (hagree c).2.2]
  exact (Cert.Kernel5Ideal.In.final m c).symm

end
-- ==== Proof.InBwd.lean ====
/-
  The gradient of the layer's input: the kernel's two outputs are the derivatives of `(x, norm(x) * g @ w^T)` with respect to
  `x` and `g`.  A point of the grid takes 512 rows: it writes their block of the gradient of `x`, and adds their part of the
  gradient of `g`.
-/
module

public import proofs.«01_k».proof.Defs
public import proofs.«01_k».proof.Proof.Rows
public import proofs.«01_k».proof.Proof.Gen.Kernel6Ideal.Value
public import proofs.«01_k».proof.Proof.Gen.Reference6Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open Cert.Rows

namespace Cert.Kernel6Ideal.InBwd

open Cert.Kernel6Ideal Cert.Kernel6Ideal.Gen

/-- The gradient at the normed rows: the two given gradients times the weight's two parts. -/
def back (dzm : FVec Ideal S2048x1536 .bf16) (dkv : FVec Ideal S2048x256 .bf16) (w : FVec Ideal S1792x1024 .bf16)
    (i : Fin 2048) (k : Fin 1024) : EReal :=
  (∑ j : Fin 1536, dzm (ix2 i j) * w (ix2 ⟨j.val, lt_trans j.isLt (by decide)⟩ k))
    + ∑ j : Fin 256, dkv (ix2 i j) * w (ix2 ⟨1536 + j.val, by have h := j.isLt; omega⟩ k)

/-- A row's norm factor. -/
def scale (x : FVec Ideal S2048x1024 .f32) (i : Fin 2048) : EReal := Ideal.rsqrt (meanSq fun k => x (ix2 i k))

/-- The gradient with respect to the layer's input. -/
def gradX (x dh : FVec Ideal S2048x1024 .f32) (dzm : FVec Ideal S2048x1536 .bf16) (dkv : FVec Ideal S2048x256 .bf16)
    (g : FVec Ideal S1x1024 .f32) (w : FVec Ideal S1792x1024 .bf16) (i : Fin 2048) (k : Fin 1024) : EReal :=
  dh (ix2 i k) + (scale x i * (back dzm dkv w i k * g (ix2 0 k))
    - x (ix2 i k) * (scale x i * scale x i * scale x i
      * Ideal.div (∑ l : Fin 1024, back dzm dkv w i l * g (ix2 0 l) * x (ix2 i l)) (Ideal.ofBits .f32 0x44800000#32)))

/-- One row's part of the gradient with respect to the gain. -/
def partG (x : FVec Ideal S2048x1024 .f32) (dzm : FVec Ideal S2048x1536 .bf16) (dkv : FVec Ideal S2048x256 .bf16)
    (w : FVec Ideal S1792x1024 .bf16) (k : Fin 1024) (i : Fin 2048) : EReal :=
  back dzm dkv w i k * (x (ix2 i k) * scale x i)

variable (m : (ℓ : Loc nD τ sig) → Buf (Elt Ideal) ℓ)

/-- Which block each window reads or writes at each grid point. -/
theorem where_blocks : ∀ t : Fin cfg0.N, win0_0.index t = ![t.val, 0] ∧ win0_1.index t = ![t.val, 0] ∧ win0_2.index t = ![t.val, 0]
      ∧ win0_3.index t = ![t.val, 0] ∧ win0_4.index t = ![0, 0] ∧ win0_5.index t = ![0, 0] ∧ win0_6.index t = ![t.val, 0]
      ∧ win0_7.index t = ![0, 0] :=
  (by decide +kernel : ∀ t : Fin grid0.N, _)

/-- The first output is the gradient with respect to the input. -/
theorem final6 (c : Dev nD) : (dats m 0 c).arrAt 6 cfg0.N = fun j : S2048x1024.Idx =>
    gradX (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (j 0) (j 1) := by
  refine (dats m 0 c).arrAt_eq_of_covers 6 _ (by decide +kernel) fun t _ y => ?_
  blk_simp
  rw [after0_6]
  unfold gradX scale back meanSq
  by_cases h0 : t.val % 4 = 0
  · rw [outsAt0_A m c t h0]
    frame_out
    pointwise [k0_pay1, k0_pay3, k0_pay4, k0_pay5, k0_pay6]
    blk_point [iblk, V, where_blocks t]
  · rw [outsAt0_B m c t h0]
    frame_out
    pointwise [k0_pay1, k0_pay3, k0_pay4, k0_pay5, k0_pay6]
    blk_point [iblk, V, where_blocks t]

/-- A point adds its 512 rows' parts to what the second output's block held. -/
theorem point_part (c : Dev nD) (t : Fin cfg0.N) (a : FVec Ideal S1x1024 .f32) (j : S1x1024.Idx) :
    k0_pay5 (iblk m c 2 t) (View.ld (iblk m c 5 t) (Rect.unit ![0, 0] ![1536, 1024] inb_S1792x1024_S1536x1024_0_0))
        (iblk m c 3 t) (View.ld (iblk m c 5 t) (Rect.unit ![1536, 0] ![256, 1024] inb_S1792x1024_S256x1024_1536_0))
        (iblk m c 0 t) a j
      = a j + ∑ r : Fin 512, partG (m ((c : Thread nD τ).loc main_arg0)) (m ((c : Thread nD τ).loc main_arg2))
          (m ((c : Thread nD τ).loc main_arg3)) (m ((c : Thread nD τ).loc main_arg5)) (j 1)
          ⟨t.val * 512 + r.val, by have h : t.val < 4 := lt_of_lt_of_eq t.isLt (show cfg0.N = 4 from N_0); have h' := r.isLt; omega⟩ := by
  unfold partG scale back meanSq
  pointwise [k0_pay3, k0_pay4, k0_pay5]
  refine congrArg (a j + ·) (Finset.sum_congr rfl fun r _ => ?_)
  blk_point [iblk, V, where_blocks t]

/-- The second output is the gradient with respect to the gain. -/
theorem final7 (c : Dev nD) : (dats m 0 c).arrAt 7 cfg0.N = fun j : S1x1024.Idx =>
    ∑ i : Fin 2048, partG (m ((c : Thread nD τ).loc main_arg0)) (m ((c : Thread nD τ).loc main_arg2))
      (m ((c : Thread nD τ).loc main_arg3)) (m ((c : Thread nD τ).loc main_arg5)) (j 1) i := by
  refine (dats m 0 c).arrAt_eq_of_after_last 7 t0_3 (by decide +kernel) _ fun j => ?_
  blk_simp
  rw [after0_7, Pipeline.eq_sum_fin_of_reset_step_apply_last (fun n h => (outsAt0 m c n h).2) 4 (fun _ => (0 : EReal))
    (fun t j => ∑ r : Fin 512, partG (m ((c : Thread nD τ).loc main_arg0)) (m ((c : Thread nD τ).loc main_arg2))
          (m ((c : Thread nD τ).loc main_arg3)) (m ((c : Thread nD τ).loc main_arg5)) (j 1)
          ⟨t.val * 512 + r.val, by have h : t.val < 4 := lt_of_lt_of_eq t.isLt (show cfg0.N = 4 from N_0); have h' := r.isLt; omega⟩)
    (fun t h j => by
      rw [outsAt0_A m c t h]
      frame_out
      refine (point_part m c t _ j).trans (congrArg (· + _) ?_)
      pointwise [k0_pay2])
    (fun t h j => by
      rw [outsAt0_B m c t h]
      frame_out
      exact point_part m c t _ j)
    (le_of_eq N_0) t0_3 rfl _, zero_add]
  refine (Fin.sum_mul_add_congr (L := 2048) (S := 4) (n := 512) fun s k hl => ?_)
  blk_simp [where_blocks t0_3]

end Cert.Kernel6Ideal.InBwd

/-- The kernel and the reference end with the same two arrays and leave their arguments alone. -/
theorem Cert.Proof.in_bwd_value :
    Cert.algebraic_Kernel6Ideal_Reference6Ideal (hKernel6Ideal := Cert.Kernel6Ideal.Gen.facts)
      (hReference6Ideal := Cert.Reference6Ideal.Gen.facts) := by
  intro m ρ m' ρ' _ hagree
  refine ⟨_, _, (θ_run _ _ _).mono (fun r h c => h c) (Cert.Kernel6Ideal.Value.run_blocks m ρ), ?_⟩
  refine (θ_run Cert.Reference6Ideal.defs _ _).mono
    (fun _ h c => ⟨(h c).1.trans ?_, (h c).2.1.trans ?_, (h c).2.2⟩) (Cert.Reference6Ideal.Value.run m' ρ')
  · rw [Cert.Kernel6Ideal.InBwd.final6 m c]
    unfold Cert.Reference6Ideal.Value.res_main_v40
    rw [(hagree c).1, (hagree c).2.1, (hagree c).2.2.1, (hagree c).2.2.2.1, (hagree c).2.2.2.2.1, (hagree c).2.2.2.2.2]
    funext j
    unfold Cert.Kernel6Ideal.InBwd.gradX Cert.Kernel6Ideal.InBwd.scale Cert.Kernel6Ideal.InBwd.back meanSq
    pointwise
    exact norm_back_unit _ _ _ _ _ _ (meanSq_pos fun k : Fin 1024 => m ((c.tc : Thread Cert.Kernel6Ideal.nD Cert.Kernel6Ideal.τ).loc Cert.Kernel6Ideal.main_arg0) (ix2 (j 0) k))
      (Fin.sum_fin_congr fun l => mul_comm _ _)
  · rw [Cert.Kernel6Ideal.InBwd.final7 m c]
    rw [(hagree c).1, (hagree c).2.2.1, (hagree c).2.2.2.1, (hagree c).2.2.2.2.2]
    funext j
    unfold Cert.Kernel6Ideal.InBwd.partG Cert.Kernel6Ideal.InBwd.scale Cert.Kernel6Ideal.InBwd.back meanSq
    pointwise
    exact Fin.sum_fin_congr fun i => mul_comm _ _

end
-- ==== Proof.AdamW.lean ====
/-
  One AdamW step on one weight, over the extended reals, with the plain step's constants.
-/
module

public import Idealize.ShloMosaic.Lib.Pointwise

@[expose] public section

noncomputable section

open Idealize.ShloMosaic

namespace Cert.AdamW

/-- The first moment after the step. -/
def fst (g m : EReal) : EReal := Ideal.ofBits .f32 0x3F666666#32 * m + Ideal.ofBits .f32 0x3DCCCCCD#32 * g

/-- The second moment after the step. -/
def snd (g v : EReal) : EReal := Ideal.ofBits .f32 0x3F7FBE77#32 * v + Ideal.ofBits .f32 0x3A83126F#32 * (g * g)

/-- What the step adds to the weight. -/
def delta (g w m v : EReal) : EReal :=
  Ideal.ofBits .f32 0xBA83126F#32
    * (Ideal.div (Ideal.div (fst g m) (Ideal.ofBits .f32 0x3F26BD02#32))
          (Ideal.sqrt (Ideal.div (snd g v) (Ideal.ofBits .f32 0x3C231ACC#32)) + Ideal.ofBits .f32 0x322BCC77#32)
        + Ideal.ofBits .f32 0x3C23D70A#32 * w)

end Cert.AdamW

end
-- ==== Proof.AdamFf1.lean ====
/-
  The last sum and the AdamW step of the first feed-forward weight: the value of program 7.
-/
module

public import proofs.«01_k».proof.Defs
public import proofs.«01_k».proof.Proof.AdamW
public import proofs.«01_k».proof.Proof.Gen.Kernel7Ideal.Value
public import proofs.«01_k».proof.Proof.Gen.Reference7Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel7Ideal.AdamFf1

open Cert.Kernel7Ideal Cert.Kernel7Ideal.Gen

/-- This chip's part of the gradient, and the other three chips' parts. -/
def summed (p : FVec Ideal S1024x512 .f32) (r : FVec Ideal S3x1024x512 .bf16) (j : S1024x512.Idx) : EReal :=
  p j + r (ix3 0 (j 0) (j 1)) + r (ix3 1 (j 0) (j 1)) + r (ix3 2 (j 0) (j 1))

variable (m : (ℓ : Loc nD τ sig) → Buf (Elt Ideal) ℓ)

/-- Which block each window reads or writes at each grid point. -/
theorem where_blocks : ∀ t : Fin cfg0.N, win0_0.index t = ![t.val, 0] ∧ win0_1.index t = ![0, t.val, 0] ∧ win0_2.index t = ![t.val, 0]
      ∧ win0_3.index t = ![t.val, 0] ∧ win0_4.index t = ![t.val, 0] ∧ win0_5.index t = ![t.val, 0]
      ∧ win0_6.index t = ![t.val, 0] ∧ win0_7.index t = ![t.val, 0] ∧ win0_8.index t = ![t.val, 0] :=
  (by decide +kernel : ∀ t : Fin grid0.N, _)

/-- The gradient. -/
theorem final5 (c : Dev nD) : (dats m 0 c).arrAt 5 cfg0.N = fun j : S1024x512.Idx =>
    summed (m ((c : Thread nD τ).loc main_arg0)) (m ((c : Thread nD τ).loc main_arg1)) j := by
  refine (dats m 0 c).arrAt_eq_of_covers 5 _ (by decide +kernel) fun t _ y => ?_
  blk_simp
  rw [after0_5]
  frame_out
  unfold summed
  pointwise [k0_pay2]
  blk_point [iblk, V, where_blocks t]

/-- The weight's change. -/
theorem final6 (c : Dev nD) : (dats m 0 c).arrAt 6 cfg0.N = fun j : S1024x512.Idx =>
    AdamW.delta (summed (m ((c : Thread nD τ).loc main_arg0)) (m ((c : Thread nD τ).loc main_arg1)) j) (m ((c : Thread nD τ).loc main_arg2) j) (m ((c : Thread nD τ).loc main_arg3) j) (m ((c : Thread nD τ).loc main_arg4) j) := by
  refine (dats m 0 c).arrAt_eq_of_covers 6 _ (by decide +kernel) fun t _ y => ?_
  blk_simp
  rw [after0_6]
  frame_out
  unfold summed AdamW.delta AdamW.fst AdamW.snd
  pointwise [k0_pay1, k0_pay5, k0_pay6, k0_pay3, k0_pay4, k0_pay2]
  blk_point [iblk, V, where_blocks t]

/-- The first moment. -/
theorem final7 (c : Dev nD) : (dats m 0 c).arrAt 7 cfg0.N = fun j : S1024x512.Idx =>
    AdamW.fst (summed (m ((c : Thread nD τ).loc main_arg0)) (m ((c : Thread nD τ).loc main_arg1)) j) (m ((c : Thread nD τ).loc main_arg3) j) := by
  refine (dats m 0 c).arrAt_eq_of_covers 7 _ (by decide +kernel) fun t _ y => ?_
  blk_simp
  rw [after0_7]
  frame_out
  unfold summed AdamW.fst
  pointwise [k0_pay3, k0_pay2]
  blk_point [iblk, V, where_blocks t]

/-- The second moment. -/
theorem final8 (c : Dev nD) : (dats m 0 c).arrAt 8 cfg0.N = fun j : S1024x512.Idx =>
    AdamW.snd (summed (m ((c : Thread nD τ).loc main_arg0)) (m ((c : Thread nD τ).loc main_arg1)) j) (m ((c : Thread nD τ).loc main_arg4) j) := by
  refine (dats m 0 c).arrAt_eq_of_covers 8 _ (by decide +kernel) fun t _ y => ?_
  blk_simp
  rw [after0_8]
  frame_out
  unfold summed AdamW.snd
  pointwise [k0_pay4, k0_pay2]
  blk_point [iblk, V, where_blocks t]

end Cert.Kernel7Ideal.AdamFf1

/-- The kernel and the reference end with the same four arrays and leave their arguments alone. -/
theorem Cert.Proof.adam_ff1_value :
    Cert.algebraic_Kernel7Ideal_Reference7Ideal (hKernel7Ideal := Cert.Kernel7Ideal.Gen.facts)
      (hReference7Ideal := Cert.Reference7Ideal.Gen.facts) := by
  intro m ρ m' ρ' _ hagree
  refine ⟨_, _, _, _, (θ_run _ _ _).mono (fun r h c => h c) (Cert.Kernel7Ideal.Value.run_blocks m ρ), ?_⟩
  refine (θ_run Cert.Reference7Ideal.defs _ _).mono
    (fun _ h c => ⟨(h c).1.trans ?_, (h c).2.1.trans ?_, (h c).2.2.1.trans ?_, (h c).2.2.2.1.trans ?_, (h c).2.2.2.2⟩) (Cert.Reference7Ideal.Value.run m' ρ')
  · rw [(hagree c).1, (hagree c).2.1, Cert.Kernel7Ideal.AdamFf1.final5 m c]
    funext j
    unfold Cert.Kernel7Ideal.AdamFf1.summed
    pointwise
    simp only [Fin.sum_univ_three, add_assoc]
    all_goals rfl
  · rw [(hagree c).1, (hagree c).2.1, (hagree c).2.2.1, (hagree c).2.2.2.1, (hagree c).2.2.2.2, Cert.Kernel7Ideal.AdamFf1.final6 m c]
    funext j
    unfold Cert.AdamW.delta Cert.AdamW.fst Cert.AdamW.snd Cert.Kernel7Ideal.AdamFf1.summed
    pointwise
    simp only [Fin.sum_univ_three, add_assoc]
    all_goals rfl
  · rw [(hagree c).1, (hagree c).2.1, (hagree c).2.2.2.1, Cert.Kernel7Ideal.AdamFf1.final7 m c]
    funext j
    unfold Cert.AdamW.fst Cert.Kernel7Ideal.AdamFf1.summed
    pointwise
    simp only [Fin.sum_univ_three, add_assoc]
    all_goals rfl
  · rw [(hagree c).1, (hagree c).2.1, (hagree c).2.2.2.2, Cert.Kernel7Ideal.AdamFf1.final8 m c]
    funext j
    unfold Cert.AdamW.snd Cert.Kernel7Ideal.AdamFf1.summed
    pointwise
    simp only [Fin.sum_univ_three, add_assoc]
    all_goals rfl

end
-- ==== Proof.AdamFf2.lean ====
/-
  The last sum and the AdamW step of the second feed-forward weight: the value of program 8.
-/
module

public import proofs.«01_k».proof.Defs
public import proofs.«01_k».proof.Proof.AdamW
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel8Ideal.AdamFf2

open Cert.Kernel8Ideal Cert.Kernel8Ideal.Gen

/-- This chip's part of the gradient, and the other three chips' parts. -/
def summed (p : FVec Ideal S512x1024 .f32) (r : FVec Ideal S3x512x1024 .bf16) (j : S512x1024.Idx) : EReal :=
  p j + r (ix3 0 (j 0) (j 1)) + r (ix3 1 (j 0) (j 1)) + r (ix3 2 (j 0) (j 1))

variable (m : (ℓ : Loc nD τ sig) → Buf (Elt Ideal) ℓ)

/-- Which block each window reads or writes at each grid point. -/
theorem where_blocks : ∀ t : Fin cfg0.N, win0_0.index t = ![t.val, 0] ∧ win0_1.index t = ![0, t.val, 0] ∧ win0_2.index t = ![t.val, 0]
      ∧ win0_3.index t = ![t.val, 0] ∧ win0_4.index t = ![t.val, 0] ∧ win0_5.index t = ![t.val, 0]
      ∧ win0_6.index t = ![t.val, 0] ∧ win0_7.index t = ![t.val, 0] ∧ win0_8.index t = ![t.val, 0] :=
  (by decide +kernel : ∀ t : Fin grid0.N, _)

/-- The gradient. -/
theorem final5 (c : Dev nD) : (dats m 0 c).arrAt 5 cfg0.N = fun j : S512x1024.Idx =>
    summed (m ((c : Thread nD τ).loc main_arg0)) (m ((c : Thread nD τ).loc main_arg1)) j := by
  refine (dats m 0 c).arrAt_eq_of_covers 5 _ (by decide +kernel) fun t _ y => ?_
  blk_simp
  rw [after0_5]
  frame_out
  unfold summed
  pointwise [k0_pay2]
  blk_point [iblk, V, where_blocks t]

/-- The weight's change. -/
theorem final6 (c : Dev nD) : (dats m 0 c).arrAt 6 cfg0.N = fun j : S512x1024.Idx =>
    AdamW.delta (summed (m ((c : Thread nD τ).loc main_arg0)) (m ((c : Thread nD τ).loc main_arg1)) j) (m ((c : Thread nD τ).loc main_arg2) j) (m ((c : Thread nD τ).loc main_arg3) j) (m ((c : Thread nD τ).loc main_arg4) j) := by
  refine (dats m 0 c).arrAt_eq_of_covers 6 _ (by decide +kernel) fun t _ y => ?_
  blk_simp
  rw [after0_6]
  frame_out
  unfold summed AdamW.delta AdamW.fst AdamW.snd
  pointwise [k0_pay1, k0_pay5, k0_pay6, k0_pay3, k0_pay4, k0_pay2]
  blk_point [iblk, V, where_blocks t]

/-- The first moment. -/
theorem final7 (c : Dev nD) : (dats m 0 c).arrAt 7 cfg0.N = fun j : S512x1024.Idx =>
    AdamW.fst (summed (m ((c : Thread nD τ).loc main_arg0)) (m ((c : Thread nD τ).loc main_arg1)) j) (m ((c : Thread nD τ).loc main_arg3) j) := by
  refine (dats m 0 c).arrAt_eq_of_covers 7 _ (by decide +kernel) fun t _ y => ?_
  blk_simp
  rw [after0_7]
  frame_out
  unfold summed AdamW.fst
  pointwise [k0_pay3, k0_pay2]
  blk_point [iblk, V, where_blocks t]

/-- The second moment. -/
theorem final8 (c : Dev nD) : (dats m 0 c).arrAt 8 cfg0.N = fun j : S512x1024.Idx =>
    AdamW.snd (summed (m ((c : Thread nD τ).loc main_arg0)) (m ((c : Thread nD τ).loc main_arg1)) j) (m ((c : Thread nD τ).loc main_arg4) j) := by
  refine (dats m 0 c).arrAt_eq_of_covers 8 _ (by decide +kernel) fun t _ y => ?_
  blk_simp
  rw [after0_8]
  frame_out
  unfold summed AdamW.snd
  pointwise [k0_pay4, k0_pay2]
  blk_point [iblk, V, where_blocks t]

end Cert.Kernel8Ideal.AdamFf2

/-- The kernel and the reference end with the same four arrays and leave their arguments alone. -/
theorem Cert.Proof.adam_ff2_value :
    Cert.algebraic_Kernel8Ideal_Reference8Ideal (hKernel8Ideal := Cert.Kernel8Ideal.Gen.facts)
      (hReference8Ideal := Cert.Reference8Ideal.Gen.facts) := by
  intro m ρ m' ρ' _ hagree
  refine ⟨_, _, _, _, (θ_run _ _ _).mono (fun r h c => h c) (Cert.Kernel8Ideal.Value.run_blocks m ρ), ?_⟩
  refine (θ_run Cert.Reference8Ideal.defs _ _).mono
    (fun _ h c => ⟨(h c).1.trans ?_, (h c).2.1.trans ?_, (h c).2.2.1.trans ?_, (h c).2.2.2.1.trans ?_, (h c).2.2.2.2⟩) (Cert.Reference8Ideal.Value.run m' ρ')
  · rw [(hagree c).1, (hagree c).2.1, Cert.Kernel8Ideal.AdamFf2.final5 m c]
    funext j
    unfold Cert.Kernel8Ideal.AdamFf2.summed
    pointwise
    simp only [Fin.sum_univ_three, add_assoc]
    all_goals rfl
  · rw [(hagree c).1, (hagree c).2.1, (hagree c).2.2.1, (hagree c).2.2.2.1, (hagree c).2.2.2.2, Cert.Kernel8Ideal.AdamFf2.final6 m c]
    funext j
    unfold Cert.AdamW.delta Cert.AdamW.fst Cert.AdamW.snd Cert.Kernel8Ideal.AdamFf2.summed
    pointwise
    simp only [Fin.sum_univ_three, add_assoc]
    all_goals rfl
  · rw [(hagree c).1, (hagree c).2.1, (hagree c).2.2.2.1, Cert.Kernel8Ideal.AdamFf2.final7 m c]
    funext j
    unfold Cert.AdamW.fst Cert.Kernel8Ideal.AdamFf2.summed
    pointwise
    simp only [Fin.sum_univ_three, add_assoc]
    all_goals rfl
  · rw [(hagree c).1, (hagree c).2.1, (hagree c).2.2.2.2, Cert.Kernel8Ideal.AdamFf2.final8 m c]
    funext j
    unfold Cert.AdamW.snd Cert.Kernel8Ideal.AdamFf2.summed
    pointwise
    simp only [Fin.sum_univ_three, add_assoc]
    all_goals rfl

end
-- ==== Proof.AdamIn.lean ====
/-
  The last sum and the AdamW step of the input weight: the value of program 9.
-/
module

public import proofs.«01_k».proof.Defs
public import proofs.«01_k».proof.Proof.AdamW
public import proofs.«01_k».proof.Proof.Gen.Kernel9Ideal.Value
public import proofs.«01_k».proof.Proof.Gen.Reference9Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Kernel9Ideal.AdamIn

open Cert.Kernel9Ideal Cert.Kernel9Ideal.Gen

/-- This chip's part of the gradient, and the other three chips' parts. -/
def summed (p : FVec Ideal S224x1024 .f32) (r : FVec Ideal S3x224x1024 .bf16) (j : S224x1024.Idx) : EReal :=
  p j + r (ix3 0 (j 0) (j 1)) + r (ix3 1 (j 0) (j 1)) + r (ix3 2 (j 0) (j 1))

variable (m : (ℓ : Loc nD τ sig) → Buf (Elt Ideal) ℓ)

/-- Which block each window reads or writes at each grid point. -/
theorem where_blocks : ∀ t : Fin cfg0.N, win0_0.index t = ![t.val, 0] ∧ win0_1.index t = ![0, t.val, 0] ∧ win0_2.index t = ![t.val, 0]
      ∧ win0_3.index t = ![t.val, 0] ∧ win0_4.index t = ![t.val, 0] ∧ win0_5.index t = ![t.val, 0]
      ∧ win0_6.index t = ![t.val, 0] ∧ win0_7.index t = ![t.val, 0] ∧ win0_8.index t = ![t.val, 0] :=
  (by decide +kernel : ∀ t : Fin grid0.N, _)

/-- The gradient. -/
theorem final5 (c : Dev nD) : (dats m 0 c).arrAt 5 cfg0.N = fun j : S224x1024.Idx =>
    summed (m ((c : Thread nD τ).loc main_arg0)) (m ((c : Thread nD τ).loc main_arg1)) j := by
  refine (dats m 0 c).arrAt_eq_of_covers 5 _ (by decide +kernel) fun t _ y => ?_
  blk_simp
  rw [after0_5]
  frame_out
  unfold summed
  pointwise [k0_pay2]
  blk_point [iblk, V, where_blocks t]

/-- The weight's change. -/
theorem final6 (c : Dev nD) : (dats m 0 c).arrAt 6 cfg0.N = fun j : S224x1024.Idx =>
    AdamW.delta (summed (m ((c : Thread nD τ).loc main_arg0)) (m ((c : Thread nD τ).loc main_arg1)) j) (m ((c : Thread nD τ).loc main_arg2) j) (m ((c : Thread nD τ).loc main_arg3) j) (m ((c : Thread nD τ).loc main_arg4) j) := by
  refine (dats m 0 c).arrAt_eq_of_covers 6 _ (by decide +kernel) fun t _ y => ?_
  blk_simp
  rw [after0_6]
  frame_out
  unfold summed AdamW.delta AdamW.fst AdamW.snd
  pointwise [k0_pay1, k0_pay5, k0_pay6, k0_pay3, k0_pay4, k0_pay2]
  blk_point [iblk, V, where_blocks t]

/-- The first moment. -/
theorem final7 (c : Dev nD) : (dats m 0 c).arrAt 7 cfg0.N = fun j : S224x1024.Idx =>
    AdamW.fst (summed (m ((c : Thread nD τ).loc main_arg0)) (m ((c : Thread nD τ).loc main_arg1)) j) (m ((c : Thread nD τ).loc main_arg3) j) := by
  refine (dats m 0 c).arrAt_eq_of_covers 7 _ (by decide +kernel) fun t _ y => ?_
  blk_simp
  rw [after0_7]
  frame_out
  unfold summed AdamW.fst
  pointwise [k0_pay3, k0_pay2]
  blk_point [iblk, V, where_blocks t]

/-- The second moment. -/
theorem final8 (c : Dev nD) : (dats m 0 c).arrAt 8 cfg0.N = fun j : S224x1024.Idx =>
    AdamW.snd (summed (m ((c : Thread nD τ).loc main_arg0)) (m ((c : Thread nD τ).loc main_arg1)) j) (m ((c : Thread nD τ).loc main_arg4) j) := by
  refine (dats m 0 c).arrAt_eq_of_covers 8 _ (by decide +kernel) fun t _ y => ?_
  blk_simp
  rw [after0_8]
  frame_out
  unfold summed AdamW.snd
  pointwise [k0_pay4, k0_pay2]
  blk_point [iblk, V, where_blocks t]

end Cert.Kernel9Ideal.AdamIn

/-- The kernel and the reference end with the same four arrays and leave their arguments alone. -/
theorem Cert.Proof.adam_in_value :
    Cert.algebraic_Kernel9Ideal_Reference9Ideal (hKernel9Ideal := Cert.Kernel9Ideal.Gen.facts)
      (hReference9Ideal := Cert.Reference9Ideal.Gen.facts) := by
  intro m ρ m' ρ' _ hagree
  refine ⟨_, _, _, _, (θ_run _ _ _).mono (fun r h c => h c) (Cert.Kernel9Ideal.Value.run_blocks m ρ), ?_⟩
  refine (θ_run Cert.Reference9Ideal.defs _ _).mono
    (fun _ h c => ⟨(h c).1.trans ?_, (h c).2.1.trans ?_, (h c).2.2.1.trans ?_, (h c).2.2.2.1.trans ?_, (h c).2.2.2.2⟩) (Cert.Reference9Ideal.Value.run m' ρ')
  · rw [(hagree c).1, (hagree c).2.1, Cert.Kernel9Ideal.AdamIn.final5 m c]
    funext j
    unfold Cert.Kernel9Ideal.AdamIn.summed
    pointwise
    simp only [Fin.sum_univ_three, add_assoc]
    all_goals rfl
  · rw [(hagree c).1, (hagree c).2.1, (hagree c).2.2.1, (hagree c).2.2.2.1, (hagree c).2.2.2.2, Cert.Kernel9Ideal.AdamIn.final6 m c]
    funext j
    unfold Cert.AdamW.delta Cert.AdamW.fst Cert.AdamW.snd Cert.Kernel9Ideal.AdamIn.summed
    pointwise
    simp only [Fin.sum_univ_three, add_assoc]
    all_goals rfl
  · rw [(hagree c).1, (hagree c).2.1, (hagree c).2.2.2.1, Cert.Kernel9Ideal.AdamIn.final7 m c]
    funext j
    unfold Cert.AdamW.fst Cert.Kernel9Ideal.AdamIn.summed
    pointwise
    simp only [Fin.sum_univ_three, add_assoc]
    all_goals rfl
  · rw [(hagree c).1, (hagree c).2.1, (hagree c).2.2.2.2, Cert.Kernel9Ideal.AdamIn.final8 m c]
    funext j
    unfold Cert.AdamW.snd Cert.Kernel9Ideal.AdamIn.summed
    pointwise
    simp only [Fin.sum_univ_three, add_assoc]
    all_goals rfl

end
-- ==== Proof.AdamFew.lean ====
/-
  The last sums and the AdamW steps of the output, the per-layer projection and the gate weights: the value of
  program 10.
-/
module

public import proofs.«01_k».proof.Defs
public import proofs.«01_k».proof.Proof.AdamW
public import proofs.«01_k».proof.Proof.Gen.Kernel10Ideal.Value
public import proofs.«01_k».proof.Proof.Gen.Reference10Ideal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel10Ideal.few

open Cert.Kernel10Ideal Cert.Kernel10Ideal.Gen Cert.Kernel10Ideal.Value

/-- This chip's part of a gradient, and the other three chips' parts. -/
def summed {R C : ℕ} (p : (⟨2, ![R, C]⟩ : Shape).Idx → EReal) (r : (⟨3, ![3, R, C]⟩ : Shape).Idx → EReal)
    (j : (⟨2, ![R, C]⟩ : Shape).Idx) : EReal :=
  p j + r (ix3 0 (j 0) (j 1)) + r (ix3 1 (j 0) (j 1)) + r (ix3 2 (j 0) (j 1))

variable (a0 : FVec Ideal S128x1024 .f32) (a1 : FVec Ideal S256x128 .f32) (a2 : FVec Ideal S128x1024 .f32) (a3 : FVec Ideal S3x128x1024 .bf16) (a4 : FVec Ideal S3x256x128 .bf16) (a5 : FVec Ideal S3x128x1024 .bf16) (a6 : FVec Ideal S128x1024 .f32) (a7 : FVec Ideal S256x128 .f32) (a8 : FVec Ideal S128x1024 .f32) (a9 : FVec Ideal S128x1024 .f32) (a10 : FVec Ideal S256x128 .f32) (a11 : FVec Ideal S128x1024 .f32) (a12 : FVec Ideal S128x1024 .f32) (a13 : FVec Ideal S256x128 .f32) (a14 : FVec Ideal S128x1024 .f32)

/-- The gradient of the output weight. -/
theorem out15 (j : S128x1024.Idx) : G15 (F := Ideal) a0 a1 a2 a3 a4 a5 a6 a7 a8 a9 a10 a11 a12 a13 a14 j = summed a0 a3 j := by
  unfold summed
  pointwise [G15, k0_pay1]
  all_goals rfl

/-- The gradient of the per-layer projection. -/
theorem out16 (j : S256x128.Idx) : G16 (F := Ideal) a0 a1 a2 a3 a4 a5 a6 a7 a8 a9 a10 a11 a12 a13 a14 j = summed a1 a4 j := by
  unfold summed
  pointwise [G16, k0_pay7]
  all_goals rfl

/-- The gradient of the gate weight. -/
theorem out17 (j : S128x1024.Idx) : G17 (F := Ideal) a0 a1 a2 a3 a4 a5 a6 a7 a8 a9 a10 a11 a12 a13 a14 j = summed a2 a5 j := by
  unfold summed
  pointwise [G17, k0_pay13, k0_pay18, k0_pay19, k0_pay11, k0_pay12]
  all_goals rfl

/-- The change of the output weight. -/
theorem out18 (j : S128x1024.Idx) : G18 (F := Ideal) a0 a1 a2 a3 a4 a5 a6 a7 a8 a9 a10 a11 a12 a13 a14 j = AdamW.delta (summed a0 a3 j) (a6 j) (a9 j) (a12 j) := by
  unfold summed AdamW.delta AdamW.fst AdamW.snd
  pointwise [G18, k0_pay6, k0_pay4, k0_pay5, k0_pay2, k0_pay3, k0_pay1]
  all_goals rfl

/-- The change of the per-layer projection. -/
theorem out19 (j : S256x128.Idx) : G19 (F := Ideal) a0 a1 a2 a3 a4 a5 a6 a7 a8 a9 a10 a11 a12 a13 a14 j = AdamW.delta (summed a1 a4 j) (a7 j) (a10 j) (a13 j) := by
  unfold summed AdamW.delta AdamW.fst AdamW.snd
  pointwise [G19, k0_pay10, k0_pay17, k0_pay8, k0_pay9, k0_pay7]
  all_goals rfl

/-- The change of the gate weight. -/
theorem out20 (j : S128x1024.Idx) : G20 (F := Ideal) a0 a1 a2 a3 a4 a5 a6 a7 a8 a9 a10 a11 a12 a13 a14 j = AdamW.delta (summed a2 a5 j) (a8 j) (a11 j) (a14 j) := by
  unfold summed AdamW.delta AdamW.fst AdamW.snd
  pointwise [G20, k0_pay16, k0_pay18, k0_pay19, k0_pay14, k0_pay15, k0_pay11, k0_pay12, k0_pay13]
  all_goals rfl

/-- The first moment of the output weight. -/
theorem out21 (j : S128x1024.Idx) : G21 (F := Ideal) a0 a1 a2 a3 a4 a5 a6 a7 a8 a9 a10 a11 a12 a13 a14 j = AdamW.fst (summed a0 a3 j) (a9 j) := by
  unfold summed AdamW.fst
  pointwise [G21, k0_pay2, k0_pay1]
  all_goals rfl

/-- The first moment of the per-layer projection. -/
theorem out22 (j : S256x128.Idx) : G22 (F := Ideal) a0 a1 a2 a3 a4 a5 a6 a7 a8 a9 a10 a11 a12 a13 a14 j = AdamW.fst (summed a1 a4 j) (a10 j) := by
  unfold summed AdamW.fst
  pointwise [G22, k0_pay8, k0_pay17, k0_pay7]
  all_goals rfl

/-- The first moment of the gate weight. -/
theorem out23 (j : S128x1024.Idx) : G23 (F := Ideal) a0 a1 a2 a3 a4 a5 a6 a7 a8 a9 a10 a11 a12 a13 a14 j = AdamW.fst (summed a2 a5 j) (a11 j) := by
  unfold summed AdamW.fst
  pointwise [G23, k0_pay14, k0_pay18, k0_pay19, k0_pay13, k0_pay11, k0_pay12]
  all_goals rfl

/-- The second moment of the output weight. -/
theorem out24 (j : S128x1024.Idx) : G24 (F := Ideal) a0 a1 a2 a3 a4 a5 a6 a7 a8 a9 a10 a11 a12 a13 a14 j = AdamW.snd (summed a0 a3 j) (a12 j) := by
  unfold summed AdamW.snd
  pointwise [G24, k0_pay3, k0_pay1]
  all_goals rfl

/-- The second moment of the per-layer projection. -/
theorem out25 (j : S256x128.Idx) : G25 (F := Ideal) a0 a1 a2 a3 a4 a5 a6 a7 a8 a9 a10 a11 a12 a13 a14 j = AdamW.snd (summed a1 a4 j) (a13 j) := by
  unfold summed AdamW.snd
  pointwise [G25, k0_pay9, k0_pay17, k0_pay7]
  all_goals rfl

/-- The second moment of the gate weight. -/
theorem out26 (j : S128x1024.Idx) : G26 (F := Ideal) a0 a1 a2 a3 a4 a5 a6 a7 a8 a9 a10 a11 a12 a13 a14 j = AdamW.snd (summed a2 a5 j) (a14 j) := by
  unfold summed AdamW.snd
  pointwise [G26, k0_pay15, k0_pay18, k0_pay19, k0_pay13, k0_pay11, k0_pay12]
  all_goals rfl

end Cert.Kernel10Ideal.few

set_option maxHeartbeats 2000000 in
/-- The kernel and the reference end with the same twelve arrays and leave their arguments alone. -/
theorem Cert.Proof.adam_few_value :
    Cert.algebraic_Kernel10Ideal_Reference10Ideal (hKernel10Ideal := Cert.Kernel10Ideal.Gen.facts)
      (hReference10Ideal := Cert.Reference10Ideal.Gen.facts) := by
  intro m ρ m' ρ' _ hagree
  refine ⟨_, _, _, _, _, _, _, _, _, _, _, _, (θ_run _ _ _).mono (fun r h c => h c) (Cert.Kernel10Ideal.Value.run m ρ), ?_⟩
  refine (θ_run Cert.Reference10Ideal.defs _ _).mono
    (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2.1.trans ?_, (h c).2.2.2.2.2.2.2.2.1.trans ?_, (h c).2.2.2.2.2.2.2.2.2.1.trans ?_, (h c).2.2.2.2.2.2.2.2.2.2.1.trans ?_, (h c).2.2.2.2.2.2.2.2.2.2.2.1.trans ?_, (h c).2.2.2.2.2.2.2.2.2.2.2.2⟩) (Cert.Reference10Ideal.Value.run m' ρ')
  · rw [(hagree c).1, (hagree c).2.2.2.1]
    funext j
    refine Eq.trans ?_ (Cert.Kernel10Ideal.few.out15 _ _ _ _ _ _ _ _ _ _ _ _ _ _ _ j).symm
    unfold Cert.Kernel10Ideal.few.summed
    pointwise
    simp only [Fin.sum_univ_three, add_assoc]
    all_goals rfl
  · rw [(hagree c).2.1, (hagree c).2.2.2.2.1]
    funext j
    refine Eq.trans ?_ (Cert.Kernel10Ideal.few.out16 _ _ _ _ _ _ _ _ _ _ _ _ _ _ _ j).symm
    unfold Cert.Kernel10Ideal.few.summed
    pointwise
    simp only [Fin.sum_univ_three, add_assoc]
    all_goals rfl
  · rw [(hagree c).2.2.1, (hagree c).2.2.2.2.2.1]
    funext j
    refine Eq.trans ?_ (Cert.Kernel10Ideal.few.out17 _ _ _ _ _ _ _ _ _ _ _ _ _ _ _ j).symm
    unfold Cert.Kernel10Ideal.few.summed
    pointwise
    simp only [Fin.sum_univ_three, add_assoc]
    all_goals rfl
  · rw [(hagree c).1, (hagree c).2.2.2.1, (hagree c).2.2.2.2.2.2.1, (hagree c).2.2.2.2.2.2.2.2.2.1, (hagree c).2.2.2.2.2.2.2.2.2.2.2.2.1]
    funext j
    refine Eq.trans ?_ (Cert.Kernel10Ideal.few.out18 _ _ _ _ _ _ _ _ _ _ _ _ _ _ _ j).symm
    unfold Cert.AdamW.delta Cert.AdamW.fst Cert.AdamW.snd Cert.Kernel10Ideal.few.summed
    pointwise
    simp only [Fin.sum_univ_three, add_assoc]
    all_goals rfl
  · rw [(hagree c).2.1, (hagree c).2.2.2.2.1, (hagree c).2.2.2.2.2.2.2.1, (hagree c).2.2.2.2.2.2.2.2.2.2.1, (hagree c).2.2.2.2.2.2.2.2.2.2.2.2.2.1]
    funext j
    refine Eq.trans ?_ (Cert.Kernel10Ideal.few.out19 _ _ _ _ _ _ _ _ _ _ _ _ _ _ _ j).symm
    unfold Cert.AdamW.delta Cert.AdamW.fst Cert.AdamW.snd Cert.Kernel10Ideal.few.summed
    pointwise
    simp only [Fin.sum_univ_three, add_assoc]
    all_goals rfl
  · rw [(hagree c).2.2.1, (hagree c).2.2.2.2.2.1, (hagree c).2.2.2.2.2.2.2.2.1, (hagree c).2.2.2.2.2.2.2.2.2.2.2.1, (hagree c).2.2.2.2.2.2.2.2.2.2.2.2.2.2]
    funext j
    refine Eq.trans ?_ (Cert.Kernel10Ideal.few.out20 _ _ _ _ _ _ _ _ _ _ _ _ _ _ _ j).symm
    unfold Cert.AdamW.delta Cert.AdamW.fst Cert.AdamW.snd Cert.Kernel10Ideal.few.summed
    pointwise
    simp only [Fin.sum_univ_three, add_assoc]
    all_goals rfl
  · rw [(hagree c).1, (hagree c).2.2.2.1, (hagree c).2.2.2.2.2.2.2.2.2.1]
    funext j
    refine Eq.trans ?_ (Cert.Kernel10Ideal.few.out21 _ _ _ _ _ _ _ _ _ _ _ _ _ _ _ j).symm
    unfold Cert.AdamW.fst Cert.Kernel10Ideal.few.summed
    pointwise
    simp only [Fin.sum_univ_three, add_assoc]
    all_goals rfl
  · rw [(hagree c).2.1, (hagree c).2.2.2.2.1, (hagree c).2.2.2.2.2.2.2.2.2.2.1]
    funext j
    refine Eq.trans ?_ (Cert.Kernel10Ideal.few.out22 _ _ _ _ _ _ _ _ _ _ _ _ _ _ _ j).symm
    unfold Cert.AdamW.fst Cert.Kernel10Ideal.few.summed
    pointwise
    simp only [Fin.sum_univ_three, add_assoc]
    all_goals rfl
  · rw [(hagree c).2.2.1, (hagree c).2.2.2.2.2.1, (hagree c).2.2.2.2.2.2.2.2.2.2.2.1]
    funext j
    refine Eq.trans ?_ (Cert.Kernel10Ideal.few.out23 _ _ _ _ _ _ _ _ _ _ _ _ _ _ _ j).symm
    unfold Cert.AdamW.fst Cert.Kernel10Ideal.few.summed
    pointwise
    simp only [Fin.sum_univ_three, add_assoc]
    all_goals rfl
  · rw [(hagree c).1, (hagree c).2.2.2.1, (hagree c).2.2.2.2.2.2.2.2.2.2.2.2.1]
    funext j
    refine Eq.trans ?_ (Cert.Kernel10Ideal.few.out24 _ _ _ _ _ _ _ _ _ _ _ _ _ _ _ j).symm
    unfold Cert.AdamW.snd Cert.Kernel10Ideal.few.summed
    pointwise
    simp only [Fin.sum_univ_three, add_assoc]
    all_goals rfl
  · rw [(hagree c).2.1, (hagree c).2.2.2.2.1, (hagree c).2.2.2.2.2.2.2.2.2.2.2.2.2.1]
    funext j
    refine Eq.trans ?_ (Cert.Kernel10Ideal.few.out25 _ _ _ _ _ _ _ _ _ _ _ _ _ _ _ j).symm
    unfold Cert.AdamW.snd Cert.Kernel10Ideal.few.summed
    pointwise
    simp only [Fin.sum_univ_three, add_assoc]
    all_goals rfl
  · rw [(hagree c).2.2.1, (hagree c).2.2.2.2.2.1, (hagree c).2.2.2.2.2.2.2.2.2.2.2.2.2.2]
    funext j
    refine Eq.trans ?_ (Cert.Kernel10Ideal.few.out26 _ _ _ _ _ _ _ _ _ _ _ _ _ _ _ j).symm
    unfold Cert.AdamW.snd Cert.Kernel10Ideal.few.summed
    pointwise
    simp only [Fin.sum_univ_three, add_assoc]
    all_goals rfl

end
-- ==== Proof.AdamSmallOuts.lean ====
/-
  The small weights' update (program 11): what the one kernel body leaves in its thirty-three result windows,
  as functions of its thirty-six inputs.
-/
module

public import proofs.«01_k».proof.Proof.Gen.Kernel11Ideal.Launch
public import proofs.«01_k».proof.Proof.Gen.Kernel11Ideal.Skeleton
public import proofs.«01_k».proof.Proof.Gen.Kernel11Ideal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.AdamSmall

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The rectangles the body reads and writes. -/

abbrev r0_0 : Rect S1x1x1024 := Rect.unit (s := S1x1x1024) ![0, 0, 0] S1x1x1024.size inb_S1x1x1024_S1x1x1024_0_0_0
abbrev r0_1 : Rect S7x1x1024 := Rect.unit (s := S7x1x1024) ![0, 0, 0] S1x1x1024.size inb_S7x1x1024_S1x1x1024_0_0_0
abbrev r0_2 : Rect S7x1x1024 := Rect.unit (s := S7x1x1024) ![1, 0, 0] S1x1x1024.size inb_S7x1x1024_S1x1x1024_1_0_0
abbrev r0_3 : Rect S7x1x1024 := Rect.unit (s := S7x1x1024) ![2, 0, 0] S1x1x1024.size inb_S7x1x1024_S1x1x1024_2_0_0
abbrev r0_4 : Rect S7x1x1024 := Rect.unit (s := S7x1x1024) ![3, 0, 0] S1x1x1024.size inb_S7x1x1024_S1x1x1024_3_0_0
abbrev r0_5 : Rect S7x1x1024 := Rect.unit (s := S7x1x1024) ![4, 0, 0] S1x1x1024.size inb_S7x1x1024_S1x1x1024_4_0_0
abbrev r0_6 : Rect S7x1x1024 := Rect.unit (s := S7x1x1024) ![5, 0, 0] S1x1x1024.size inb_S7x1x1024_S1x1x1024_5_0_0
abbrev r0_7 : Rect S7x1x1024 := Rect.unit (s := S7x1x1024) ![6, 0, 0] S1x1x1024.size inb_S7x1x1024_S1x1x1024_6_0_0
abbrev r0_8 : Rect S1x1x512 := Rect.unit (s := S1x1x512) ![0, 0, 0] S1x1x512.size inb_S1x1x512_S1x1x512_0_0_0
abbrev r0_9 : Rect S3x1x512 := Rect.unit (s := S3x1x512) ![1, 0, 0] S1x1x512.size inb_S3x1x512_S1x1x512_1_0_0
abbrev r0_10 : Rect S3x1x512 := Rect.unit (s := S3x1x512) ![0, 0, 0] S1x1x512.size inb_S3x1x512_S1x1x512_0_0_0
abbrev r0_11 : Rect S3x1x512 := Rect.unit (s := S3x1x512) ![2, 0, 0] S1x1x512.size inb_S3x1x512_S1x1x512_2_0_0
abbrev r0_12 : Rect S1x4x128x128 := Rect.unit (s := S1x4x128x128) ![0, 0, 0, 0] S1x4x128x128.size inb_S1x4x128x128_S1x4x128x128_0_0_0_0
abbrev r0_13 : Rect S3x4x128x128 := Rect.unit (s := S3x4x128x128) ![1, 0, 0, 0] S1x4x128x128.size inb_S3x4x128x128_S1x4x128x128_1_0_0_0
abbrev r0_14 : Rect S3x4x128x128 := Rect.unit (s := S3x4x128x128) ![0, 0, 0, 0] S1x4x128x128.size inb_S3x4x128x128_S1x4x128x128_0_0_0_0
abbrev r0_15 : Rect S3x4x128x128 := Rect.unit (s := S3x4x128x128) ![2, 0, 0, 0] S1x4x128x128.size inb_S3x4x128x128_S1x4x128x128_2_0_0_0
abbrev r0_16 : Rect S1x4x128 := Rect.unit (s := S1x4x128) ![0, 0, 0] S1x4x128.size inb_S1x4x128_S1x4x128_0_0_0
abbrev r0_17 : Rect S3x4x128 := Rect.unit (s := S3x4x128) ![1, 0, 0] S1x4x128.size inb_S3x4x128_S1x4x128_1_0_0
abbrev r0_18 : Rect S3x4x128 := Rect.unit (s := S3x4x128) ![0, 0, 0] S1x4x128.size inb_S3x4x128_S1x4x128_0_0_0
abbrev r0_19 : Rect S3x4x128 := Rect.unit (s := S3x4x128) ![2, 0, 0] S1x4x128.size inb_S3x4x128_S1x4x128_2_0_0
abbrev r0_20 : Rect S1x9x32 := Rect.unit (s := S1x9x32) ![0, 8, 0] S1x1x8.size inb_S1x9x32_S1x1x8_0_8_0
abbrev r0_21 : Rect S3x9x32 := Rect.unit (s := S3x9x32) ![1, 8, 0] S1x1x8.size inb_S3x9x32_S1x1x8_1_8_0
abbrev r0_22 : Rect S3x9x32 := Rect.unit (s := S3x9x32) ![0, 8, 0] S1x1x8.size inb_S3x9x32_S1x1x8_0_8_0
abbrev r0_23 : Rect S3x9x32 := Rect.unit (s := S3x9x32) ![2, 8, 0] S1x1x8.size inb_S3x9x32_S1x1x8_2_8_0
abbrev r0_24 : Rect S1x9x32 := Rect.unit (s := S1x9x32) ![0, 0, 0] S1x8x32.size inb_S1x9x32_S1x8x32_0_0_0
abbrev r0_25 : Rect S3x9x32 := Rect.unit (s := S3x9x32) ![1, 0, 0] S1x8x32.size inb_S3x9x32_S1x8x32_1_0_0
abbrev r0_26 : Rect S3x9x32 := Rect.unit (s := S3x9x32) ![0, 0, 0] S1x8x32.size inb_S3x9x32_S1x8x32_0_0_0
abbrev r0_27 : Rect S3x9x32 := Rect.unit (s := S3x9x32) ![2, 0, 0] S1x8x32.size inb_S3x9x32_S1x8x32_2_0_0
abbrev r0_28 : Rect S1x8x1024 := Rect.unit (s := S1x8x1024) ![0, 0, 0] S1x1x1024.size inb_S1x8x1024_S1x1x1024_0_0_0
abbrev r0_29 : Rect S3x8x1024 := Rect.unit (s := S3x8x1024) ![1, 0, 0] S1x1x1024.size inb_S3x8x1024_S1x1x1024_1_0_0
abbrev r0_30 : Rect S3x8x1024 := Rect.unit (s := S3x8x1024) ![0, 0, 0] S1x1x1024.size inb_S3x8x1024_S1x1x1024_0_0_0
abbrev r0_31 : Rect S3x8x1024 := Rect.unit (s := S3x8x1024) ![2, 0, 0] S1x1x1024.size inb_S3x8x1024_S1x1x1024_2_0_0
abbrev r0_32 : Rect S1x8x1024 := Rect.unit (s := S1x8x1024) ![0, 1, 0] S1x1x1024.size inb_S1x8x1024_S1x1x1024_0_1_0
abbrev r0_33 : Rect S3x8x1024 := Rect.unit (s := S3x8x1024) ![1, 1, 0] S1x1x1024.size inb_S3x8x1024_S1x1x1024_1_1_0
abbrev r0_34 : Rect S3x8x1024 := Rect.unit (s := S3x8x1024) ![0, 1, 0] S1x1x1024.size inb_S3x8x1024_S1x1x1024_0_1_0
abbrev r0_35 : Rect S3x8x1024 := Rect.unit (s := S3x8x1024) ![2, 1, 0] S1x1x1024.size inb_S3x8x1024_S1x1x1024_2_1_0
abbrev r0_36 : Rect S1x8x1024 := Rect.unit (s := S1x8x1024) ![0, 2, 0] S1x1x1.size inb_S1x8x1024_S1x1x1_0_2_0
abbrev r0_37 : Rect S3x8x1024 := Rect.unit (s := S3x8x1024) ![1, 2, 0] S1x1x1.size inb_S3x8x1024_S1x1x1_1_2_0
abbrev r0_38 : Rect S3x8x1024 := Rect.unit (s := S3x8x1024) ![0, 2, 0] S1x1x1.size inb_S3x8x1024_S1x1x1_0_2_0
abbrev r0_39 : Rect S3x8x1024 := Rect.unit (s := S3x8x1024) ![2, 2, 0] S1x1x1.size inb_S3x8x1024_S1x1x1_2_2_0
abbrev r0_40 : Rect S1x1 := Rect.unit (s := S1x1) ![0, 0] S1x1.size inb_S1x1_S1x1_0_0
abbrev r0_41 : Rect S1x1024 := Rect.unit (s := S1x1024) ![0, 0] S1x1024.size inb_S1x1024_S1x1024_0_0
abbrev r0_42 : Rect S1x512 := Rect.unit (s := S1x512) ![0, 0] S1x512.size inb_S1x512_S1x512_0_0
abbrev r0_43 : Rect S4x128x128 := Rect.unit (s := S4x128x128) ![0, 0, 0] S4x128x128.size inb_S4x128x128_S4x128x128_0_0_0
abbrev r0_44 : Rect S4x128 := Rect.unit (s := S4x128) ![0, 0] S4x128.size inb_S4x128_S4x128_0_0
abbrev r0_45 : Rect S1x8 := Rect.unit (s := S1x8) ![0, 0] S1x8.size inb_S1x8_S1x8_0_0
abbrev r0_46 : Rect S8x32 := Rect.unit (s := S8x32) ![0, 0] S8x32.size inb_S8x32_S8x32_0_0

/-- What the body computes of its inputs: part 0 of the first norm gain's gradient. -/
def norm1Part0 (x10 : Vec F S1x1x1024 .f32) : FVec F S1x1024 .f32 :=
  k0_pay1 (View.ld x10 r0_0)

/-- What the body computes of its inputs: part 1 of the first norm gain's gradient. -/
def norm1Part1 (x11 : Vec F S7x1x1024 .f32) : FVec F S1x1024 .f32 :=
  k0_pay2 (View.ld x11 r0_1)

/-- What the body computes of its inputs: part 2 of the first norm gain's gradient. -/
def norm1Part2 (x11 : Vec F S7x1x1024 .f32) : FVec F S1x1024 .f32 :=
  k0_pay3 (View.ld x11 r0_2)

/-- What the body computes of its inputs: part 3 of the first norm gain's gradient. -/
def norm1Part3 (x11 : Vec F S7x1x1024 .f32) : FVec F S1x1024 .f32 :=
  k0_pay4 (View.ld x11 r0_3)

/-- What the body computes of its inputs: part 4 of the first norm gain's gradient. -/
def norm1Part4 (x11 : Vec F S7x1x1024 .f32) : FVec F S1x1024 .f32 :=
  k0_pay5 (View.ld x11 r0_4)

/-- What the body computes of its inputs: part 5 of the first norm gain's gradient. -/
def norm1Part5 (x11 : Vec F S7x1x1024 .f32) : FVec F S1x1024 .f32 :=
  k0_pay6 (View.ld x11 r0_5)

/-- What the body computes of its inputs: part 6 of the first norm gain's gradient. -/
def norm1Part6 (x11 : Vec F S7x1x1024 .f32) : FVec F S1x1024 .f32 :=
  k0_pay7 (View.ld x11 r0_6)

/-- What the body computes of its inputs: part 7 of the first norm gain's gradient. -/
def norm1Part7 (x11 : Vec F S7x1x1024 .f32) : FVec F S1x1024 .f32 :=
  k0_pay8 (View.ld x11 r0_7)

/-- What the body computes of its inputs: the summed gradient of the first norm's gain. -/
def sumNorm1 (x10 : Vec F S1x1x1024 .f32) (x11 : Vec F S7x1x1024 .f32) : FVec F S1x1024 .f32 :=
  k0_pay13 (norm1Part0 x10) (norm1Part1 x11) (norm1Part2 x11) (norm1Part3 x11) (norm1Part4 x11) (norm1Part5 x11) (norm1Part6 x11) (norm1Part7 x11) (Scalar.addi (Scalar.addi (Scalar.muli 4#32 0#32) (Scalar.muli 2#32 0#32)) 0#32) (k0_pay11 (norm1Part0 x10) (norm1Part1 x11) (norm1Part2 x11) (norm1Part3 x11) (norm1Part4 x11) (norm1Part5 x11) (norm1Part6 x11) (norm1Part7 x11) (Scalar.addi (Scalar.addi (Scalar.muli 4#32 0#32) (Scalar.muli 2#32 0#32)) 0#32) (k0_pay10 (norm1Part0 x10) (norm1Part1 x11) (norm1Part2 x11) (norm1Part3 x11) (norm1Part4 x11) (norm1Part5 x11) (norm1Part6 x11) (norm1Part7 x11) (Scalar.addi (Scalar.addi (Scalar.muli 4#32 0#32) (Scalar.muli 2#32 0#32)) 0#32) (Scalar.xori 0#32 (Scalar.addi (Scalar.addi (Scalar.muli 4#32 0#32) (Scalar.muli 2#32 0#32)) 0#32)) (k0_pay9 (View.ld x11 r0_4) (View.ld x11 r0_5) (View.ld x11 r0_6) (View.ld x11 r0_7)))) (Scalar.xori 5#32 (Scalar.addi (Scalar.addi (Scalar.muli 4#32 0#32) (Scalar.muli 2#32 0#32)) 0#32)) (k0_pay12 (norm1Part4 x11) (norm1Part5 x11) (norm1Part6 x11) (norm1Part7 x11) (Scalar.addi (Scalar.addi (Scalar.muli 4#32 0#32) (Scalar.muli 2#32 0#32)) 0#32)) 3#32

/-- What the body computes of its inputs: the summed gradient of the gate's gain. -/
def sumGain (x1 : Vec F S1x1x512 .f32) (x6 : Vec F S3x1x512 .f32) : FVec F S1x512 .f32 :=
  k0_pay19 (k0_pay14 (View.ld x1 r0_8)) (k0_pay15 (View.ld x6 r0_9)) (k0_pay16 (View.ld x6 r0_10)) (k0_pay17 (View.ld x6 r0_11)) (Scalar.addi (Scalar.muli 2#32 0#32) 0#32) (k0_pay18 (View.ld x1 r0_8) (View.ld x6 r0_9) (View.ld x6 r0_10) (View.ld x6 r0_11))

/-- What the body computes of its inputs: the summed gradient of the mixing matrices. -/
def sumMix (x2 : Vec F S1x4x128x128 .bf16) (x7 : Vec F S3x4x128x128 .bf16) : FVec F S4x128x128 .f32 :=
  k0_pay25 (k0_pay20 (View.ld x2 r0_12)) (k0_pay21 (View.ld x7 r0_13)) (k0_pay22 (View.ld x7 r0_14)) (k0_pay23 (View.ld x7 r0_15)) (Scalar.addi (Scalar.muli 2#32 0#32) 0#32) (k0_pay24 (View.ld x2 r0_12) (View.ld x7 r0_13) (View.ld x7 r0_14) (View.ld x7 r0_15)) (Scalar.xori 1#32 (Scalar.addi (Scalar.muli 2#32 0#32) 0#32)) (Scalar.cmpi .eq (Scalar.xori 1#32 (Scalar.addi (Scalar.muli 2#32 0#32) 0#32)) 2#32)

/-- What the body computes of its inputs: the summed gradient of the mixing offsets. -/
def sumMixBias (x3 : Vec F S1x4x128 .f32) (x8 : Vec F S3x4x128 .f32) : FVec F S4x128 .f32 :=
  k0_pay30 (k0_pay26 (View.ld x3 r0_16)) (k0_pay27 (View.ld x8 r0_17)) (k0_pay28 (View.ld x8 r0_18)) (k0_pay29 (View.ld x8 r0_19)) (Scalar.addi (Scalar.muli 2#32 0#32) 0#32) (Scalar.xori 0#32 (Scalar.addi (Scalar.muli 2#32 0#32) 0#32)) 2#32

/-- What the body computes of its inputs: the summed gradient of the sinks. -/
def sumSinks (x4 : Vec F S1x9x32 .f32) (x9 : Vec F S3x9x32 .f32) : FVec F S1x8 .f32 :=
  k0_pay34 (k0_pay31 (View.ld x4 r0_20)) (k0_pay32 (View.ld x9 r0_21)) (k0_pay33 (View.ld x9 r0_22)) (View.ld x9 r0_23)

/-- What the body computes of its inputs: the summed gradient of the distance table. -/
def sumTable (x4 : Vec F S1x9x32 .f32) (x9 : Vec F S3x9x32 .f32) : FVec F S8x32 .f32 :=
  k0_pay40 (k0_pay35 (View.ld x4 r0_24)) (k0_pay36 (View.ld x9 r0_25)) (k0_pay37 (View.ld x9 r0_26)) (k0_pay38 (View.ld x9 r0_27)) (k0_pay39 (View.ld x4 r0_24) (View.ld x9 r0_25) (View.ld x9 r0_26) (View.ld x9 r0_27)) (Scalar.xori 3#32 (Scalar.addi (Scalar.muli 2#32 0#32) 0#32)) (Scalar.cmpi .eq (Scalar.xori 3#32 (Scalar.addi (Scalar.muli 2#32 0#32) 0#32)) 2#32)

/-- What the body computes of its inputs: the summed gradient of the second norm's gain. -/
def sumNorm2 (x0 : Vec F S1x8x1024 .f32) (x5 : Vec F S3x8x1024 .f32) : FVec F S1x1024 .f32 :=
  k0_pay46 (k0_pay41 (View.ld x0 r0_28)) (k0_pay42 (View.ld x5 r0_29)) (k0_pay43 (View.ld x5 r0_30)) (k0_pay44 (View.ld x5 r0_31)) (Scalar.addi (Scalar.muli 2#32 0#32) 0#32) (k0_pay45 (View.ld x0 r0_28) (View.ld x5 r0_29) (View.ld x5 r0_30) (View.ld x5 r0_31)) (Scalar.xori 2#32 (Scalar.addi (Scalar.muli 2#32 0#32) 0#32)) (Scalar.cmpi .eq (Scalar.xori 2#32 (Scalar.addi (Scalar.muli 2#32 0#32) 0#32)) 2#32)

/-- What the body computes of its inputs: the summed gradient of the final gain. -/
def sumFinal (x0 : Vec F S1x8x1024 .f32) (x5 : Vec F S3x8x1024 .f32) : FVec F S1x1024 .f32 :=
  k0_pay52 (k0_pay47 (View.ld x0 r0_32)) (k0_pay48 (View.ld x5 r0_33)) (k0_pay49 (View.ld x5 r0_34)) (k0_pay50 (View.ld x5 r0_35)) (Scalar.addi (Scalar.muli 2#32 0#32) 0#32) (k0_pay51 (View.ld x0 r0_32) (View.ld x5 r0_33) (View.ld x5 r0_34) (View.ld x5 r0_35)) (Scalar.xori 1#32 (Scalar.addi (Scalar.muli 2#32 0#32) 0#32)) (Scalar.cmpi .eq (Scalar.xori 1#32 (Scalar.addi (Scalar.muli 2#32 0#32) 0#32)) 2#32)

/-- What the body computes of its inputs: a factor of the distance table's step. -/
def tableStep  : FVec F S8x32 .f32 :=
  k0_pay73 (F := F)

/-- What the body computes of its inputs: the second norm gain's kept first moment. -/
def norm2Moment (x26 : Vec F S1x1024 .f32) : FVec F S1x1024 .f32 :=
  k0_pay77 (View.ld x26 r0_41)

/-- What the body computes of its inputs: the final gain's kept first moment. -/
def finalMoment (x27 : Vec F S1x1024 .f32) : FVec F S1x1024 .f32 :=
  k0_pay81 (View.ld x27 r0_41)

/-- What the body computes of its inputs: the part of the final gain's step the gradient adds. -/
def finalStep (x0 : Vec F S1x8x1024 .f32) (x5 : Vec F S3x8x1024 .f32) : FVec F S1x1024 .f32 :=
  k0_pay82 (sumFinal x0 x5)

/-- What the body stores in window 36. -/
def out36 (x0 : Vec F S1x8x1024 .f32) (x5 : Vec F S3x8x1024 .f32) : Vec F S1x1 .f32 :=
  View.canon [⟨r0_40, k0_pay57 (k0_pay53 (View.ld x0 r0_36)) (k0_pay54 (View.ld x5 r0_37)) (k0_pay55 (View.ld x5 r0_38)) (k0_pay56 (View.ld x5 r0_39)) (Scalar.addi (Scalar.muli 2#32 0#32) 0#32) (Scalar.xori 0#32 (Scalar.addi (Scalar.muli 2#32 0#32) 0#32)) 2#32⟩]

/-- What the body stores in window 37. -/
def out37 (x10 : Vec F S1x1x1024 .f32) (x11 : Vec F S7x1x1024 .f32) : Vec F S1x1024 .f32 :=
  View.canon [⟨r0_41, sumNorm1 x10 x11⟩]

/-- What the body stores in window 38. -/
def out38 (x1 : Vec F S1x1x512 .f32) (x6 : Vec F S3x1x512 .f32) : Vec F S1x512 .f32 :=
  View.canon [⟨r0_42, sumGain x1 x6⟩]

/-- What the body stores in window 39. -/
def out39 (x2 : Vec F S1x4x128x128 .bf16) (x7 : Vec F S3x4x128x128 .bf16) : Vec F S4x128x128 .f32 :=
  View.canon [⟨r0_43, sumMix x2 x7⟩]

/-- What the body stores in window 40. -/
def out40 (x3 : Vec F S1x4x128 .f32) (x8 : Vec F S3x4x128 .f32) : Vec F S4x128 .f32 :=
  View.canon [⟨r0_44, sumMixBias x3 x8⟩]

/-- What the body stores in window 41. -/
def out41 (x4 : Vec F S1x9x32 .f32) (x9 : Vec F S3x9x32 .f32) : Vec F S1x8 .f32 :=
  View.canon [⟨r0_45, sumSinks x4 x9⟩]

/-- What the body stores in window 42. -/
def out42 (x4 : Vec F S1x9x32 .f32) (x9 : Vec F S3x9x32 .f32) : Vec F S8x32 .f32 :=
  View.canon [⟨r0_46, sumTable x4 x9⟩]

/-- What the body stores in window 43. -/
def out43 (x0 : Vec F S1x8x1024 .f32) (x5 : Vec F S3x8x1024 .f32) : Vec F S1x1024 .f32 :=
  View.canon [⟨r0_41, sumNorm2 x0 x5⟩]

/-- What the body stores in window 44. -/
def out44 (x0 : Vec F S1x8x1024 .f32) (x5 : Vec F S3x8x1024 .f32) : Vec F S1x1024 .f32 :=
  View.canon [⟨r0_41, sumFinal x0 x5⟩]

/-- What the body stores in window 45. -/
def out45 (x10 : Vec F S1x1x1024 .f32) (x11 : Vec F S7x1x1024 .f32) (x12 : Vec F S1x1024 .f32) (x20 : Vec F S1x1024 .f32) (x28 : Vec F S1x1024 .f32) : Vec F S1x1024 .f32 :=
  View.canon [⟨r0_41, k0_pay60 (sumNorm1 x10 x11) (View.ld x12 r0_41) (View.ld x20 r0_41) (View.ld x28 r0_41)⟩]

/-- What the body stores in window 46. -/
def out46 (x1 : Vec F S1x1x512 .f32) (x6 : Vec F S3x1x512 .f32) (x13 : Vec F S1x512 .f32) (x21 : Vec F S1x512 .f32) (x29 : Vec F S1x512 .f32) : Vec F S1x512 .f32 :=
  View.canon [⟨r0_42, k0_pay63 (sumGain x1 x6) (View.ld x13 r0_42) (View.ld x21 r0_42) (View.ld x29 r0_42) (Scalar.ofBits .f32 0x3F666666#32)⟩]

/-- What the body stores in window 47. -/
def out47 (x2 : Vec F S1x4x128x128 .bf16) (x7 : Vec F S3x4x128x128 .bf16) (x14 : Vec F S4x128x128 .f32) (x22 : Vec F S4x128x128 .f32) (x30 : Vec F S4x128x128 .f32) : Vec F S4x128x128 .f32 :=
  View.canon [⟨r0_43, k0_pay66 (sumMix x2 x7) (View.ld x14 r0_43) (View.ld x22 r0_43) (View.ld x30 r0_43)⟩]

/-- What the body stores in window 48. -/
def out48 (x3 : Vec F S1x4x128 .f32) (x8 : Vec F S3x4x128 .f32) (x15 : Vec F S4x128 .f32) (x23 : Vec F S4x128 .f32) (x31 : Vec F S4x128 .f32) : Vec F S4x128 .f32 :=
  View.canon [⟨r0_44, k0_pay69 (sumMixBias x3 x8) (View.ld x15 r0_44) (View.ld x23 r0_44) (View.ld x31 r0_44)⟩]

/-- What the body stores in window 49. -/
def out49 (x4 : Vec F S1x9x32 .f32) (x9 : Vec F S3x9x32 .f32) (x16 : Vec F S1x8 .f32) (x24 : Vec F S1x8 .f32) (x32 : Vec F S1x8 .f32) : Vec F S1x8 .f32 :=
  View.canon [⟨r0_45, k0_pay72 (sumSinks x4 x9) (View.ld x16 r0_45) (View.ld x24 r0_45) (View.ld x32 r0_45)⟩]

/-- What the body stores in window 50. -/
def out50 (x4 : Vec F S1x9x32 .f32) (x9 : Vec F S3x9x32 .f32) (x17 : Vec F S8x32 .f32) (x25 : Vec F S8x32 .f32) (x33 : Vec F S8x32 .f32) : Vec F S8x32 .f32 :=
  View.canon [⟨r0_46, k0_pay76 (sumTable x4 x9) (View.ld x17 r0_46) (View.ld x25 r0_46) (View.ld x33 r0_46) (tableStep)⟩]

/-- What the body stores in window 51. -/
def out51 (x0 : Vec F S1x8x1024 .f32) (x5 : Vec F S3x8x1024 .f32) (x18 : Vec F S1x1024 .f32) (x26 : Vec F S1x1024 .f32) (x34 : Vec F S1x1024 .f32) : Vec F S1x1024 .f32 :=
  View.canon [⟨r0_41, k0_pay80 (sumNorm2 x0 x5) (View.ld x18 r0_41) (View.ld x34 r0_41) (norm2Moment x26) (Scalar.ofBits .f32 0x3DCCCCCD#32)⟩]

/-- What the body stores in window 52. -/
def out52 (x0 : Vec F S1x8x1024 .f32) (x5 : Vec F S3x8x1024 .f32) (x19 : Vec F S1x1024 .f32) (x27 : Vec F S1x1024 .f32) (x35 : Vec F S1x1024 .f32) : Vec F S1x1024 .f32 :=
  View.canon [⟨r0_41, k0_pay85 (sumFinal x0 x5) (View.ld x19 r0_41) (View.ld x35 r0_41) (finalMoment x27) (finalStep x0 x5)⟩]

/-- What the body stores in window 53. -/
def out53 (x10 : Vec F S1x1x1024 .f32) (x11 : Vec F S7x1x1024 .f32) (x20 : Vec F S1x1024 .f32) : Vec F S1x1024 .f32 :=
  View.canon [⟨r0_41, k0_pay58 (sumNorm1 x10 x11) (View.ld x20 r0_41)⟩]

/-- What the body stores in window 54. -/
def out54 (x1 : Vec F S1x1x512 .f32) (x6 : Vec F S3x1x512 .f32) (x21 : Vec F S1x512 .f32) : Vec F S1x512 .f32 :=
  View.canon [⟨r0_42, k0_pay61 (sumGain x1 x6) (View.ld x21 r0_42) (Scalar.ofBits .f32 0x3F666666#32)⟩]

/-- What the body stores in window 55. -/
def out55 (x2 : Vec F S1x4x128x128 .bf16) (x7 : Vec F S3x4x128x128 .bf16) (x22 : Vec F S4x128x128 .f32) : Vec F S4x128x128 .f32 :=
  View.canon [⟨r0_43, k0_pay64 (sumMix x2 x7) (View.ld x22 r0_43)⟩]

/-- What the body stores in window 56. -/
def out56 (x3 : Vec F S1x4x128 .f32) (x8 : Vec F S3x4x128 .f32) (x23 : Vec F S4x128 .f32) : Vec F S4x128 .f32 :=
  View.canon [⟨r0_44, k0_pay67 (sumMixBias x3 x8) (View.ld x23 r0_44)⟩]

/-- What the body stores in window 57. -/
def out57 (x4 : Vec F S1x9x32 .f32) (x9 : Vec F S3x9x32 .f32) (x24 : Vec F S1x8 .f32) : Vec F S1x8 .f32 :=
  View.canon [⟨r0_45, k0_pay70 (sumSinks x4 x9) (View.ld x24 r0_45)⟩]

/-- What the body stores in window 58. -/
def out58 (x4 : Vec F S1x9x32 .f32) (x9 : Vec F S3x9x32 .f32) (x25 : Vec F S8x32 .f32) : Vec F S8x32 .f32 :=
  View.canon [⟨r0_46, k0_pay74 (sumTable x4 x9) (View.ld x25 r0_46) (tableStep)⟩]

/-- What the body stores in window 59. -/
def out59 (x0 : Vec F S1x8x1024 .f32) (x5 : Vec F S3x8x1024 .f32) (x26 : Vec F S1x1024 .f32) : Vec F S1x1024 .f32 :=
  View.canon [⟨r0_41, k0_pay78 (sumNorm2 x0 x5) (norm2Moment x26) (Scalar.ofBits .f32 0x3DCCCCCD#32)⟩]

/-- What the body stores in window 60. -/
def out60 (x0 : Vec F S1x8x1024 .f32) (x5 : Vec F S3x8x1024 .f32) (x27 : Vec F S1x1024 .f32) : Vec F S1x1024 .f32 :=
  View.canon [⟨r0_41, k0_pay83 (finalMoment x27) (finalStep x0 x5)⟩]

/-- What the body stores in window 61. -/
def out61 (x10 : Vec F S1x1x1024 .f32) (x11 : Vec F S7x1x1024 .f32) (x28 : Vec F S1x1024 .f32) : Vec F S1x1024 .f32 :=
  View.canon [⟨r0_41, k0_pay59 (sumNorm1 x10 x11) (View.ld x28 r0_41)⟩]

/-- What the body stores in window 62. -/
def out62 (x1 : Vec F S1x1x512 .f32) (x6 : Vec F S3x1x512 .f32) (x29 : Vec F S1x512 .f32) : Vec F S1x512 .f32 :=
  View.canon [⟨r0_42, k0_pay62 (sumGain x1 x6) (View.ld x29 r0_42)⟩]

/-- What the body stores in window 63. -/
def out63 (x2 : Vec F S1x4x128x128 .bf16) (x7 : Vec F S3x4x128x128 .bf16) (x30 : Vec F S4x128x128 .f32) : Vec F S4x128x128 .f32 :=
  View.canon [⟨r0_43, k0_pay65 (sumMix x2 x7) (View.ld x30 r0_43)⟩]

/-- What the body stores in window 64. -/
def out64 (x3 : Vec F S1x4x128 .f32) (x8 : Vec F S3x4x128 .f32) (x31 : Vec F S4x128 .f32) : Vec F S4x128 .f32 :=
  View.canon [⟨r0_44, k0_pay68 (sumMixBias x3 x8) (View.ld x31 r0_44)⟩]

/-- What the body stores in window 65. -/
def out65 (x4 : Vec F S1x9x32 .f32) (x9 : Vec F S3x9x32 .f32) (x32 : Vec F S1x8 .f32) : Vec F S1x8 .f32 :=
  View.canon [⟨r0_45, k0_pay71 (sumSinks x4 x9) (View.ld x32 r0_45)⟩]

/-- What the body stores in window 66. -/
def out66 (x4 : Vec F S1x9x32 .f32) (x9 : Vec F S3x9x32 .f32) (x33 : Vec F S8x32 .f32) : Vec F S8x32 .f32 :=
  View.canon [⟨r0_46, k0_pay75 (sumTable x4 x9) (View.ld x33 r0_46)⟩]

/-- What the body stores in window 67. -/
def out67 (x0 : Vec F S1x8x1024 .f32) (x5 : Vec F S3x8x1024 .f32) (x34 : Vec F S1x1024 .f32) : Vec F S1x1024 .f32 :=
  View.canon [⟨r0_41, k0_pay79 (sumNorm2 x0 x5) (View.ld x34 r0_41)⟩]

/-- What the body stores in window 68. -/
def out68 (x0 : Vec F S1x8x1024 .f32) (x5 : Vec F S3x8x1024 .f32) (x35 : Vec F S1x1024 .f32) : Vec F S1x1024 .f32 :=
  View.canon [⟨r0_41, k0_pay84 (sumFinal x0 x5) (View.ld x35 r0_41)⟩]

end Cert.AdamSmall

end
-- ==== Proof.AdamSmallMath.lean ====
/-
  The small weights' update (program 11): over the extended reals each sum of the kernel is the reference's sum,
  and each of its steps is one AdamW step on every entry.
-/
module

public import proofs.«01_k».proof.Proof.AdamSmallOuts
public import proofs.«01_k».proof.Proof.AdamW
public import proofs.«01_k».proof.Proof.Gen.Reference11Ideal
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.AdamSmall

open Cert.Kernel11Ideal Cert.Kernel11Ideal.Gen

/-- The kernel adds three received parts in another order than the reference. -/
theorem reorder (p a b c : EReal) : p + b + a + c = p + (a + b + c) := by ac_rfl

/-- The kernel adds seven received parts one by one; the reference adds their sum. -/
theorem regroup (p a b c d e f g : EReal) : p + a + b + c + d + e + f + g = p + (a + b + c + d + e + f + g) := by ac_rfl

/-- A sum over seven. -/
theorem sum_seven (f : Fin 7 → EReal) : ∑ i, f i = f 0 + f 1 + f 2 + f 3 + f 4 + f 5 + f 6 := by
  rw [Fin.sum_univ_castSucc, Fin.sum_univ_six]; rfl

/-- The origin of a matrix. -/
theorem zero2 : (![0, 0] : Fin 2 → Nat) = fun _ => 0 := funext fun a => by fin_cases a <;> rfl

/-- The origin of a stack of matrices. -/
theorem zero3 : (![0, 0, 0] : Fin 3 → Nat) = fun _ => 0 := funext fun a => by fin_cases a <;> rfl

/-- The summed gradient of the first norm's gain, as the reference writes it. -/
theorem sumNorm1_eq (x10 : Vec Ideal S1x1x1024 .f32) (x11 : Vec Ideal S7x1x1024 .f32) :
    sumNorm1 (F := Ideal) x10 x11 = addf (shapeCast _ x10 Cert.Reference11Ideal.Gen.shapeCasts_S1x1x1024_S1x1024) (Host.reduceAdd x11 (constant Cert.Reference11Ideal.S_ .f32 0x00000000#32) Cert.Reference11Ideal.Gen.reducesTo_S7x1x1024_S1x1024_d0 Cert.Reference11Ideal.Gen.h_S_) := by
  have h : sumNorm1 (F := Ideal) x10 x11 = addf (addf (addf (addf (addf (addf (addf (norm1Part0 x10) (norm1Part1 x11)) (norm1Part2 x11)) (norm1Part3 x11)) (norm1Part4 x11)) (norm1Part5 x11)) (norm1Part6 x11)) (norm1Part7 x11) := rfl
  rw [h]
  funext j
  pointwise [norm1Part0, k0_pay1, norm1Part1, k0_pay2, norm1Part2, k0_pay3, norm1Part3, k0_pay4, norm1Part4, k0_pay5, norm1Part5, k0_pay6, norm1Part6, k0_pay7, norm1Part7, k0_pay8]
  simp only [sum_seven]
  exact regroup _ _ _ _ _ _ _ _

/-- The summed gradient of the gate's gain, as the reference writes it. -/
theorem sumGain_eq (x1 : Vec Ideal S1x1x512 .f32) (x6 : Vec Ideal S3x1x512 .f32) :
    sumGain (F := Ideal) x1 x6 = addf (shapeCast _ x1 Cert.Reference11Ideal.Gen.shapeCasts_S1x1x512_S1x512) (Host.reduceAdd x6 (constant Cert.Reference11Ideal.S_ .f32 0x00000000#32) Cert.Reference11Ideal.Gen.reducesTo_S3x1x512_S1x512_d0 Cert.Reference11Ideal.Gen.h_S_) := by
  have h : sumGain (F := Ideal) x1 x6 = addf (addf (addf (k0_pay14 (View.ld x1 r0_8)) (k0_pay15 (View.ld x6 r0_9))) (k0_pay16 (View.ld x6 r0_10))) (k0_pay17 (View.ld x6 r0_11)) := rfl
  rw [h]
  funext j
  pointwise [k0_pay14, k0_pay15, k0_pay16, k0_pay17]
  simp only [Fin.sum_univ_three]
  exact reorder _ _ _ _

/-- The summed gradient of the mixing matrices, as the reference writes it. -/
theorem sumMix_eq (x2 : Vec Ideal S1x4x128x128 .bf16) (x7 : Vec Ideal S3x4x128x128 .bf16) :
    sumMix (F := Ideal) x2 x7 = addf (extf .f32 (shapeCast _ x2 Cert.Reference11Ideal.Gen.shapeCasts_S1x4x128x128_S4x128x128) Cert.Reference11Ideal.Gen.bitsLt_bf16_f32) (Host.reduceAdd (extf .f32 x7 Cert.Reference11Ideal.Gen.bitsLt_bf16_f32) (constant Cert.Reference11Ideal.S_ .f32 0x00000000#32) Cert.Reference11Ideal.Gen.reducesTo_S3x4x128x128_S4x128x128_d0 Cert.Reference11Ideal.Gen.h_S_) := by
  have h : sumMix (F := Ideal) x2 x7 = addf (addf (addf (k0_pay20 (View.ld x2 r0_12)) (k0_pay21 (View.ld x7 r0_13))) (k0_pay22 (View.ld x7 r0_14))) (k0_pay23 (View.ld x7 r0_15)) := rfl
  rw [h]
  funext j
  pointwise [k0_pay20, k0_pay21, k0_pay22, k0_pay23]
  simp only [Fin.sum_univ_three]
  exact reorder _ _ _ _

/-- The summed gradient of the mixing offsets, as the reference writes it. -/
theorem sumMixBias_eq (x3 : Vec Ideal S1x4x128 .f32) (x8 : Vec Ideal S3x4x128 .f32) :
    sumMixBias (F := Ideal) x3 x8 = addf (shapeCast _ x3 Cert.Reference11Ideal.Gen.shapeCasts_S1x4x128_S4x128) (Host.reduceAdd x8 (constant Cert.Reference11Ideal.S_ .f32 0x00000000#32) Cert.Reference11Ideal.Gen.reducesTo_S3x4x128_S4x128_d0 Cert.Reference11Ideal.Gen.h_S_) := by
  have h : sumMixBias (F := Ideal) x3 x8 = addf (addf (addf (k0_pay26 (View.ld x3 r0_16)) (k0_pay27 (View.ld x8 r0_17))) (k0_pay28 (View.ld x8 r0_18))) (k0_pay29 (View.ld x8 r0_19)) := rfl
  rw [h]
  funext j
  pointwise [k0_pay26, k0_pay27, k0_pay28, k0_pay29]
  simp only [Fin.sum_univ_three]
  exact reorder _ _ _ _

/-- The summed gradient of the sinks, as the reference writes it. -/
theorem sumSinks_eq (x4 : Vec Ideal S1x9x32 .f32) (x9 : Vec Ideal S3x9x32 .f32) :
    sumSinks (F := Ideal) x4 x9 = extractStridedSlice Cert.Reference11Ideal.S1x8 ![8, 0] (addf (shapeCast _ x4 Cert.Reference11Ideal.Gen.shapeCasts_S1x9x32_S9x32) (Host.reduceAdd x9 (constant Cert.Reference11Ideal.S_ .f32 0x00000000#32) Cert.Reference11Ideal.Gen.reducesTo_S3x9x32_S9x32_d0 Cert.Reference11Ideal.Gen.h_S_)) Cert.Reference11Ideal.Gen.slices_S9x32_S1x8_8_0 := by
  funext j
  pointwise [sumSinks, k0_pay34, k0_pay31, k0_pay32, k0_pay33]
  simp only [Fin.sum_univ_three]
  exact reorder _ _ _ _

/-- The summed gradient of the distance table, as the reference writes it. -/
theorem sumTable_eq (x4 : Vec Ideal S1x9x32 .f32) (x9 : Vec Ideal S3x9x32 .f32) :
    sumTable (F := Ideal) x4 x9 = extractStridedSlice Cert.Reference11Ideal.S8x32 ![0, 0] (addf (shapeCast _ x4 Cert.Reference11Ideal.Gen.shapeCasts_S1x9x32_S9x32) (Host.reduceAdd x9 (constant Cert.Reference11Ideal.S_ .f32 0x00000000#32) Cert.Reference11Ideal.Gen.reducesTo_S3x9x32_S9x32_d0 Cert.Reference11Ideal.Gen.h_S_)) Cert.Reference11Ideal.Gen.slices_S9x32_S8x32_0_0 := by
  have h : sumTable (F := Ideal) x4 x9 = addf (addf (addf (k0_pay35 (View.ld x4 r0_24)) (k0_pay36 (View.ld x9 r0_25))) (k0_pay37 (View.ld x9 r0_26))) (k0_pay38 (View.ld x9 r0_27)) := rfl
  rw [h]
  funext j
  pointwise [k0_pay35, k0_pay36, k0_pay37, k0_pay38]
  simp only [Fin.sum_univ_three]
  exact reorder _ _ _ _

/-- The summed gradient of the second norm's gain, as the reference writes it. -/
theorem sumNorm2_eq (x0 : Vec Ideal S1x8x1024 .f32) (x5 : Vec Ideal S3x8x1024 .f32) :
    sumNorm2 (F := Ideal) x0 x5 = extractStridedSlice Cert.Reference11Ideal.S1x1024 ![0, 0] (addf (shapeCast _ x0 Cert.Reference11Ideal.Gen.shapeCasts_S1x8x1024_S8x1024) (Host.reduceAdd x5 (constant Cert.Reference11Ideal.S_ .f32 0x00000000#32) Cert.Reference11Ideal.Gen.reducesTo_S3x8x1024_S8x1024_d0 Cert.Reference11Ideal.Gen.h_S_)) Cert.Reference11Ideal.Gen.slices_S8x1024_S1x1024_0_0 := by
  have h : sumNorm2 (F := Ideal) x0 x5 = addf (addf (addf (k0_pay41 (View.ld x0 r0_28)) (k0_pay42 (View.ld x5 r0_29))) (k0_pay43 (View.ld x5 r0_30))) (k0_pay44 (View.ld x5 r0_31)) := rfl
  rw [h]
  funext j
  pointwise [k0_pay41, k0_pay42, k0_pay43, k0_pay44]
  simp only [Fin.sum_univ_three]
  exact reorder _ _ _ _

/-- The summed gradient of the final gain, as the reference writes it. -/
theorem sumFinal_eq (x0 : Vec Ideal S1x8x1024 .f32) (x5 : Vec Ideal S3x8x1024 .f32) :
    sumFinal (F := Ideal) x0 x5 = extractStridedSlice Cert.Reference11Ideal.S1x1024 ![1, 0] (addf (shapeCast _ x0 Cert.Reference11Ideal.Gen.shapeCasts_S1x8x1024_S8x1024) (Host.reduceAdd x5 (constant Cert.Reference11Ideal.S_ .f32 0x00000000#32) Cert.Reference11Ideal.Gen.reducesTo_S3x8x1024_S8x1024_d0 Cert.Reference11Ideal.Gen.h_S_)) Cert.Reference11Ideal.Gen.slices_S8x1024_S1x1024_1_0 := by
  have h : sumFinal (F := Ideal) x0 x5 = addf (addf (addf (k0_pay47 (View.ld x0 r0_32)) (k0_pay48 (View.ld x5 r0_33))) (k0_pay49 (View.ld x5 r0_34))) (k0_pay50 (View.ld x5 r0_35)) := rfl
  rw [h]
  funext j
  pointwise [k0_pay47, k0_pay48, k0_pay49, k0_pay50]
  simp only [Fin.sum_univ_three]
  exact reorder _ _ _ _

/-- The loss, as the reference writes it. -/
theorem loss_eq (x0 : Vec Ideal S1x8x1024 .f32) (x5 : Vec Ideal S3x8x1024 .f32) : out36 (F := Ideal) x0 x5 = extractStridedSlice Cert.Reference11Ideal.S1x1 ![2, 0] (addf (F := Ideal) (shapeCast _ x0 Cert.Reference11Ideal.Gen.shapeCasts_S1x8x1024_S8x1024) (Host.reduceAdd x5 (constant Cert.Reference11Ideal.S_ .f32 0x00000000#32) Cert.Reference11Ideal.Gen.reducesTo_S3x8x1024_S8x1024_d0 Cert.Reference11Ideal.Gen.h_S_)) Cert.Reference11Ideal.Gen.slices_S8x1024_S1x1_2_0 := by
  have h : out36 (F := Ideal) x0 x5 = View.canon [⟨r0_40, addf (addf (addf (k0_pay53 (View.ld x0 r0_36)) (k0_pay54 (View.ld x5 r0_37))) (k0_pay55 (View.ld x5 r0_38))) (k0_pay56 (View.ld x5 r0_39))⟩] := rfl
  rw [h, View.canon_unit_zero zero2]
  funext j
  pointwise [k0_pay53, k0_pay54, k0_pay55, k0_pay56]
  simp only [Fin.sum_univ_three]
  exact reorder _ _ _ _

/-- Window 37 holds the gradient of the first norm gain. -/
theorem out37_eq (x10 : Vec Ideal S1x1x1024 .f32) (x11 : Vec Ideal S7x1x1024 .f32) : out37 (F := Ideal) x10 x11 = sumNorm1 x10 x11 := by
  unfold out37; rw [View.canon_unit_zero zero2]

/-- Window 38 holds the gradient of the gate gain. -/
theorem out38_eq (x1 : Vec Ideal S1x1x512 .f32) (x6 : Vec Ideal S3x1x512 .f32) : out38 (F := Ideal) x1 x6 = sumGain x1 x6 := by
  unfold out38; rw [View.canon_unit_zero zero2]

/-- Window 39 holds the gradient of the mixing matrices. -/
theorem out39_eq (x2 : Vec Ideal S1x4x128x128 .bf16) (x7 : Vec Ideal S3x4x128x128 .bf16) : out39 (F := Ideal) x2 x7 = sumMix x2 x7 := by
  unfold out39; rw [View.canon_unit_zero zero3]

/-- Window 40 holds the gradient of the mixing offsets. -/
theorem out40_eq (x3 : Vec Ideal S1x4x128 .f32) (x8 : Vec Ideal S3x4x128 .f32) : out40 (F := Ideal) x3 x8 = sumMixBias x3 x8 := by
  unfold out40; rw [View.canon_unit_zero zero2]

/-- Window 41 holds the gradient of the sinks. -/
theorem out41_eq (x4 : Vec Ideal S1x9x32 .f32) (x9 : Vec Ideal S3x9x32 .f32) : out41 (F := Ideal) x4 x9 = sumSinks x4 x9 := by
  unfold out41; rw [View.canon_unit_zero zero2]

/-- Window 42 holds the gradient of the distance table. -/
theorem out42_eq (x4 : Vec Ideal S1x9x32 .f32) (x9 : Vec Ideal S3x9x32 .f32) : out42 (F := Ideal) x4 x9 = sumTable x4 x9 := by
  unfold out42; rw [View.canon_unit_zero zero2]

/-- Window 43 holds the gradient of the second norm gain. -/
theorem out43_eq (x0 : Vec Ideal S1x8x1024 .f32) (x5 : Vec Ideal S3x8x1024 .f32) : out43 (F := Ideal) x0 x5 = sumNorm2 x0 x5 := by
  unfold out43; rw [View.canon_unit_zero zero2]

/-- Window 44 holds the gradient of the final gain. -/
theorem out44_eq (x0 : Vec Ideal S1x8x1024 .f32) (x5 : Vec Ideal S3x8x1024 .f32) : out44 (F := Ideal) x0 x5 = sumFinal x0 x5 := by
  unfold out44; rw [View.canon_unit_zero zero2]

/-- The change of the first norm gain, entry by entry. -/
theorem out45_eq (x10 : Vec Ideal S1x1x1024 .f32) (x11 : Vec Ideal S7x1x1024 .f32) (x12 : Vec Ideal S1x1024 .f32) (x20 : Vec Ideal S1x1024 .f32) (x28 : Vec Ideal S1x1024 .f32) :
    out45 (F := Ideal) x10 x11 x12 x20 x28 = fun j => AdamW.delta (sumNorm1 x10 x11 j) (x12 j) (x20 j) (x28 j) := by
  unfold out45
  rw [View.canon_unit_zero zero2, View.ld_unit_zero (S := S1x1024) zero2 _ x12, View.ld_unit_zero (S := S1x1024) zero2 _ x20, View.ld_unit_zero (S := S1x1024) zero2 _ x28]
  generalize sumNorm1 x10 x11 = g
  funext j
  unfold AdamW.delta AdamW.fst AdamW.snd
  pointwise [k0_pay60, k0_pay58, k0_pay59]
  all_goals rfl

/-- The change of the gate gain, entry by entry. -/
theorem out46_eq (x1 : Vec Ideal S1x1x512 .f32) (x6 : Vec Ideal S3x1x512 .f32) (x13 : Vec Ideal S1x512 .f32) (x21 : Vec Ideal S1x512 .f32) (x29 : Vec Ideal S1x512 .f32) :
    out46 (F := Ideal) x1 x6 x13 x21 x29 = fun j => AdamW.delta (sumGain x1 x6 j) (x13 j) (x21 j) (x29 j) := by
  unfold out46
  rw [View.canon_unit_zero zero2, View.ld_unit_zero (S := S1x512) zero2 _ x13, View.ld_unit_zero (S := S1x512) zero2 _ x21, View.ld_unit_zero (S := S1x512) zero2 _ x29]
  generalize sumGain x1 x6 = g
  funext j
  unfold AdamW.delta AdamW.fst AdamW.snd
  pointwise [k0_pay63, k0_pay61, k0_pay62]
  all_goals rfl

/-- The change of the mixing matrices, entry by entry. -/
theorem out47_eq (x2 : Vec Ideal S1x4x128x128 .bf16) (x7 : Vec Ideal S3x4x128x128 .bf16) (x14 : Vec Ideal S4x128x128 .f32) (x22 : Vec Ideal S4x128x128 .f32) (x30 : Vec Ideal S4x128x128 .f32) :
    out47 (F := Ideal) x2 x7 x14 x22 x30 = fun j => AdamW.delta (sumMix x2 x7 j) (x14 j) (x22 j) (x30 j) := by
  unfold out47
  rw [View.canon_unit_zero zero3, View.ld_unit_zero (S := S4x128x128) zero3 _ x14, View.ld_unit_zero (S := S4x128x128) zero3 _ x22, View.ld_unit_zero (S := S4x128x128) zero3 _ x30]
  generalize sumMix x2 x7 = g
  funext j
  unfold AdamW.delta AdamW.fst AdamW.snd
  pointwise [k0_pay66, k0_pay64, k0_pay65]
  all_goals rfl

/-- The change of the mixing offsets, entry by entry. -/
theorem out48_eq (x3 : Vec Ideal S1x4x128 .f32) (x8 : Vec Ideal S3x4x128 .f32) (x15 : Vec Ideal S4x128 .f32) (x23 : Vec Ideal S4x128 .f32) (x31 : Vec Ideal S4x128 .f32) :
    out48 (F := Ideal) x3 x8 x15 x23 x31 = fun j => AdamW.delta (sumMixBias x3 x8 j) (x15 j) (x23 j) (x31 j) := by
  unfold out48
  rw [View.canon_unit_zero zero2, View.ld_unit_zero (S := S4x128) zero2 _ x15, View.ld_unit_zero (S := S4x128) zero2 _ x23, View.ld_unit_zero (S := S4x128) zero2 _ x31]
  generalize sumMixBias x3 x8 = g
  funext j
  unfold AdamW.delta AdamW.fst AdamW.snd
  pointwise [k0_pay69, k0_pay67, k0_pay68]
  all_goals rfl

/-- The change of the sinks, entry by entry. -/
theorem out49_eq (x4 : Vec Ideal S1x9x32 .f32) (x9 : Vec Ideal S3x9x32 .f32) (x16 : Vec Ideal S1x8 .f32) (x24 : Vec Ideal S1x8 .f32) (x32 : Vec Ideal S1x8 .f32) :
    out49 (F := Ideal) x4 x9 x16 x24 x32 = fun j => AdamW.delta (sumSinks x4 x9 j) (x16 j) (x24 j) (x32 j) := by
  unfold out49
  rw [View.canon_unit_zero zero2, View.ld_unit_zero (S := S1x8) zero2 _ x16, View.ld_unit_zero (S := S1x8) zero2 _ x24, View.ld_unit_zero (S := S1x8) zero2 _ x32]
  generalize sumSinks x4 x9 = g
  funext j
  unfold AdamW.delta AdamW.fst AdamW.snd
  pointwise [k0_pay72, k0_pay70, k0_pay71]
  all_goals rfl

/-- The change of the distance table, entry by entry. -/
theorem out50_eq (x4 : Vec Ideal S1x9x32 .f32) (x9 : Vec Ideal S3x9x32 .f32) (x17 : Vec Ideal S8x32 .f32) (x25 : Vec Ideal S8x32 .f32) (x33 : Vec Ideal S8x32 .f32) :
    out50 (F := Ideal) x4 x9 x17 x25 x33 = fun j => AdamW.delta (sumTable x4 x9 j) (x17 j) (x25 j) (x33 j) := by
  unfold out50
  rw [View.canon_unit_zero zero2, View.ld_unit_zero (S := S8x32) zero2 _ x17, View.ld_unit_zero (S := S8x32) zero2 _ x25, View.ld_unit_zero (S := S8x32) zero2 _ x33]
  generalize sumTable x4 x9 = g
  funext j
  unfold AdamW.delta AdamW.fst AdamW.snd
  pointwise [k0_pay76, tableStep, k0_pay74, k0_pay75, k0_pay73]
  all_goals rfl

/-- The change of the second norm gain, entry by entry. -/
theorem out51_eq (x0 : Vec Ideal S1x8x1024 .f32) (x5 : Vec Ideal S3x8x1024 .f32) (x18 : Vec Ideal S1x1024 .f32) (x26 : Vec Ideal S1x1024 .f32) (x34 : Vec Ideal S1x1024 .f32) :
    out51 (F := Ideal) x0 x5 x18 x26 x34 = fun j => AdamW.delta (sumNorm2 x0 x5 j) (x18 j) (x26 j) (x34 j) := by
  have hm26 : norm2Moment (F := Ideal) x26 = k0_pay77 x26 := by unfold norm2Moment; rw [View.ld_unit_zero (S := S1x1024) zero2 _ x26]
  unfold out51
  rw [View.canon_unit_zero zero2, View.ld_unit_zero (S := S1x1024) zero2 _ x18, View.ld_unit_zero (S := S1x1024) zero2 _ x34, hm26]
  generalize sumNorm2 x0 x5 = g
  funext j
  unfold AdamW.delta AdamW.fst AdamW.snd
  pointwise [k0_pay80, k0_pay78, k0_pay79, k0_pay77]
  all_goals rfl

/-- The change of the final gain, entry by entry. -/
theorem out52_eq (x0 : Vec Ideal S1x8x1024 .f32) (x5 : Vec Ideal S3x8x1024 .f32) (x19 : Vec Ideal S1x1024 .f32) (x27 : Vec Ideal S1x1024 .f32) (x35 : Vec Ideal S1x1024 .f32) :
    out52 (F := Ideal) x0 x5 x19 x27 x35 = fun j => AdamW.delta (sumFinal x0 x5 j) (x19 j) (x27 j) (x35 j) := by
  have hm27 : finalMoment (F := Ideal) x27 = k0_pay81 x27 := by unfold finalMoment; rw [View.ld_unit_zero (S := S1x1024) zero2 _ x27]
  unfold out52
  rw [View.canon_unit_zero zero2, View.ld_unit_zero (S := S1x1024) zero2 _ x19, View.ld_unit_zero (S := S1x1024) zero2 _ x35, hm27]
  unfold finalStep
  generalize sumFinal x0 x5 = g
  funext j
  unfold AdamW.delta AdamW.fst AdamW.snd
  pointwise [k0_pay85, k0_pay83, k0_pay84, k0_pay81, k0_pay82]
  all_goals rfl

/-- The first moment of the first norm gain, entry by entry. -/
theorem out53_eq (x10 : Vec Ideal S1x1x1024 .f32) (x11 : Vec Ideal S7x1x1024 .f32) (x20 : Vec Ideal S1x1024 .f32) :
    out53 (F := Ideal) x10 x11 x20 = fun j => AdamW.fst (sumNorm1 x10 x11 j) (x20 j) := by
  unfold out53
  rw [View.canon_unit_zero zero2, View.ld_unit_zero (S := S1x1024) zero2 _ x20]
  generalize sumNorm1 x10 x11 = g
  funext j
  unfold AdamW.fst
  pointwise [k0_pay58]
  all_goals rfl

/-- The first moment of the gate gain, entry by entry. -/
theorem out54_eq (x1 : Vec Ideal S1x1x512 .f32) (x6 : Vec Ideal S3x1x512 .f32) (x21 : Vec Ideal S1x512 .f32) :
    out54 (F := Ideal) x1 x6 x21 = fun j => AdamW.fst (sumGain x1 x6 j) (x21 j) := by
  unfold out54
  rw [View.canon_unit_zero zero2, View.ld_unit_zero (S := S1x512) zero2 _ x21]
  generalize sumGain x1 x6 = g
  funext j
  unfold AdamW.fst
  pointwise [k0_pay61]
  all_goals rfl

/-- The first moment of the mixing matrices, entry by entry. -/
theorem out55_eq (x2 : Vec Ideal S1x4x128x128 .bf16) (x7 : Vec Ideal S3x4x128x128 .bf16) (x22 : Vec Ideal S4x128x128 .f32) :
    out55 (F := Ideal) x2 x7 x22 = fun j => AdamW.fst (sumMix x2 x7 j) (x22 j) := by
  unfold out55
  rw [View.canon_unit_zero zero3, View.ld_unit_zero (S := S4x128x128) zero3 _ x22]
  generalize sumMix x2 x7 = g
  funext j
  unfold AdamW.fst
  pointwise [k0_pay64]
  all_goals rfl

/-- The first moment of the mixing offsets, entry by entry. -/
theorem out56_eq (x3 : Vec Ideal S1x4x128 .f32) (x8 : Vec Ideal S3x4x128 .f32) (x23 : Vec Ideal S4x128 .f32) :
    out56 (F := Ideal) x3 x8 x23 = fun j => AdamW.fst (sumMixBias x3 x8 j) (x23 j) := by
  unfold out56
  rw [View.canon_unit_zero zero2, View.ld_unit_zero (S := S4x128) zero2 _ x23]
  generalize sumMixBias x3 x8 = g
  funext j
  unfold AdamW.fst
  pointwise [k0_pay67]
  all_goals rfl

/-- The first moment of the sinks, entry by entry. -/
theorem out57_eq (x4 : Vec Ideal S1x9x32 .f32) (x9 : Vec Ideal S3x9x32 .f32) (x24 : Vec Ideal S1x8 .f32) :
    out57 (F := Ideal) x4 x9 x24 = fun j => AdamW.fst (sumSinks x4 x9 j) (x24 j) := by
  unfold out57
  rw [View.canon_unit_zero zero2, View.ld_unit_zero (S := S1x8) zero2 _ x24]
  generalize sumSinks x4 x9 = g
  funext j
  unfold AdamW.fst
  pointwise [k0_pay70]
  all_goals rfl

/-- The first moment of the distance table, entry by entry. -/
theorem out58_eq (x4 : Vec Ideal S1x9x32 .f32) (x9 : Vec Ideal S3x9x32 .f32) (x25 : Vec Ideal S8x32 .f32) :
    out58 (F := Ideal) x4 x9 x25 = fun j => AdamW.fst (sumTable x4 x9 j) (x25 j) := by
  unfold out58
  rw [View.canon_unit_zero zero2, View.ld_unit_zero (S := S8x32) zero2 _ x25]
  generalize sumTable x4 x9 = g
  funext j
  unfold AdamW.fst
  pointwise [k0_pay74, tableStep, k0_pay73]
  all_goals rfl

/-- The first moment of the second norm gain, entry by entry. -/
theorem out59_eq (x0 : Vec Ideal S1x8x1024 .f32) (x5 : Vec Ideal S3x8x1024 .f32) (x26 : Vec Ideal S1x1024 .f32) :
    out59 (F := Ideal) x0 x5 x26 = fun j => AdamW.fst (sumNorm2 x0 x5 j) (x26 j) := by
  have hm26 : norm2Moment (F := Ideal) x26 = k0_pay77 x26 := by unfold norm2Moment; rw [View.ld_unit_zero (S := S1x1024) zero2 _ x26]
  unfold out59
  rw [View.canon_unit_zero zero2, hm26]
  generalize sumNorm2 x0 x5 = g
  funext j
  unfold AdamW.fst
  pointwise [k0_pay78, k0_pay77]
  all_goals rfl

/-- The first moment of the final gain, entry by entry. -/
theorem out60_eq (x0 : Vec Ideal S1x8x1024 .f32) (x5 : Vec Ideal S3x8x1024 .f32) (x27 : Vec Ideal S1x1024 .f32) :
    out60 (F := Ideal) x0 x5 x27 = fun j => AdamW.fst (sumFinal x0 x5 j) (x27 j) := by
  have hm27 : finalMoment (F := Ideal) x27 = k0_pay81 x27 := by unfold finalMoment; rw [View.ld_unit_zero (S := S1x1024) zero2 _ x27]
  unfold out60
  rw [View.canon_unit_zero zero2, hm27]
  unfold finalStep
  generalize sumFinal x0 x5 = g
  funext j
  unfold AdamW.fst
  pointwise [k0_pay83, k0_pay81, k0_pay82]
  all_goals rfl

/-- The second moment of the first norm gain, entry by entry. -/
theorem out61_eq (x10 : Vec Ideal S1x1x1024 .f32) (x11 : Vec Ideal S7x1x1024 .f32) (x28 : Vec Ideal S1x1024 .f32) :
    out61 (F := Ideal) x10 x11 x28 = fun j => AdamW.snd (sumNorm1 x10 x11 j) (x28 j) := by
  unfold out61
  rw [View.canon_unit_zero zero2, View.ld_unit_zero (S := S1x1024) zero2 _ x28]
  generalize sumNorm1 x10 x11 = g
  funext j
  unfold AdamW.snd
  pointwise [k0_pay59]
  all_goals rfl

/-- The second moment of the gate gain, entry by entry. -/
theorem out62_eq (x1 : Vec Ideal S1x1x512 .f32) (x6 : Vec Ideal S3x1x512 .f32) (x29 : Vec Ideal S1x512 .f32) :
    out62 (F := Ideal) x1 x6 x29 = fun j => AdamW.snd (sumGain x1 x6 j) (x29 j) := by
  unfold out62
  rw [View.canon_unit_zero zero2, View.ld_unit_zero (S := S1x512) zero2 _ x29]
  generalize sumGain x1 x6 = g
  funext j
  unfold AdamW.snd
  pointwise [k0_pay62]
  all_goals rfl

/-- The second moment of the mixing matrices, entry by entry. -/
theorem out63_eq (x2 : Vec Ideal S1x4x128x128 .bf16) (x7 : Vec Ideal S3x4x128x128 .bf16) (x30 : Vec Ideal S4x128x128 .f32) :
    out63 (F := Ideal) x2 x7 x30 = fun j => AdamW.snd (sumMix x2 x7 j) (x30 j) := by
  unfold out63
  rw [View.canon_unit_zero zero3, View.ld_unit_zero (S := S4x128x128) zero3 _ x30]
  generalize sumMix x2 x7 = g
  funext j
  unfold AdamW.snd
  pointwise [k0_pay65]
  all_goals rfl

/-- The second moment of the mixing offsets, entry by entry. -/
theorem out64_eq (x3 : Vec Ideal S1x4x128 .f32) (x8 : Vec Ideal S3x4x128 .f32) (x31 : Vec Ideal S4x128 .f32) :
    out64 (F := Ideal) x3 x8 x31 = fun j => AdamW.snd (sumMixBias x3 x8 j) (x31 j) := by
  unfold out64
  rw [View.canon_unit_zero zero2, View.ld_unit_zero (S := S4x128) zero2 _ x31]
  generalize sumMixBias x3 x8 = g
  funext j
  unfold AdamW.snd
  pointwise [k0_pay68]
  all_goals rfl

/-- The second moment of the sinks, entry by entry. -/
theorem out65_eq (x4 : Vec Ideal S1x9x32 .f32) (x9 : Vec Ideal S3x9x32 .f32) (x32 : Vec Ideal S1x8 .f32) :
    out65 (F := Ideal) x4 x9 x32 = fun j => AdamW.snd (sumSinks x4 x9 j) (x32 j) := by
  unfold out65
  rw [View.canon_unit_zero zero2, View.ld_unit_zero (S := S1x8) zero2 _ x32]
  generalize sumSinks x4 x9 = g
  funext j
  unfold AdamW.snd
  pointwise [k0_pay71]
  all_goals rfl

/-- The second moment of the distance table, entry by entry. -/
theorem out66_eq (x4 : Vec Ideal S1x9x32 .f32) (x9 : Vec Ideal S3x9x32 .f32) (x33 : Vec Ideal S8x32 .f32) :
    out66 (F := Ideal) x4 x9 x33 = fun j => AdamW.snd (sumTable x4 x9 j) (x33 j) := by
  unfold out66
  rw [View.canon_unit_zero zero2, View.ld_unit_zero (S := S8x32) zero2 _ x33]
  generalize sumTable x4 x9 = g
  funext j
  unfold AdamW.snd
  pointwise [k0_pay75]
  all_goals rfl

/-- The second moment of the second norm gain, entry by entry. -/
theorem out67_eq (x0 : Vec Ideal S1x8x1024 .f32) (x5 : Vec Ideal S3x8x1024 .f32) (x34 : Vec Ideal S1x1024 .f32) :
    out67 (F := Ideal) x0 x5 x34 = fun j => AdamW.snd (sumNorm2 x0 x5 j) (x34 j) := by
  unfold out67
  rw [View.canon_unit_zero zero2, View.ld_unit_zero (S := S1x1024) zero2 _ x34]
  generalize sumNorm2 x0 x5 = g
  funext j
  unfold AdamW.snd
  pointwise [k0_pay79]
  all_goals rfl

/-- The second moment of the final gain, entry by entry. -/
theorem out68_eq (x0 : Vec Ideal S1x8x1024 .f32) (x5 : Vec Ideal S3x8x1024 .f32) (x35 : Vec Ideal S1x1024 .f32) :
    out68 (F := Ideal) x0 x5 x35 = fun j => AdamW.snd (sumFinal x0 x5 j) (x35 j) := by
  unfold out68
  rw [View.canon_unit_zero zero2, View.ld_unit_zero (S := S1x1024) zero2 _ x35]
  generalize sumFinal x0 x5 = g
  funext j
  unfold AdamW.snd
  pointwise [k0_pay84]
  all_goals rfl

/-- The reference's change of a weight of this shape, entry by entry. -/
theorem ref_delta_S1x1024 (g w mo v : FVec Ideal Cert.Reference11Ideal.S1x1024 .f32) :
    mulf (broadcastInDim Cert.Reference11Ideal.S1x1024 ![] Cert.Reference11Ideal.Gen.bcast_S_S1x1024 (constant Cert.Reference11Ideal.S_ .f32 0xBA83126F#32)) (addf (Host.divf (Host.divf (addf (mulf (broadcastInDim Cert.Reference11Ideal.S1x1024 ![] Cert.Reference11Ideal.Gen.bcast_S_S1x1024 (constant Cert.Reference11Ideal.S_ .f32 0x3F666666#32)) mo) (mulf (broadcastInDim Cert.Reference11Ideal.S1x1024 ![] Cert.Reference11Ideal.Gen.bcast_S_S1x1024 (constant Cert.Reference11Ideal.S_ .f32 0x3DCCCCCD#32)) g)) (broadcastInDim Cert.Reference11Ideal.S1x1024 ![] Cert.Reference11Ideal.Gen.bcast_S_S1x1024 (constant Cert.Reference11Ideal.S_ .f32 0x3F26BD02#32))) (addf (Host.sqrt (Host.divf (addf (mulf (broadcastInDim Cert.Reference11Ideal.S1x1024 ![] Cert.Reference11Ideal.Gen.bcast_S_S1x1024 (constant Cert.Reference11Ideal.S_ .f32 0x3F7FBE77#32)) v) (mulf (broadcastInDim Cert.Reference11Ideal.S1x1024 ![] Cert.Reference11Ideal.Gen.bcast_S_S1x1024 (constant Cert.Reference11Ideal.S_ .f32 0x3A83126F#32)) (mulf g g))) (broadcastInDim Cert.Reference11Ideal.S1x1024 ![] Cert.Reference11Ideal.Gen.bcast_S_S1x1024 (constant Cert.Reference11Ideal.S_ .f32 0x3C231ACC#32)))) (broadcastInDim Cert.Reference11Ideal.S1x1024 ![] Cert.Reference11Ideal.Gen.bcast_S_S1x1024 (constant Cert.Reference11Ideal.S_ .f32 0x322BCC77#32)))) (mulf (broadcastInDim Cert.Reference11Ideal.S1x1024 ![] Cert.Reference11Ideal.Gen.bcast_S_S1x1024 (constant Cert.Reference11Ideal.S_ .f32 0x3C23D70A#32)) w)) = fun j => AdamW.delta (g j) (w j) (mo j) (v j) := by
  funext j
  unfold AdamW.delta AdamW.fst AdamW.snd
  pointwise
  all_goals rfl

/-- The reference's first moment of a weight of this shape, entry by entry. -/
theorem ref_fst_S1x1024 (g mo : FVec Ideal Cert.Reference11Ideal.S1x1024 .f32) :
    addf (mulf (broadcastInDim Cert.Reference11Ideal.S1x1024 ![] Cert.Reference11Ideal.Gen.bcast_S_S1x1024 (constant Cert.Reference11Ideal.S_ .f32 0x3F666666#32)) mo) (mulf (broadcastInDim Cert.Reference11Ideal.S1x1024 ![] Cert.Reference11Ideal.Gen.bcast_S_S1x1024 (constant Cert.Reference11Ideal.S_ .f32 0x3DCCCCCD#32)) g) = fun j => AdamW.fst (g j) (mo j) := by
  funext j
  unfold AdamW.fst
  pointwise
  all_goals rfl

/-- The reference's second moment of a weight of this shape, entry by entry. -/
theorem ref_snd_S1x1024 (g v : FVec Ideal Cert.Reference11Ideal.S1x1024 .f32) :
    addf (mulf (broadcastInDim Cert.Reference11Ideal.S1x1024 ![] Cert.Reference11Ideal.Gen.bcast_S_S1x1024 (constant Cert.Reference11Ideal.S_ .f32 0x3F7FBE77#32)) v) (mulf (broadcastInDim Cert.Reference11Ideal.S1x1024 ![] Cert.Reference11Ideal.Gen.bcast_S_S1x1024 (constant Cert.Reference11Ideal.S_ .f32 0x3A83126F#32)) (mulf g g)) = fun j => AdamW.snd (g j) (v j) := by
  funext j
  unfold AdamW.snd
  pointwise
  all_goals rfl

/-- The reference's change of a weight of this shape, entry by entry. -/
theorem ref_delta_S1x512 (g w mo v : FVec Ideal Cert.Reference11Ideal.S1x512 .f32) :
    mulf (broadcastInDim Cert.Reference11Ideal.S1x512 ![] Cert.Reference11Ideal.Gen.bcast_S_S1x512 (constant Cert.Reference11Ideal.S_ .f32 0xBA83126F#32)) (addf (Host.divf (Host.divf (addf (mulf (broadcastInDim Cert.Reference11Ideal.S1x512 ![] Cert.Reference11Ideal.Gen.bcast_S_S1x512 (constant Cert.Reference11Ideal.S_ .f32 0x3F666666#32)) mo) (mulf (broadcastInDim Cert.Reference11Ideal.S1x512 ![] Cert.Reference11Ideal.Gen.bcast_S_S1x512 (constant Cert.Reference11Ideal.S_ .f32 0x3DCCCCCD#32)) g)) (broadcastInDim Cert.Reference11Ideal.S1x512 ![] Cert.Reference11Ideal.Gen.bcast_S_S1x512 (constant Cert.Reference11Ideal.S_ .f32 0x3F26BD02#32))) (addf (Host.sqrt (Host.divf (addf (mulf (broadcastInDim Cert.Reference11Ideal.S1x512 ![] Cert.Reference11Ideal.Gen.bcast_S_S1x512 (constant Cert.Reference11Ideal.S_ .f32 0x3F7FBE77#32)) v) (mulf (broadcastInDim Cert.Reference11Ideal.S1x512 ![] Cert.Reference11Ideal.Gen.bcast_S_S1x512 (constant Cert.Reference11Ideal.S_ .f32 0x3A83126F#32)) (mulf g g))) (broadcastInDim Cert.Reference11Ideal.S1x512 ![] Cert.Reference11Ideal.Gen.bcast_S_S1x512 (constant Cert.Reference11Ideal.S_ .f32 0x3C231ACC#32)))) (broadcastInDim Cert.Reference11Ideal.S1x512 ![] Cert.Reference11Ideal.Gen.bcast_S_S1x512 (constant Cert.Reference11Ideal.S_ .f32 0x322BCC77#32)))) (mulf (broadcastInDim Cert.Reference11Ideal.S1x512 ![] Cert.Reference11Ideal.Gen.bcast_S_S1x512 (constant Cert.Reference11Ideal.S_ .f32 0x3C23D70A#32)) w)) = fun j => AdamW.delta (g j) (w j) (mo j) (v j) := by
  funext j
  unfold AdamW.delta AdamW.fst AdamW.snd
  pointwise
  all_goals rfl

/-- The reference's first moment of a weight of this shape, entry by entry. -/
theorem ref_fst_S1x512 (g mo : FVec Ideal Cert.Reference11Ideal.S1x512 .f32) :
    addf (mulf (broadcastInDim Cert.Reference11Ideal.S1x512 ![] Cert.Reference11Ideal.Gen.bcast_S_S1x512 (constant Cert.Reference11Ideal.S_ .f32 0x3F666666#32)) mo) (mulf (broadcastInDim Cert.Reference11Ideal.S1x512 ![] Cert.Reference11Ideal.Gen.bcast_S_S1x512 (constant Cert.Reference11Ideal.S_ .f32 0x3DCCCCCD#32)) g) = fun j => AdamW.fst (g j) (mo j) := by
  funext j
  unfold AdamW.fst
  pointwise
  all_goals rfl

/-- The reference's second moment of a weight of this shape, entry by entry. -/
theorem ref_snd_S1x512 (g v : FVec Ideal Cert.Reference11Ideal.S1x512 .f32) :
    addf (mulf (broadcastInDim Cert.Reference11Ideal.S1x512 ![] Cert.Reference11Ideal.Gen.bcast_S_S1x512 (constant Cert.Reference11Ideal.S_ .f32 0x3F7FBE77#32)) v) (mulf (broadcastInDim Cert.Reference11Ideal.S1x512 ![] Cert.Reference11Ideal.Gen.bcast_S_S1x512 (constant Cert.Reference11Ideal.S_ .f32 0x3A83126F#32)) (mulf g g)) = fun j => AdamW.snd (g j) (v j) := by
  funext j
  unfold AdamW.snd
  pointwise
  all_goals rfl

/-- The reference's change of a weight of this shape, entry by entry. -/
theorem ref_delta_S4x128x128 (g w mo v : FVec Ideal Cert.Reference11Ideal.S4x128x128 .f32) :
    mulf (broadcastInDim Cert.Reference11Ideal.S4x128x128 ![] Cert.Reference11Ideal.Gen.bcast_S_S4x128x128 (constant Cert.Reference11Ideal.S_ .f32 0xBA83126F#32)) (addf (Host.divf (Host.divf (addf (mulf (broadcastInDim Cert.Reference11Ideal.S4x128x128 ![] Cert.Reference11Ideal.Gen.bcast_S_S4x128x128 (constant Cert.Reference11Ideal.S_ .f32 0x3F666666#32)) mo) (mulf (broadcastInDim Cert.Reference11Ideal.S4x128x128 ![] Cert.Reference11Ideal.Gen.bcast_S_S4x128x128 (constant Cert.Reference11Ideal.S_ .f32 0x3DCCCCCD#32)) g)) (broadcastInDim Cert.Reference11Ideal.S4x128x128 ![] Cert.Reference11Ideal.Gen.bcast_S_S4x128x128 (constant Cert.Reference11Ideal.S_ .f32 0x3F26BD02#32))) (addf (Host.sqrt (Host.divf (addf (mulf (broadcastInDim Cert.Reference11Ideal.S4x128x128 ![] Cert.Reference11Ideal.Gen.bcast_S_S4x128x128 (constant Cert.Reference11Ideal.S_ .f32 0x3F7FBE77#32)) v) (mulf (broadcastInDim Cert.Reference11Ideal.S4x128x128 ![] Cert.Reference11Ideal.Gen.bcast_S_S4x128x128 (constant Cert.Reference11Ideal.S_ .f32 0x3A83126F#32)) (mulf g g))) (broadcastInDim Cert.Reference11Ideal.S4x128x128 ![] Cert.Reference11Ideal.Gen.bcast_S_S4x128x128 (constant Cert.Reference11Ideal.S_ .f32 0x3C231ACC#32)))) (broadcastInDim Cert.Reference11Ideal.S4x128x128 ![] Cert.Reference11Ideal.Gen.bcast_S_S4x128x128 (constant Cert.Reference11Ideal.S_ .f32 0x322BCC77#32)))) (mulf (broadcastInDim Cert.Reference11Ideal.S4x128x128 ![] Cert.Reference11Ideal.Gen.bcast_S_S4x128x128 (constant Cert.Reference11Ideal.S_ .f32 0x3C23D70A#32)) w)) = fun j => AdamW.delta (g j) (w j) (mo j) (v j) := by
  funext j
  unfold AdamW.delta AdamW.fst AdamW.snd
  pointwise
  all_goals rfl

/-- The reference's first moment of a weight of this shape, entry by entry. -/
theorem ref_fst_S4x128x128 (g mo : FVec Ideal Cert.Reference11Ideal.S4x128x128 .f32) :
    addf (mulf (broadcastInDim Cert.Reference11Ideal.S4x128x128 ![] Cert.Reference11Ideal.Gen.bcast_S_S4x128x128 (constant Cert.Reference11Ideal.S_ .f32 0x3F666666#32)) mo) (mulf (broadcastInDim Cert.Reference11Ideal.S4x128x128 ![] Cert.Reference11Ideal.Gen.bcast_S_S4x128x128 (constant Cert.Reference11Ideal.S_ .f32 0x3DCCCCCD#32)) g) = fun j => AdamW.fst (g j) (mo j) := by
  funext j
  unfold AdamW.fst
  pointwise
  all_goals rfl

/-- The reference's second moment of a weight of this shape, entry by entry. -/
theorem ref_snd_S4x128x128 (g v : FVec Ideal Cert.Reference11Ideal.S4x128x128 .f32) :
    addf (mulf (broadcastInDim Cert.Reference11Ideal.S4x128x128 ![] Cert.Reference11Ideal.Gen.bcast_S_S4x128x128 (constant Cert.Reference11Ideal.S_ .f32 0x3F7FBE77#32)) v) (mulf (broadcastInDim Cert.Reference11Ideal.S4x128x128 ![] Cert.Reference11Ideal.Gen.bcast_S_S4x128x128 (constant Cert.Reference11Ideal.S_ .f32 0x3A83126F#32)) (mulf g g)) = fun j => AdamW.snd (g j) (v j) := by
  funext j
  unfold AdamW.snd
  pointwise
  all_goals rfl

/-- The reference's change of a weight of this shape, entry by entry. -/
theorem ref_delta_S4x128 (g w mo v : FVec Ideal Cert.Reference11Ideal.S4x128 .f32) :
    mulf (broadcastInDim Cert.Reference11Ideal.S4x128 ![] Cert.Reference11Ideal.Gen.bcast_S_S4x128 (constant Cert.Reference11Ideal.S_ .f32 0xBA83126F#32)) (addf (Host.divf (Host.divf (addf (mulf (broadcastInDim Cert.Reference11Ideal.S4x128 ![] Cert.Reference11Ideal.Gen.bcast_S_S4x128 (constant Cert.Reference11Ideal.S_ .f32 0x3F666666#32)) mo) (mulf (broadcastInDim Cert.Reference11Ideal.S4x128 ![] Cert.Reference11Ideal.Gen.bcast_S_S4x128 (constant Cert.Reference11Ideal.S_ .f32 0x3DCCCCCD#32)) g)) (broadcastInDim Cert.Reference11Ideal.S4x128 ![] Cert.Reference11Ideal.Gen.bcast_S_S4x128 (constant Cert.Reference11Ideal.S_ .f32 0x3F26BD02#32))) (addf (Host.sqrt (Host.divf (addf (mulf (broadcastInDim Cert.Reference11Ideal.S4x128 ![] Cert.Reference11Ideal.Gen.bcast_S_S4x128 (constant Cert.Reference11Ideal.S_ .f32 0x3F7FBE77#32)) v) (mulf (broadcastInDim Cert.Reference11Ideal.S4x128 ![] Cert.Reference11Ideal.Gen.bcast_S_S4x128 (constant Cert.Reference11Ideal.S_ .f32 0x3A83126F#32)) (mulf g g))) (broadcastInDim Cert.Reference11Ideal.S4x128 ![] Cert.Reference11Ideal.Gen.bcast_S_S4x128 (constant Cert.Reference11Ideal.S_ .f32 0x3C231ACC#32)))) (broadcastInDim Cert.Reference11Ideal.S4x128 ![] Cert.Reference11Ideal.Gen.bcast_S_S4x128 (constant Cert.Reference11Ideal.S_ .f32 0x322BCC77#32)))) (mulf (broadcastInDim Cert.Reference11Ideal.S4x128 ![] Cert.Reference11Ideal.Gen.bcast_S_S4x128 (constant Cert.Reference11Ideal.S_ .f32 0x3C23D70A#32)) w)) = fun j => AdamW.delta (g j) (w j) (mo j) (v j) := by
  funext j
  unfold AdamW.delta AdamW.fst AdamW.snd
  pointwise
  all_goals rfl

/-- The reference's first moment of a weight of this shape, entry by entry. -/
theorem ref_fst_S4x128 (g mo : FVec Ideal Cert.Reference11Ideal.S4x128 .f32) :
    addf (mulf (broadcastInDim Cert.Reference11Ideal.S4x128 ![] Cert.Reference11Ideal.Gen.bcast_S_S4x128 (constant Cert.Reference11Ideal.S_ .f32 0x3F666666#32)) mo) (mulf (broadcastInDim Cert.Reference11Ideal.S4x128 ![] Cert.Reference11Ideal.Gen.bcast_S_S4x128 (constant Cert.Reference11Ideal.S_ .f32 0x3DCCCCCD#32)) g) = fun j => AdamW.fst (g j) (mo j) := by
  funext j
  unfold AdamW.fst
  pointwise
  all_goals rfl

/-- The reference's second moment of a weight of this shape, entry by entry. -/
theorem ref_snd_S4x128 (g v : FVec Ideal Cert.Reference11Ideal.S4x128 .f32) :
    addf (mulf (broadcastInDim Cert.Reference11Ideal.S4x128 ![] Cert.Reference11Ideal.Gen.bcast_S_S4x128 (constant Cert.Reference11Ideal.S_ .f32 0x3F7FBE77#32)) v) (mulf (broadcastInDim Cert.Reference11Ideal.S4x128 ![] Cert.Reference11Ideal.Gen.bcast_S_S4x128 (constant Cert.Reference11Ideal.S_ .f32 0x3A83126F#32)) (mulf g g)) = fun j => AdamW.snd (g j) (v j) := by
  funext j
  unfold AdamW.snd
  pointwise
  all_goals rfl

/-- The reference's change of a weight of this shape, entry by entry. -/
theorem ref_delta_S1x8 (g w mo v : FVec Ideal Cert.Reference11Ideal.S1x8 .f32) :
    mulf (broadcastInDim Cert.Reference11Ideal.S1x8 ![] Cert.Reference11Ideal.Gen.bcast_S_S1x8 (constant Cert.Reference11Ideal.S_ .f32 0xBA83126F#32)) (addf (Host.divf (Host.divf (addf (mulf (broadcastInDim Cert.Reference11Ideal.S1x8 ![] Cert.Reference11Ideal.Gen.bcast_S_S1x8 (constant Cert.Reference11Ideal.S_ .f32 0x3F666666#32)) mo) (mulf (broadcastInDim Cert.Reference11Ideal.S1x8 ![] Cert.Reference11Ideal.Gen.bcast_S_S1x8 (constant Cert.Reference11Ideal.S_ .f32 0x3DCCCCCD#32)) g)) (broadcastInDim Cert.Reference11Ideal.S1x8 ![] Cert.Reference11Ideal.Gen.bcast_S_S1x8 (constant Cert.Reference11Ideal.S_ .f32 0x3F26BD02#32))) (addf (Host.sqrt (Host.divf (addf (mulf (broadcastInDim Cert.Reference11Ideal.S1x8 ![] Cert.Reference11Ideal.Gen.bcast_S_S1x8 (constant Cert.Reference11Ideal.S_ .f32 0x3F7FBE77#32)) v) (mulf (broadcastInDim Cert.Reference11Ideal.S1x8 ![] Cert.Reference11Ideal.Gen.bcast_S_S1x8 (constant Cert.Reference11Ideal.S_ .f32 0x3A83126F#32)) (mulf g g))) (broadcastInDim Cert.Reference11Ideal.S1x8 ![] Cert.Reference11Ideal.Gen.bcast_S_S1x8 (constant Cert.Reference11Ideal.S_ .f32 0x3C231ACC#32)))) (broadcastInDim Cert.Reference11Ideal.S1x8 ![] Cert.Reference11Ideal.Gen.bcast_S_S1x8 (constant Cert.Reference11Ideal.S_ .f32 0x322BCC77#32)))) (mulf (broadcastInDim Cert.Reference11Ideal.S1x8 ![] Cert.Reference11Ideal.Gen.bcast_S_S1x8 (constant Cert.Reference11Ideal.S_ .f32 0x3C23D70A#32)) w)) = fun j => AdamW.delta (g j) (w j) (mo j) (v j) := by
  funext j
  unfold AdamW.delta AdamW.fst AdamW.snd
  pointwise
  all_goals rfl

/-- The reference's first moment of a weight of this shape, entry by entry. -/
theorem ref_fst_S1x8 (g mo : FVec Ideal Cert.Reference11Ideal.S1x8 .f32) :
    addf (mulf (broadcastInDim Cert.Reference11Ideal.S1x8 ![] Cert.Reference11Ideal.Gen.bcast_S_S1x8 (constant Cert.Reference11Ideal.S_ .f32 0x3F666666#32)) mo) (mulf (broadcastInDim Cert.Reference11Ideal.S1x8 ![] Cert.Reference11Ideal.Gen.bcast_S_S1x8 (constant Cert.Reference11Ideal.S_ .f32 0x3DCCCCCD#32)) g) = fun j => AdamW.fst (g j) (mo j) := by
  funext j
  unfold AdamW.fst
  pointwise
  all_goals rfl

/-- The reference's second moment of a weight of this shape, entry by entry. -/
theorem ref_snd_S1x8 (g v : FVec Ideal Cert.Reference11Ideal.S1x8 .f32) :
    addf (mulf (broadcastInDim Cert.Reference11Ideal.S1x8 ![] Cert.Reference11Ideal.Gen.bcast_S_S1x8 (constant Cert.Reference11Ideal.S_ .f32 0x3F7FBE77#32)) v) (mulf (broadcastInDim Cert.Reference11Ideal.S1x8 ![] Cert.Reference11Ideal.Gen.bcast_S_S1x8 (constant Cert.Reference11Ideal.S_ .f32 0x3A83126F#32)) (mulf g g)) = fun j => AdamW.snd (g j) (v j) := by
  funext j
  unfold AdamW.snd
  pointwise
  all_goals rfl

/-- The reference's change of a weight of this shape, entry by entry. -/
theorem ref_delta_S8x32 (g w mo v : FVec Ideal Cert.Reference11Ideal.S8x32 .f32) :
    mulf (broadcastInDim Cert.Reference11Ideal.S8x32 ![] Cert.Reference11Ideal.Gen.bcast_S_S8x32 (constant Cert.Reference11Ideal.S_ .f32 0xBA83126F#32)) (addf (Host.divf (Host.divf (addf (mulf (broadcastInDim Cert.Reference11Ideal.S8x32 ![] Cert.Reference11Ideal.Gen.bcast_S_S8x32 (constant Cert.Reference11Ideal.S_ .f32 0x3F666666#32)) mo) (mulf (broadcastInDim Cert.Reference11Ideal.S8x32 ![] Cert.Reference11Ideal.Gen.bcast_S_S8x32 (constant Cert.Reference11Ideal.S_ .f32 0x3DCCCCCD#32)) g)) (broadcastInDim Cert.Reference11Ideal.S8x32 ![] Cert.Reference11Ideal.Gen.bcast_S_S8x32 (constant Cert.Reference11Ideal.S_ .f32 0x3F26BD02#32))) (addf (Host.sqrt (Host.divf (addf (mulf (broadcastInDim Cert.Reference11Ideal.S8x32 ![] Cert.Reference11Ideal.Gen.bcast_S_S8x32 (constant Cert.Reference11Ideal.S_ .f32 0x3F7FBE77#32)) v) (mulf (broadcastInDim Cert.Reference11Ideal.S8x32 ![] Cert.Reference11Ideal.Gen.bcast_S_S8x32 (constant Cert.Reference11Ideal.S_ .f32 0x3A83126F#32)) (mulf g g))) (broadcastInDim Cert.Reference11Ideal.S8x32 ![] Cert.Reference11Ideal.Gen.bcast_S_S8x32 (constant Cert.Reference11Ideal.S_ .f32 0x3C231ACC#32)))) (broadcastInDim Cert.Reference11Ideal.S8x32 ![] Cert.Reference11Ideal.Gen.bcast_S_S8x32 (constant Cert.Reference11Ideal.S_ .f32 0x322BCC77#32)))) (mulf (broadcastInDim Cert.Reference11Ideal.S8x32 ![] Cert.Reference11Ideal.Gen.bcast_S_S8x32 (constant Cert.Reference11Ideal.S_ .f32 0x3C23D70A#32)) w)) = fun j => AdamW.delta (g j) (w j) (mo j) (v j) := by
  funext j
  unfold AdamW.delta AdamW.fst AdamW.snd
  pointwise
  all_goals rfl

/-- The reference's first moment of a weight of this shape, entry by entry. -/
theorem ref_fst_S8x32 (g mo : FVec Ideal Cert.Reference11Ideal.S8x32 .f32) :
    addf (mulf (broadcastInDim Cert.Reference11Ideal.S8x32 ![] Cert.Reference11Ideal.Gen.bcast_S_S8x32 (constant Cert.Reference11Ideal.S_ .f32 0x3F666666#32)) mo) (mulf (broadcastInDim Cert.Reference11Ideal.S8x32 ![] Cert.Reference11Ideal.Gen.bcast_S_S8x32 (constant Cert.Reference11Ideal.S_ .f32 0x3DCCCCCD#32)) g) = fun j => AdamW.fst (g j) (mo j) := by
  funext j
  unfold AdamW.fst
  pointwise
  all_goals rfl

/-- The reference's second moment of a weight of this shape, entry by entry. -/
theorem ref_snd_S8x32 (g v : FVec Ideal Cert.Reference11Ideal.S8x32 .f32) :
    addf (mulf (broadcastInDim Cert.Reference11Ideal.S8x32 ![] Cert.Reference11Ideal.Gen.bcast_S_S8x32 (constant Cert.Reference11Ideal.S_ .f32 0x3F7FBE77#32)) v) (mulf (broadcastInDim Cert.Reference11Ideal.S8x32 ![] Cert.Reference11Ideal.Gen.bcast_S_S8x32 (constant Cert.Reference11Ideal.S_ .f32 0x3A83126F#32)) (mulf g g)) = fun j => AdamW.snd (g j) (v j) := by
  funext j
  unfold AdamW.snd
  pointwise
  all_goals rfl

end Cert.AdamSmall

end
-- ==== Proof.AdamSmallBody.lean ====
/-
  The small weights' update (program 11): the kernel body run once, on any contents of its windows.
-/
module

public import proofs.«01_k».proof.Proof.AdamSmallOuts

@[expose] public section

set_option maxRecDepth 16384

noncomputable section

namespace Cert.AdamSmall

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Each store fills its window. -/

theorem cover_r0_40 (p0 : Vec F S1x1 .f32) (y : S1x1.Idx) :
    ∃ pc ∈ ([⟨r0_40, p0⟩] : List (View.Piece (Elt F) S1x1 .f32)), y ∈ pc.1.set :=
  View.cover_of_tiled [⟨r0_40, p0⟩] S1x1.size (by rfl) y

theorem cover_r0_41 (p0 : Vec F S1x1024 .f32) (y : S1x1024.Idx) :
    ∃ pc ∈ ([⟨r0_41, p0⟩] : List (View.Piece (Elt F) S1x1024 .f32)), y ∈ pc.1.set :=
  View.cover_of_tiled [⟨r0_41, p0⟩] S1x1024.size (by rfl) y

theorem cover_r0_42 (p0 : Vec F S1x512 .f32) (y : S1x512.Idx) :
    ∃ pc ∈ ([⟨r0_42, p0⟩] : List (View.Piece (Elt F) S1x512 .f32)), y ∈ pc.1.set :=
  View.cover_of_tiled [⟨r0_42, p0⟩] S1x512.size (by rfl) y

theorem cover_r0_43 (p0 : Vec F S4x128x128 .f32) (y : S4x128x128.Idx) :
    ∃ pc ∈ ([⟨r0_43, p0⟩] : List (View.Piece (Elt F) S4x128x128 .f32)), y ∈ pc.1.set :=
  View.cover_of_tiled [⟨r0_43, p0⟩] S4x128x128.size (by rfl) y

theorem cover_r0_44 (p0 : Vec F S4x128 .f32) (y : S4x128.Idx) :
    ∃ pc ∈ ([⟨r0_44, p0⟩] : List (View.Piece (Elt F) S4x128 .f32)), y ∈ pc.1.set :=
  View.cover_of_tiled [⟨r0_44, p0⟩] S4x128.size (by rfl) y

theorem cover_r0_45 (p0 : Vec F S1x8 .f32) (y : S1x8.Idx) :
    ∃ pc ∈ ([⟨r0_45, p0⟩] : List (View.Piece (Elt F) S1x8 .f32)), y ∈ pc.1.set :=
  View.cover_of_tiled [⟨r0_45, p0⟩] S1x8.size (by rfl) y

theorem cover_r0_46 (p0 : Vec F S8x32 .f32) (y : S8x32.Idx) :
    ∃ pc ∈ ([⟨r0_46, p0⟩] : List (View.Piece (Elt F) S8x32 .f32)), y ∈ pc.1.set :=
  View.cover_of_tiled [⟨r0_46, p0⟩] S8x32.size (by rfl) y

set_option maxHeartbeats 4000000 in
/-- The body run on whole staging buffers: the inputs are left alone, each result window holds its function of them. -/
theorem sound_kernel (c : Dev nD) (E : Set ℕ) (arg0 : Memref sig .tc .vmem S1x8x1024 .f32) (harg0 : arg0.IsWhole) (arg1 : Memref sig .tc .vmem S1x1x512 .f32) (harg1 : arg1.IsWhole) (arg2 : Memref sig .tc .vmem S1x4x128x128 .bf16) (harg2 : arg2.IsWhole) (arg3 : Memref sig .tc .vmem S1x4x128 .f32) (harg3 : arg3.IsWhole) (arg4 : Memref sig .tc .vmem S1x9x32 .f32) (harg4 : arg4.IsWhole) (arg5 : Memref sig .tc .vmem S3x8x1024 .f32) (harg5 : arg5.IsWhole) (arg6 : Memref sig .tc .vmem S3x1x512 .f32) (harg6 : arg6.IsWhole) (arg7 : Memref sig .tc .vmem S3x4x128x128 .bf16) (harg7 : arg7.IsWhole) (arg8 : Memref sig .tc .vmem S3x4x128 .f32) (harg8 : arg8.IsWhole) (arg9 : Memref sig .tc .vmem S3x9x32 .f32) (harg9 : arg9.IsWhole) (arg10 : Memref sig .tc .vmem S1x1x1024 .f32) (harg10 : arg10.IsWhole) (arg11 : Memref sig .tc .vmem S7x1x1024 .f32) (harg11 : arg11.IsWhole) (arg12 : Memref sig .tc .vmem S1x1024 .f32) (harg12 : arg12.IsWhole) (arg13 : Memref sig .tc .vmem S1x512 .f32) (harg13 : arg13.IsWhole) (arg14 : Memref sig .tc .vmem S4x128x128 .f32) (harg14 : arg14.IsWhole) (arg15 : Memref sig .tc .vmem S4x128 .f32) (harg15 : arg15.IsWhole) (arg16 : Memref sig .tc .vmem S1x8 .f32) (harg16 : arg16.IsWhole) (arg17 : Memref sig .tc .vmem S8x32 .f32) (harg17 : arg17.IsWhole) (arg18 : Memref sig .tc .vmem S1x1024 .f32) (harg18 : arg18.IsWhole) (arg19 : Memref sig .tc .vmem S1x1024 .f32) (harg19 : arg19.IsWhole) (arg20 : Memref sig .tc .vmem S1x1024 .f32) (harg20 : arg20.IsWhole) (arg21 : Memref sig .tc .vmem S1x512 .f32) (harg21 : arg21.IsWhole) (arg22 : Memref sig .tc .vmem S4x128x128 .f32) (harg22 : arg22.IsWhole) (arg23 : Memref sig .tc .vmem S4x128 .f32) (harg23 : arg23.IsWhole) (arg24 : Memref sig .tc .vmem S1x8 .f32) (harg24 : arg24.IsWhole) (arg25 : Memref sig .tc .vmem S8x32 .f32) (harg25 : arg25.IsWhole) (arg26 : Memref sig .tc .vmem S1x1024 .f32) (harg26 : arg26.IsWhole) (arg27 : Memref sig .tc .vmem S1x1024 .f32) (harg27 : arg27.IsWhole) (arg28 : Memref sig .tc .vmem S1x1024 .f32) (harg28 : arg28.IsWhole) (arg29 : Memref sig .tc .vmem S1x512 .f32) (harg29 : arg29.IsWhole) (arg30 : Memref sig .tc .vmem S4x128x128 .f32) (harg30 : arg30.IsWhole) (arg31 : Memref sig .tc .vmem S4x128 .f32) (harg31 : arg31.IsWhole) (arg32 : Memref sig .tc .vmem S1x8 .f32) (harg32 : arg32.IsWhole) (arg33 : Memref sig .tc .vmem S8x32 .f32) (harg33 : arg33.IsWhole) (arg34 : Memref sig .tc .vmem S1x1024 .f32) (harg34 : arg34.IsWhole) (arg35 : Memref sig .tc .vmem S1x1024 .f32) (harg35 : arg35.IsWhole) (arg36 : Memref sig .tc .vmem S1x1 .f32) (harg36 : arg36.IsWhole) (arg37 : Memref sig .tc .vmem S1x1024 .f32) (harg37 : arg37.IsWhole) (arg38 : Memref sig .tc .vmem S1x512 .f32) (harg38 : arg38.IsWhole) (arg39 : Memref sig .tc .vmem S4x128x128 .f32) (harg39 : arg39.IsWhole) (arg40 : Memref sig .tc .vmem S4x128 .f32) (harg40 : arg40.IsWhole) (arg41 : Memref sig .tc .vmem S1x8 .f32) (harg41 : arg41.IsWhole) (arg42 : Memref sig .tc .vmem S8x32 .f32) (harg42 : arg42.IsWhole) (arg43 : Memref sig .tc .vmem S1x1024 .f32) (harg43 : arg43.IsWhole) (arg44 : Memref sig .tc .vmem S1x1024 .f32) (harg44 : arg44.IsWhole) (arg45 : Memref sig .tc .vmem S1x1024 .f32) (harg45 : arg45.IsWhole) (arg46 : Memref sig .tc .vmem S1x512 .f32) (harg46 : arg46.IsWhole) (arg47 : Memref sig .tc .vmem S4x128x128 .f32) (harg47 : arg47.IsWhole) (arg48 : Memref sig .tc .vmem S4x128 .f32) (harg48 : arg48.IsWhole) (arg49 : Memref sig .tc .vmem S1x8 .f32) (harg49 : arg49.IsWhole) (arg50 : Memref sig .tc .vmem S8x32 .f32) (harg50 : arg50.IsWhole) (arg51 : Memref sig .tc .vmem S1x1024 .f32) (harg51 : arg51.IsWhole) (arg52 : Memref sig .tc .vmem S1x1024 .f32) (harg52 : arg52.IsWhole) (arg53 : Memref sig .tc .vmem S1x1024 .f32) (harg53 : arg53.IsWhole) (arg54 : Memref sig .tc .vmem S1x512 .f32) (harg54 : arg54.IsWhole) (arg55 : Memref sig .tc .vmem S4x128x128 .f32) (harg55 : arg55.IsWhole) (arg56 : Memref sig .tc .vmem S4x128 .f32) (harg56 : arg56.IsWhole) (arg57 : Memref sig .tc .vmem S1x8 .f32) (harg57 : arg57.IsWhole) (arg58 : Memref sig .tc .vmem S8x32 .f32) (harg58 : arg58.IsWhole) (arg59 : Memref sig .tc .vmem S1x1024 .f32) (harg59 : arg59.IsWhole) (arg60 : Memref sig .tc .vmem S1x1024 .f32) (harg60 : arg60.IsWhole) (arg61 : Memref sig .tc .vmem S1x1024 .f32) (harg61 : arg61.IsWhole) (arg62 : Memref sig .tc .vmem S1x512 .f32) (harg62 : arg62.IsWhole) (arg63 : Memref sig .tc .vmem S4x128x128 .f32) (harg63 : arg63.IsWhole) (arg64 : Memref sig .tc .vmem S4x128 .f32) (harg64 : arg64.IsWhole) (arg65 : Memref sig .tc .vmem S1x8 .f32) (harg65 : arg65.IsWhole) (arg66 : Memref sig .tc .vmem S8x32 .f32) (harg66 : arg66.IsWhole) (arg67 : Memref sig .tc .vmem S1x1024 .f32) (harg67 : arg67.IsWhole) (arg68 : Memref sig .tc .vmem S1x1024 .f32) (harg68 : arg68.IsWhole)
    (x0 : Vec F S1x8x1024 .f32) (x1 : Vec F S1x1x512 .f32) (x2 : Vec F S1x4x128x128 .bf16) (x3 : Vec F S1x4x128 .f32) (x4 : Vec F S1x9x32 .f32) (x5 : Vec F S3x8x1024 .f32) (x6 : Vec F S3x1x512 .f32) (x7 : Vec F S3x4x128x128 .bf16) (x8 : Vec F S3x4x128 .f32) (x9 : Vec F S3x9x32 .f32) (x10 : Vec F S1x1x1024 .f32) (x11 : Vec F S7x1x1024 .f32) (x12 : Vec F S1x1024 .f32) (x13 : Vec F S1x512 .f32) (x14 : Vec F S4x128x128 .f32) (x15 : Vec F S4x128 .f32) (x16 : Vec F S1x8 .f32) (x17 : Vec F S8x32 .f32) (x18 : Vec F S1x1024 .f32) (x19 : Vec F S1x1024 .f32) (x20 : Vec F S1x1024 .f32) (x21 : Vec F S1x512 .f32) (x22 : Vec F S4x128x128 .f32) (x23 : Vec F S4x128 .f32) (x24 : Vec F S1x8 .f32) (x25 : Vec F S8x32 .f32) (x26 : Vec F S1x1024 .f32) (x27 : Vec F S1x1024 .f32) (x28 : Vec F S1x1024 .f32) (x29 : Vec F S1x512 .f32) (x30 : Vec F S4x128x128 .f32) (x31 : Vec F S4x128 .f32) (x32 : Vec F S1x8 .f32) (x33 : Vec F S8x32 .f32) (x34 : Vec F S1x1024 .f32) (x35 : Vec F S1x1024 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ (∃ d, owns (c : Thread nD τ) arg36 fullShare d) ∗ (∃ d, owns (c : Thread nD τ) arg37 fullShare d) ∗ (∃ d, owns (c : Thread nD τ) arg38 fullShare d) ∗ (∃ d, owns (c : Thread nD τ) arg39 fullShare d) ∗ (∃ d, owns (c : Thread nD τ) arg40 fullShare d) ∗ (∃ d, owns (c : Thread nD τ) arg41 fullShare d) ∗ (∃ d, owns (c : Thread nD τ) arg42 fullShare d) ∗ (∃ d, owns (c : Thread nD τ) arg43 fullShare d) ∗ (∃ d, owns (c : Thread nD τ) arg44 fullShare d) ∗ (∃ d, owns (c : Thread nD τ) arg45 fullShare d) ∗ (∃ d, owns (c : Thread nD τ) arg46 fullShare d) ∗ (∃ d, owns (c : Thread nD τ) arg47 fullShare d) ∗ (∃ d, owns (c : Thread nD τ) arg48 fullShare d) ∗ (∃ d, owns (c : Thread nD τ) arg49 fullShare d) ∗ (∃ d, owns (c : Thread nD τ) arg50 fullShare d) ∗ (∃ d, owns (c : Thread nD τ) arg51 fullShare d) ∗ (∃ d, owns (c : Thread nD τ) arg52 fullShare d) ∗ (∃ d, owns (c : Thread nD τ) arg53 fullShare d) ∗ (∃ d, owns (c : Thread nD τ) arg54 fullShare d) ∗ (∃ d, owns (c : Thread nD τ) arg55 fullShare d) ∗ (∃ d, owns (c : Thread nD τ) arg56 fullShare d) ∗ (∃ d, owns (c : Thread nD τ) arg57 fullShare d) ∗ (∃ d, owns (c : Thread nD τ) arg58 fullShare d) ∗ (∃ d, owns (c : Thread nD τ) arg59 fullShare d) ∗ (∃ d, owns (c : Thread nD τ) arg60 fullShare d) ∗ (∃ d, owns (c : Thread nD τ) arg61 fullShare d) ∗ (∃ d, owns (c : Thread nD τ) arg62 fullShare d) ∗ (∃ d, owns (c : Thread nD τ) arg63 fullShare d) ∗ (∃ d, owns (c : Thread nD τ) arg64 fullShare d) ∗ (∃ d, owns (c : Thread nD τ) arg65 fullShare d) ∗ (∃ d, owns (c : Thread nD τ) arg66 fullShare d) ∗ (∃ d, owns (c : Thread nD τ) arg67 fullShare d) ∗ (∃ d, owns (c : Thread nD τ) arg68 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ owns (c : Thread nD τ) arg30 fullShare x30 ∗ owns (c : Thread nD τ) arg31 fullShare x31 ∗ owns (c : Thread nD τ) arg32 fullShare x32 ∗ owns (c : Thread nD τ) arg33 fullShare x33 ∗ owns (c : Thread nD τ) arg34 fullShare x34 ∗ owns (c : Thread nD τ) arg35 fullShare x35 ∗ owns (c : Thread nD τ) arg36 fullShare (out36 x0 x5) ∗ owns (c : Thread nD τ) arg37 fullShare (out37 x10 x11) ∗ owns (c : Thread nD τ) arg38 fullShare (out38 x1 x6) ∗ owns (c : Thread nD τ) arg39 fullShare (out39 x2 x7) ∗ owns (c : Thread nD τ) arg40 fullShare (out40 x3 x8) ∗ owns (c : Thread nD τ) arg41 fullShare (out41 x4 x9) ∗ owns (c : Thread nD τ) arg42 fullShare (out42 x4 x9) ∗ owns (c : Thread nD τ) arg43 fullShare (out43 x0 x5) ∗ owns (c : Thread nD τ) arg44 fullShare (out44 x0 x5) ∗ owns (c : Thread nD τ) arg45 fullShare (out45 x10 x11 x12 x20 x28) ∗ owns (c : Thread nD τ) arg46 fullShare (out46 x1 x6 x13 x21 x29) ∗ owns (c : Thread nD τ) arg47 fullShare (out47 x2 x7 x14 x22 x30) ∗ owns (c : Thread nD τ) arg48 fullShare (out48 x3 x8 x15 x23 x31) ∗ owns (c : Thread nD τ) arg49 fullShare (out49 x4 x9 x16 x24 x32) ∗ owns (c : Thread nD τ) arg50 fullShare (out50 x4 x9 x17 x25 x33) ∗ owns (c : Thread nD τ) arg51 fullShare (out51 x0 x5 x18 x26 x34) ∗ owns (c : Thread nD τ) arg52 fullShare (out52 x0 x5 x19 x27 x35) ∗ owns (c : Thread nD τ) arg53 fullShare (out53 x10 x11 x20) ∗ owns (c : Thread nD τ) arg54 fullShare (out54 x1 x6 x21) ∗ owns (c : Thread nD τ) arg55 fullShare (out55 x2 x7 x22) ∗ owns (c : Thread nD τ) arg56 fullShare (out56 x3 x8 x23) ∗ owns (c : Thread nD τ) arg57 fullShare (out57 x4 x9 x24) ∗ owns (c : Thread nD τ) arg58 fullShare (out58 x4 x9 x25) ∗ owns (c : Thread nD τ) arg59 fullShare (out59 x0 x5 x26) ∗ owns (c : Thread nD τ) arg60 fullShare (out60 x0 x5 x27) ∗ owns (c : Thread nD τ) arg61 fullShare (out61 x10 x11 x28) ∗ owns (c : Thread nD τ) arg62 fullShare (out62 x1 x6 x29) ∗ owns (c : Thread nD τ) arg63 fullShare (out63 x2 x7 x30) ∗ owns (c : Thread nD τ) arg64 fullShare (out64 x3 x8 x31) ∗ owns (c : Thread nD τ) arg65 fullShare (out65 x4 x9 x32) ∗ owns (c : Thread nD τ) arg66 fullShare (out66 x4 x9 x33) ∗ owns (c : Thread nD τ) arg67 fullShare (out67 x0 x5 x34) ∗ owns (c : Thread nD τ) arg68 fullShare (out68 x0 x5 x35)) -∗ K ⟨⟩))
      ⊢ wp frame (wpE (defs₀ (F := F)) Variants.none c none) E (cc0_adamw_small arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 arg45 harg45 arg46 harg46 arg47 harg47 arg48 harg48 arg49 harg49 arg50 harg50 arg51 harg51 arg52 harg52 arg53 harg53 arg54 harg54 arg55 harg55 arg56 harg56 arg57 harg57 arg58 harg58 arg59 harg59 arg60 harg60 arg61 harg61 arg62 harg62 arg63 harg63 arg64 harg64 arg65 harg65 arg66 harg66 arg67 harg67 arg68 harg68) K := by
  simp only [cc0_adamw_small_eq_skeleton]; unfold cc0_adamw_small_skel
  simp only [k0_part22_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%d36, %f36, -, H36⟩, ⟨%d37, %f37, -, H37⟩, ⟨%d38, %f38, -, H38⟩, ⟨%d39, %f39, -, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, ⟨%d58, %f58, -, H58⟩, ⟨%d59, %f59, -, H59⟩, ⟨%d60, %f60, -, H60⟩, ⟨%d61, %f61, -, H61⟩, ⟨%d62, %f62, -, H62⟩, ⟨%d63, %f63, -, H63⟩, ⟨%d64, %f64, -, H64⟩, ⟨%d65, %f65, -, H65⟩, ⟨%d66, %f66, -, H66⟩, ⟨%d67, %f67, -, H67⟩, ⟨%d68, %f68, -, H68⟩, Hk⟩
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists _; isplitr
    swap; · iexact H36
    ipureintro
    refine (View.read_writes_eq_canon _ _ _ (cover_r0_40 _)).trans ?_
    rfl
  isplitl [H37]
  · iexists _; isplitr
    swap; · iexact H37
    ipureintro
    refine (View.read_writes_eq_canon _ _ _ (cover_r0_41 _)).trans ?_
    rfl
  isplitl [H38]
  · iexists _; isplitr
    swap; · iexact H38
    ipureintro
    refine (View.read_writes_eq_canon _ _ _ (cover_r0_42 _)).trans ?_
    rfl
  isplitl [H39]
  · iexists _; isplitr
    swap; · iexact H39
    ipureintro
    refine (View.read_writes_eq_canon _ _ _ (cover_r0_43 _)).trans ?_
    rfl
  isplitl [H40]
  · iexists _; isplitr
    swap; · iexact H40
    ipureintro
    refine (View.read_writes_eq_canon _ _ _ (cover_r0_44 _)).trans ?_
    rfl
  isplitl [H41]
  · iexists _; isplitr
    swap; · iexact H41
    ipureintro
    refine (View.read_writes_eq_canon _ _ _ (cover_r0_45 _)).trans ?_
    rfl
  isplitl [H42]
  · iexists _; isplitr
    swap; · iexact H42
    ipureintro
    refine (View.read_writes_eq_canon _ _ _ (cover_r0_46 _)).trans ?_
    rfl
  isplitl [H43]
  · iexists _; isplitr
    swap; · iexact H43
    ipureintro
    refine (View.read_writes_eq_canon _ _ _ (cover_r0_41 _)).trans ?_
    rfl
  isplitl [H44]
  · iexists _; isplitr
    swap; · iexact H44
    ipureintro
    refine (View.read_writes_eq_canon _ _ _ (cover_r0_41 _)).trans ?_
    rfl
  isplitl [H45]
  · iexists _; isplitr
    swap; · iexact H45
    ipureintro
    refine (View.read_writes_eq_canon _ _ _ (cover_r0_41 _)).trans ?_
    rfl
  isplitl [H46]
  · iexists _; isplitr
    swap; · iexact H46
    ipureintro
    refine (View.read_writes_eq_canon _ _ _ (cover_r0_42 _)).trans ?_
    rfl
  isplitl [H47]
  · iexists _; isplitr
    swap; · iexact H47
    ipureintro
    refine (View.read_writes_eq_canon _ _ _ (cover_r0_43 _)).trans ?_
    rfl
  isplitl [H48]
  · iexists _; isplitr
    swap; · iexact H48
    ipureintro
    refine (View.read_writes_eq_canon _ _ _ (cover_r0_44 _)).trans ?_
    rfl
  isplitl [H49]
  · iexists _; isplitr
    swap; · iexact H49
    ipureintro
    refine (View.read_writes_eq_canon _ _ _ (cover_r0_45 _)).trans ?_
    rfl
  isplitl [H50]
  · iexists _; isplitr
    swap; · iexact H50
    ipureintro
    refine (View.read_writes_eq_canon _ _ _ (cover_r0_46 _)).trans ?_
    rfl
  isplitl [H51]
  · iexists _; isplitr
    swap; · iexact H51
    ipureintro
    refine (View.read_writes_eq_canon _ _ _ (cover_r0_41 _)).trans ?_
    rfl
  isplitl [H52]
  · iexists _; isplitr
    swap; · iexact H52
    ipureintro
    refine (View.read_writes_eq_canon _ _ _ (cover_r0_41 _)).trans ?_
    rfl
  isplitl [H53]
  · iexists _; isplitr
    swap; · iexact H53
    ipureintro
    refine (View.read_writes_eq_canon _ _ _ (cover_r0_41 _)).trans ?_
    rfl
  isplitl [H54]
  · iexists _; isplitr
    swap; · iexact H54
    ipureintro
    refine (View.read_writes_eq_canon _ _ _ (cover_r0_42 _)).trans ?_
    rfl
  isplitl [H55]
  · iexists _; isplitr
    swap; · iexact H55
    ipureintro
    refine (View.read_writes_eq_canon _ _ _ (cover_r0_43 _)).trans ?_
    rfl
  isplitl [H56]
  · iexists _; isplitr
    swap; · iexact H56
    ipureintro
    refine (View.read_writes_eq_canon _ _ _ (cover_r0_44 _)).trans ?_
    rfl
  isplitl [H57]
  · iexists _; isplitr
    swap; · iexact H57
    ipureintro
    refine (View.read_writes_eq_canon _ _ _ (cover_r0_45 _)).trans ?_
    rfl
  isplitl [H58]
  · iexists _; isplitr
    swap; · iexact H58
    ipureintro
    refine (View.read_writes_eq_canon _ _ _ (cover_r0_46 _)).trans ?_
    rfl
  isplitl [H59]
  · iexists _; isplitr
    swap; · iexact H59
    ipureintro
    refine (View.read_writes_eq_canon _ _ _ (cover_r0_41 _)).trans ?_
    rfl
  isplitl [H60]
  · iexists _; isplitr
    swap; · iexact H60
    ipureintro
    refine (View.read_writes_eq_canon _ _ _ (cover_r0_41 _)).trans ?_
    rfl
  isplitl [H61]
  · iexists _; isplitr
    swap; · iexact H61
    ipureintro
    refine (View.read_writes_eq_canon _ _ _ (cover_r0_41 _)).trans ?_
    rfl
  isplitl [H62]
  · iexists _; isplitr
    swap; · iexact H62
    ipureintro
    refine (View.read_writes_eq_canon _ _ _ (cover_r0_42 _)).trans ?_
    rfl
  isplitl [H63]
  · iexists _; isplitr
    swap; · iexact H63
    ipureintro
    refine (View.read_writes_eq_canon _ _ _ (cover_r0_43 _)).trans ?_
    rfl
  isplitl [H64]
  · iexists _; isplitr
    swap; · iexact H64
    ipureintro
    refine (View.read_writes_eq_canon _ _ _ (cover_r0_44 _)).trans ?_
    rfl
  isplitl [H65]
  · iexists _; isplitr
    swap; · iexact H65
    ipureintro
    refine (View.read_writes_eq_canon _ _ _ (cover_r0_45 _)).trans ?_
    rfl
  isplitl [H66]
  · iexists _; isplitr
    swap; · iexact H66
    ipureintro
    refine (View.read_writes_eq_canon _ _ _ (cover_r0_46 _)).trans ?_
    rfl
  isplitl [H67]
  · iexists _; isplitr
    swap; · iexact H67
    ipureintro
    refine (View.read_writes_eq_canon _ _ _ (cover_r0_41 _)).trans ?_
    rfl
  iexists _; isplitr
  swap; · iexact H68
  ipureintro
  refine (View.read_writes_eq_canon _ _ _ (cover_r0_41 _)).trans ?_
  rfl

end Cert.AdamSmall

end
-- ==== Proof.AdamSmallRun.lean ====
/-
  The small weights' update (program 11): its run, from any memory, over any values of the floats, and its frame.
-/
module

public import proofs.«01_k».proof.Proof.AdamSmallBody

@[expose] public section

set_option maxRecDepth 16384

noncomputable section

namespace Cert.AdamSmall

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the kernel starts: as launched. -/
abbrev V (c : Dev nD) (b : Ref sig .tc) : Buf (Elt F) ((c : Thread nD τ).loc b) := m ((c : Thread nD τ).loc b)

set_option maxHeartbeats 4000000 in
/-- The host program is the one kernel call. -/
theorem hmain (𝒱₀ : Variants) : Pipeline.HMain (Ix := Unit) (Name := ℕ) (U := UR sig nD τ) (Lvl := ℕ) cfgs 0 defs₀ 𝒱₀ m (main (F := F)) (V m) :=
  Pipeline.hmain_region cfgs 0 defs₀ 𝒱₀ m main fun c => (main_chain c).trans rfl

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the run holds: the arrays as launched, each input's buffer at its block, each result's buffer at the
    body's function of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => out36 (iblk m c 0 t) (iblk m c 5 t)
    | ⟨37, _⟩ => out37 (iblk m c 10 t) (iblk m c 11 t)
    | ⟨38, _⟩ => out38 (iblk m c 1 t) (iblk m c 6 t)
    | ⟨39, _⟩ => out39 (iblk m c 2 t) (iblk m c 7 t)
    | ⟨40, _⟩ => out40 (iblk m c 3 t) (iblk m c 8 t)
    | ⟨41, _⟩ => out41 (iblk m c 4 t) (iblk m c 9 t)
    | ⟨42, _⟩ => out42 (iblk m c 4 t) (iblk m c 9 t)
    | ⟨43, _⟩ => out43 (iblk m c 0 t) (iblk m c 5 t)
    | ⟨44, _⟩ => out44 (iblk m c 0 t) (iblk m c 5 t)
    | ⟨45, _⟩ => out45 (iblk m c 10 t) (iblk m c 11 t) (iblk m c 12 t) (iblk m c 20 t) (iblk m c 28 t)
    | ⟨46, _⟩ => out46 (iblk m c 1 t) (iblk m c 6 t) (iblk m c 13 t) (iblk m c 21 t) (iblk m c 29 t)
    | ⟨47, _⟩ => out47 (iblk m c 2 t) (iblk m c 7 t) (iblk m c 14 t) (iblk m c 22 t) (iblk m c 30 t)
    | ⟨48, _⟩ => out48 (iblk m c 3 t) (iblk m c 8 t) (iblk m c 15 t) (iblk m c 23 t) (iblk m c 31 t)
    | ⟨49, _⟩ => out49 (iblk m c 4 t) (iblk m c 9 t) (iblk m c 16 t) (iblk m c 24 t) (iblk m c 32 t)
    | ⟨50, _⟩ => out50 (iblk m c 4 t) (iblk m c 9 t) (iblk m c 17 t) (iblk m c 25 t) (iblk m c 33 t)
    | ⟨51, _⟩ => out51 (iblk m c 0 t) (iblk m c 5 t) (iblk m c 18 t) (iblk m c 26 t) (iblk m c 34 t)
    | ⟨52, _⟩ => out52 (iblk m c 0 t) (iblk m c 5 t) (iblk m c 19 t) (iblk m c 27 t) (iblk m c 35 t)
    | ⟨53, _⟩ => out53 (iblk m c 10 t) (iblk m c 11 t) (iblk m c 20 t)
    | ⟨54, _⟩ => out54 (iblk m c 1 t) (iblk m c 6 t) (iblk m c 21 t)
    | ⟨55, _⟩ => out55 (iblk m c 2 t) (iblk m c 7 t) (iblk m c 22 t)
    | ⟨56, _⟩ => out56 (iblk m c 3 t) (iblk m c 8 t) (iblk m c 23 t)
    | ⟨57, _⟩ => out57 (iblk m c 4 t) (iblk m c 9 t) (iblk m c 24 t)
    | ⟨58, _⟩ => out58 (iblk m c 4 t) (iblk m c 9 t) (iblk m c 25 t)
    | ⟨59, _⟩ => out59 (iblk m c 0 t) (iblk m c 5 t) (iblk m c 26 t)
    | ⟨60, _⟩ => out60 (iblk m c 0 t) (iblk m c 5 t) (iblk m c 27 t)
    | ⟨61, _⟩ => out61 (iblk m c 10 t) (iblk m c 11 t) (iblk m c 28 t)
    | ⟨62, _⟩ => out62 (iblk m c 1 t) (iblk m c 6 t) (iblk m c 29 t)
    | ⟨63, _⟩ => out63 (iblk m c 2 t) (iblk m c 7 t) (iblk m c 30 t)
    | ⟨64, _⟩ => out64 (iblk m c 3 t) (iblk m c 8 t) (iblk m c 31 t)
    | ⟨65, _⟩ => out65 (iblk m c 4 t) (iblk m c 9 t) (iblk m c 32 t)
    | ⟨66, _⟩ => out66 (iblk m c 4 t) (iblk m c 9 t) (iblk m c 33 t)
    | ⟨67, _⟩ => out67 (iblk m c 0 t) (iblk m c 5 t) (iblk m c 34 t)
    | ⟨68, _⟩ => out68 (iblk m c 0 t) (iblk m c 5 t) (iblk m c 35 t)
    | ⟨_ + 69, h⟩ => absurd h (Nat.not_lt.2 (Nat.le_add_left _ _))
  Φ _ := Pipeline.ΦA spec0 c
  q _ := fullShare
  owed _ := 0

/-- The arrays are those of the launch. -/
theorem A_eq (c : Dev nD) (w : Fin cfg0.W) : (dats m 0 c).A w = V m c (Pipeline.arrRef spec0 w) := by
  dsimp only [dats]

/-! What the body leaves, window by window. -/

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]
theorem after16 (c : Dev nD) (t : Fin cfg0.N) : (dats m 0 c).after 16 t = iblk m c 16 t := by dsimp only [dats]
theorem after17 (c : Dev nD) (t : Fin cfg0.N) : (dats m 0 c).after 17 t = iblk m c 17 t := by dsimp only [dats]
theorem after18 (c : Dev nD) (t : Fin cfg0.N) : (dats m 0 c).after 18 t = iblk m c 18 t := by dsimp only [dats]
theorem after19 (c : Dev nD) (t : Fin cfg0.N) : (dats m 0 c).after 19 t = iblk m c 19 t := by dsimp only [dats]
theorem after20 (c : Dev nD) (t : Fin cfg0.N) : (dats m 0 c).after 20 t = iblk m c 20 t := by dsimp only [dats]
theorem after21 (c : Dev nD) (t : Fin cfg0.N) : (dats m 0 c).after 21 t = iblk m c 21 t := by dsimp only [dats]
theorem after22 (c : Dev nD) (t : Fin cfg0.N) : (dats m 0 c).after 22 t = iblk m c 22 t := by dsimp only [dats]
theorem after23 (c : Dev nD) (t : Fin cfg0.N) : (dats m 0 c).after 23 t = iblk m c 23 t := by dsimp only [dats]
theorem after24 (c : Dev nD) (t : Fin cfg0.N) : (dats m 0 c).after 24 t = iblk m c 24 t := by dsimp only [dats]
theorem after25 (c : Dev nD) (t : Fin cfg0.N) : (dats m 0 c).after 25 t = iblk m c 25 t := by dsimp only [dats]
theorem after26 (c : Dev nD) (t : Fin cfg0.N) : (dats m 0 c).after 26 t = iblk m c 26 t := by dsimp only [dats]
theorem after27 (c : Dev nD) (t : Fin cfg0.N) : (dats m 0 c).after 27 t = iblk m c 27 t := by dsimp only [dats]
theorem after28 (c : Dev nD) (t : Fin cfg0.N) : (dats m 0 c).after 28 t = iblk m c 28 t := by dsimp only [dats]
theorem after29 (c : Dev nD) (t : Fin cfg0.N) : (dats m 0 c).after 29 t = iblk m c 29 t := by dsimp only [dats]
theorem after30 (c : Dev nD) (t : Fin cfg0.N) : (dats m 0 c).after 30 t = iblk m c 30 t := by dsimp only [dats]
theorem after31 (c : Dev nD) (t : Fin cfg0.N) : (dats m 0 c).after 31 t = iblk m c 31 t := by dsimp only [dats]
theorem after32 (c : Dev nD) (t : Fin cfg0.N) : (dats m 0 c).after 32 t = iblk m c 32 t := by dsimp only [dats]
theorem after33 (c : Dev nD) (t : Fin cfg0.N) : (dats m 0 c).after 33 t = iblk m c 33 t := by dsimp only [dats]
theorem after34 (c : Dev nD) (t : Fin cfg0.N) : (dats m 0 c).after 34 t = iblk m c 34 t := by dsimp only [dats]
theorem after35 (c : Dev nD) (t : Fin cfg0.N) : (dats m 0 c).after 35 t = iblk m c 35 t := by dsimp only [dats]
theorem after36 (c : Dev nD) (t : Fin cfg0.N) : (dats m 0 c).after 36 t = out36 (iblk m c 0 t) (iblk m c 5 t) := by dsimp only [dats]
theorem after37 (c : Dev nD) (t : Fin cfg0.N) : (dats m 0 c).after 37 t = out37 (iblk m c 10 t) (iblk m c 11 t) := by dsimp only [dats]
theorem after38 (c : Dev nD) (t : Fin cfg0.N) : (dats m 0 c).after 38 t = out38 (iblk m c 1 t) (iblk m c 6 t) := by dsimp only [dats]
theorem after39 (c : Dev nD) (t : Fin cfg0.N) : (dats m 0 c).after 39 t = out39 (iblk m c 2 t) (iblk m c 7 t) := by dsimp only [dats]
theorem after40 (c : Dev nD) (t : Fin cfg0.N) : (dats m 0 c).after 40 t = out40 (iblk m c 3 t) (iblk m c 8 t) := by dsimp only [dats]
theorem after41 (c : Dev nD) (t : Fin cfg0.N) : (dats m 0 c).after 41 t = out41 (iblk m c 4 t) (iblk m c 9 t) := by dsimp only [dats]
theorem after42 (c : Dev nD) (t : Fin cfg0.N) : (dats m 0 c).after 42 t = out42 (iblk m c 4 t) (iblk m c 9 t) := by dsimp only [dats]
theorem after43 (c : Dev nD) (t : Fin cfg0.N) : (dats m 0 c).after 43 t = out43 (iblk m c 0 t) (iblk m c 5 t) := by dsimp only [dats]
theorem after44 (c : Dev nD) (t : Fin cfg0.N) : (dats m 0 c).after 44 t = out44 (iblk m c 0 t) (iblk m c 5 t) := by dsimp only [dats]
theorem after45 (c : Dev nD) (t : Fin cfg0.N) : (dats m 0 c).after 45 t = out45 (iblk m c 10 t) (iblk m c 11 t) (iblk m c 12 t) (iblk m c 20 t) (iblk m c 28 t) := by dsimp only [dats]
theorem after46 (c : Dev nD) (t : Fin cfg0.N) : (dats m 0 c).after 46 t = out46 (iblk m c 1 t) (iblk m c 6 t) (iblk m c 13 t) (iblk m c 21 t) (iblk m c 29 t) := by dsimp only [dats]
theorem after47 (c : Dev nD) (t : Fin cfg0.N) : (dats m 0 c).after 47 t = out47 (iblk m c 2 t) (iblk m c 7 t) (iblk m c 14 t) (iblk m c 22 t) (iblk m c 30 t) := by dsimp only [dats]
theorem after48 (c : Dev nD) (t : Fin cfg0.N) : (dats m 0 c).after 48 t = out48 (iblk m c 3 t) (iblk m c 8 t) (iblk m c 15 t) (iblk m c 23 t) (iblk m c 31 t) := by dsimp only [dats]
theorem after49 (c : Dev nD) (t : Fin cfg0.N) : (dats m 0 c).after 49 t = out49 (iblk m c 4 t) (iblk m c 9 t) (iblk m c 16 t) (iblk m c 24 t) (iblk m c 32 t) := by dsimp only [dats]
theorem after50 (c : Dev nD) (t : Fin cfg0.N) : (dats m 0 c).after 50 t = out50 (iblk m c 4 t) (iblk m c 9 t) (iblk m c 17 t) (iblk m c 25 t) (iblk m c 33 t) := by dsimp only [dats]
theorem after51 (c : Dev nD) (t : Fin cfg0.N) : (dats m 0 c).after 51 t = out51 (iblk m c 0 t) (iblk m c 5 t) (iblk m c 18 t) (iblk m c 26 t) (iblk m c 34 t) := by dsimp only [dats]
theorem after52 (c : Dev nD) (t : Fin cfg0.N) : (dats m 0 c).after 52 t = out52 (iblk m c 0 t) (iblk m c 5 t) (iblk m c 19 t) (iblk m c 27 t) (iblk m c 35 t) := by dsimp only [dats]
theorem after53 (c : Dev nD) (t : Fin cfg0.N) : (dats m 0 c).after 53 t = out53 (iblk m c 10 t) (iblk m c 11 t) (iblk m c 20 t) := by dsimp only [dats]
theorem after54 (c : Dev nD) (t : Fin cfg0.N) : (dats m 0 c).after 54 t = out54 (iblk m c 1 t) (iblk m c 6 t) (iblk m c 21 t) := by dsimp only [dats]
theorem after55 (c : Dev nD) (t : Fin cfg0.N) : (dats m 0 c).after 55 t = out55 (iblk m c 2 t) (iblk m c 7 t) (iblk m c 22 t) := by dsimp only [dats]
theorem after56 (c : Dev nD) (t : Fin cfg0.N) : (dats m 0 c).after 56 t = out56 (iblk m c 3 t) (iblk m c 8 t) (iblk m c 23 t) := by dsimp only [dats]
theorem after57 (c : Dev nD) (t : Fin cfg0.N) : (dats m 0 c).after 57 t = out57 (iblk m c 4 t) (iblk m c 9 t) (iblk m c 24 t) := by dsimp only [dats]
theorem after58 (c : Dev nD) (t : Fin cfg0.N) : (dats m 0 c).after 58 t = out58 (iblk m c 4 t) (iblk m c 9 t) (iblk m c 25 t) := by dsimp only [dats]
theorem after59 (c : Dev nD) (t : Fin cfg0.N) : (dats m 0 c).after 59 t = out59 (iblk m c 0 t) (iblk m c 5 t) (iblk m c 26 t) := by dsimp only [dats]
theorem after60 (c : Dev nD) (t : Fin cfg0.N) : (dats m 0 c).after 60 t = out60 (iblk m c 0 t) (iblk m c 5 t) (iblk m c 27 t) := by dsimp only [dats]
theorem after61 (c : Dev nD) (t : Fin cfg0.N) : (dats m 0 c).after 61 t = out61 (iblk m c 10 t) (iblk m c 11 t) (iblk m c 28 t) := by dsimp only [dats]
theorem after62 (c : Dev nD) (t : Fin cfg0.N) : (dats m 0 c).after 62 t = out62 (iblk m c 1 t) (iblk m c 6 t) (iblk m c 29 t) := by dsimp only [dats]
theorem after63 (c : Dev nD) (t : Fin cfg0.N) : (dats m 0 c).after 63 t = out63 (iblk m c 2 t) (iblk m c 7 t) (iblk m c 30 t) := by dsimp only [dats]
theorem after64 (c : Dev nD) (t : Fin cfg0.N) : (dats m 0 c).after 64 t = out64 (iblk m c 3 t) (iblk m c 8 t) (iblk m c 31 t) := by dsimp only [dats]
theorem after65 (c : Dev nD) (t : Fin cfg0.N) : (dats m 0 c).after 65 t = out65 (iblk m c 4 t) (iblk m c 9 t) (iblk m c 32 t) := by dsimp only [dats]
theorem after66 (c : Dev nD) (t : Fin cfg0.N) : (dats m 0 c).after 66 t = out66 (iblk m c 4 t) (iblk m c 9 t) (iblk m c 33 t) := by dsimp only [dats]
theorem after67 (c : Dev nD) (t : Fin cfg0.N) : (dats m 0 c).after 67 t = out67 (iblk m c 0 t) (iblk m c 5 t) (iblk m c 34 t) := by dsimp only [dats]
theorem after68 (c : Dev nD) (t : Fin cfg0.N) : (dats m 0 c).after 68 t = out68 (iblk m c 0 t) (iblk m c 5 t) (iblk m c 35 t) := by dsimp only [dats]

/-! What the body finds in each input window: the window's block. -/

theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]) t d).trans
    (by unfold Dat.fetched Dat.blockOf iblk; rw [A_eq]; try rfl)
theorem before6 (c : Dev nD) (t : Fin cfg0.N) (d) : (dats m 0 c).before 6 t d = iblk m c 6 t :=
  ((dats m 0 c).before_in_eq_fetched 6 rfl (fun _ => rfl) (fun _ _ _ => rfl) (fun t => by rw [after6]; unfold Dat.blockOf iblk; rw [A_eq]) t d).trans
    (by unfold Dat.fetched Dat.blockOf iblk; rw [A_eq]; try rfl)
theorem before7 (c : Dev nD) (t : Fin cfg0.N) (d) : (dats m 0 c).before 7 t d = iblk m c 7 t :=
  ((dats m 0 c).before_in_eq_fetched 7 rfl (fun _ => rfl) (fun _ _ _ => rfl) (fun t => by rw [after7]; unfold Dat.blockOf iblk; rw [A_eq]) t d).trans
    (by unfold Dat.fetched Dat.blockOf iblk; rw [A_eq]; try rfl)
theorem before8 (c : Dev nD) (t : Fin cfg0.N) (d) : (dats m 0 c).before 8 t d = iblk m c 8 t :=
  ((dats m 0 c).before_in_eq_fetched 8 rfl (fun _ => rfl) (fun _ _ _ => rfl) (fun t => by rw [after8]; unfold Dat.blockOf iblk; rw [A_eq]) t d).trans
    (by unfold Dat.fetched Dat.blockOf iblk; rw [A_eq]; try rfl)
theorem before9 (c : Dev nD) (t : Fin cfg0.N) (d) : (dats m 0 c).before 9 t d = iblk m c 9 t :=
  ((dats m 0 c).before_in_eq_fetched 9 rfl (fun _ => rfl) (fun _ _ _ => rfl) (fun t => by rw [after9]; unfold Dat.blockOf iblk; rw [A_eq]) t d).trans
    (by unfold Dat.fetched Dat.blockOf iblk; rw [A_eq]; try rfl)
theorem before10 (c : Dev nD) (t : Fin cfg0.N) (d) : (dats m 0 c).before 10 t d = iblk m c 10 t :=
  ((dats m 0 c).before_in_eq_fetched 10 rfl (fun _ => rfl) (fun _ _ _ => rfl) (fun t => by rw [after10]; unfold Dat.blockOf iblk; rw [A_eq]) t d).trans
    (by unfold Dat.fetched Dat.blockOf iblk; rw [A_eq]; try rfl)
theorem before11 (c : Dev nD) (t : Fin cfg0.N) (d) : (dats m 0 c).before 11 t d = iblk m c 11 t :=
  ((dats m 0 c).before_in_eq_fetched 11 rfl (fun _ => rfl) (fun _ _ _ => rfl) (fun t => by rw [after11]; unfold Dat.blockOf iblk; rw [A_eq]) t d).trans
    (by unfold Dat.fetched Dat.blockOf iblk; rw [A_eq]; try rfl)
theorem before12 (c : Dev nD) (t : Fin cfg0.N) (d) : (dats m 0 c).before 12 t d = iblk m c 12 t :=
  ((dats m 0 c).before_in_eq_fetched 12 rfl (fun _ => rfl) (fun _ _ _ => rfl) (fun t => by rw [after12]; unfold Dat.blockOf iblk; rw [A_eq]) t d).trans
    (by unfold Dat.fetched Dat.blockOf iblk; rw [A_eq]; try rfl)
theorem before13 (c : Dev nD) (t : Fin cfg0.N) (d) : (dats m 0 c).before 13 t d = iblk m c 13 t :=
  ((dats m 0 c).before_in_eq_fetched 13 rfl (fun _ => rfl) (fun _ _ _ => rfl) (fun t => by rw [after13]; unfold Dat.blockOf iblk; rw [A_eq]) t d).trans
    (by unfold Dat.fetched Dat.blockOf iblk; rw [A_eq]; try rfl)
theorem before14 (c : Dev nD) (t : Fin cfg0.N) (d) : (dats m 0 c).before 14 t d = iblk m c 14 t :=
  ((dats m 0 c).before_in_eq_fetched 14 rfl (fun _ => rfl) (fun _ _ _ => rfl) (fun t => by rw [after14]; unfold Dat.blockOf iblk; rw [A_eq]) t d).trans
    (by unfold Dat.fetched Dat.blockOf iblk; rw [A_eq]; try rfl)
theorem before15 (c : Dev nD) (t : Fin cfg0.N) (d) : (dats m 0 c).before 15 t d = iblk m c 15 t :=
  ((dats m 0 c).before_in_eq_fetched 15 rfl (fun _ => rfl) (fun _ _ _ => rfl) (fun t => by rw [after15]; unfold Dat.blockOf iblk; rw [A_eq]) t d).trans
    (by unfold Dat.fetched Dat.blockOf iblk; rw [A_eq]; try rfl)
theorem before16 (c : Dev nD) (t : Fin cfg0.N) (d) : (dats m 0 c).before 16 t d = iblk m c 16 t :=
  ((dats m 0 c).before_in_eq_fetched 16 rfl (fun _ => rfl) (fun _ _ _ => rfl) (fun t => by rw [after16]; unfold Dat.blockOf iblk; rw [A_eq]) t d).trans
    (by unfold Dat.fetched Dat.blockOf iblk; rw [A_eq]; try rfl)
theorem before17 (c : Dev nD) (t : Fin cfg0.N) (d) : (dats m 0 c).before 17 t d = iblk m c 17 t :=
  ((dats m 0 c).before_in_eq_fetched 17 rfl (fun _ => rfl) (fun _ _ _ => rfl) (fun t => by rw [after17]; unfold Dat.blockOf iblk; rw [A_eq]) t d).trans
    (by unfold Dat.fetched Dat.blockOf iblk; rw [A_eq]; try rfl)
theorem before18 (c : Dev nD) (t : Fin cfg0.N) (d) : (dats m 0 c).before 18 t d = iblk m c 18 t :=
  ((dats m 0 c).before_in_eq_fetched 18 rfl (fun _ => rfl) (fun _ _ _ => rfl) (fun t => by rw [after18]; unfold Dat.blockOf iblk; rw [A_eq]) t d).trans
    (by unfold Dat.fetched Dat.blockOf iblk; rw [A_eq]; try rfl)
theorem before19 (c : Dev nD) (t : Fin cfg0.N) (d) : (dats m 0 c).before 19 t d = iblk m c 19 t :=
  ((dats m 0 c).before_in_eq_fetched 19 rfl (fun _ => rfl) (fun _ _ _ => rfl) (fun t => by rw [after19]; unfold Dat.blockOf iblk; rw [A_eq]) t d).trans
    (by unfold Dat.fetched Dat.blockOf iblk; rw [A_eq]; try rfl)
theorem before20 (c : Dev nD) (t : Fin cfg0.N) (d) : (dats m 0 c).before 20 t d = iblk m c 20 t :=
  ((dats m 0 c).before_in_eq_fetched 20 rfl (fun _ => rfl) (fun _ _ _ => rfl) (fun t => by rw [after20]; unfold Dat.blockOf iblk; rw [A_eq]) t d).trans
    (by unfold Dat.fetched Dat.blockOf iblk; rw [A_eq]; try rfl)
theorem before21 (c : Dev nD) (t : Fin cfg0.N) (d) : (dats m 0 c).before 21 t d = iblk m c 21 t :=
  ((dats m 0 c).before_in_eq_fetched 21 rfl (fun _ => rfl) (fun _ _ _ => rfl) (fun t => by rw [after21]; unfold Dat.blockOf iblk; rw [A_eq]) t d).trans
    (by unfold Dat.fetched Dat.blockOf iblk; rw [A_eq]; try rfl)
theorem before22 (c : Dev nD) (t : Fin cfg0.N) (d) : (dats m 0 c).before 22 t d = iblk m c 22 t :=
  ((dats m 0 c).before_in_eq_fetched 22 rfl (fun _ => rfl) (fun _ _ _ => rfl) (fun t => by rw [after22]; unfold Dat.blockOf iblk; rw [A_eq]) t d).trans
    (by unfold Dat.fetched Dat.blockOf iblk; rw [A_eq]; try rfl)
theorem before23 (c : Dev nD) (t : Fin cfg0.N) (d) : (dats m 0 c).before 23 t d = iblk m c 23 t :=
  ((dats m 0 c).before_in_eq_fetched 23 rfl (fun _ => rfl) (fun _ _ _ => rfl) (fun t => by rw [after23]; unfold Dat.blockOf iblk; rw [A_eq]) t d).trans
    (by unfold Dat.fetched Dat.blockOf iblk; rw [A_eq]; try rfl)
theorem before24 (c : Dev nD) (t : Fin cfg0.N) (d) : (dats m 0 c).before 24 t d = iblk m c 24 t :=
  ((dats m 0 c).before_in_eq_fetched 24 rfl (fun _ => rfl) (fun _ _ _ => rfl) (fun t => by rw [after24]; unfold Dat.blockOf iblk; rw [A_eq]) t d).trans
    (by unfold Dat.fetched Dat.blockOf iblk; rw [A_eq]; try rfl)
theorem before25 (c : Dev nD) (t : Fin cfg0.N) (d) : (dats m 0 c).before 25 t d = iblk m c 25 t :=
  ((dats m 0 c).before_in_eq_fetched 25 rfl (fun _ => rfl) (fun _ _ _ => rfl) (fun t => by rw [after25]; unfold Dat.blockOf iblk; rw [A_eq]) t d).trans
    (by unfold Dat.fetched Dat.blockOf iblk; rw [A_eq]; try rfl)
theorem before26 (c : Dev nD) (t : Fin cfg0.N) (d) : (dats m 0 c).before 26 t d = iblk m c 26 t :=
  ((dats m 0 c).before_in_eq_fetched 26 rfl (fun _ => rfl) (fun _ _ _ => rfl) (fun t => by rw [after26]; unfold Dat.blockOf iblk; rw [A_eq]) t d).trans
    (by unfold Dat.fetched Dat.blockOf iblk; rw [A_eq]; try rfl)
theorem before27 (c : Dev nD) (t : Fin cfg0.N) (d) : (dats m 0 c).before 27 t d = iblk m c 27 t :=
  ((dats m 0 c).before_in_eq_fetched 27 rfl (fun _ => rfl) (fun _ _ _ => rfl) (fun t => by rw [after27]; unfold Dat.blockOf iblk; rw [A_eq]) t d).trans
    (by unfold Dat.fetched Dat.blockOf iblk; rw [A_eq]; try rfl)
theorem before28 (c : Dev nD) (t : Fin cfg0.N) (d) : (dats m 0 c).before 28 t d = iblk m c 28 t :=
  ((dats m 0 c).before_in_eq_fetched 28 rfl (fun _ => rfl) (fun _ _ _ => rfl) (fun t => by rw [after28]; unfold Dat.blockOf iblk; rw [A_eq]) t d).trans
    (by unfold Dat.fetched Dat.blockOf iblk; rw [A_eq]; try rfl)
theorem before29 (c : Dev nD) (t : Fin cfg0.N) (d) : (dats m 0 c).before 29 t d = iblk m c 29 t :=
  ((dats m 0 c).before_in_eq_fetched 29 rfl (fun _ => rfl) (fun _ _ _ => rfl) (fun t => by rw [after29]; unfold Dat.blockOf iblk; rw [A_eq]) t d).trans
    (by unfold Dat.fetched Dat.blockOf iblk; rw [A_eq]; try rfl)
theorem before30 (c : Dev nD) (t : Fin cfg0.N) (d) : (dats m 0 c).before 30 t d = iblk m c 30 t :=
  ((dats m 0 c).before_in_eq_fetched 30 rfl (fun _ => rfl) (fun _ _ _ => rfl) (fun t => by rw [after30]; unfold Dat.blockOf iblk; rw [A_eq]) t d).trans
    (by unfold Dat.fetched Dat.blockOf iblk; rw [A_eq]; try rfl)
theorem before31 (c : Dev nD) (t : Fin cfg0.N) (d) : (dats m 0 c).before 31 t d = iblk m c 31 t :=
  ((dats m 0 c).before_in_eq_fetched 31 rfl (fun _ => rfl) (fun _ _ _ => rfl) (fun t => by rw [after31]; unfold Dat.blockOf iblk; rw [A_eq]) t d).trans
    (by unfold Dat.fetched Dat.blockOf iblk; rw [A_eq]; try rfl)
theorem before32 (c : Dev nD) (t : Fin cfg0.N) (d) : (dats m 0 c).before 32 t d = iblk m c 32 t :=
  ((dats m 0 c).before_in_eq_fetched 32 rfl (fun _ => rfl) (fun _ _ _ => rfl) (fun t => by rw [after32]; unfold Dat.blockOf iblk; rw [A_eq]) t d).trans
    (by unfold Dat.fetched Dat.blockOf iblk; rw [A_eq]; try rfl)
theorem before33 (c : Dev nD) (t : Fin cfg0.N) (d) : (dats m 0 c).before 33 t d = iblk m c 33 t :=
  ((dats m 0 c).before_in_eq_fetched 33 rfl (fun _ => rfl) (fun _ _ _ => rfl) (fun t => by rw [after33]; unfold Dat.blockOf iblk; rw [A_eq]) t d).trans
    (by unfold Dat.fetched Dat.blockOf iblk; rw [A_eq]; try rfl)
theorem before34 (c : Dev nD) (t : Fin cfg0.N) (d) : (dats m 0 c).before 34 t d = iblk m c 34 t :=
  ((dats m 0 c).before_in_eq_fetched 34 rfl (fun _ => rfl) (fun _ _ _ => rfl) (fun t => by rw [after34]; unfold Dat.blockOf iblk; rw [A_eq]) t d).trans
    (by unfold Dat.fetched Dat.blockOf iblk; rw [A_eq]; try rfl)
theorem before35 (c : Dev nD) (t : Fin cfg0.N) (d) : (dats m 0 c).before 35 t d = iblk m c 35 t :=
  ((dats m 0 c).before_in_eq_fetched 35 rfl (fun _ => rfl) (fun _ _ _ => rfl) (fun t => by rw [after35]; unfold Dat.blockOf iblk; rw [A_eq]) t d).trans
    (by unfold Dat.fetched Dat.blockOf iblk; rw [A_eq]; try rfl)

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d))
    ∗ (∃ d, owns (c : Thread nD τ) (st0_23 t) fullShare ((dats m 0 c).before 23 t d))
    ∗ (∃ d, owns (c : Thread nD τ) (st0_24 t) fullShare ((dats m 0 c).before 24 t d))
    ∗ (∃ d, owns (c : Thread nD τ) (st0_25 t) fullShare ((dats m 0 c).before 25 t d))
    ∗ (∃ d, owns (c : Thread nD τ) (st0_26 t) fullShare ((dats m 0 c).before 26 t d))
    ∗ (∃ d, owns (c : Thread nD τ) (st0_27 t) fullShare ((dats m 0 c).before 27 t d))
    ∗ (∃ d, owns (c : Thread nD τ) (st0_28 t) fullShare ((dats m 0 c).before 28 t d))
    ∗ (∃ d, owns (c : Thread nD τ) (st0_29 t) fullShare ((dats m 0 c).before 29 t d))
    ∗ (∃ d, owns (c : Thread nD τ) (st0_30 t) fullShare ((dats m 0 c).before 30 t d))
    ∗ (∃ d, owns (c : Thread nD τ) (st0_31 t) fullShare ((dats m 0 c).before 31 t d))
    ∗ (∃ d, owns (c : Thread nD τ) (st0_32 t) fullShare ((dats m 0 c).before 32 t d))
    ∗ (∃ d, owns (c : Thread nD τ) (st0_33 t) fullShare ((dats m 0 c).before 33 t d))
    ∗ (∃ d, owns (c : Thread nD τ) (st0_34 t) fullShare ((dats m 0 c).before 34 t d))
    ∗ (∃ d, owns (c : Thread nD τ) (st0_35 t) fullShare ((dats m 0 c).before 35 t d))
    ∗ (∃ d, owns (c : Thread nD τ) (st0_36 t) fullShare ((dats m 0 c).before 36 t d))
    ∗ (∃ d, owns (c : Thread nD τ) (st0_37 t) fullShare ((dats m 0 c).before 37 t d))
    ∗ (∃ d, owns (c : Thread nD τ) (st0_38 t) fullShare ((dats m 0 c).before 38 t d))
    ∗ (∃ d, owns (c : Thread nD τ) (st0_39 t) fullShare ((dats m 0 c).before 39 t d))
    ∗ (∃ d, owns (c : Thread nD τ) (st0_40 t) fullShare ((dats m 0 c).before 40 t d))
    ∗ (∃ d, owns (c : Thread nD τ) (st0_41 t) fullShare ((dats m 0 c).before 41 t d))
    ∗ (∃ d, owns (c : Thread nD τ) (st0_42 t) fullShare ((dats m 0 c).before 42 t d))
    ∗ (∃ d, owns (c : Thread nD τ) (st0_43 t) fullShare ((dats m 0 c).before 43 t d))
    ∗ (∃ d, owns (c : Thread nD τ) (st0_44 t) fullShare ((dats m 0 c).before 44 t d))
    ∗ (∃ d, owns (c : Thread nD τ) (st0_45 t) fullShare ((dats m 0 c).before 45 t d))
    ∗ (∃ d, owns (c : Thread nD τ) (st0_46 t) fullShare ((dats m 0 c).before 46 t d))
    ∗ (∃ d, owns (c : Thread nD τ) (st0_47 t) fullShare ((dats m 0 c).before 47 t d))
    ∗ (∃ d, owns (c : Thread nD τ) (st0_48 t) fullShare ((dats m 0 c).before 48 t d))
    ∗ (∃ d, owns (c : Thread nD τ) (st0_49 t) fullShare ((dats m 0 c).before 49 t d))
    ∗ (∃ d, owns (c : Thread nD τ) (st0_50 t) fullShare ((dats m 0 c).before 50 t d))
    ∗ (∃ d, owns (c : Thread nD τ) (st0_51 t) fullShare ((dats m 0 c).before 51 t d))
    ∗ (∃ d, owns (c : Thread nD τ) (st0_52 t) fullShare ((dats m 0 c).before 52 t d))
    ∗ (∃ d, owns (c : Thread nD τ) (st0_53 t) fullShare ((dats m 0 c).before 53 t d))
    ∗ (∃ d, owns (c : Thread nD τ) (st0_54 t) fullShare ((dats m 0 c).before 54 t d))
    ∗ (∃ d, owns (c : Thread nD τ) (st0_55 t) fullShare ((dats m 0 c).before 55 t d))
    ∗ (∃ d, owns (c : Thread nD τ) (st0_56 t) fullShare ((dats m 0 c).before 56 t d))
    ∗ (∃ d, owns (c : Thread nD τ) (st0_57 t) fullShare ((dats m 0 c).before 57 t d))
    ∗ (∃ d, owns (c : Thread nD τ) (st0_58 t) fullShare ((dats m 0 c).before 58 t d))
    ∗ (∃ d, owns (c : Thread nD τ) (st0_59 t) fullShare ((dats m 0 c).before 59 t d))
    ∗ (∃ d, owns (c : Thread nD τ) (st0_60 t) fullShare ((dats m 0 c).before 60 t d))
    ∗ (∃ d, owns (c : Thread nD τ) (st0_61 t) fullShare ((dats m 0 c).before 61 t d))
    ∗ (∃ d, owns (c : Thread nD τ) (st0_62 t) fullShare ((dats m 0 c).before 62 t d))
    ∗ (∃ d, owns (c : Thread nD τ) (st0_63 t) fullShare ((dats m 0 c).before 63 t d))
    ∗ (∃ d, owns (c : Thread nD τ) (st0_64 t) fullShare ((dats m 0 c).before 64 t d))
    ∗ (∃ d, owns (c : Thread nD τ) (st0_65 t) fullShare ((dats m 0 c).before 65 t d))
    ∗ (∃ d, owns (c : Thread nD τ) (st0_66 t) fullShare ((dats m 0 c).before 66 t d))
    ∗ (∃ d, owns (c : Thread nD τ) (st0_67 t) fullShare ((dats m 0 c).before 67 t d))
    ∗ (∃ d, owns (c : Thread nD τ) (st0_68 t) fullShare ((dats m 0 c).before 68 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t)
    ∗ owns (c : Thread nD τ) (st0_23 t) fullShare ((dats m 0 c).after 23 t)
    ∗ owns (c : Thread nD τ) (st0_24 t) fullShare ((dats m 0 c).after 24 t)
    ∗ owns (c : Thread nD τ) (st0_25 t) fullShare ((dats m 0 c).after 25 t)
    ∗ owns (c : Thread nD τ) (st0_26 t) fullShare ((dats m 0 c).after 26 t)
    ∗ owns (c : Thread nD τ) (st0_27 t) fullShare ((dats m 0 c).after 27 t)
    ∗ owns (c : Thread nD τ) (st0_28 t) fullShare ((dats m 0 c).after 28 t)
    ∗ owns (c : Thread nD τ) (st0_29 t) fullShare ((dats m 0 c).after 29 t)
    ∗ owns (c : Thread nD τ) (st0_30 t) fullShare ((dats m 0 c).after 30 t)
    ∗ owns (c : Thread nD τ) (st0_31 t) fullShare ((dats m 0 c).after 31 t)
    ∗ owns (c : Thread nD τ) (st0_32 t) fullShare ((dats m 0 c).after 32 t)
    ∗ owns (c : Thread nD τ) (st0_33 t) fullShare ((dats m 0 c).after 33 t)
    ∗ owns (c : Thread nD τ) (st0_34 t) fullShare ((dats m 0 c).after 34 t)
    ∗ owns (c : Thread nD τ) (st0_35 t) fullShare ((dats m 0 c).after 35 t)
    ∗ owns (c : Thread nD τ) (st0_36 t) fullShare ((dats m 0 c).after 36 t)
    ∗ owns (c : Thread nD τ) (st0_37 t) fullShare ((dats m 0 c).after 37 t)
    ∗ owns (c : Thread nD τ) (st0_38 t) fullShare ((dats m 0 c).after 38 t)
    ∗ owns (c : Thread nD τ) (st0_39 t) fullShare ((dats m 0 c).after 39 t)
    ∗ owns (c : Thread nD τ) (st0_40 t) fullShare ((dats m 0 c).after 40 t)
    ∗ owns (c : Thread nD τ) (st0_41 t) fullShare ((dats m 0 c).after 41 t)
    ∗ owns (c : Thread nD τ) (st0_42 t) fullShare ((dats m 0 c).after 42 t)
    ∗ owns (c : Thread nD τ) (st0_43 t) fullShare ((dats m 0 c).after 43 t)
    ∗ owns (c : Thread nD τ) (st0_44 t) fullShare ((dats m 0 c).after 44 t)
    ∗ owns (c : Thread nD τ) (st0_45 t) fullShare ((dats m 0 c).after 45 t)
    ∗ owns (c : Thread nD τ) (st0_46 t) fullShare ((dats m 0 c).after 46 t)
    ∗ owns (c : Thread nD τ) (st0_47 t) fullShare ((dats m 0 c).after 47 t)
    ∗ owns (c : Thread nD τ) (st0_48 t) fullShare ((dats m 0 c).after 48 t)
    ∗ owns (c : Thread nD τ) (st0_49 t) fullShare ((dats m 0 c).after 49 t)
    ∗ owns (c : Thread nD τ) (st0_50 t) fullShare ((dats m 0 c).after 50 t)
    ∗ owns (c : Thread nD τ) (st0_51 t) fullShare ((dats m 0 c).after 51 t)
    ∗ owns (c : Thread nD τ) (st0_52 t) fullShare ((dats m 0 c).after 52 t)
    ∗ owns (c : Thread nD τ) (st0_53 t) fullShare ((dats m 0 c).after 53 t)
    ∗ owns (c : Thread nD τ) (st0_54 t) fullShare ((dats m 0 c).after 54 t)
    ∗ owns (c : Thread nD τ) (st0_55 t) fullShare ((dats m 0 c).after 55 t)
    ∗ owns (c : Thread nD τ) (st0_56 t) fullShare ((dats m 0 c).after 56 t)
    ∗ owns (c : Thread nD τ) (st0_57 t) fullShare ((dats m 0 c).after 57 t)
    ∗ owns (c : Thread nD τ) (st0_58 t) fullShare ((dats m 0 c).after 58 t)
    ∗ owns (c : Thread nD τ) (st0_59 t) fullShare ((dats m 0 c).after 59 t)
    ∗ owns (c : Thread nD τ) (st0_60 t) fullShare ((dats m 0 c).after 60 t)
    ∗ owns (c : Thread nD τ) (st0_61 t) fullShare ((dats m 0 c).after 61 t)
    ∗ owns (c : Thread nD τ) (st0_62 t) fullShare ((dats m 0 c).after 62 t)
    ∗ owns (c : Thread nD τ) (st0_63 t) fullShare ((dats m 0 c).after 63 t)
    ∗ owns (c : Thread nD τ) (st0_64 t) fullShare ((dats m 0 c).after 64 t)
    ∗ owns (c : Thread nD τ) (st0_65 t) fullShare ((dats m 0 c).after 65 t)
    ∗ owns (c : Thread nD τ) (st0_66 t) fullShare ((dats m 0 c).after 66 t)
    ∗ owns (c : Thread nD τ) (st0_67 t) fullShare ((dats m 0 c).after 67 t)
    ∗ owns (c : Thread nD τ) (st0_68 t) fullShare ((dats m 0 c).after 68 t))

set_option maxHeartbeats 8000000 in
/-- The body at any point, from the windows' blocks to the body's results. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13, before14, before15, before16, before17, before18, before19, before20, before21, before22, before23, before24, before25, before26, before27, before28, before29, before30, before31, before32, before33, before34, before35]
  simp only [after0, after1, after2, after3, after4, after5, after6, after7, after8, after9, after10, after11, after12, after13, after14, after15, after16, after17, after18, after19, after20, after21, after22, after23, after24, after25, after26, after27, after28, after29, after30, after31, after32, after33, after34, after35, after36, after37, after38, after39, after40, after41, after42, after43, after44, after45, after46, after47, after48, after49, after50, after51, after52, after53, after54, after55, after56, after57, after58, after59, after60, after61, after62, after63, after64, after65, after66, after67, after68]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩, ⟨%d66, H66⟩, ⟨%d67, H67⟩, ⟨%d68, H68⟩⟩
  iapply (sound_kernel c Set.univ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexists _; iexact H36
  isplitl [H37]; · iexists _; iexact H37
  isplitl [H38]; · iexists _; iexact H38
  isplitl [H39]; · iexists _; iexact H39
  isplitl [H40]; · iexists _; iexact H40
  isplitl [H41]; · iexists _; iexact H41
  isplitl [H42]; · iexists _; iexact H42
  isplitl [H43]; · iexists _; iexact H43
  isplitl [H44]; · iexists _; iexact H44
  isplitl [H45]; · iexists _; iexact H45
  isplitl [H46]; · iexists _; iexact H46
  isplitl [H47]; · iexists _; iexact H47
  isplitl [H48]; · iexists _; iexact H48
  isplitl [H49]; · iexists _; iexact H49
  isplitl [H50]; · iexists _; iexact H50
  isplitl [H51]; · iexists _; iexact H51
  isplitl [H52]; · iexists _; iexact H52
  isplitl [H53]; · iexists _; iexact H53
  isplitl [H54]; · iexists _; iexact H54
  isplitl [H55]; · iexists _; iexact H55
  isplitl [H56]; · iexists _; iexact H56
  isplitl [H57]; · iexists _; iexact H57
  isplitl [H58]; · iexists _; iexact H58
  isplitl [H59]; · iexists _; iexact H59
  isplitl [H60]; · iexists _; iexact H60
  isplitl [H61]; · iexists _; iexact H61
  isplitl [H62]; · iexists _; iexact H62
  isplitl [H63]; · iexists _; iexact H63
  isplitl [H64]; · iexists _; iexact H64
  isplitl [H65]; · iexists _; iexact H65
  isplitl [H66]; · iexists _; iexact H66
  isplitl [H67]; · iexists _; iexact H67
  isplitl [H68]; · iexists _; iexact H68
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexact H41
  isplitl [H42]; · iexact H42
  isplitl [H43]; · iexact H43
  isplitl [H44]; · iexact H44
  isplitl [H45]; · iexact H45
  isplitl [H46]; · iexact H46
  isplitl [H47]; · iexact H47
  isplitl [H48]; · iexact H48
  isplitl [H49]; · iexact H49
  isplitl [H50]; · iexact H50
  isplitl [H51]; · iexact H51
  isplitl [H52]; · iexact H52
  isplitl [H53]; · iexact H53
  isplitl [H54]; · iexact H54
  isplitl [H55]; · iexact H55
  isplitl [H56]; · iexact H56
  isplitl [H57]; · iexact H57
  isplitl [H58]; · iexact H58
  isplitl [H59]; · iexact H59
  isplitl [H60]; · iexact H60
  isplitl [H61]; · iexact H61
  isplitl [H62]; · iexact H62
  isplitl [H63]; · iexact H63
  isplitl [H64]; · iexact H64
  isplitl [H65]; · iexact H65
  isplitl [H66]; · iexact H66
  isplitl [H67]; · iexact H67
  iexact H68

/-- The table's row at point `t` is the body. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body's triple at every point, as the run asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 8000000 in
/-- The run: it ends, with every array at what the data above give and every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An input array ends as it was launched. -/
theorem kept {r : PUnit × MemSt nD τ sig (Elt F)} (h : Pipeline.FramePost cfgs (dats m) 0 (V m) r) (c : Dev nD) (w : Fin cfg0.W)
    (hw : (cfg0.win w).isOut = false) :
    r.2.mem ((c : Thread nD τ).loc (Pipeline.arrRef spec0 w)) = m ((c : Thread nD τ).loc (Pipeline.arrRef spec0 w)) :=
  ((h c).1 w).trans (((dats m 0 c).arrAt_in w hw _).trans (A_eq m c w))

set_option maxHeartbeats 8000000 in
/-- The run leaves every argument as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35))
      ∧ r.2.sem = fun _ => 0) :=
  (θ_run defs _ _).mono (fun _ h => ⟨fun c => ⟨kept m h.1 c 0 rfl,
    kept m h.1 c 1 rfl,
    kept m h.1 c 2 rfl,
    kept m h.1 c 3 rfl,
    kept m h.1 c 4 rfl,
    kept m h.1 c 5 rfl,
    kept m h.1 c 6 rfl,
    kept m h.1 c 7 rfl,
    kept m h.1 c 8 rfl,
    kept m h.1 c 9 rfl,
    kept m h.1 c 10 rfl,
    kept m h.1 c 11 rfl,
    kept m h.1 c 12 rfl,
    kept m h.1 c 13 rfl,
    kept m h.1 c 14 rfl,
    kept m h.1 c 15 rfl,
    kept m h.1 c 16 rfl,
    kept m h.1 c 17 rfl,
    kept m h.1 c 18 rfl,
    kept m h.1 c 19 rfl,
    kept m h.1 c 20 rfl,
    kept m h.1 c 21 rfl,
    kept m h.1 c 22 rfl,
    kept m h.1 c 23 rfl,
    kept m h.1 c 24 rfl,
    kept m h.1 c 25 rfl,
    kept m h.1 c 26 rfl,
    kept m h.1 c 27 rfl,
    kept m h.1 c 28 rfl,
    kept m h.1 c 29 rfl,
    kept m h.1 c 30 rfl,
    kept m h.1 c 31 rfl,
    kept m h.1 c 32 rfl,
    kept m h.1 c 33 rfl,
    kept m h.1 c 34 rfl,
    kept m h.1 c 35 rfl⟩, h.2⟩) (run_main m ρ)

end Cert.AdamSmall

end
-- ==== Proof.AdamSmallValue.lean ====
/-
  The small weights' update (program 11): what its run leaves in the result arrays, as the body's functions of the
  argument arrays.
-/
module

public import proofs.«01_k».proof.Proof.AdamSmallRun
public import Idealize.ShloMosaic.Lib.Pipeline.Value

@[expose] public section

set_option maxRecDepth 16384

noncomputable section

namespace Cert.AdamSmall

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! Each window's one block is its whole array: an index of the block is the same index of the array. -/

theorem emb0 (t : Fin cfg0.N) (j : S1x8x1024.Idx) : ((cfg0.win 0).blk t).view.emb j = j := by
  obtain ⟨e0, e1, e2⟩ := (by decide +kernel : ∀ t : Fin grid0.N, win0_0.index t (0 : Fin 3) = 0 ∧ win0_0.index t (1 : Fin 3) = 0 ∧ win0_0.index t (2 : Fin 3) = 0) t
  funext a; apply Fin.ext
  match a with
  | ⟨0, _⟩ => show win0_0.index t (0 : Fin 3) * 1 + 1 * (j 0).val = (j 0).val; omega
  | ⟨1, _⟩ => show win0_0.index t (1 : Fin 3) * 8 + 1 * (j 1).val = (j 1).val; omega
  | ⟨2, _⟩ => show win0_0.index t (2 : Fin 3) * 1024 + 1 * (j 2).val = (j 2).val; omega

theorem emb1 (t : Fin cfg0.N) (j : S1x1x512.Idx) : ((cfg0.win 1).blk t).view.emb j = j := by
  obtain ⟨e0, e1, e2⟩ := (by decide +kernel : ∀ t : Fin grid0.N, win0_1.index t (0 : Fin 3) = 0 ∧ win0_1.index t (1 : Fin 3) = 0 ∧ win0_1.index t (2 : Fin 3) = 0) t
  funext a; apply Fin.ext
  match a with
  | ⟨0, _⟩ => show win0_1.index t (0 : Fin 3) * 1 + 1 * (j 0).val = (j 0).val; omega
  | ⟨1, _⟩ => show win0_1.index t (1 : Fin 3) * 1 + 1 * (j 1).val = (j 1).val; omega
  | ⟨2, _⟩ => show win0_1.index t (2 : Fin 3) * 512 + 1 * (j 2).val = (j 2).val; omega

theorem emb2 (t : Fin cfg0.N) (j : S1x4x128x128.Idx) : ((cfg0.win 2).blk t).view.emb j = j := by
  obtain ⟨e0, e1, e2, e3⟩ := (by decide +kernel : ∀ t : Fin grid0.N, win0_2.index t (0 : Fin 4) = 0 ∧ win0_2.index t (1 : Fin 4) = 0 ∧ win0_2.index t (2 : Fin 4) = 0 ∧ win0_2.index t (3 : Fin 4) = 0) t
  funext a; apply Fin.ext
  match a with
  | ⟨0, _⟩ => show win0_2.index t (0 : Fin 4) * 1 + 1 * (j 0).val = (j 0).val; omega
  | ⟨1, _⟩ => show win0_2.index t (1 : Fin 4) * 4 + 1 * (j 1).val = (j 1).val; omega
  | ⟨2, _⟩ => show win0_2.index t (2 : Fin 4) * 128 + 1 * (j 2).val = (j 2).val; omega
  | ⟨3, _⟩ => show win0_2.index t (3 : Fin 4) * 128 + 1 * (j 3).val = (j 3).val; omega

theorem emb3 (t : Fin cfg0.N) (j : S1x4x128.Idx) : ((cfg0.win 3).blk t).view.emb j = j := by
  obtain ⟨e0, e1, e2⟩ := (by decide +kernel : ∀ t : Fin grid0.N, win0_3.index t (0 : Fin 3) = 0 ∧ win0_3.index t (1 : Fin 3) = 0 ∧ win0_3.index t (2 : Fin 3) = 0) t
  funext a; apply Fin.ext
  match a with
  | ⟨0, _⟩ => show win0_3.index t (0 : Fin 3) * 1 + 1 * (j 0).val = (j 0).val; omega
  | ⟨1, _⟩ => show win0_3.index t (1 : Fin 3) * 4 + 1 * (j 1).val = (j 1).val; omega
  | ⟨2, _⟩ => show win0_3.index t (2 : Fin 3) * 128 + 1 * (j 2).val = (j 2).val; omega

theorem emb4 (t : Fin cfg0.N) (j : S1x9x32.Idx) : ((cfg0.win 4).blk t).view.emb j = j := by
  obtain ⟨e0, e1, e2⟩ := (by decide +kernel : ∀ t : Fin grid0.N, win0_4.index t (0 : Fin 3) = 0 ∧ win0_4.index t (1 : Fin 3) = 0 ∧ win0_4.index t (2 : Fin 3) = 0) t
  funext a; apply Fin.ext
  match a with
  | ⟨0, _⟩ => show win0_4.index t (0 : Fin 3) * 1 + 1 * (j 0).val = (j 0).val; omega
  | ⟨1, _⟩ => show win0_4.index t (1 : Fin 3) * 9 + 1 * (j 1).val = (j 1).val; omega
  | ⟨2, _⟩ => show win0_4.index t (2 : Fin 3) * 32 + 1 * (j 2).val = (j 2).val; omega

theorem emb5 (t : Fin cfg0.N) (j : S3x8x1024.Idx) : ((cfg0.win 5).blk t).view.emb j = j := by
  obtain ⟨e0, e1, e2⟩ := (by decide +kernel : ∀ t : Fin grid0.N, win0_5.index t (0 : Fin 3) = 0 ∧ win0_5.index t (1 : Fin 3) = 0 ∧ win0_5.index t (2 : Fin 3) = 0) t
  funext a; apply Fin.ext
  match a with
  | ⟨0, _⟩ => show win0_5.index t (0 : Fin 3) * 3 + 1 * (j 0).val = (j 0).val; omega
  | ⟨1, _⟩ => show win0_5.index t (1 : Fin 3) * 8 + 1 * (j 1).val = (j 1).val; omega
  | ⟨2, _⟩ => show win0_5.index t (2 : Fin 3) * 1024 + 1 * (j 2).val = (j 2).val; omega

theorem emb6 (t : Fin cfg0.N) (j : S3x1x512.Idx) : ((cfg0.win 6).blk t).view.emb j = j := by
  obtain ⟨e0, e1, e2⟩ := (by decide +kernel : ∀ t : Fin grid0.N, win0_6.index t (0 : Fin 3) = 0 ∧ win0_6.index t (1 : Fin 3) = 0 ∧ win0_6.index t (2 : Fin 3) = 0) t
  funext a; apply Fin.ext
  match a with
  | ⟨0, _⟩ => show win0_6.index t (0 : Fin 3) * 3 + 1 * (j 0).val = (j 0).val; omega
  | ⟨1, _⟩ => show win0_6.index t (1 : Fin 3) * 1 + 1 * (j 1).val = (j 1).val; omega
  | ⟨2, _⟩ => show win0_6.index t (2 : Fin 3) * 512 + 1 * (j 2).val = (j 2).val; omega

theorem emb7 (t : Fin cfg0.N) (j : S3x4x128x128.Idx) : ((cfg0.win 7).blk t).view.emb j = j := by
  obtain ⟨e0, e1, e2, e3⟩ := (by decide +kernel : ∀ t : Fin grid0.N, win0_7.index t (0 : Fin 4) = 0 ∧ win0_7.index t (1 : Fin 4) = 0 ∧ win0_7.index t (2 : Fin 4) = 0 ∧ win0_7.index t (3 : Fin 4) = 0) t
  funext a; apply Fin.ext
  match a with
  | ⟨0, _⟩ => show win0_7.index t (0 : Fin 4) * 3 + 1 * (j 0).val = (j 0).val; omega
  | ⟨1, _⟩ => show win0_7.index t (1 : Fin 4) * 4 + 1 * (j 1).val = (j 1).val; omega
  | ⟨2, _⟩ => show win0_7.index t (2 : Fin 4) * 128 + 1 * (j 2).val = (j 2).val; omega
  | ⟨3, _⟩ => show win0_7.index t (3 : Fin 4) * 128 + 1 * (j 3).val = (j 3).val; omega

theorem emb8 (t : Fin cfg0.N) (j : S3x4x128.Idx) : ((cfg0.win 8).blk t).view.emb j = j := by
  obtain ⟨e0, e1, e2⟩ := (by decide +kernel : ∀ t : Fin grid0.N, win0_8.index t (0 : Fin 3) = 0 ∧ win0_8.index t (1 : Fin 3) = 0 ∧ win0_8.index t (2 : Fin 3) = 0) t
  funext a; apply Fin.ext
  match a with
  | ⟨0, _⟩ => show win0_8.index t (0 : Fin 3) * 3 + 1 * (j 0).val = (j 0).val; omega
  | ⟨1, _⟩ => show win0_8.index t (1 : Fin 3) * 4 + 1 * (j 1).val = (j 1).val; omega
  | ⟨2, _⟩ => show win0_8.index t (2 : Fin 3) * 128 + 1 * (j 2).val = (j 2).val; omega

theorem emb9 (t : Fin cfg0.N) (j : S3x9x32.Idx) : ((cfg0.win 9).blk t).view.emb j = j := by
  obtain ⟨e0, e1, e2⟩ := (by decide +kernel : ∀ t : Fin grid0.N, win0_9.index t (0 : Fin 3) = 0 ∧ win0_9.index t (1 : Fin 3) = 0 ∧ win0_9.index t (2 : Fin 3) = 0) t
  funext a; apply Fin.ext
  match a with
  | ⟨0, _⟩ => show win0_9.index t (0 : Fin 3) * 3 + 1 * (j 0).val = (j 0).val; omega
  | ⟨1, _⟩ => show win0_9.index t (1 : Fin 3) * 9 + 1 * (j 1).val = (j 1).val; omega
  | ⟨2, _⟩ => show win0_9.index t (2 : Fin 3) * 32 + 1 * (j 2).val = (j 2).val; omega

theorem emb10 (t : Fin cfg0.N) (j : S1x1x1024.Idx) : ((cfg0.win 10).blk t).view.emb j = j := by
  obtain ⟨e0, e1, e2⟩ := (by decide +kernel : ∀ t : Fin grid0.N, win0_10.index t (0 : Fin 3) = 0 ∧ win0_10.index t (1 : Fin 3) = 0 ∧ win0_10.index t (2 : Fin 3) = 0) t
  funext a; apply Fin.ext
  match a with
  | ⟨0, _⟩ => show win0_10.index t (0 : Fin 3) * 1 + 1 * (j 0).val = (j 0).val; omega
  | ⟨1, _⟩ => show win0_10.index t (1 : Fin 3) * 1 + 1 * (j 1).val = (j 1).val; omega
  | ⟨2, _⟩ => show win0_10.index t (2 : Fin 3) * 1024 + 1 * (j 2).val = (j 2).val; omega

theorem emb11 (t : Fin cfg0.N) (j : S7x1x1024.Idx) : ((cfg0.win 11).blk t).view.emb j = j := by
  obtain ⟨e0, e1, e2⟩ := (by decide +kernel : ∀ t : Fin grid0.N, win0_11.index t (0 : Fin 3) = 0 ∧ win0_11.index t (1 : Fin 3) = 0 ∧ win0_11.index t (2 : Fin 3) = 0) t
  funext a; apply Fin.ext
  match a with
  | ⟨0, _⟩ => show win0_11.index t (0 : Fin 3) * 7 + 1 * (j 0).val = (j 0).val; omega
  | ⟨1, _⟩ => show win0_11.index t (1 : Fin 3) * 1 + 1 * (j 1).val = (j 1).val; omega
  | ⟨2, _⟩ => show win0_11.index t (2 : Fin 3) * 1024 + 1 * (j 2).val = (j 2).val; omega

theorem emb12 (t : Fin cfg0.N) (j : S1x1024.Idx) : ((cfg0.win 12).blk t).view.emb j = j := by
  obtain ⟨e0, e1⟩ := (by decide +kernel : ∀ t : Fin grid0.N, win0_12.index t (0 : Fin 2) = 0 ∧ win0_12.index t (1 : Fin 2) = 0) t
  funext a; apply Fin.ext
  match a with
  | ⟨0, _⟩ => show win0_12.index t (0 : Fin 2) * 1 + 1 * (j 0).val = (j 0).val; omega
  | ⟨1, _⟩ => show win0_12.index t (1 : Fin 2) * 1024 + 1 * (j 1).val = (j 1).val; omega

theorem emb13 (t : Fin cfg0.N) (j : S1x512.Idx) : ((cfg0.win 13).blk t).view.emb j = j := by
  obtain ⟨e0, e1⟩ := (by decide +kernel : ∀ t : Fin grid0.N, win0_13.index t (0 : Fin 2) = 0 ∧ win0_13.index t (1 : Fin 2) = 0) t
  funext a; apply Fin.ext
  match a with
  | ⟨0, _⟩ => show win0_13.index t (0 : Fin 2) * 1 + 1 * (j 0).val = (j 0).val; omega
  | ⟨1, _⟩ => show win0_13.index t (1 : Fin 2) * 512 + 1 * (j 1).val = (j 1).val; omega

theorem emb14 (t : Fin cfg0.N) (j : S4x128x128.Idx) : ((cfg0.win 14).blk t).view.emb j = j := by
  obtain ⟨e0, e1, e2⟩ := (by decide +kernel : ∀ t : Fin grid0.N, win0_14.index t (0 : Fin 3) = 0 ∧ win0_14.index t (1 : Fin 3) = 0 ∧ win0_14.index t (2 : Fin 3) = 0) t
  funext a; apply Fin.ext
  match a with
  | ⟨0, _⟩ => show win0_14.index t (0 : Fin 3) * 4 + 1 * (j 0).val = (j 0).val; omega
  | ⟨1, _⟩ => show win0_14.index t (1 : Fin 3) * 128 + 1 * (j 1).val = (j 1).val; omega
  | ⟨2, _⟩ => show win0_14.index t (2 : Fin 3) * 128 + 1 * (j 2).val = (j 2).val; omega

theorem emb15 (t : Fin cfg0.N) (j : S4x128.Idx) : ((cfg0.win 15).blk t).view.emb j = j := by
  obtain ⟨e0, e1⟩ := (by decide +kernel : ∀ t : Fin grid0.N, win0_15.index t (0 : Fin 2) = 0 ∧ win0_15.index t (1 : Fin 2) = 0) t
  funext a; apply Fin.ext
  match a with
  | ⟨0, _⟩ => show win0_15.index t (0 : Fin 2) * 4 + 1 * (j 0).val = (j 0).val; omega
  | ⟨1, _⟩ => show win0_15.index t (1 : Fin 2) * 128 + 1 * (j 1).val = (j 1).val; omega

theorem emb16 (t : Fin cfg0.N) (j : S1x8.Idx) : ((cfg0.win 16).blk t).view.emb j = j := by
  obtain ⟨e0, e1⟩ := (by decide +kernel : ∀ t : Fin grid0.N, win0_16.index t (0 : Fin 2) = 0 ∧ win0_16.index t (1 : Fin 2) = 0) t
  funext a; apply Fin.ext
  match a with
  | ⟨0, _⟩ => show win0_16.index t (0 : Fin 2) * 1 + 1 * (j 0).val = (j 0).val; omega
  | ⟨1, _⟩ => show win0_16.index t (1 : Fin 2) * 8 + 1 * (j 1).val = (j 1).val; omega

theorem emb17 (t : Fin cfg0.N) (j : S8x32.Idx) : ((cfg0.win 17).blk t).view.emb j = j := by
  obtain ⟨e0, e1⟩ := (by decide +kernel : ∀ t : Fin grid0.N, win0_17.index t (0 : Fin 2) = 0 ∧ win0_17.index t (1 : Fin 2) = 0) t
  funext a; apply Fin.ext
  match a with
  | ⟨0, _⟩ => show win0_17.index t (0 : Fin 2) * 8 + 1 * (j 0).val = (j 0).val; omega
  | ⟨1, _⟩ => show win0_17.index t (1 : Fin 2) * 32 + 1 * (j 1).val = (j 1).val; omega

theorem emb18 (t : Fin cfg0.N) (j : S1x1024.Idx) : ((cfg0.win 18).blk t).view.emb j = j := by
  obtain ⟨e0, e1⟩ := (by decide +kernel : ∀ t : Fin grid0.N, win0_18.index t (0 : Fin 2) = 0 ∧ win0_18.index t (1 : Fin 2) = 0) t
  funext a; apply Fin.ext
  match a with
  | ⟨0, _⟩ => show win0_18.index t (0 : Fin 2) * 1 + 1 * (j 0).val = (j 0).val; omega
  | ⟨1, _⟩ => show win0_18.index t (1 : Fin 2) * 1024 + 1 * (j 1).val = (j 1).val; omega

theorem emb19 (t : Fin cfg0.N) (j : S1x1024.Idx) : ((cfg0.win 19).blk t).view.emb j = j := by
  obtain ⟨e0, e1⟩ := (by decide +kernel : ∀ t : Fin grid0.N, win0_19.index t (0 : Fin 2) = 0 ∧ win0_19.index t (1 : Fin 2) = 0) t
  funext a; apply Fin.ext
  match a with
  | ⟨0, _⟩ => show win0_19.index t (0 : Fin 2) * 1 + 1 * (j 0).val = (j 0).val; omega
  | ⟨1, _⟩ => show win0_19.index t (1 : Fin 2) * 1024 + 1 * (j 1).val = (j 1).val; omega

theorem emb20 (t : Fin cfg0.N) (j : S1x1024.Idx) : ((cfg0.win 20).blk t).view.emb j = j := by
  obtain ⟨e0, e1⟩ := (by decide +kernel : ∀ t : Fin grid0.N, win0_20.index t (0 : Fin 2) = 0 ∧ win0_20.index t (1 : Fin 2) = 0) t
  funext a; apply Fin.ext
  match a with
  | ⟨0, _⟩ => show win0_20.index t (0 : Fin 2) * 1 + 1 * (j 0).val = (j 0).val; omega
  | ⟨1, _⟩ => show win0_20.index t (1 : Fin 2) * 1024 + 1 * (j 1).val = (j 1).val; omega

theorem emb21 (t : Fin cfg0.N) (j : S1x512.Idx) : ((cfg0.win 21).blk t).view.emb j = j := by
  obtain ⟨e0, e1⟩ := (by decide +kernel : ∀ t : Fin grid0.N, win0_21.index t (0 : Fin 2) = 0 ∧ win0_21.index t (1 : Fin 2) = 0) t
  funext a; apply Fin.ext
  match a with
  | ⟨0, _⟩ => show win0_21.index t (0 : Fin 2) * 1 + 1 * (j 0).val = (j 0).val; omega
  | ⟨1, _⟩ => show win0_21.index t (1 : Fin 2) * 512 + 1 * (j 1).val = (j 1).val; omega

theorem emb22 (t : Fin cfg0.N) (j : S4x128x128.Idx) : ((cfg0.win 22).blk t).view.emb j = j := by
  obtain ⟨e0, e1, e2⟩ := (by decide +kernel : ∀ t : Fin grid0.N, win0_22.index t (0 : Fin 3) = 0 ∧ win0_22.index t (1 : Fin 3) = 0 ∧ win0_22.index t (2 : Fin 3) = 0) t
  funext a; apply Fin.ext
  match a with
  | ⟨0, _⟩ => show win0_22.index t (0 : Fin 3) * 4 + 1 * (j 0).val = (j 0).val; omega
  | ⟨1, _⟩ => show win0_22.index t (1 : Fin 3) * 128 + 1 * (j 1).val = (j 1).val; omega
  | ⟨2, _⟩ => show win0_22.index t (2 : Fin 3) * 128 + 1 * (j 2).val = (j 2).val; omega

theorem emb23 (t : Fin cfg0.N) (j : S4x128.Idx) : ((cfg0.win 23).blk t).view.emb j = j := by
  obtain ⟨e0, e1⟩ := (by decide +kernel : ∀ t : Fin grid0.N, win0_23.index t (0 : Fin 2) = 0 ∧ win0_23.index t (1 : Fin 2) = 0) t
  funext a; apply Fin.ext
  match a with
  | ⟨0, _⟩ => show win0_23.index t (0 : Fin 2) * 4 + 1 * (j 0).val = (j 0).val; omega
  | ⟨1, _⟩ => show win0_23.index t (1 : Fin 2) * 128 + 1 * (j 1).val = (j 1).val; omega

theorem emb24 (t : Fin cfg0.N) (j : S1x8.Idx) : ((cfg0.win 24).blk t).view.emb j = j := by
  obtain ⟨e0, e1⟩ := (by decide +kernel : ∀ t : Fin grid0.N, win0_24.index t (0 : Fin 2) = 0 ∧ win0_24.index t (1 : Fin 2) = 0) t
  funext a; apply Fin.ext
  match a with
  | ⟨0, _⟩ => show win0_24.index t (0 : Fin 2) * 1 + 1 * (j 0).val = (j 0).val; omega
  | ⟨1, _⟩ => show win0_24.index t (1 : Fin 2) * 8 + 1 * (j 1).val = (j 1).val; omega

theorem emb25 (t : Fin cfg0.N) (j : S8x32.Idx) : ((cfg0.win 25).blk t).view.emb j = j := by
  obtain ⟨e0, e1⟩ := (by decide +kernel : ∀ t : Fin grid0.N, win0_25.index t (0 : Fin 2) = 0 ∧ win0_25.index t (1 : Fin 2) = 0) t
  funext a; apply Fin.ext
  match a with
  | ⟨0, _⟩ => show win0_25.index t (0 : Fin 2) * 8 + 1 * (j 0).val = (j 0).val; omega
  | ⟨1, _⟩ => show win0_25.index t (1 : Fin 2) * 32 + 1 * (j 1).val = (j 1).val; omega

theorem emb26 (t : Fin cfg0.N) (j : S1x1024.Idx) : ((cfg0.win 26).blk t).view.emb j = j := by
  obtain ⟨e0, e1⟩ := (by decide +kernel : ∀ t : Fin grid0.N, win0_26.index t (0 : Fin 2) = 0 ∧ win0_26.index t (1 : Fin 2) = 0) t
  funext a; apply Fin.ext
  match a with
  | ⟨0, _⟩ => show win0_26.index t (0 : Fin 2) * 1 + 1 * (j 0).val = (j 0).val; omega
  | ⟨1, _⟩ => show win0_26.index t (1 : Fin 2) * 1024 + 1 * (j 1).val = (j 1).val; omega

theorem emb27 (t : Fin cfg0.N) (j : S1x1024.Idx) : ((cfg0.win 27).blk t).view.emb j = j := by
  obtain ⟨e0, e1⟩ := (by decide +kernel : ∀ t : Fin grid0.N, win0_27.index t (0 : Fin 2) = 0 ∧ win0_27.index t (1 : Fin 2) = 0) t
  funext a; apply Fin.ext
  match a with
  | ⟨0, _⟩ => show win0_27.index t (0 : Fin 2) * 1 + 1 * (j 0).val = (j 0).val; omega
  | ⟨1, _⟩ => show win0_27.index t (1 : Fin 2) * 1024 + 1 * (j 1).val = (j 1).val; omega

theorem emb28 (t : Fin cfg0.N) (j : S1x1024.Idx) : ((cfg0.win 28).blk t).view.emb j = j := by
  obtain ⟨e0, e1⟩ := (by decide +kernel : ∀ t : Fin grid0.N, win0_28.index t (0 : Fin 2) = 0 ∧ win0_28.index t (1 : Fin 2) = 0) t
  funext a; apply Fin.ext
  match a with
  | ⟨0, _⟩ => show win0_28.index t (0 : Fin 2) * 1 + 1 * (j 0).val = (j 0).val; omega
  | ⟨1, _⟩ => show win0_28.index t (1 : Fin 2) * 1024 + 1 * (j 1).val = (j 1).val; omega

theorem emb29 (t : Fin cfg0.N) (j : S1x512.Idx) : ((cfg0.win 29).blk t).view.emb j = j := by
  obtain ⟨e0, e1⟩ := (by decide +kernel : ∀ t : Fin grid0.N, win0_29.index t (0 : Fin 2) = 0 ∧ win0_29.index t (1 : Fin 2) = 0) t
  funext a; apply Fin.ext
  match a with
  | ⟨0, _⟩ => show win0_29.index t (0 : Fin 2) * 1 + 1 * (j 0).val = (j 0).val; omega
  | ⟨1, _⟩ => show win0_29.index t (1 : Fin 2) * 512 + 1 * (j 1).val = (j 1).val; omega

theorem emb30 (t : Fin cfg0.N) (j : S4x128x128.Idx) : ((cfg0.win 30).blk t).view.emb j = j := by
  obtain ⟨e0, e1, e2⟩ := (by decide +kernel : ∀ t : Fin grid0.N, win0_30.index t (0 : Fin 3) = 0 ∧ win0_30.index t (1 : Fin 3) = 0 ∧ win0_30.index t (2 : Fin 3) = 0) t
  funext a; apply Fin.ext
  match a with
  | ⟨0, _⟩ => show win0_30.index t (0 : Fin 3) * 4 + 1 * (j 0).val = (j 0).val; omega
  | ⟨1, _⟩ => show win0_30.index t (1 : Fin 3) * 128 + 1 * (j 1).val = (j 1).val; omega
  | ⟨2, _⟩ => show win0_30.index t (2 : Fin 3) * 128 + 1 * (j 2).val = (j 2).val; omega

theorem emb31 (t : Fin cfg0.N) (j : S4x128.Idx) : ((cfg0.win 31).blk t).view.emb j = j := by
  obtain ⟨e0, e1⟩ := (by decide +kernel : ∀ t : Fin grid0.N, win0_31.index t (0 : Fin 2) = 0 ∧ win0_31.index t (1 : Fin 2) = 0) t
  funext a; apply Fin.ext
  match a with
  | ⟨0, _⟩ => show win0_31.index t (0 : Fin 2) * 4 + 1 * (j 0).val = (j 0).val; omega
  | ⟨1, _⟩ => show win0_31.index t (1 : Fin 2) * 128 + 1 * (j 1).val = (j 1).val; omega

theorem emb32 (t : Fin cfg0.N) (j : S1x8.Idx) : ((cfg0.win 32).blk t).view.emb j = j := by
  obtain ⟨e0, e1⟩ := (by decide +kernel : ∀ t : Fin grid0.N, win0_32.index t (0 : Fin 2) = 0 ∧ win0_32.index t (1 : Fin 2) = 0) t
  funext a; apply Fin.ext
  match a with
  | ⟨0, _⟩ => show win0_32.index t (0 : Fin 2) * 1 + 1 * (j 0).val = (j 0).val; omega
  | ⟨1, _⟩ => show win0_32.index t (1 : Fin 2) * 8 + 1 * (j 1).val = (j 1).val; omega

theorem emb33 (t : Fin cfg0.N) (j : S8x32.Idx) : ((cfg0.win 33).blk t).view.emb j = j := by
  obtain ⟨e0, e1⟩ := (by decide +kernel : ∀ t : Fin grid0.N, win0_33.index t (0 : Fin 2) = 0 ∧ win0_33.index t (1 : Fin 2) = 0) t
  funext a; apply Fin.ext
  match a with
  | ⟨0, _⟩ => show win0_33.index t (0 : Fin 2) * 8 + 1 * (j 0).val = (j 0).val; omega
  | ⟨1, _⟩ => show win0_33.index t (1 : Fin 2) * 32 + 1 * (j 1).val = (j 1).val; omega

theorem emb34 (t : Fin cfg0.N) (j : S1x1024.Idx) : ((cfg0.win 34).blk t).view.emb j = j := by
  obtain ⟨e0, e1⟩ := (by decide +kernel : ∀ t : Fin grid0.N, win0_34.index t (0 : Fin 2) = 0 ∧ win0_34.index t (1 : Fin 2) = 0) t
  funext a; apply Fin.ext
  match a with
  | ⟨0, _⟩ => show win0_34.index t (0 : Fin 2) * 1 + 1 * (j 0).val = (j 0).val; omega
  | ⟨1, _⟩ => show win0_34.index t (1 : Fin 2) * 1024 + 1 * (j 1).val = (j 1).val; omega

theorem emb35 (t : Fin cfg0.N) (j : S1x1024.Idx) : ((cfg0.win 35).blk t).view.emb j = j := by
  obtain ⟨e0, e1⟩ := (by decide +kernel : ∀ t : Fin grid0.N, win0_35.index t (0 : Fin 2) = 0 ∧ win0_35.index t (1 : Fin 2) = 0) t
  funext a; apply Fin.ext
  match a with
  | ⟨0, _⟩ => show win0_35.index t (0 : Fin 2) * 1 + 1 * (j 0).val = (j 0).val; omega
  | ⟨1, _⟩ => show win0_35.index t (1 : Fin 2) * 1024 + 1 * (j 1).val = (j 1).val; omega

theorem emb36 (t : Fin cfg0.N) (j : S1x1.Idx) : ((cfg0.win 36).blk t).view.emb j = j := by
  obtain ⟨e0, e1⟩ := (by decide +kernel : ∀ t : Fin grid0.N, win0_36.index t (0 : Fin 2) = 0 ∧ win0_36.index t (1 : Fin 2) = 0) t
  funext a; apply Fin.ext
  match a with
  | ⟨0, _⟩ => show win0_36.index t (0 : Fin 2) * 1 + 1 * (j 0).val = (j 0).val; omega
  | ⟨1, _⟩ => show win0_36.index t (1 : Fin 2) * 1 + 1 * (j 1).val = (j 1).val; omega

theorem emb37 (t : Fin cfg0.N) (j : S1x1024.Idx) : ((cfg0.win 37).blk t).view.emb j = j := by
  obtain ⟨e0, e1⟩ := (by decide +kernel : ∀ t : Fin grid0.N, win0_37.index t (0 : Fin 2) = 0 ∧ win0_37.index t (1 : Fin 2) = 0) t
  funext a; apply Fin.ext
  match a with
  | ⟨0, _⟩ => show win0_37.index t (0 : Fin 2) * 1 + 1 * (j 0).val = (j 0).val; omega
  | ⟨1, _⟩ => show win0_37.index t (1 : Fin 2) * 1024 + 1 * (j 1).val = (j 1).val; omega

theorem emb38 (t : Fin cfg0.N) (j : S1x512.Idx) : ((cfg0.win 38).blk t).view.emb j = j := by
  obtain ⟨e0, e1⟩ := (by decide +kernel : ∀ t : Fin grid0.N, win0_38.index t (0 : Fin 2) = 0 ∧ win0_38.index t (1 : Fin 2) = 0) t
  funext a; apply Fin.ext
  match a with
  | ⟨0, _⟩ => show win0_38.index t (0 : Fin 2) * 1 + 1 * (j 0).val = (j 0).val; omega
  | ⟨1, _⟩ => show win0_38.index t (1 : Fin 2) * 512 + 1 * (j 1).val = (j 1).val; omega

theorem emb39 (t : Fin cfg0.N) (j : S4x128x128.Idx) : ((cfg0.win 39).blk t).view.emb j = j := by
  obtain ⟨e0, e1, e2⟩ := (by decide +kernel : ∀ t : Fin grid0.N, win0_39.index t (0 : Fin 3) = 0 ∧ win0_39.index t (1 : Fin 3) = 0 ∧ win0_39.index t (2 : Fin 3) = 0) t
  funext a; apply Fin.ext
  match a with
  | ⟨0, _⟩ => show win0_39.index t (0 : Fin 3) * 4 + 1 * (j 0).val = (j 0).val; omega
  | ⟨1, _⟩ => show win0_39.index t (1 : Fin 3) * 128 + 1 * (j 1).val = (j 1).val; omega
  | ⟨2, _⟩ => show win0_39.index t (2 : Fin 3) * 128 + 1 * (j 2).val = (j 2).val; omega

theorem emb40 (t : Fin cfg0.N) (j : S4x128.Idx) : ((cfg0.win 40).blk t).view.emb j = j := by
  obtain ⟨e0, e1⟩ := (by decide +kernel : ∀ t : Fin grid0.N, win0_40.index t (0 : Fin 2) = 0 ∧ win0_40.index t (1 : Fin 2) = 0) t
  funext a; apply Fin.ext
  match a with
  | ⟨0, _⟩ => show win0_40.index t (0 : Fin 2) * 4 + 1 * (j 0).val = (j 0).val; omega
  | ⟨1, _⟩ => show win0_40.index t (1 : Fin 2) * 128 + 1 * (j 1).val = (j 1).val; omega

theorem emb41 (t : Fin cfg0.N) (j : S1x8.Idx) : ((cfg0.win 41).blk t).view.emb j = j := by
  obtain ⟨e0, e1⟩ := (by decide +kernel : ∀ t : Fin grid0.N, win0_41.index t (0 : Fin 2) = 0 ∧ win0_41.index t (1 : Fin 2) = 0) t
  funext a; apply Fin.ext
  match a with
  | ⟨0, _⟩ => show win0_41.index t (0 : Fin 2) * 1 + 1 * (j 0).val = (j 0).val; omega
  | ⟨1, _⟩ => show win0_41.index t (1 : Fin 2) * 8 + 1 * (j 1).val = (j 1).val; omega

theorem emb42 (t : Fin cfg0.N) (j : S8x32.Idx) : ((cfg0.win 42).blk t).view.emb j = j := by
  obtain ⟨e0, e1⟩ := (by decide +kernel : ∀ t : Fin grid0.N, win0_42.index t (0 : Fin 2) = 0 ∧ win0_42.index t (1 : Fin 2) = 0) t
  funext a; apply Fin.ext
  match a with
  | ⟨0, _⟩ => show win0_42.index t (0 : Fin 2) * 8 + 1 * (j 0).val = (j 0).val; omega
  | ⟨1, _⟩ => show win0_42.index t (1 : Fin 2) * 32 + 1 * (j 1).val = (j 1).val; omega

theorem emb43 (t : Fin cfg0.N) (j : S1x1024.Idx) : ((cfg0.win 43).blk t).view.emb j = j := by
  obtain ⟨e0, e1⟩ := (by decide +kernel : ∀ t : Fin grid0.N, win0_43.index t (0 : Fin 2) = 0 ∧ win0_43.index t (1 : Fin 2) = 0) t
  funext a; apply Fin.ext
  match a with
  | ⟨0, _⟩ => show win0_43.index t (0 : Fin 2) * 1 + 1 * (j 0).val = (j 0).val; omega
  | ⟨1, _⟩ => show win0_43.index t (1 : Fin 2) * 1024 + 1 * (j 1).val = (j 1).val; omega

theorem emb44 (t : Fin cfg0.N) (j : S1x1024.Idx) : ((cfg0.win 44).blk t).view.emb j = j := by
  obtain ⟨e0, e1⟩ := (by decide +kernel : ∀ t : Fin grid0.N, win0_44.index t (0 : Fin 2) = 0 ∧ win0_44.index t (1 : Fin 2) = 0) t
  funext a; apply Fin.ext
  match a with
  | ⟨0, _⟩ => show win0_44.index t (0 : Fin 2) * 1 + 1 * (j 0).val = (j 0).val; omega
  | ⟨1, _⟩ => show win0_44.index t (1 : Fin 2) * 1024 + 1 * (j 1).val = (j 1).val; omega

theorem emb45 (t : Fin cfg0.N) (j : S1x1024.Idx) : ((cfg0.win 45).blk t).view.emb j = j := by
  obtain ⟨e0, e1⟩ := (by decide +kernel : ∀ t : Fin grid0.N, win0_45.index t (0 : Fin 2) = 0 ∧ win0_45.index t (1 : Fin 2) = 0) t
  funext a; apply Fin.ext
  match a with
  | ⟨0, _⟩ => show win0_45.index t (0 : Fin 2) * 1 + 1 * (j 0).val = (j 0).val; omega
  | ⟨1, _⟩ => show win0_45.index t (1 : Fin 2) * 1024 + 1 * (j 1).val = (j 1).val; omega

theorem emb46 (t : Fin cfg0.N) (j : S1x512.Idx) : ((cfg0.win 46).blk t).view.emb j = j := by
  obtain ⟨e0, e1⟩ := (by decide +kernel : ∀ t : Fin grid0.N, win0_46.index t (0 : Fin 2) = 0 ∧ win0_46.index t (1 : Fin 2) = 0) t
  funext a; apply Fin.ext
  match a with
  | ⟨0, _⟩ => show win0_46.index t (0 : Fin 2) * 1 + 1 * (j 0).val = (j 0).val; omega
  | ⟨1, _⟩ => show win0_46.index t (1 : Fin 2) * 512 + 1 * (j 1).val = (j 1).val; omega

theorem emb47 (t : Fin cfg0.N) (j : S4x128x128.Idx) : ((cfg0.win 47).blk t).view.emb j = j := by
  obtain ⟨e0, e1, e2⟩ := (by decide +kernel : ∀ t : Fin grid0.N, win0_47.index t (0 : Fin 3) = 0 ∧ win0_47.index t (1 : Fin 3) = 0 ∧ win0_47.index t (2 : Fin 3) = 0) t
  funext a; apply Fin.ext
  match a with
  | ⟨0, _⟩ => show win0_47.index t (0 : Fin 3) * 4 + 1 * (j 0).val = (j 0).val; omega
  | ⟨1, _⟩ => show win0_47.index t (1 : Fin 3) * 128 + 1 * (j 1).val = (j 1).val; omega
  | ⟨2, _⟩ => show win0_47.index t (2 : Fin 3) * 128 + 1 * (j 2).val = (j 2).val; omega

theorem emb48 (t : Fin cfg0.N) (j : S4x128.Idx) : ((cfg0.win 48).blk t).view.emb j = j := by
  obtain ⟨e0, e1⟩ := (by decide +kernel : ∀ t : Fin grid0.N, win0_48.index t (0 : Fin 2) = 0 ∧ win0_48.index t (1 : Fin 2) = 0) t
  funext a; apply Fin.ext
  match a with
  | ⟨0, _⟩ => show win0_48.index t (0 : Fin 2) * 4 + 1 * (j 0).val = (j 0).val; omega
  | ⟨1, _⟩ => show win0_48.index t (1 : Fin 2) * 128 + 1 * (j 1).val = (j 1).val; omega

theorem emb49 (t : Fin cfg0.N) (j : S1x8.Idx) : ((cfg0.win 49).blk t).view.emb j = j := by
  obtain ⟨e0, e1⟩ := (by decide +kernel : ∀ t : Fin grid0.N, win0_49.index t (0 : Fin 2) = 0 ∧ win0_49.index t (1 : Fin 2) = 0) t
  funext a; apply Fin.ext
  match a with
  | ⟨0, _⟩ => show win0_49.index t (0 : Fin 2) * 1 + 1 * (j 0).val = (j 0).val; omega
  | ⟨1, _⟩ => show win0_49.index t (1 : Fin 2) * 8 + 1 * (j 1).val = (j 1).val; omega

theorem emb50 (t : Fin cfg0.N) (j : S8x32.Idx) : ((cfg0.win 50).blk t).view.emb j = j := by
  obtain ⟨e0, e1⟩ := (by decide +kernel : ∀ t : Fin grid0.N, win0_50.index t (0 : Fin 2) = 0 ∧ win0_50.index t (1 : Fin 2) = 0) t
  funext a; apply Fin.ext
  match a with
  | ⟨0, _⟩ => show win0_50.index t (0 : Fin 2) * 8 + 1 * (j 0).val = (j 0).val; omega
  | ⟨1, _⟩ => show win0_50.index t (1 : Fin 2) * 32 + 1 * (j 1).val = (j 1).val; omega

theorem emb51 (t : Fin cfg0.N) (j : S1x1024.Idx) : ((cfg0.win 51).blk t).view.emb j = j := by
  obtain ⟨e0, e1⟩ := (by decide +kernel : ∀ t : Fin grid0.N, win0_51.index t (0 : Fin 2) = 0 ∧ win0_51.index t (1 : Fin 2) = 0) t
  funext a; apply Fin.ext
  match a with
  | ⟨0, _⟩ => show win0_51.index t (0 : Fin 2) * 1 + 1 * (j 0).val = (j 0).val; omega
  | ⟨1, _⟩ => show win0_51.index t (1 : Fin 2) * 1024 + 1 * (j 1).val = (j 1).val; omega

theorem emb52 (t : Fin cfg0.N) (j : S1x1024.Idx) : ((cfg0.win 52).blk t).view.emb j = j := by
  obtain ⟨e0, e1⟩ := (by decide +kernel : ∀ t : Fin grid0.N, win0_52.index t (0 : Fin 2) = 0 ∧ win0_52.index t (1 : Fin 2) = 0) t
  funext a; apply Fin.ext
  match a with
  | ⟨0, _⟩ => show win0_52.index t (0 : Fin 2) * 1 + 1 * (j 0).val = (j 0).val; omega
  | ⟨1, _⟩ => show win0_52.index t (1 : Fin 2) * 1024 + 1 * (j 1).val = (j 1).val; omega

theorem emb53 (t : Fin cfg0.N) (j : S1x1024.Idx) : ((cfg0.win 53).blk t).view.emb j = j := by
  obtain ⟨e0, e1⟩ := (by decide +kernel : ∀ t : Fin grid0.N, win0_53.index t (0 : Fin 2) = 0 ∧ win0_53.index t (1 : Fin 2) = 0) t
  funext a; apply Fin.ext
  match a with
  | ⟨0, _⟩ => show win0_53.index t (0 : Fin 2) * 1 + 1 * (j 0).val = (j 0).val; omega
  | ⟨1, _⟩ => show win0_53.index t (1 : Fin 2) * 1024 + 1 * (j 1).val = (j 1).val; omega

theorem emb54 (t : Fin cfg0.N) (j : S1x512.Idx) : ((cfg0.win 54).blk t).view.emb j = j := by
  obtain ⟨e0, e1⟩ := (by decide +kernel : ∀ t : Fin grid0.N, win0_54.index t (0 : Fin 2) = 0 ∧ win0_54.index t (1 : Fin 2) = 0) t
  funext a; apply Fin.ext
  match a with
  | ⟨0, _⟩ => show win0_54.index t (0 : Fin 2) * 1 + 1 * (j 0).val = (j 0).val; omega
  | ⟨1, _⟩ => show win0_54.index t (1 : Fin 2) * 512 + 1 * (j 1).val = (j 1).val; omega

theorem emb55 (t : Fin cfg0.N) (j : S4x128x128.Idx) : ((cfg0.win 55).blk t).view.emb j = j := by
  obtain ⟨e0, e1, e2⟩ := (by decide +kernel : ∀ t : Fin grid0.N, win0_55.index t (0 : Fin 3) = 0 ∧ win0_55.index t (1 : Fin 3) = 0 ∧ win0_55.index t (2 : Fin 3) = 0) t
  funext a; apply Fin.ext
  match a with
  | ⟨0, _⟩ => show win0_55.index t (0 : Fin 3) * 4 + 1 * (j 0).val = (j 0).val; omega
  | ⟨1, _⟩ => show win0_55.index t (1 : Fin 3) * 128 + 1 * (j 1).val = (j 1).val; omega
  | ⟨2, _⟩ => show win0_55.index t (2 : Fin 3) * 128 + 1 * (j 2).val = (j 2).val; omega

theorem emb56 (t : Fin cfg0.N) (j : S4x128.Idx) : ((cfg0.win 56).blk t).view.emb j = j := by
  obtain ⟨e0, e1⟩ := (by decide +kernel : ∀ t : Fin grid0.N, win0_56.index t (0 : Fin 2) = 0 ∧ win0_56.index t (1 : Fin 2) = 0) t
  funext a; apply Fin.ext
  match a with
  | ⟨0, _⟩ => show win0_56.index t (0 : Fin 2) * 4 + 1 * (j 0).val = (j 0).val; omega
  | ⟨1, _⟩ => show win0_56.index t (1 : Fin 2) * 128 + 1 * (j 1).val = (j 1).val; omega

theorem emb57 (t : Fin cfg0.N) (j : S1x8.Idx) : ((cfg0.win 57).blk t).view.emb j = j := by
  obtain ⟨e0, e1⟩ := (by decide +kernel : ∀ t : Fin grid0.N, win0_57.index t (0 : Fin 2) = 0 ∧ win0_57.index t (1 : Fin 2) = 0) t
  funext a; apply Fin.ext
  match a with
  | ⟨0, _⟩ => show win0_57.index t (0 : Fin 2) * 1 + 1 * (j 0).val = (j 0).val; omega
  | ⟨1, _⟩ => show win0_57.index t (1 : Fin 2) * 8 + 1 * (j 1).val = (j 1).val; omega

theorem emb58 (t : Fin cfg0.N) (j : S8x32.Idx) : ((cfg0.win 58).blk t).view.emb j = j := by
  obtain ⟨e0, e1⟩ := (by decide +kernel : ∀ t : Fin grid0.N, win0_58.index t (0 : Fin 2) = 0 ∧ win0_58.index t (1 : Fin 2) = 0) t
  funext a; apply Fin.ext
  match a with
  | ⟨0, _⟩ => show win0_58.index t (0 : Fin 2) * 8 + 1 * (j 0).val = (j 0).val; omega
  | ⟨1, _⟩ => show win0_58.index t (1 : Fin 2) * 32 + 1 * (j 1).val = (j 1).val; omega

theorem emb59 (t : Fin cfg0.N) (j : S1x1024.Idx) : ((cfg0.win 59).blk t).view.emb j = j := by
  obtain ⟨e0, e1⟩ := (by decide +kernel : ∀ t : Fin grid0.N, win0_59.index t (0 : Fin 2) = 0 ∧ win0_59.index t (1 : Fin 2) = 0) t
  funext a; apply Fin.ext
  match a with
  | ⟨0, _⟩ => show win0_59.index t (0 : Fin 2) * 1 + 1 * (j 0).val = (j 0).val; omega
  | ⟨1, _⟩ => show win0_59.index t (1 : Fin 2) * 1024 + 1 * (j 1).val = (j 1).val; omega

theorem emb60 (t : Fin cfg0.N) (j : S1x1024.Idx) : ((cfg0.win 60).blk t).view.emb j = j := by
  obtain ⟨e0, e1⟩ := (by decide +kernel : ∀ t : Fin grid0.N, win0_60.index t (0 : Fin 2) = 0 ∧ win0_60.index t (1 : Fin 2) = 0) t
  funext a; apply Fin.ext
  match a with
  | ⟨0, _⟩ => show win0_60.index t (0 : Fin 2) * 1 + 1 * (j 0).val = (j 0).val; omega
  | ⟨1, _⟩ => show win0_60.index t (1 : Fin 2) * 1024 + 1 * (j 1).val = (j 1).val; omega

theorem emb61 (t : Fin cfg0.N) (j : S1x1024.Idx) : ((cfg0.win 61).blk t).view.emb j = j := by
  obtain ⟨e0, e1⟩ := (by decide +kernel : ∀ t : Fin grid0.N, win0_61.index t (0 : Fin 2) = 0 ∧ win0_61.index t (1 : Fin 2) = 0) t
  funext a; apply Fin.ext
  match a with
  | ⟨0, _⟩ => show win0_61.index t (0 : Fin 2) * 1 + 1 * (j 0).val = (j 0).val; omega
  | ⟨1, _⟩ => show win0_61.index t (1 : Fin 2) * 1024 + 1 * (j 1).val = (j 1).val; omega

theorem emb62 (t : Fin cfg0.N) (j : S1x512.Idx) : ((cfg0.win 62).blk t).view.emb j = j := by
  obtain ⟨e0, e1⟩ := (by decide +kernel : ∀ t : Fin grid0.N, win0_62.index t (0 : Fin 2) = 0 ∧ win0_62.index t (1 : Fin 2) = 0) t
  funext a; apply Fin.ext
  match a with
  | ⟨0, _⟩ => show win0_62.index t (0 : Fin 2) * 1 + 1 * (j 0).val = (j 0).val; omega
  | ⟨1, _⟩ => show win0_62.index t (1 : Fin 2) * 512 + 1 * (j 1).val = (j 1).val; omega

theorem emb63 (t : Fin cfg0.N) (j : S4x128x128.Idx) : ((cfg0.win 63).blk t).view.emb j = j := by
  obtain ⟨e0, e1, e2⟩ := (by decide +kernel : ∀ t : Fin grid0.N, win0_63.index t (0 : Fin 3) = 0 ∧ win0_63.index t (1 : Fin 3) = 0 ∧ win0_63.index t (2 : Fin 3) = 0) t
  funext a; apply Fin.ext
  match a with
  | ⟨0, _⟩ => show win0_63.index t (0 : Fin 3) * 4 + 1 * (j 0).val = (j 0).val; omega
  | ⟨1, _⟩ => show win0_63.index t (1 : Fin 3) * 128 + 1 * (j 1).val = (j 1).val; omega
  | ⟨2, _⟩ => show win0_63.index t (2 : Fin 3) * 128 + 1 * (j 2).val = (j 2).val; omega

theorem emb64 (t : Fin cfg0.N) (j : S4x128.Idx) : ((cfg0.win 64).blk t).view.emb j = j := by
  obtain ⟨e0, e1⟩ := (by decide +kernel : ∀ t : Fin grid0.N, win0_64.index t (0 : Fin 2) = 0 ∧ win0_64.index t (1 : Fin 2) = 0) t
  funext a; apply Fin.ext
  match a with
  | ⟨0, _⟩ => show win0_64.index t (0 : Fin 2) * 4 + 1 * (j 0).val = (j 0).val; omega
  | ⟨1, _⟩ => show win0_64.index t (1 : Fin 2) * 128 + 1 * (j 1).val = (j 1).val; omega

theorem emb65 (t : Fin cfg0.N) (j : S1x8.Idx) : ((cfg0.win 65).blk t).view.emb j = j := by
  obtain ⟨e0, e1⟩ := (by decide +kernel : ∀ t : Fin grid0.N, win0_65.index t (0 : Fin 2) = 0 ∧ win0_65.index t (1 : Fin 2) = 0) t
  funext a; apply Fin.ext
  match a with
  | ⟨0, _⟩ => show win0_65.index t (0 : Fin 2) * 1 + 1 * (j 0).val = (j 0).val; omega
  | ⟨1, _⟩ => show win0_65.index t (1 : Fin 2) * 8 + 1 * (j 1).val = (j 1).val; omega

theorem emb66 (t : Fin cfg0.N) (j : S8x32.Idx) : ((cfg0.win 66).blk t).view.emb j = j := by
  obtain ⟨e0, e1⟩ := (by decide +kernel : ∀ t : Fin grid0.N, win0_66.index t (0 : Fin 2) = 0 ∧ win0_66.index t (1 : Fin 2) = 0) t
  funext a; apply Fin.ext
  match a with
  | ⟨0, _⟩ => show win0_66.index t (0 : Fin 2) * 8 + 1 * (j 0).val = (j 0).val; omega
  | ⟨1, _⟩ => show win0_66.index t (1 : Fin 2) * 32 + 1 * (j 1).val = (j 1).val; omega

theorem emb67 (t : Fin cfg0.N) (j : S1x1024.Idx) : ((cfg0.win 67).blk t).view.emb j = j := by
  obtain ⟨e0, e1⟩ := (by decide +kernel : ∀ t : Fin grid0.N, win0_67.index t (0 : Fin 2) = 0 ∧ win0_67.index t (1 : Fin 2) = 0) t
  funext a; apply Fin.ext
  match a with
  | ⟨0, _⟩ => show win0_67.index t (0 : Fin 2) * 1 + 1 * (j 0).val = (j 0).val; omega
  | ⟨1, _⟩ => show win0_67.index t (1 : Fin 2) * 1024 + 1 * (j 1).val = (j 1).val; omega

theorem emb68 (t : Fin cfg0.N) (j : S1x1024.Idx) : ((cfg0.win 68).blk t).view.emb j = j := by
  obtain ⟨e0, e1⟩ := (by decide +kernel : ∀ t : Fin grid0.N, win0_68.index t (0 : Fin 2) = 0 ∧ win0_68.index t (1 : Fin 2) = 0) t
  funext a; apply Fin.ext
  match a with
  | ⟨0, _⟩ => show win0_68.index t (0 : Fin 2) * 1 + 1 * (j 0).val = (j 0).val; omega
  | ⟨1, _⟩ => show win0_68.index t (1 : Fin 2) * 1024 + 1 * (j 1).val = (j 1).val; omega

/-! Each input window's block is its array as launched. -/

theorem iblk0 (c : Dev nD) (t : Fin cfg0.N) : iblk m c 0 t = m ((c : Thread nD τ).loc main_arg0) := by
  funext j; show V m c main_arg0 (((cfg0.win 0).blk t).view.emb j) = V m c main_arg0 j; rw [emb0]
theorem iblk1 (c : Dev nD) (t : Fin cfg0.N) : iblk m c 1 t = m ((c : Thread nD τ).loc main_arg1) := by
  funext j; show V m c main_arg1 (((cfg0.win 1).blk t).view.emb j) = V m c main_arg1 j; rw [emb1]
theorem iblk2 (c : Dev nD) (t : Fin cfg0.N) : iblk m c 2 t = m ((c : Thread nD τ).loc main_arg2) := by
  funext j; show V m c main_arg2 (((cfg0.win 2).blk t).view.emb j) = V m c main_arg2 j; rw [emb2]
theorem iblk3 (c : Dev nD) (t : Fin cfg0.N) : iblk m c 3 t = m ((c : Thread nD τ).loc main_arg3) := by
  funext j; show V m c main_arg3 (((cfg0.win 3).blk t).view.emb j) = V m c main_arg3 j; rw [emb3]
theorem iblk4 (c : Dev nD) (t : Fin cfg0.N) : iblk m c 4 t = m ((c : Thread nD τ).loc main_arg4) := by
  funext j; show V m c main_arg4 (((cfg0.win 4).blk t).view.emb j) = V m c main_arg4 j; rw [emb4]
theorem iblk5 (c : Dev nD) (t : Fin cfg0.N) : iblk m c 5 t = m ((c : Thread nD τ).loc main_arg5) := by
  funext j; show V m c main_arg5 (((cfg0.win 5).blk t).view.emb j) = V m c main_arg5 j; rw [emb5]
theorem iblk6 (c : Dev nD) (t : Fin cfg0.N) : iblk m c 6 t = m ((c : Thread nD τ).loc main_arg6) := by
  funext j; show V m c main_arg6 (((cfg0.win 6).blk t).view.emb j) = V m c main_arg6 j; rw [emb6]
theorem iblk7 (c : Dev nD) (t : Fin cfg0.N) : iblk m c 7 t = m ((c : Thread nD τ).loc main_arg7) := by
  funext j; show V m c main_arg7 (((cfg0.win 7).blk t).view.emb j) = V m c main_arg7 j; rw [emb7]
theorem iblk8 (c : Dev nD) (t : Fin cfg0.N) : iblk m c 8 t = m ((c : Thread nD τ).loc main_arg8) := by
  funext j; show V m c main_arg8 (((cfg0.win 8).blk t).view.emb j) = V m c main_arg8 j; rw [emb8]
theorem iblk9 (c : Dev nD) (t : Fin cfg0.N) : iblk m c 9 t = m ((c : Thread nD τ).loc main_arg9) := by
  funext j; show V m c main_arg9 (((cfg0.win 9).blk t).view.emb j) = V m c main_arg9 j; rw [emb9]
theorem iblk10 (c : Dev nD) (t : Fin cfg0.N) : iblk m c 10 t = m ((c : Thread nD τ).loc main_arg10) := by
  funext j; show V m c main_arg10 (((cfg0.win 10).blk t).view.emb j) = V m c main_arg10 j; rw [emb10]
theorem iblk11 (c : Dev nD) (t : Fin cfg0.N) : iblk m c 11 t = m ((c : Thread nD τ).loc main_arg11) := by
  funext j; show V m c main_arg11 (((cfg0.win 11).blk t).view.emb j) = V m c main_arg11 j; rw [emb11]
theorem iblk12 (c : Dev nD) (t : Fin cfg0.N) : iblk m c 12 t = m ((c : Thread nD τ).loc main_arg12) := by
  funext j; show V m c main_arg12 (((cfg0.win 12).blk t).view.emb j) = V m c main_arg12 j; rw [emb12]
theorem iblk13 (c : Dev nD) (t : Fin cfg0.N) : iblk m c 13 t = m ((c : Thread nD τ).loc main_arg13) := by
  funext j; show V m c main_arg13 (((cfg0.win 13).blk t).view.emb j) = V m c main_arg13 j; rw [emb13]
theorem iblk14 (c : Dev nD) (t : Fin cfg0.N) : iblk m c 14 t = m ((c : Thread nD τ).loc main_arg14) := by
  funext j; show V m c main_arg14 (((cfg0.win 14).blk t).view.emb j) = V m c main_arg14 j; rw [emb14]
theorem iblk15 (c : Dev nD) (t : Fin cfg0.N) : iblk m c 15 t = m ((c : Thread nD τ).loc main_arg15) := by
  funext j; show V m c main_arg15 (((cfg0.win 15).blk t).view.emb j) = V m c main_arg15 j; rw [emb15]
theorem iblk16 (c : Dev nD) (t : Fin cfg0.N) : iblk m c 16 t = m ((c : Thread nD τ).loc main_arg16) := by
  funext j; show V m c main_arg16 (((cfg0.win 16).blk t).view.emb j) = V m c main_arg16 j; rw [emb16]
theorem iblk17 (c : Dev nD) (t : Fin cfg0.N) : iblk m c 17 t = m ((c : Thread nD τ).loc main_arg17) := by
  funext j; show V m c main_arg17 (((cfg0.win 17).blk t).view.emb j) = V m c main_arg17 j; rw [emb17]
theorem iblk18 (c : Dev nD) (t : Fin cfg0.N) : iblk m c 18 t = m ((c : Thread nD τ).loc main_arg18) := by
  funext j; show V m c main_arg18 (((cfg0.win 18).blk t).view.emb j) = V m c main_arg18 j; rw [emb18]
theorem iblk19 (c : Dev nD) (t : Fin cfg0.N) : iblk m c 19 t = m ((c : Thread nD τ).loc main_arg19) := by
  funext j; show V m c main_arg19 (((cfg0.win 19).blk t).view.emb j) = V m c main_arg19 j; rw [emb19]
theorem iblk20 (c : Dev nD) (t : Fin cfg0.N) : iblk m c 20 t = m ((c : Thread nD τ).loc main_arg20) := by
  funext j; show V m c main_arg20 (((cfg0.win 20).blk t).view.emb j) = V m c main_arg20 j; rw [emb20]
theorem iblk21 (c : Dev nD) (t : Fin cfg0.N) : iblk m c 21 t = m ((c : Thread nD τ).loc main_arg21) := by
  funext j; show V m c main_arg21 (((cfg0.win 21).blk t).view.emb j) = V m c main_arg21 j; rw [emb21]
theorem iblk22 (c : Dev nD) (t : Fin cfg0.N) : iblk m c 22 t = m ((c : Thread nD τ).loc main_arg22) := by
  funext j; show V m c main_arg22 (((cfg0.win 22).blk t).view.emb j) = V m c main_arg22 j; rw [emb22]
theorem iblk23 (c : Dev nD) (t : Fin cfg0.N) : iblk m c 23 t = m ((c : Thread nD τ).loc main_arg23) := by
  funext j; show V m c main_arg23 (((cfg0.win 23).blk t).view.emb j) = V m c main_arg23 j; rw [emb23]
theorem iblk24 (c : Dev nD) (t : Fin cfg0.N) : iblk m c 24 t = m ((c : Thread nD τ).loc main_arg24) := by
  funext j; show V m c main_arg24 (((cfg0.win 24).blk t).view.emb j) = V m c main_arg24 j; rw [emb24]
theorem iblk25 (c : Dev nD) (t : Fin cfg0.N) : iblk m c 25 t = m ((c : Thread nD τ).loc main_arg25) := by
  funext j; show V m c main_arg25 (((cfg0.win 25).blk t).view.emb j) = V m c main_arg25 j; rw [emb25]
theorem iblk26 (c : Dev nD) (t : Fin cfg0.N) : iblk m c 26 t = m ((c : Thread nD τ).loc main_arg26) := by
  funext j; show V m c main_arg26 (((cfg0.win 26).blk t).view.emb j) = V m c main_arg26 j; rw [emb26]
theorem iblk27 (c : Dev nD) (t : Fin cfg0.N) : iblk m c 27 t = m ((c : Thread nD τ).loc main_arg27) := by
  funext j; show V m c main_arg27 (((cfg0.win 27).blk t).view.emb j) = V m c main_arg27 j; rw [emb27]
theorem iblk28 (c : Dev nD) (t : Fin cfg0.N) : iblk m c 28 t = m ((c : Thread nD τ).loc main_arg28) := by
  funext j; show V m c main_arg28 (((cfg0.win 28).blk t).view.emb j) = V m c main_arg28 j; rw [emb28]
theorem iblk29 (c : Dev nD) (t : Fin cfg0.N) : iblk m c 29 t = m ((c : Thread nD τ).loc main_arg29) := by
  funext j; show V m c main_arg29 (((cfg0.win 29).blk t).view.emb j) = V m c main_arg29 j; rw [emb29]
theorem iblk30 (c : Dev nD) (t : Fin cfg0.N) : iblk m c 30 t = m ((c : Thread nD τ).loc main_arg30) := by
  funext j; show V m c main_arg30 (((cfg0.win 30).blk t).view.emb j) = V m c main_arg30 j; rw [emb30]
theorem iblk31 (c : Dev nD) (t : Fin cfg0.N) : iblk m c 31 t = m ((c : Thread nD τ).loc main_arg31) := by
  funext j; show V m c main_arg31 (((cfg0.win 31).blk t).view.emb j) = V m c main_arg31 j; rw [emb31]
theorem iblk32 (c : Dev nD) (t : Fin cfg0.N) : iblk m c 32 t = m ((c : Thread nD τ).loc main_arg32) := by
  funext j; show V m c main_arg32 (((cfg0.win 32).blk t).view.emb j) = V m c main_arg32 j; rw [emb32]
theorem iblk33 (c : Dev nD) (t : Fin cfg0.N) : iblk m c 33 t = m ((c : Thread nD τ).loc main_arg33) := by
  funext j; show V m c main_arg33 (((cfg0.win 33).blk t).view.emb j) = V m c main_arg33 j; rw [emb33]
theorem iblk34 (c : Dev nD) (t : Fin cfg0.N) : iblk m c 34 t = m ((c : Thread nD τ).loc main_arg34) := by
  funext j; show V m c main_arg34 (((cfg0.win 34).blk t).view.emb j) = V m c main_arg34 j; rw [emb34]
theorem iblk35 (c : Dev nD) (t : Fin cfg0.N) : iblk m c 35 t = m ((c : Thread nD τ).loc main_arg35) := by
  funext j; show V m c main_arg35 (((cfg0.win 35).blk t).view.emb j) = V m c main_arg35 j; rw [emb35]

/-! Each result array ends holding the body's function of the argument arrays: what is written back is the block of that
    function (`flushed`), and the block is the whole array (`covered`). -/

theorem cut36 (t : Fin cfg0.N) (X : Vec F S1x1 .f32) : (cfg0.win 36).cut (grid0.coords t) X = ((cfg0.win 36).blk t).view.read (Elt F) X := by
  funext j
  show X j = X (((cfg0.win 36).blk t).view.emb j)
  rw [emb36]
theorem flushed36 (c : Dev nD) (t : Fin cfg0.N) : (dats m 0 c).flushed 36 t = ((cfg0.win 36).blk t).view.read (Elt F) (out36 (m ((c : Thread nD τ).loc main_arg0)) (m ((c : Thread nD τ).loc main_arg5))) := by
  show (cfg0.win 36).cut (grid0.coords t) ((dats m 0 c).after 36 t) = _
  rw [after36, iblk0, iblk5]
  exact cut36 t _
theorem covered36 (i : S1x1.Idx) : ∃ t : Fin cfg0.N, (cfg0.win 36).flush t = true ∧ i ∈ ((cfg0.win 36).blk t).view.set :=
  ⟨(⟨0, by decide⟩ : Fin cfg0.N), flush0_36 _, by have h := ((cfg0.win 36).blk (⟨0, by decide⟩ : Fin cfg0.N)).view.emb_mem_set i; rwa [emb36] at h⟩
theorem final36 (c : Dev nD) : (dats m 0 c).arrAt 36 cfg0.N = out36 (m ((c : Thread nD τ).loc main_arg0)) (m ((c : Thread nD τ).loc main_arg5)) :=
  (dats m 0 c).arrAt_eq_of_cover 36 _ (fun t _ => flushed36 m c t) covered36

theorem cut37 (t : Fin cfg0.N) (X : Vec F S1x1024 .f32) : (cfg0.win 37).cut (grid0.coords t) X = ((cfg0.win 37).blk t).view.read (Elt F) X := by
  funext j
  show X j = X (((cfg0.win 37).blk t).view.emb j)
  rw [emb37]
theorem flushed37 (c : Dev nD) (t : Fin cfg0.N) : (dats m 0 c).flushed 37 t = ((cfg0.win 37).blk t).view.read (Elt F) (out37 (m ((c : Thread nD τ).loc main_arg10)) (m ((c : Thread nD τ).loc main_arg11))) := by
  show (cfg0.win 37).cut (grid0.coords t) ((dats m 0 c).after 37 t) = _
  rw [after37, iblk10, iblk11]
  exact cut37 t _
theorem covered37 (i : S1x1024.Idx) : ∃ t : Fin cfg0.N, (cfg0.win 37).flush t = true ∧ i ∈ ((cfg0.win 37).blk t).view.set :=
  ⟨(⟨0, by decide⟩ : Fin cfg0.N), flush0_37 _, by have h := ((cfg0.win 37).blk (⟨0, by decide⟩ : Fin cfg0.N)).view.emb_mem_set i; rwa [emb37] at h⟩
theorem final37 (c : Dev nD) : (dats m 0 c).arrAt 37 cfg0.N = out37 (m ((c : Thread nD τ).loc main_arg10)) (m ((c : Thread nD τ).loc main_arg11)) :=
  (dats m 0 c).arrAt_eq_of_cover 37 _ (fun t _ => flushed37 m c t) covered37

theorem cut38 (t : Fin cfg0.N) (X : Vec F S1x512 .f32) : (cfg0.win 38).cut (grid0.coords t) X = ((cfg0.win 38).blk t).view.read (Elt F) X := by
  funext j
  show X j = X (((cfg0.win 38).blk t).view.emb j)
  rw [emb38]
theorem flushed38 (c : Dev nD) (t : Fin cfg0.N) : (dats m 0 c).flushed 38 t = ((cfg0.win 38).blk t).view.read (Elt F) (out38 (m ((c : Thread nD τ).loc main_arg1)) (m ((c : Thread nD τ).loc main_arg6))) := by
  show (cfg0.win 38).cut (grid0.coords t) ((dats m 0 c).after 38 t) = _
  rw [after38, iblk1, iblk6]
  exact cut38 t _
theorem covered38 (i : S1x512.Idx) : ∃ t : Fin cfg0.N, (cfg0.win 38).flush t = true ∧ i ∈ ((cfg0.win 38).blk t).view.set :=
  ⟨(⟨0, by decide⟩ : Fin cfg0.N), flush0_38 _, by have h := ((cfg0.win 38).blk (⟨0, by decide⟩ : Fin cfg0.N)).view.emb_mem_set i; rwa [emb38] at h⟩
theorem final38 (c : Dev nD) : (dats m 0 c).arrAt 38 cfg0.N = out38 (m ((c : Thread nD τ).loc main_arg1)) (m ((c : Thread nD τ).loc main_arg6)) :=
  (dats m 0 c).arrAt_eq_of_cover 38 _ (fun t _ => flushed38 m c t) covered38

theorem cut39 (t : Fin cfg0.N) (X : Vec F S4x128x128 .f32) : (cfg0.win 39).cut (grid0.coords t) X = ((cfg0.win 39).blk t).view.read (Elt F) X := by
  funext j
  show X j = X (((cfg0.win 39).blk t).view.emb j)
  rw [emb39]
theorem flushed39 (c : Dev nD) (t : Fin cfg0.N) : (dats m 0 c).flushed 39 t = ((cfg0.win 39).blk t).view.read (Elt F) (out39 (m ((c : Thread nD τ).loc main_arg2)) (m ((c : Thread nD τ).loc main_arg7))) := by
  show (cfg0.win 39).cut (grid0.coords t) ((dats m 0 c).after 39 t) = _
  rw [after39, iblk2, iblk7]
  exact cut39 t _
theorem covered39 (i : S4x128x128.Idx) : ∃ t : Fin cfg0.N, (cfg0.win 39).flush t = true ∧ i ∈ ((cfg0.win 39).blk t).view.set :=
  ⟨(⟨0, by decide⟩ : Fin cfg0.N), flush0_39 _, by have h := ((cfg0.win 39).blk (⟨0, by decide⟩ : Fin cfg0.N)).view.emb_mem_set i; rwa [emb39] at h⟩
theorem final39 (c : Dev nD) : (dats m 0 c).arrAt 39 cfg0.N = out39 (m ((c : Thread nD τ).loc main_arg2)) (m ((c : Thread nD τ).loc main_arg7)) :=
  (dats m 0 c).arrAt_eq_of_cover 39 _ (fun t _ => flushed39 m c t) covered39

theorem cut40 (t : Fin cfg0.N) (X : Vec F S4x128 .f32) : (cfg0.win 40).cut (grid0.coords t) X = ((cfg0.win 40).blk t).view.read (Elt F) X := by
  funext j
  show X j = X (((cfg0.win 40).blk t).view.emb j)
  rw [emb40]
theorem flushed40 (c : Dev nD) (t : Fin cfg0.N) : (dats m 0 c).flushed 40 t = ((cfg0.win 40).blk t).view.read (Elt F) (out40 (m ((c : Thread nD τ).loc main_arg3)) (m ((c : Thread nD τ).loc main_arg8))) := by
  show (cfg0.win 40).cut (grid0.coords t) ((dats m 0 c).after 40 t) = _
  rw [after40, iblk3, iblk8]
  exact cut40 t _
theorem covered40 (i : S4x128.Idx) : ∃ t : Fin cfg0.N, (cfg0.win 40).flush t = true ∧ i ∈ ((cfg0.win 40).blk t).view.set :=
  ⟨(⟨0, by decide⟩ : Fin cfg0.N), flush0_40 _, by have h := ((cfg0.win 40).blk (⟨0, by decide⟩ : Fin cfg0.N)).view.emb_mem_set i; rwa [emb40] at h⟩
theorem final40 (c : Dev nD) : (dats m 0 c).arrAt 40 cfg0.N = out40 (m ((c : Thread nD τ).loc main_arg3)) (m ((c : Thread nD τ).loc main_arg8)) :=
  (dats m 0 c).arrAt_eq_of_cover 40 _ (fun t _ => flushed40 m c t) covered40

theorem cut41 (t : Fin cfg0.N) (X : Vec F S1x8 .f32) : (cfg0.win 41).cut (grid0.coords t) X = ((cfg0.win 41).blk t).view.read (Elt F) X := by
  funext j
  show X j = X (((cfg0.win 41).blk t).view.emb j)
  rw [emb41]
theorem flushed41 (c : Dev nD) (t : Fin cfg0.N) : (dats m 0 c).flushed 41 t = ((cfg0.win 41).blk t).view.read (Elt F) (out41 (m ((c : Thread nD τ).loc main_arg4)) (m ((c : Thread nD τ).loc main_arg9))) := by
  show (cfg0.win 41).cut (grid0.coords t) ((dats m 0 c).after 41 t) = _
  rw [after41, iblk4, iblk9]
  exact cut41 t _
theorem covered41 (i : S1x8.Idx) : ∃ t : Fin cfg0.N, (cfg0.win 41).flush t = true ∧ i ∈ ((cfg0.win 41).blk t).view.set :=
  ⟨(⟨0, by decide⟩ : Fin cfg0.N), flush0_41 _, by have h := ((cfg0.win 41).blk (⟨0, by decide⟩ : Fin cfg0.N)).view.emb_mem_set i; rwa [emb41] at h⟩
theorem final41 (c : Dev nD) : (dats m 0 c).arrAt 41 cfg0.N = out41 (m ((c : Thread nD τ).loc main_arg4)) (m ((c : Thread nD τ).loc main_arg9)) :=
  (dats m 0 c).arrAt_eq_of_cover 41 _ (fun t _ => flushed41 m c t) covered41

theorem cut42 (t : Fin cfg0.N) (X : Vec F S8x32 .f32) : (cfg0.win 42).cut (grid0.coords t) X = ((cfg0.win 42).blk t).view.read (Elt F) X := by
  funext j
  show X j = X (((cfg0.win 42).blk t).view.emb j)
  rw [emb42]
theorem flushed42 (c : Dev nD) (t : Fin cfg0.N) : (dats m 0 c).flushed 42 t = ((cfg0.win 42).blk t).view.read (Elt F) (out42 (m ((c : Thread nD τ).loc main_arg4)) (m ((c : Thread nD τ).loc main_arg9))) := by
  show (cfg0.win 42).cut (grid0.coords t) ((dats m 0 c).after 42 t) = _
  rw [after42, iblk4, iblk9]
  exact cut42 t _
theorem covered42 (i : S8x32.Idx) : ∃ t : Fin cfg0.N, (cfg0.win 42).flush t = true ∧ i ∈ ((cfg0.win 42).blk t).view.set :=
  ⟨(⟨0, by decide⟩ : Fin cfg0.N), flush0_42 _, by have h := ((cfg0.win 42).blk (⟨0, by decide⟩ : Fin cfg0.N)).view.emb_mem_set i; rwa [emb42] at h⟩
theorem final42 (c : Dev nD) : (dats m 0 c).arrAt 42 cfg0.N = out42 (m ((c : Thread nD τ).loc main_arg4)) (m ((c : Thread nD τ).loc main_arg9)) :=
  (dats m 0 c).arrAt_eq_of_cover 42 _ (fun t _ => flushed42 m c t) covered42

theorem cut43 (t : Fin cfg0.N) (X : Vec F S1x1024 .f32) : (cfg0.win 43).cut (grid0.coords t) X = ((cfg0.win 43).blk t).view.read (Elt F) X := by
  funext j
  show X j = X (((cfg0.win 43).blk t).view.emb j)
  rw [emb43]
theorem flushed43 (c : Dev nD) (t : Fin cfg0.N) : (dats m 0 c).flushed 43 t = ((cfg0.win 43).blk t).view.read (Elt F) (out43 (m ((c : Thread nD τ).loc main_arg0)) (m ((c : Thread nD τ).loc main_arg5))) := by
  show (cfg0.win 43).cut (grid0.coords t) ((dats m 0 c).after 43 t) = _
  rw [after43, iblk0, iblk5]
  exact cut43 t _
theorem covered43 (i : S1x1024.Idx) : ∃ t : Fin cfg0.N, (cfg0.win 43).flush t = true ∧ i ∈ ((cfg0.win 43).blk t).view.set :=
  ⟨(⟨0, by decide⟩ : Fin cfg0.N), flush0_43 _, by have h := ((cfg0.win 43).blk (⟨0, by decide⟩ : Fin cfg0.N)).view.emb_mem_set i; rwa [emb43] at h⟩
theorem final43 (c : Dev nD) : (dats m 0 c).arrAt 43 cfg0.N = out43 (m ((c : Thread nD τ).loc main_arg0)) (m ((c : Thread nD τ).loc main_arg5)) :=
  (dats m 0 c).arrAt_eq_of_cover 43 _ (fun t _ => flushed43 m c t) covered43

theorem cut44 (t : Fin cfg0.N) (X : Vec F S1x1024 .f32) : (cfg0.win 44).cut (grid0.coords t) X = ((cfg0.win 44).blk t).view.read (Elt F) X := by
  funext j
  show X j = X (((cfg0.win 44).blk t).view.emb j)
  rw [emb44]
theorem flushed44 (c : Dev nD) (t : Fin cfg0.N) : (dats m 0 c).flushed 44 t = ((cfg0.win 44).blk t).view.read (Elt F) (out44 (m ((c : Thread nD τ).loc main_arg0)) (m ((c : Thread nD τ).loc main_arg5))) := by
  show (cfg0.win 44).cut (grid0.coords t) ((dats m 0 c).after 44 t) = _
  rw [after44, iblk0, iblk5]
  exact cut44 t _
theorem covered44 (i : S1x1024.Idx) : ∃ t : Fin cfg0.N, (cfg0.win 44).flush t = true ∧ i ∈ ((cfg0.win 44).blk t).view.set :=
  ⟨(⟨0, by decide⟩ : Fin cfg0.N), flush0_44 _, by have h := ((cfg0.win 44).blk (⟨0, by decide⟩ : Fin cfg0.N)).view.emb_mem_set i; rwa [emb44] at h⟩
theorem final44 (c : Dev nD) : (dats m 0 c).arrAt 44 cfg0.N = out44 (m ((c : Thread nD τ).loc main_arg0)) (m ((c : Thread nD τ).loc main_arg5)) :=
  (dats m 0 c).arrAt_eq_of_cover 44 _ (fun t _ => flushed44 m c t) covered44

theorem cut45 (t : Fin cfg0.N) (X : Vec F S1x1024 .f32) : (cfg0.win 45).cut (grid0.coords t) X = ((cfg0.win 45).blk t).view.read (Elt F) X := by
  funext j
  show X j = X (((cfg0.win 45).blk t).view.emb j)
  rw [emb45]
theorem flushed45 (c : Dev nD) (t : Fin cfg0.N) : (dats m 0 c).flushed 45 t = ((cfg0.win 45).blk t).view.read (Elt F) (out45 (m ((c : Thread nD τ).loc main_arg10)) (m ((c : Thread nD τ).loc main_arg11)) (m ((c : Thread nD τ).loc main_arg12)) (m ((c : Thread nD τ).loc main_arg20)) (m ((c : Thread nD τ).loc main_arg28))) := by
  show (cfg0.win 45).cut (grid0.coords t) ((dats m 0 c).after 45 t) = _
  rw [after45, iblk10, iblk11, iblk12, iblk20, iblk28]
  exact cut45 t _
theorem covered45 (i : S1x1024.Idx) : ∃ t : Fin cfg0.N, (cfg0.win 45).flush t = true ∧ i ∈ ((cfg0.win 45).blk t).view.set :=
  ⟨(⟨0, by decide⟩ : Fin cfg0.N), flush0_45 _, by have h := ((cfg0.win 45).blk (⟨0, by decide⟩ : Fin cfg0.N)).view.emb_mem_set i; rwa [emb45] at h⟩
theorem final45 (c : Dev nD) : (dats m 0 c).arrAt 45 cfg0.N = out45 (m ((c : Thread nD τ).loc main_arg10)) (m ((c : Thread nD τ).loc main_arg11)) (m ((c : Thread nD τ).loc main_arg12)) (m ((c : Thread nD τ).loc main_arg20)) (m ((c : Thread nD τ).loc main_arg28)) :=
  (dats m 0 c).arrAt_eq_of_cover 45 _ (fun t _ => flushed45 m c t) covered45

theorem cut46 (t : Fin cfg0.N) (X : Vec F S1x512 .f32) : (cfg0.win 46).cut (grid0.coords t) X = ((cfg0.win 46).blk t).view.read (Elt F) X := by
  funext j
  show X j = X (((cfg0.win 46).blk t).view.emb j)
  rw [emb46]
theorem flushed46 (c : Dev nD) (t : Fin cfg0.N) : (dats m 0 c).flushed 46 t = ((cfg0.win 46).blk t).view.read (Elt F) (out46 (m ((c : Thread nD τ).loc main_arg1)) (m ((c : Thread nD τ).loc main_arg6)) (m ((c : Thread nD τ).loc main_arg13)) (m ((c : Thread nD τ).loc main_arg21)) (m ((c : Thread nD τ).loc main_arg29))) := by
  show (cfg0.win 46).cut (grid0.coords t) ((dats m 0 c).after 46 t) = _
  rw [after46, iblk1, iblk6, iblk13, iblk21, iblk29]
  exact cut46 t _
theorem covered46 (i : S1x512.Idx) : ∃ t : Fin cfg0.N, (cfg0.win 46).flush t = true ∧ i ∈ ((cfg0.win 46).blk t).view.set :=
  ⟨(⟨0, by decide⟩ : Fin cfg0.N), flush0_46 _, by have h := ((cfg0.win 46).blk (⟨0, by decide⟩ : Fin cfg0.N)).view.emb_mem_set i; rwa [emb46] at h⟩
theorem final46 (c : Dev nD) : (dats m 0 c).arrAt 46 cfg0.N = out46 (m ((c : Thread nD τ).loc main_arg1)) (m ((c : Thread nD τ).loc main_arg6)) (m ((c : Thread nD τ).loc main_arg13)) (m ((c : Thread nD τ).loc main_arg21)) (m ((c : Thread nD τ).loc main_arg29)) :=
  (dats m 0 c).arrAt_eq_of_cover 46 _ (fun t _ => flushed46 m c t) covered46

theorem cut47 (t : Fin cfg0.N) (X : Vec F S4x128x128 .f32) : (cfg0.win 47).cut (grid0.coords t) X = ((cfg0.win 47).blk t).view.read (Elt F) X := by
  funext j
  show X j = X (((cfg0.win 47).blk t).view.emb j)
  rw [emb47]
theorem flushed47 (c : Dev nD) (t : Fin cfg0.N) : (dats m 0 c).flushed 47 t = ((cfg0.win 47).blk t).view.read (Elt F) (out47 (m ((c : Thread nD τ).loc main_arg2)) (m ((c : Thread nD τ).loc main_arg7)) (m ((c : Thread nD τ).loc main_arg14)) (m ((c : Thread nD τ).loc main_arg22)) (m ((c : Thread nD τ).loc main_arg30))) := by
  show (cfg0.win 47).cut (grid0.coords t) ((dats m 0 c).after 47 t) = _
  rw [after47, iblk2, iblk7, iblk14, iblk22, iblk30]
  exact cut47 t _
theorem covered47 (i : S4x128x128.Idx) : ∃ t : Fin cfg0.N, (cfg0.win 47).flush t = true ∧ i ∈ ((cfg0.win 47).blk t).view.set :=
  ⟨(⟨0, by decide⟩ : Fin cfg0.N), flush0_47 _, by have h := ((cfg0.win 47).blk (⟨0, by decide⟩ : Fin cfg0.N)).view.emb_mem_set i; rwa [emb47] at h⟩
theorem final47 (c : Dev nD) : (dats m 0 c).arrAt 47 cfg0.N = out47 (m ((c : Thread nD τ).loc main_arg2)) (m ((c : Thread nD τ).loc main_arg7)) (m ((c : Thread nD τ).loc main_arg14)) (m ((c : Thread nD τ).loc main_arg22)) (m ((c : Thread nD τ).loc main_arg30)) :=
  (dats m 0 c).arrAt_eq_of_cover 47 _ (fun t _ => flushed47 m c t) covered47

theorem cut48 (t : Fin cfg0.N) (X : Vec F S4x128 .f32) : (cfg0.win 48).cut (grid0.coords t) X = ((cfg0.win 48).blk t).view.read (Elt F) X := by
  funext j
  show X j = X (((cfg0.win 48).blk t).view.emb j)
  rw [emb48]
theorem flushed48 (c : Dev nD) (t : Fin cfg0.N) : (dats m 0 c).flushed 48 t = ((cfg0.win 48).blk t).view.read (Elt F) (out48 (m ((c : Thread nD τ).loc main_arg3)) (m ((c : Thread nD τ).loc main_arg8)) (m ((c : Thread nD τ).loc main_arg15)) (m ((c : Thread nD τ).loc main_arg23)) (m ((c : Thread nD τ).loc main_arg31))) := by
  show (cfg0.win 48).cut (grid0.coords t) ((dats m 0 c).after 48 t) = _
  rw [after48, iblk3, iblk8, iblk15, iblk23, iblk31]
  exact cut48 t _
theorem covered48 (i : S4x128.Idx) : ∃ t : Fin cfg0.N, (cfg0.win 48).flush t = true ∧ i ∈ ((cfg0.win 48).blk t).view.set :=
  ⟨(⟨0, by decide⟩ : Fin cfg0.N), flush0_48 _, by have h := ((cfg0.win 48).blk (⟨0, by decide⟩ : Fin cfg0.N)).view.emb_mem_set i; rwa [emb48] at h⟩
theorem final48 (c : Dev nD) : (dats m 0 c).arrAt 48 cfg0.N = out48 (m ((c : Thread nD τ).loc main_arg3)) (m ((c : Thread nD τ).loc main_arg8)) (m ((c : Thread nD τ).loc main_arg15)) (m ((c : Thread nD τ).loc main_arg23)) (m ((c : Thread nD τ).loc main_arg31)) :=
  (dats m 0 c).arrAt_eq_of_cover 48 _ (fun t _ => flushed48 m c t) covered48

theorem cut49 (t : Fin cfg0.N) (X : Vec F S1x8 .f32) : (cfg0.win 49).cut (grid0.coords t) X = ((cfg0.win 49).blk t).view.read (Elt F) X := by
  funext j
  show X j = X (((cfg0.win 49).blk t).view.emb j)
  rw [emb49]
theorem flushed49 (c : Dev nD) (t : Fin cfg0.N) : (dats m 0 c).flushed 49 t = ((cfg0.win 49).blk t).view.read (Elt F) (out49 (m ((c : Thread nD τ).loc main_arg4)) (m ((c : Thread nD τ).loc main_arg9)) (m ((c : Thread nD τ).loc main_arg16)) (m ((c : Thread nD τ).loc main_arg24)) (m ((c : Thread nD τ).loc main_arg32))) := by
  show (cfg0.win 49).cut (grid0.coords t) ((dats m 0 c).after 49 t) = _
  rw [after49, iblk4, iblk9, iblk16, iblk24, iblk32]
  exact cut49 t _
theorem covered49 (i : S1x8.Idx) : ∃ t : Fin cfg0.N, (cfg0.win 49).flush t = true ∧ i ∈ ((cfg0.win 49).blk t).view.set :=
  ⟨(⟨0, by decide⟩ : Fin cfg0.N), flush0_49 _, by have h := ((cfg0.win 49).blk (⟨0, by decide⟩ : Fin cfg0.N)).view.emb_mem_set i; rwa [emb49] at h⟩
theorem final49 (c : Dev nD) : (dats m 0 c).arrAt 49 cfg0.N = out49 (m ((c : Thread nD τ).loc main_arg4)) (m ((c : Thread nD τ).loc main_arg9)) (m ((c : Thread nD τ).loc main_arg16)) (m ((c : Thread nD τ).loc main_arg24)) (m ((c : Thread nD τ).loc main_arg32)) :=
  (dats m 0 c).arrAt_eq_of_cover 49 _ (fun t _ => flushed49 m c t) covered49

theorem cut50 (t : Fin cfg0.N) (X : Vec F S8x32 .f32) : (cfg0.win 50).cut (grid0.coords t) X = ((cfg0.win 50).blk t).view.read (Elt F) X := by
  funext j
  show X j = X (((cfg0.win 50).blk t).view.emb j)
  rw [emb50]
theorem flushed50 (c : Dev nD) (t : Fin cfg0.N) : (dats m 0 c).flushed 50 t = ((cfg0.win 50).blk t).view.read (Elt F) (out50 (m ((c : Thread nD τ).loc main_arg4)) (m ((c : Thread nD τ).loc main_arg9)) (m ((c : Thread nD τ).loc main_arg17)) (m ((c : Thread nD τ).loc main_arg25)) (m ((c : Thread nD τ).loc main_arg33))) := by
  show (cfg0.win 50).cut (grid0.coords t) ((dats m 0 c).after 50 t) = _
  rw [after50, iblk4, iblk9, iblk17, iblk25, iblk33]
  exact cut50 t _
theorem covered50 (i : S8x32.Idx) : ∃ t : Fin cfg0.N, (cfg0.win 50).flush t = true ∧ i ∈ ((cfg0.win 50).blk t).view.set :=
  ⟨(⟨0, by decide⟩ : Fin cfg0.N), flush0_50 _, by have h := ((cfg0.win 50).blk (⟨0, by decide⟩ : Fin cfg0.N)).view.emb_mem_set i; rwa [emb50] at h⟩
theorem final50 (c : Dev nD) : (dats m 0 c).arrAt 50 cfg0.N = out50 (m ((c : Thread nD τ).loc main_arg4)) (m ((c : Thread nD τ).loc main_arg9)) (m ((c : Thread nD τ).loc main_arg17)) (m ((c : Thread nD τ).loc main_arg25)) (m ((c : Thread nD τ).loc main_arg33)) :=
  (dats m 0 c).arrAt_eq_of_cover 50 _ (fun t _ => flushed50 m c t) covered50

theorem cut51 (t : Fin cfg0.N) (X : Vec F S1x1024 .f32) : (cfg0.win 51).cut (grid0.coords t) X = ((cfg0.win 51).blk t).view.read (Elt F) X := by
  funext j
  show X j = X (((cfg0.win 51).blk t).view.emb j)
  rw [emb51]
theorem flushed51 (c : Dev nD) (t : Fin cfg0.N) : (dats m 0 c).flushed 51 t = ((cfg0.win 51).blk t).view.read (Elt F) (out51 (m ((c : Thread nD τ).loc main_arg0)) (m ((c : Thread nD τ).loc main_arg5)) (m ((c : Thread nD τ).loc main_arg18)) (m ((c : Thread nD τ).loc main_arg26)) (m ((c : Thread nD τ).loc main_arg34))) := by
  show (cfg0.win 51).cut (grid0.coords t) ((dats m 0 c).after 51 t) = _
  rw [after51, iblk0, iblk5, iblk18, iblk26, iblk34]
  exact cut51 t _
theorem covered51 (i : S1x1024.Idx) : ∃ t : Fin cfg0.N, (cfg0.win 51).flush t = true ∧ i ∈ ((cfg0.win 51).blk t).view.set :=
  ⟨(⟨0, by decide⟩ : Fin cfg0.N), flush0_51 _, by have h := ((cfg0.win 51).blk (⟨0, by decide⟩ : Fin cfg0.N)).view.emb_mem_set i; rwa [emb51] at h⟩
theorem final51 (c : Dev nD) : (dats m 0 c).arrAt 51 cfg0.N = out51 (m ((c : Thread nD τ).loc main_arg0)) (m ((c : Thread nD τ).loc main_arg5)) (m ((c : Thread nD τ).loc main_arg18)) (m ((c : Thread nD τ).loc main_arg26)) (m ((c : Thread nD τ).loc main_arg34)) :=
  (dats m 0 c).arrAt_eq_of_cover 51 _ (fun t _ => flushed51 m c t) covered51

theorem cut52 (t : Fin cfg0.N) (X : Vec F S1x1024 .f32) : (cfg0.win 52).cut (grid0.coords t) X = ((cfg0.win 52).blk t).view.read (Elt F) X := by
  funext j
  show X j = X (((cfg0.win 52).blk t).view.emb j)
  rw [emb52]
theorem flushed52 (c : Dev nD) (t : Fin cfg0.N) : (dats m 0 c).flushed 52 t = ((cfg0.win 52).blk t).view.read (Elt F) (out52 (m ((c : Thread nD τ).loc main_arg0)) (m ((c : Thread nD τ).loc main_arg5)) (m ((c : Thread nD τ).loc main_arg19)) (m ((c : Thread nD τ).loc main_arg27)) (m ((c : Thread nD τ).loc main_arg35))) := by
  show (cfg0.win 52).cut (grid0.coords t) ((dats m 0 c).after 52 t) = _
  rw [after52, iblk0, iblk5, iblk19, iblk27, iblk35]
  exact cut52 t _
theorem covered52 (i : S1x1024.Idx) : ∃ t : Fin cfg0.N, (cfg0.win 52).flush t = true ∧ i ∈ ((cfg0.win 52).blk t).view.set :=
  ⟨(⟨0, by decide⟩ : Fin cfg0.N), flush0_52 _, by have h := ((cfg0.win 52).blk (⟨0, by decide⟩ : Fin cfg0.N)).view.emb_mem_set i; rwa [emb52] at h⟩
theorem final52 (c : Dev nD) : (dats m 0 c).arrAt 52 cfg0.N = out52 (m ((c : Thread nD τ).loc main_arg0)) (m ((c : Thread nD τ).loc main_arg5)) (m ((c : Thread nD τ).loc main_arg19)) (m ((c : Thread nD τ).loc main_arg27)) (m ((c : Thread nD τ).loc main_arg35)) :=
  (dats m 0 c).arrAt_eq_of_cover 52 _ (fun t _ => flushed52 m c t) covered52

theorem cut53 (t : Fin cfg0.N) (X : Vec F S1x1024 .f32) : (cfg0.win 53).cut (grid0.coords t) X = ((cfg0.win 53).blk t).view.read (Elt F) X := by
  funext j
  show X j = X (((cfg0.win 53).blk t).view.emb j)
  rw [emb53]
theorem flushed53 (c : Dev nD) (t : Fin cfg0.N) : (dats m 0 c).flushed 53 t = ((cfg0.win 53).blk t).view.read (Elt F) (out53 (m ((c : Thread nD τ).loc main_arg10)) (m ((c : Thread nD τ).loc main_arg11)) (m ((c : Thread nD τ).loc main_arg20))) := by
  show (cfg0.win 53).cut (grid0.coords t) ((dats m 0 c).after 53 t) = _
  rw [after53, iblk10, iblk11, iblk20]
  exact cut53 t _
theorem covered53 (i : S1x1024.Idx) : ∃ t : Fin cfg0.N, (cfg0.win 53).flush t = true ∧ i ∈ ((cfg0.win 53).blk t).view.set :=
  ⟨(⟨0, by decide⟩ : Fin cfg0.N), flush0_53 _, by have h := ((cfg0.win 53).blk (⟨0, by decide⟩ : Fin cfg0.N)).view.emb_mem_set i; rwa [emb53] at h⟩
theorem final53 (c : Dev nD) : (dats m 0 c).arrAt 53 cfg0.N = out53 (m ((c : Thread nD τ).loc main_arg10)) (m ((c : Thread nD τ).loc main_arg11)) (m ((c : Thread nD τ).loc main_arg20)) :=
  (dats m 0 c).arrAt_eq_of_cover 53 _ (fun t _ => flushed53 m c t) covered53

theorem cut54 (t : Fin cfg0.N) (X : Vec F S1x512 .f32) : (cfg0.win 54).cut (grid0.coords t) X = ((cfg0.win 54).blk t).view.read (Elt F) X := by
  funext j
  show X j = X (((cfg0.win 54).blk t).view.emb j)
  rw [emb54]
theorem flushed54 (c : Dev nD) (t : Fin cfg0.N) : (dats m 0 c).flushed 54 t = ((cfg0.win 54).blk t).view.read (Elt F) (out54 (m ((c : Thread nD τ).loc main_arg1)) (m ((c : Thread nD τ).loc main_arg6)) (m ((c : Thread nD τ).loc main_arg21))) := by
  show (cfg0.win 54).cut (grid0.coords t) ((dats m 0 c).after 54 t) = _
  rw [after54, iblk1, iblk6, iblk21]
  exact cut54 t _
theorem covered54 (i : S1x512.Idx) : ∃ t : Fin cfg0.N, (cfg0.win 54).flush t = true ∧ i ∈ ((cfg0.win 54).blk t).view.set :=
  ⟨(⟨0, by decide⟩ : Fin cfg0.N), flush0_54 _, by have h := ((cfg0.win 54).blk (⟨0, by decide⟩ : Fin cfg0.N)).view.emb_mem_set i; rwa [emb54] at h⟩
theorem final54 (c : Dev nD) : (dats m 0 c).arrAt 54 cfg0.N = out54 (m ((c : Thread nD τ).loc main_arg1)) (m ((c : Thread nD τ).loc main_arg6)) (m ((c : Thread nD τ).loc main_arg21)) :=
  (dats m 0 c).arrAt_eq_of_cover 54 _ (fun t _ => flushed54 m c t) covered54

theorem cut55 (t : Fin cfg0.N) (X : Vec F S4x128x128 .f32) : (cfg0.win 55).cut (grid0.coords t) X = ((cfg0.win 55).blk t).view.read (Elt F) X := by
  funext j
  show X j = X (((cfg0.win 55).blk t).view.emb j)
  rw [emb55]
theorem flushed55 (c : Dev nD) (t : Fin cfg0.N) : (dats m 0 c).flushed 55 t = ((cfg0.win 55).blk t).view.read (Elt F) (out55 (m ((c : Thread nD τ).loc main_arg2)) (m ((c : Thread nD τ).loc main_arg7)) (m ((c : Thread nD τ).loc main_arg22))) := by
  show (cfg0.win 55).cut (grid0.coords t) ((dats m 0 c).after 55 t) = _
  rw [after55, iblk2, iblk7, iblk22]
  exact cut55 t _
theorem covered55 (i : S4x128x128.Idx) : ∃ t : Fin cfg0.N, (cfg0.win 55).flush t = true ∧ i ∈ ((cfg0.win 55).blk t).view.set :=
  ⟨(⟨0, by decide⟩ : Fin cfg0.N), flush0_55 _, by have h := ((cfg0.win 55).blk (⟨0, by decide⟩ : Fin cfg0.N)).view.emb_mem_set i; rwa [emb55] at h⟩
theorem final55 (c : Dev nD) : (dats m 0 c).arrAt 55 cfg0.N = out55 (m ((c : Thread nD τ).loc main_arg2)) (m ((c : Thread nD τ).loc main_arg7)) (m ((c : Thread nD τ).loc main_arg22)) :=
  (dats m 0 c).arrAt_eq_of_cover 55 _ (fun t _ => flushed55 m c t) covered55

theorem cut56 (t : Fin cfg0.N) (X : Vec F S4x128 .f32) : (cfg0.win 56).cut (grid0.coords t) X = ((cfg0.win 56).blk t).view.read (Elt F) X := by
  funext j
  show X j = X (((cfg0.win 56).blk t).view.emb j)
  rw [emb56]
theorem flushed56 (c : Dev nD) (t : Fin cfg0.N) : (dats m 0 c).flushed 56 t = ((cfg0.win 56).blk t).view.read (Elt F) (out56 (m ((c : Thread nD τ).loc main_arg3)) (m ((c : Thread nD τ).loc main_arg8)) (m ((c : Thread nD τ).loc main_arg23))) := by
  show (cfg0.win 56).cut (grid0.coords t) ((dats m 0 c).after 56 t) = _
  rw [after56, iblk3, iblk8, iblk23]
  exact cut56 t _
theorem covered56 (i : S4x128.Idx) : ∃ t : Fin cfg0.N, (cfg0.win 56).flush t = true ∧ i ∈ ((cfg0.win 56).blk t).view.set :=
  ⟨(⟨0, by decide⟩ : Fin cfg0.N), flush0_56 _, by have h := ((cfg0.win 56).blk (⟨0, by decide⟩ : Fin cfg0.N)).view.emb_mem_set i; rwa [emb56] at h⟩
theorem final56 (c : Dev nD) : (dats m 0 c).arrAt 56 cfg0.N = out56 (m ((c : Thread nD τ).loc main_arg3)) (m ((c : Thread nD τ).loc main_arg8)) (m ((c : Thread nD τ).loc main_arg23)) :=
  (dats m 0 c).arrAt_eq_of_cover 56 _ (fun t _ => flushed56 m c t) covered56

theorem cut57 (t : Fin cfg0.N) (X : Vec F S1x8 .f32) : (cfg0.win 57).cut (grid0.coords t) X = ((cfg0.win 57).blk t).view.read (Elt F) X := by
  funext j
  show X j = X (((cfg0.win 57).blk t).view.emb j)
  rw [emb57]
theorem flushed57 (c : Dev nD) (t : Fin cfg0.N) : (dats m 0 c).flushed 57 t = ((cfg0.win 57).blk t).view.read (Elt F) (out57 (m ((c : Thread nD τ).loc main_arg4)) (m ((c : Thread nD τ).loc main_arg9)) (m ((c : Thread nD τ).loc main_arg24))) := by
  show (cfg0.win 57).cut (grid0.coords t) ((dats m 0 c).after 57 t) = _
  rw [after57, iblk4, iblk9, iblk24]
  exact cut57 t _
theorem covered57 (i : S1x8.Idx) : ∃ t : Fin cfg0.N, (cfg0.win 57).flush t = true ∧ i ∈ ((cfg0.win 57).blk t).view.set :=
  ⟨(⟨0, by decide⟩ : Fin cfg0.N), flush0_57 _, by have h := ((cfg0.win 57).blk (⟨0, by decide⟩ : Fin cfg0.N)).view.emb_mem_set i; rwa [emb57] at h⟩
theorem final57 (c : Dev nD) : (dats m 0 c).arrAt 57 cfg0.N = out57 (m ((c : Thread nD τ).loc main_arg4)) (m ((c : Thread nD τ).loc main_arg9)) (m ((c : Thread nD τ).loc main_arg24)) :=
  (dats m 0 c).arrAt_eq_of_cover 57 _ (fun t _ => flushed57 m c t) covered57

theorem cut58 (t : Fin cfg0.N) (X : Vec F S8x32 .f32) : (cfg0.win 58).cut (grid0.coords t) X = ((cfg0.win 58).blk t).view.read (Elt F) X := by
  funext j
  show X j = X (((cfg0.win 58).blk t).view.emb j)
  rw [emb58]
theorem flushed58 (c : Dev nD) (t : Fin cfg0.N) : (dats m 0 c).flushed 58 t = ((cfg0.win 58).blk t).view.read (Elt F) (out58 (m ((c : Thread nD τ).loc main_arg4)) (m ((c : Thread nD τ).loc main_arg9)) (m ((c : Thread nD τ).loc main_arg25))) := by
  show (cfg0.win 58).cut (grid0.coords t) ((dats m 0 c).after 58 t) = _
  rw [after58, iblk4, iblk9, iblk25]
  exact cut58 t _
theorem covered58 (i : S8x32.Idx) : ∃ t : Fin cfg0.N, (cfg0.win 58).flush t = true ∧ i ∈ ((cfg0.win 58).blk t).view.set :=
  ⟨(⟨0, by decide⟩ : Fin cfg0.N), flush0_58 _, by have h := ((cfg0.win 58).blk (⟨0, by decide⟩ : Fin cfg0.N)).view.emb_mem_set i; rwa [emb58] at h⟩
theorem final58 (c : Dev nD) : (dats m 0 c).arrAt 58 cfg0.N = out58 (m ((c : Thread nD τ).loc main_arg4)) (m ((c : Thread nD τ).loc main_arg9)) (m ((c : Thread nD τ).loc main_arg25)) :=
  (dats m 0 c).arrAt_eq_of_cover 58 _ (fun t _ => flushed58 m c t) covered58

theorem cut59 (t : Fin cfg0.N) (X : Vec F S1x1024 .f32) : (cfg0.win 59).cut (grid0.coords t) X = ((cfg0.win 59).blk t).view.read (Elt F) X := by
  funext j
  show X j = X (((cfg0.win 59).blk t).view.emb j)
  rw [emb59]
theorem flushed59 (c : Dev nD) (t : Fin cfg0.N) : (dats m 0 c).flushed 59 t = ((cfg0.win 59).blk t).view.read (Elt F) (out59 (m ((c : Thread nD τ).loc main_arg0)) (m ((c : Thread nD τ).loc main_arg5)) (m ((c : Thread nD τ).loc main_arg26))) := by
  show (cfg0.win 59).cut (grid0.coords t) ((dats m 0 c).after 59 t) = _
  rw [after59, iblk0, iblk5, iblk26]
  exact cut59 t _
theorem covered59 (i : S1x1024.Idx) : ∃ t : Fin cfg0.N, (cfg0.win 59).flush t = true ∧ i ∈ ((cfg0.win 59).blk t).view.set :=
  ⟨(⟨0, by decide⟩ : Fin cfg0.N), flush0_59 _, by have h := ((cfg0.win 59).blk (⟨0, by decide⟩ : Fin cfg0.N)).view.emb_mem_set i; rwa [emb59] at h⟩
theorem final59 (c : Dev nD) : (dats m 0 c).arrAt 59 cfg0.N = out59 (m ((c : Thread nD τ).loc main_arg0)) (m ((c : Thread nD τ).loc main_arg5)) (m ((c : Thread nD τ).loc main_arg26)) :=
  (dats m 0 c).arrAt_eq_of_cover 59 _ (fun t _ => flushed59 m c t) covered59

theorem cut60 (t : Fin cfg0.N) (X : Vec F S1x1024 .f32) : (cfg0.win 60).cut (grid0.coords t) X = ((cfg0.win 60).blk t).view.read (Elt F) X := by
  funext j
  show X j = X (((cfg0.win 60).blk t).view.emb j)
  rw [emb60]
theorem flushed60 (c : Dev nD) (t : Fin cfg0.N) : (dats m 0 c).flushed 60 t = ((cfg0.win 60).blk t).view.read (Elt F) (out60 (m ((c : Thread nD τ).loc main_arg0)) (m ((c : Thread nD τ).loc main_arg5)) (m ((c : Thread nD τ).loc main_arg27))) := by
  show (cfg0.win 60).cut (grid0.coords t) ((dats m 0 c).after 60 t) = _
  rw [after60, iblk0, iblk5, iblk27]
  exact cut60 t _
theorem covered60 (i : S1x1024.Idx) : ∃ t : Fin cfg0.N, (cfg0.win 60).flush t = true ∧ i ∈ ((cfg0.win 60).blk t).view.set :=
  ⟨(⟨0, by decide⟩ : Fin cfg0.N), flush0_60 _, by have h := ((cfg0.win 60).blk (⟨0, by decide⟩ : Fin cfg0.N)).view.emb_mem_set i; rwa [emb60] at h⟩
theorem final60 (c : Dev nD) : (dats m 0 c).arrAt 60 cfg0.N = out60 (m ((c : Thread nD τ).loc main_arg0)) (m ((c : Thread nD τ).loc main_arg5)) (m ((c : Thread nD τ).loc main_arg27)) :=
  (dats m 0 c).arrAt_eq_of_cover 60 _ (fun t _ => flushed60 m c t) covered60

theorem cut61 (t : Fin cfg0.N) (X : Vec F S1x1024 .f32) : (cfg0.win 61).cut (grid0.coords t) X = ((cfg0.win 61).blk t).view.read (Elt F) X := by
  funext j
  show X j = X (((cfg0.win 61).blk t).view.emb j)
  rw [emb61]
theorem flushed61 (c : Dev nD) (t : Fin cfg0.N) : (dats m 0 c).flushed 61 t = ((cfg0.win 61).blk t).view.read (Elt F) (out61 (m ((c : Thread nD τ).loc main_arg10)) (m ((c : Thread nD τ).loc main_arg11)) (m ((c : Thread nD τ).loc main_arg28))) := by
  show (cfg0.win 61).cut (grid0.coords t) ((dats m 0 c).after 61 t) = _
  rw [after61, iblk10, iblk11, iblk28]
  exact cut61 t _
theorem covered61 (i : S1x1024.Idx) : ∃ t : Fin cfg0.N, (cfg0.win 61).flush t = true ∧ i ∈ ((cfg0.win 61).blk t).view.set :=
  ⟨(⟨0, by decide⟩ : Fin cfg0.N), flush0_61 _, by have h := ((cfg0.win 61).blk (⟨0, by decide⟩ : Fin cfg0.N)).view.emb_mem_set i; rwa [emb61] at h⟩
theorem final61 (c : Dev nD) : (dats m 0 c).arrAt 61 cfg0.N = out61 (m ((c : Thread nD τ).loc main_arg10)) (m ((c : Thread nD τ).loc main_arg11)) (m ((c : Thread nD τ).loc main_arg28)) :=
  (dats m 0 c).arrAt_eq_of_cover 61 _ (fun t _ => flushed61 m c t) covered61

theorem cut62 (t : Fin cfg0.N) (X : Vec F S1x512 .f32) : (cfg0.win 62).cut (grid0.coords t) X = ((cfg0.win 62).blk t).view.read (Elt F) X := by
  funext j
  show X j = X (((cfg0.win 62).blk t).view.emb j)
  rw [emb62]
theorem flushed62 (c : Dev nD) (t : Fin cfg0.N) : (dats m 0 c).flushed 62 t = ((cfg0.win 62).blk t).view.read (Elt F) (out62 (m ((c : Thread nD τ).loc main_arg1)) (m ((c : Thread nD τ).loc main_arg6)) (m ((c : Thread nD τ).loc main_arg29))) := by
  show (cfg0.win 62).cut (grid0.coords t) ((dats m 0 c).after 62 t) = _
  rw [after62, iblk1, iblk6, iblk29]
  exact cut62 t _
theorem covered62 (i : S1x512.Idx) : ∃ t : Fin cfg0.N, (cfg0.win 62).flush t = true ∧ i ∈ ((cfg0.win 62).blk t).view.set :=
  ⟨(⟨0, by decide⟩ : Fin cfg0.N), flush0_62 _, by have h := ((cfg0.win 62).blk (⟨0, by decide⟩ : Fin cfg0.N)).view.emb_mem_set i; rwa [emb62] at h⟩
theorem final62 (c : Dev nD) : (dats m 0 c).arrAt 62 cfg0.N = out62 (m ((c : Thread nD τ).loc main_arg1)) (m ((c : Thread nD τ).loc main_arg6)) (m ((c : Thread nD τ).loc main_arg29)) :=
  (dats m 0 c).arrAt_eq_of_cover 62 _ (fun t _ => flushed62 m c t) covered62

theorem cut63 (t : Fin cfg0.N) (X : Vec F S4x128x128 .f32) : (cfg0.win 63).cut (grid0.coords t) X = ((cfg0.win 63).blk t).view.read (Elt F) X := by
  funext j
  show X j = X (((cfg0.win 63).blk t).view.emb j)
  rw [emb63]
theorem flushed63 (c : Dev nD) (t : Fin cfg0.N) : (dats m 0 c).flushed 63 t = ((cfg0.win 63).blk t).view.read (Elt F) (out63 (m ((c : Thread nD τ).loc main_arg2)) (m ((c : Thread nD τ).loc main_arg7)) (m ((c : Thread nD τ).loc main_arg30))) := by
  show (cfg0.win 63).cut (grid0.coords t) ((dats m 0 c).after 63 t) = _
  rw [after63, iblk2, iblk7, iblk30]
  exact cut63 t _
theorem covered63 (i : S4x128x128.Idx) : ∃ t : Fin cfg0.N, (cfg0.win 63).flush t = true ∧ i ∈ ((cfg0.win 63).blk t).view.set :=
  ⟨(⟨0, by decide⟩ : Fin cfg0.N), flush0_63 _, by have h := ((cfg0.win 63).blk (⟨0, by decide⟩ : Fin cfg0.N)).view.emb_mem_set i; rwa [emb63] at h⟩
theorem final63 (c : Dev nD) : (dats m 0 c).arrAt 63 cfg0.N = out63 (m ((c : Thread nD τ).loc main_arg2)) (m ((c : Thread nD τ).loc main_arg7)) (m ((c : Thread nD τ).loc main_arg30)) :=
  (dats m 0 c).arrAt_eq_of_cover 63 _ (fun t _ => flushed63 m c t) covered63

theorem cut64 (t : Fin cfg0.N) (X : Vec F S4x128 .f32) : (cfg0.win 64).cut (grid0.coords t) X = ((cfg0.win 64).blk t).view.read (Elt F) X := by
  funext j
  show X j = X (((cfg0.win 64).blk t).view.emb j)
  rw [emb64]
theorem flushed64 (c : Dev nD) (t : Fin cfg0.N) : (dats m 0 c).flushed 64 t = ((cfg0.win 64).blk t).view.read (Elt F) (out64 (m ((c : Thread nD τ).loc main_arg3)) (m ((c : Thread nD τ).loc main_arg8)) (m ((c : Thread nD τ).loc main_arg31))) := by
  show (cfg0.win 64).cut (grid0.coords t) ((dats m 0 c).after 64 t) = _
  rw [after64, iblk3, iblk8, iblk31]
  exact cut64 t _
theorem covered64 (i : S4x128.Idx) : ∃ t : Fin cfg0.N, (cfg0.win 64).flush t = true ∧ i ∈ ((cfg0.win 64).blk t).view.set :=
  ⟨(⟨0, by decide⟩ : Fin cfg0.N), flush0_64 _, by have h := ((cfg0.win 64).blk (⟨0, by decide⟩ : Fin cfg0.N)).view.emb_mem_set i; rwa [emb64] at h⟩
theorem final64 (c : Dev nD) : (dats m 0 c).arrAt 64 cfg0.N = out64 (m ((c : Thread nD τ).loc main_arg3)) (m ((c : Thread nD τ).loc main_arg8)) (m ((c : Thread nD τ).loc main_arg31)) :=
  (dats m 0 c).arrAt_eq_of_cover 64 _ (fun t _ => flushed64 m c t) covered64

theorem cut65 (t : Fin cfg0.N) (X : Vec F S1x8 .f32) : (cfg0.win 65).cut (grid0.coords t) X = ((cfg0.win 65).blk t).view.read (Elt F) X := by
  funext j
  show X j = X (((cfg0.win 65).blk t).view.emb j)
  rw [emb65]
theorem flushed65 (c : Dev nD) (t : Fin cfg0.N) : (dats m 0 c).flushed 65 t = ((cfg0.win 65).blk t).view.read (Elt F) (out65 (m ((c : Thread nD τ).loc main_arg4)) (m ((c : Thread nD τ).loc main_arg9)) (m ((c : Thread nD τ).loc main_arg32))) := by
  show (cfg0.win 65).cut (grid0.coords t) ((dats m 0 c).after 65 t) = _
  rw [after65, iblk4, iblk9, iblk32]
  exact cut65 t _
theorem covered65 (i : S1x8.Idx) : ∃ t : Fin cfg0.N, (cfg0.win 65).flush t = true ∧ i ∈ ((cfg0.win 65).blk t).view.set :=
  ⟨(⟨0, by decide⟩ : Fin cfg0.N), flush0_65 _, by have h := ((cfg0.win 65).blk (⟨0, by decide⟩ : Fin cfg0.N)).view.emb_mem_set i; rwa [emb65] at h⟩
theorem final65 (c : Dev nD) : (dats m 0 c).arrAt 65 cfg0.N = out65 (m ((c : Thread nD τ).loc main_arg4)) (m ((c : Thread nD τ).loc main_arg9)) (m ((c : Thread nD τ).loc main_arg32)) :=
  (dats m 0 c).arrAt_eq_of_cover 65 _ (fun t _ => flushed65 m c t) covered65

theorem cut66 (t : Fin cfg0.N) (X : Vec F S8x32 .f32) : (cfg0.win 66).cut (grid0.coords t) X = ((cfg0.win 66).blk t).view.read (Elt F) X := by
  funext j
  show X j = X (((cfg0.win 66).blk t).view.emb j)
  rw [emb66]
theorem flushed66 (c : Dev nD) (t : Fin cfg0.N) : (dats m 0 c).flushed 66 t = ((cfg0.win 66).blk t).view.read (Elt F) (out66 (m ((c : Thread nD τ).loc main_arg4)) (m ((c : Thread nD τ).loc main_arg9)) (m ((c : Thread nD τ).loc main_arg33))) := by
  show (cfg0.win 66).cut (grid0.coords t) ((dats m 0 c).after 66 t) = _
  rw [after66, iblk4, iblk9, iblk33]
  exact cut66 t _
theorem covered66 (i : S8x32.Idx) : ∃ t : Fin cfg0.N, (cfg0.win 66).flush t = true ∧ i ∈ ((cfg0.win 66).blk t).view.set :=
  ⟨(⟨0, by decide⟩ : Fin cfg0.N), flush0_66 _, by have h := ((cfg0.win 66).blk (⟨0, by decide⟩ : Fin cfg0.N)).view.emb_mem_set i; rwa [emb66] at h⟩
theorem final66 (c : Dev nD) : (dats m 0 c).arrAt 66 cfg0.N = out66 (m ((c : Thread nD τ).loc main_arg4)) (m ((c : Thread nD τ).loc main_arg9)) (m ((c : Thread nD τ).loc main_arg33)) :=
  (dats m 0 c).arrAt_eq_of_cover 66 _ (fun t _ => flushed66 m c t) covered66

theorem cut67 (t : Fin cfg0.N) (X : Vec F S1x1024 .f32) : (cfg0.win 67).cut (grid0.coords t) X = ((cfg0.win 67).blk t).view.read (Elt F) X := by
  funext j
  show X j = X (((cfg0.win 67).blk t).view.emb j)
  rw [emb67]
theorem flushed67 (c : Dev nD) (t : Fin cfg0.N) : (dats m 0 c).flushed 67 t = ((cfg0.win 67).blk t).view.read (Elt F) (out67 (m ((c : Thread nD τ).loc main_arg0)) (m ((c : Thread nD τ).loc main_arg5)) (m ((c : Thread nD τ).loc main_arg34))) := by
  show (cfg0.win 67).cut (grid0.coords t) ((dats m 0 c).after 67 t) = _
  rw [after67, iblk0, iblk5, iblk34]
  exact cut67 t _
theorem covered67 (i : S1x1024.Idx) : ∃ t : Fin cfg0.N, (cfg0.win 67).flush t = true ∧ i ∈ ((cfg0.win 67).blk t).view.set :=
  ⟨(⟨0, by decide⟩ : Fin cfg0.N), flush0_67 _, by have h := ((cfg0.win 67).blk (⟨0, by decide⟩ : Fin cfg0.N)).view.emb_mem_set i; rwa [emb67] at h⟩
theorem final67 (c : Dev nD) : (dats m 0 c).arrAt 67 cfg0.N = out67 (m ((c : Thread nD τ).loc main_arg0)) (m ((c : Thread nD τ).loc main_arg5)) (m ((c : Thread nD τ).loc main_arg34)) :=
  (dats m 0 c).arrAt_eq_of_cover 67 _ (fun t _ => flushed67 m c t) covered67

theorem cut68 (t : Fin cfg0.N) (X : Vec F S1x1024 .f32) : (cfg0.win 68).cut (grid0.coords t) X = ((cfg0.win 68).blk t).view.read (Elt F) X := by
  funext j
  show X j = X (((cfg0.win 68).blk t).view.emb j)
  rw [emb68]
theorem flushed68 (c : Dev nD) (t : Fin cfg0.N) : (dats m 0 c).flushed 68 t = ((cfg0.win 68).blk t).view.read (Elt F) (out68 (m ((c : Thread nD τ).loc main_arg0)) (m ((c : Thread nD τ).loc main_arg5)) (m ((c : Thread nD τ).loc main_arg35))) := by
  show (cfg0.win 68).cut (grid0.coords t) ((dats m 0 c).after 68 t) = _
  rw [after68, iblk0, iblk5, iblk35]
  exact cut68 t _
theorem covered68 (i : S1x1024.Idx) : ∃ t : Fin cfg0.N, (cfg0.win 68).flush t = true ∧ i ∈ ((cfg0.win 68).blk t).view.set :=
  ⟨(⟨0, by decide⟩ : Fin cfg0.N), flush0_68 _, by have h := ((cfg0.win 68).blk (⟨0, by decide⟩ : Fin cfg0.N)).view.emb_mem_set i; rwa [emb68] at h⟩
theorem final68 (c : Dev nD) : (dats m 0 c).arrAt 68 cfg0.N = out68 (m ((c : Thread nD τ).loc main_arg0)) (m ((c : Thread nD τ).loc main_arg5)) (m ((c : Thread nD τ).loc main_arg35)) :=
  (dats m 0 c).arrAt_eq_of_cover 68 _ (fun t _ => flushed68 m c t) covered68

set_option maxHeartbeats 8000000 in
/-- The run, with every result array at its function of the arguments and every argument as launched. -/
theorem run_values : θ_run defs (onTc (τ := τ) (main (F := F))) ⟨m, fun _ => 0, ρ⟩ (fun r => ∀ c : Dev nD,
      r.2.mem ((c.tc : Thread nD τ).loc main_v0_0) = out36 (m ((c.tc : Thread nD τ).loc main_arg0)) (m ((c.tc : Thread nD τ).loc main_arg5))
      ∧ r.2.mem ((c.tc : Thread nD τ).loc main_v0_1) = out37 (m ((c.tc : Thread nD τ).loc main_arg10)) (m ((c.tc : Thread nD τ).loc main_arg11))
      ∧ r.2.mem ((c.tc : Thread nD τ).loc main_v0_2) = out38 (m ((c.tc : Thread nD τ).loc main_arg1)) (m ((c.tc : Thread nD τ).loc main_arg6))
      ∧ r.2.mem ((c.tc : Thread nD τ).loc main_v0_3) = out39 (m ((c.tc : Thread nD τ).loc main_arg2)) (m ((c.tc : Thread nD τ).loc main_arg7))
      ∧ r.2.mem ((c.tc : Thread nD τ).loc main_v0_4) = out40 (m ((c.tc : Thread nD τ).loc main_arg3)) (m ((c.tc : Thread nD τ).loc main_arg8))
      ∧ r.2.mem ((c.tc : Thread nD τ).loc main_v0_5) = out41 (m ((c.tc : Thread nD τ).loc main_arg4)) (m ((c.tc : Thread nD τ).loc main_arg9))
      ∧ r.2.mem ((c.tc : Thread nD τ).loc main_v0_6) = out42 (m ((c.tc : Thread nD τ).loc main_arg4)) (m ((c.tc : Thread nD τ).loc main_arg9))
      ∧ r.2.mem ((c.tc : Thread nD τ).loc main_v0_7) = out43 (m ((c.tc : Thread nD τ).loc main_arg0)) (m ((c.tc : Thread nD τ).loc main_arg5))
      ∧ r.2.mem ((c.tc : Thread nD τ).loc main_v0_8) = out44 (m ((c.tc : Thread nD τ).loc main_arg0)) (m ((c.tc : Thread nD τ).loc main_arg5))
      ∧ r.2.mem ((c.tc : Thread nD τ).loc main_v0_9) = out45 (m ((c.tc : Thread nD τ).loc main_arg10)) (m ((c.tc : Thread nD τ).loc main_arg11)) (m ((c.tc : Thread nD τ).loc main_arg12)) (m ((c.tc : Thread nD τ).loc main_arg20)) (m ((c.tc : Thread nD τ).loc main_arg28))
      ∧ r.2.mem ((c.tc : Thread nD τ).loc main_v0_10) = out46 (m ((c.tc : Thread nD τ).loc main_arg1)) (m ((c.tc : Thread nD τ).loc main_arg6)) (m ((c.tc : Thread nD τ).loc main_arg13)) (m ((c.tc : Thread nD τ).loc main_arg21)) (m ((c.tc : Thread nD τ).loc main_arg29))
      ∧ r.2.mem ((c.tc : Thread nD τ).loc main_v0_11) = out47 (m ((c.tc : Thread nD τ).loc main_arg2)) (m ((c.tc : Thread nD τ).loc main_arg7)) (m ((c.tc : Thread nD τ).loc main_arg14)) (m ((c.tc : Thread nD τ).loc main_arg22)) (m ((c.tc : Thread nD τ).loc main_arg30))
      ∧ r.2.mem ((c.tc : Thread nD τ).loc main_v0_12) = out48 (m ((c.tc : Thread nD τ).loc main_arg3)) (m ((c.tc : Thread nD τ).loc main_arg8)) (m ((c.tc : Thread nD τ).loc main_arg15)) (m ((c.tc : Thread nD τ).loc main_arg23)) (m ((c.tc : Thread nD τ).loc main_arg31))
      ∧ r.2.mem ((c.tc : Thread nD τ).loc main_v0_13) = out49 (m ((c.tc : Thread nD τ).loc main_arg4)) (m ((c.tc : Thread nD τ).loc main_arg9)) (m ((c.tc : Thread nD τ).loc main_arg16)) (m ((c.tc : Thread nD τ).loc main_arg24)) (m ((c.tc : Thread nD τ).loc main_arg32))
      ∧ r.2.mem ((c.tc : Thread nD τ).loc main_v0_14) = out50 (m ((c.tc : Thread nD τ).loc main_arg4)) (m ((c.tc : Thread nD τ).loc main_arg9)) (m ((c.tc : Thread nD τ).loc main_arg17)) (m ((c.tc : Thread nD τ).loc main_arg25)) (m ((c.tc : Thread nD τ).loc main_arg33))
      ∧ r.2.mem ((c.tc : Thread nD τ).loc main_v0_15) = out51 (m ((c.tc : Thread nD τ).loc main_arg0)) (m ((c.tc : Thread nD τ).loc main_arg5)) (m ((c.tc : Thread nD τ).loc main_arg18)) (m ((c.tc : Thread nD τ).loc main_arg26)) (m ((c.tc : Thread nD τ).loc main_arg34))
      ∧ r.2.mem ((c.tc : Thread nD τ).loc main_v0_16) = out52 (m ((c.tc : Thread nD τ).loc main_arg0)) (m ((c.tc : Thread nD τ).loc main_arg5)) (m ((c.tc : Thread nD τ).loc main_arg19)) (m ((c.tc : Thread nD τ).loc main_arg27)) (m ((c.tc : Thread nD τ).loc main_arg35))
      ∧ r.2.mem ((c.tc : Thread nD τ).loc main_v0_17) = out53 (m ((c.tc : Thread nD τ).loc main_arg10)) (m ((c.tc : Thread nD τ).loc main_arg11)) (m ((c.tc : Thread nD τ).loc main_arg20))
      ∧ r.2.mem ((c.tc : Thread nD τ).loc main_v0_18) = out54 (m ((c.tc : Thread nD τ).loc main_arg1)) (m ((c.tc : Thread nD τ).loc main_arg6)) (m ((c.tc : Thread nD τ).loc main_arg21))
      ∧ r.2.mem ((c.tc : Thread nD τ).loc main_v0_19) = out55 (m ((c.tc : Thread nD τ).loc main_arg2)) (m ((c.tc : Thread nD τ).loc main_arg7)) (m ((c.tc : Thread nD τ).loc main_arg22))
      ∧ r.2.mem ((c.tc : Thread nD τ).loc main_v0_20) = out56 (m ((c.tc : Thread nD τ).loc main_arg3)) (m ((c.tc : Thread nD τ).loc main_arg8)) (m ((c.tc : Thread nD τ).loc main_arg23))
      ∧ r.2.mem ((c.tc : Thread nD τ).loc main_v0_21) = out57 (m ((c.tc : Thread nD τ).loc main_arg4)) (m ((c.tc : Thread nD τ).loc main_arg9)) (m ((c.tc : Thread nD τ).loc main_arg24))
      ∧ r.2.mem ((c.tc : Thread nD τ).loc main_v0_22) = out58 (m ((c.tc : Thread nD τ).loc main_arg4)) (m ((c.tc : Thread nD τ).loc main_arg9)) (m ((c.tc : Thread nD τ).loc main_arg25))
      ∧ r.2.mem ((c.tc : Thread nD τ).loc main_v0_23) = out59 (m ((c.tc : Thread nD τ).loc main_arg0)) (m ((c.tc : Thread nD τ).loc main_arg5)) (m ((c.tc : Thread nD τ).loc main_arg26))
      ∧ r.2.mem ((c.tc : Thread nD τ).loc main_v0_24) = out60 (m ((c.tc : Thread nD τ).loc main_arg0)) (m ((c.tc : Thread nD τ).loc main_arg5)) (m ((c.tc : Thread nD τ).loc main_arg27))
      ∧ r.2.mem ((c.tc : Thread nD τ).loc main_v0_25) = out61 (m ((c.tc : Thread nD τ).loc main_arg10)) (m ((c.tc : Thread nD τ).loc main_arg11)) (m ((c.tc : Thread nD τ).loc main_arg28))
      ∧ r.2.mem ((c.tc : Thread nD τ).loc main_v0_26) = out62 (m ((c.tc : Thread nD τ).loc main_arg1)) (m ((c.tc : Thread nD τ).loc main_arg6)) (m ((c.tc : Thread nD τ).loc main_arg29))
      ∧ r.2.mem ((c.tc : Thread nD τ).loc main_v0_27) = out63 (m ((c.tc : Thread nD τ).loc main_arg2)) (m ((c.tc : Thread nD τ).loc main_arg7)) (m ((c.tc : Thread nD τ).loc main_arg30))
      ∧ r.2.mem ((c.tc : Thread nD τ).loc main_v0_28) = out64 (m ((c.tc : Thread nD τ).loc main_arg3)) (m ((c.tc : Thread nD τ).loc main_arg8)) (m ((c.tc : Thread nD τ).loc main_arg31))
      ∧ r.2.mem ((c.tc : Thread nD τ).loc main_v0_29) = out65 (m ((c.tc : Thread nD τ).loc main_arg4)) (m ((c.tc : Thread nD τ).loc main_arg9)) (m ((c.tc : Thread nD τ).loc main_arg32))
      ∧ r.2.mem ((c.tc : Thread nD τ).loc main_v0_30) = out66 (m ((c.tc : Thread nD τ).loc main_arg4)) (m ((c.tc : Thread nD τ).loc main_arg9)) (m ((c.tc : Thread nD τ).loc main_arg33))
      ∧ r.2.mem ((c.tc : Thread nD τ).loc main_v0_31) = out67 (m ((c.tc : Thread nD τ).loc main_arg0)) (m ((c.tc : Thread nD τ).loc main_arg5)) (m ((c.tc : Thread nD τ).loc main_arg34))
      ∧ r.2.mem ((c.tc : Thread nD τ).loc main_v0_32) = out68 (m ((c.tc : Thread nD τ).loc main_arg0)) (m ((c.tc : Thread nD τ).loc main_arg5)) (m ((c.tc : Thread nD τ).loc main_arg35))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30)
      ∧ r.2.mem ((c.tc : Thread nD τ).loc main_arg31) = m ((c.tc : Thread nD τ).loc main_arg31)
      ∧ r.2.mem ((c.tc : Thread nD τ).loc main_arg32) = m ((c.tc : Thread nD τ).loc main_arg32)
      ∧ r.2.mem ((c.tc : Thread nD τ).loc main_arg33) = m ((c.tc : Thread nD τ).loc main_arg33)
      ∧ r.2.mem ((c.tc : Thread nD τ).loc main_arg34) = m ((c.tc : Thread nD τ).loc main_arg34)
      ∧ r.2.mem ((c.tc : Thread nD τ).loc main_arg35) = m ((c.tc : Thread nD τ).loc main_arg35)) :=
  (θ_run defs _ _).mono (fun _ h c => ⟨((h.1 c).1 36).trans (final36 m c),
    ((h.1 c).1 37).trans (final37 m c),
    ((h.1 c).1 38).trans (final38 m c),
    ((h.1 c).1 39).trans (final39 m c),
    ((h.1 c).1 40).trans (final40 m c),
    ((h.1 c).1 41).trans (final41 m c),
    ((h.1 c).1 42).trans (final42 m c),
    ((h.1 c).1 43).trans (final43 m c),
    ((h.1 c).1 44).trans (final44 m c),
    ((h.1 c).1 45).trans (final45 m c),
    ((h.1 c).1 46).trans (final46 m c),
    ((h.1 c).1 47).trans (final47 m c),
    ((h.1 c).1 48).trans (final48 m c),
    ((h.1 c).1 49).trans (final49 m c),
    ((h.1 c).1 50).trans (final50 m c),
    ((h.1 c).1 51).trans (final51 m c),
    ((h.1 c).1 52).trans (final52 m c),
    ((h.1 c).1 53).trans (final53 m c),
    ((h.1 c).1 54).trans (final54 m c),
    ((h.1 c).1 55).trans (final55 m c),
    ((h.1 c).1 56).trans (final56 m c),
    ((h.1 c).1 57).trans (final57 m c),
    ((h.1 c).1 58).trans (final58 m c),
    ((h.1 c).1 59).trans (final59 m c),
    ((h.1 c).1 60).trans (final60 m c),
    ((h.1 c).1 61).trans (final61 m c),
    ((h.1 c).1 62).trans (final62 m c),
    ((h.1 c).1 63).trans (final63 m c),
    ((h.1 c).1 64).trans (final64 m c),
    ((h.1 c).1 65).trans (final65 m c),
    ((h.1 c).1 66).trans (final66 m c),
    ((h.1 c).1 67).trans (final67 m c),
    ((h.1 c).1 68).trans (final68 m c),
    kept m h.1 c 0 rfl,
    kept m h.1 c 1 rfl,
    kept m h.1 c 2 rfl,
    kept m h.1 c 3 rfl,
    kept m h.1 c 4 rfl,
    kept m h.1 c 5 rfl,
    kept m h.1 c 6 rfl,
    kept m h.1 c 7 rfl,
    kept m h.1 c 8 rfl,
    kept m h.1 c 9 rfl,
    kept m h.1 c 10 rfl,
    kept m h.1 c 11 rfl,
    kept m h.1 c 12 rfl,
    kept m h.1 c 13 rfl,
    kept m h.1 c 14 rfl,
    kept m h.1 c 15 rfl,
    kept m h.1 c 16 rfl,
    kept m h.1 c 17 rfl,
    kept m h.1 c 18 rfl,
    kept m h.1 c 19 rfl,
    kept m h.1 c 20 rfl,
    kept m h.1 c 21 rfl,
    kept m h.1 c 22 rfl,
    kept m h.1 c 23 rfl,
    kept m h.1 c 24 rfl,
    kept m h.1 c 25 rfl,
    kept m h.1 c 26 rfl,
    kept m h.1 c 27 rfl,
    kept m h.1 c 28 rfl,
    kept m h.1 c 29 rfl,
    kept m h.1 c 30 rfl,
    kept m h.1 c 31 rfl,
    kept m h.1 c 32 rfl,
    kept m h.1 c 33 rfl,
    kept m h.1 c 34 rfl,
    kept m h.1 c 35 rfl⟩) (run_main m ρ)

end Cert.AdamSmall

end
-- ==== Proof.AdamSmall.lean ====
/-
  The small weights' update (program 11): the kernel and the reference end with the same thirty-three arrays; and the
  frames of the printed and the idealized kernel.
-/
module

public import proofs.«01_k».proof.Defs
public import proofs.«01_k».proof.Proof.AdamSmallMath
public import proofs.«01_k».proof.Proof.AdamSmallValue
public import proofs.«01_k».proof.Proof.AdamSmallPrintedRun
public import proofs.«01_k».proof.Proof.Gen.Kernel11
public import proofs.«01_k».proof.Proof.Gen.Reference11Ideal.Run

@[expose] public section

set_option maxRecDepth 16384

noncomputable section

open Idealize.ShloMosaic Idealize.ShloMosaic.TcCoe Idealize.SL.Sem
open Cert.Reference11Ideal.Value (res_main_v2 res_main_v5 res_main_v10 res_main_v13 res_main_v16 res_main_v19 res_main_v20 res_main_v21 res_main_v22 res_main_v23)

set_option maxHeartbeats 8000000 in
/-- The printed kernel ends, with its arguments as they were. -/
theorem Cert.AdamSmall.frame_kernel : Cert.quiescent_Kernel11 (hKernel11 := Cert.Kernel11.Gen.facts) := fun m ρ _ =>
  Cert.AdamSmallPrinted.frame m ρ

set_option maxHeartbeats 8000000 in
/-- The idealized kernel ends, with its arguments as they were. -/
theorem Cert.AdamSmall.frame_ideal : Cert.quiescent_Kernel11Ideal (hKernel11Ideal := Cert.Kernel11Ideal.Gen.facts) := fun m ρ _ =>
  Cert.AdamSmall.frame m ρ

set_option maxHeartbeats 16000000 in
/-- The kernel and the reference end with the same thirty-three arrays and leave their arguments alone. -/
theorem Cert.Proof.adam_small_value :
    Cert.algebraic_Kernel11Ideal_Reference11Ideal (hKernel11Ideal := Cert.Kernel11Ideal.Gen.facts)
      (hReference11Ideal := Cert.Reference11Ideal.Gen.facts) := by
  intro m ρ m' ρ' _ hagree
  have e0 : ∀ c : Dev Cert.Kernel11Ideal.nD, StableHlo.launchContents m' c (Proc.devRef .tc Cert.Reference11Ideal.main_arg0) = m ((c.tc : Thread Cert.Kernel11Ideal.nD Cert.Kernel11Ideal.τ).loc Cert.Kernel11Ideal.main_arg0) := fun c => (hagree c).1
  have e1 : ∀ c : Dev Cert.Kernel11Ideal.nD, StableHlo.launchContents m' c (Proc.devRef .tc Cert.Reference11Ideal.main_arg1) = m ((c.tc : Thread Cert.Kernel11Ideal.nD Cert.Kernel11Ideal.τ).loc Cert.Kernel11Ideal.main_arg1) := fun c => (hagree c).2.1
  have e2 : ∀ c : Dev Cert.Kernel11Ideal.nD, StableHlo.launchContents m' c (Proc.devRef .tc Cert.Reference11Ideal.main_arg2) = m ((c.tc : Thread Cert.Kernel11Ideal.nD Cert.Kernel11Ideal.τ).loc Cert.Kernel11Ideal.main_arg2) := fun c => (hagree c).2.2.1
  have e3 : ∀ c : Dev Cert.Kernel11Ideal.nD, StableHlo.launchContents m' c (Proc.devRef .tc Cert.Reference11Ideal.main_arg3) = m ((c.tc : Thread Cert.Kernel11Ideal.nD Cert.Kernel11Ideal.τ).loc Cert.Kernel11Ideal.main_arg3) := fun c => (hagree c).2.2.2.1
  have e4 : ∀ c : Dev Cert.Kernel11Ideal.nD, StableHlo.launchContents m' c (Proc.devRef .tc Cert.Reference11Ideal.main_arg4) = m ((c.tc : Thread Cert.Kernel11Ideal.nD Cert.Kernel11Ideal.τ).loc Cert.Kernel11Ideal.main_arg4) := fun c => (hagree c).2.2.2.2.1
  have e5 : ∀ c : Dev Cert.Kernel11Ideal.nD, StableHlo.launchContents m' c (Proc.devRef .tc Cert.Reference11Ideal.main_arg5) = m ((c.tc : Thread Cert.Kernel11Ideal.nD Cert.Kernel11Ideal.τ).loc Cert.Kernel11Ideal.main_arg5) := fun c => (hagree c).2.2.2.2.2.1
  have e6 : ∀ c : Dev Cert.Kernel11Ideal.nD, StableHlo.launchContents m' c (Proc.devRef .tc Cert.Reference11Ideal.main_arg6) = m ((c.tc : Thread Cert.Kernel11Ideal.nD Cert.Kernel11Ideal.τ).loc Cert.Kernel11Ideal.main_arg6) := fun c => (hagree c).2.2.2.2.2.2.1
  have e7 : ∀ c : Dev Cert.Kernel11Ideal.nD, StableHlo.launchContents m' c (Proc.devRef .tc Cert.Reference11Ideal.main_arg7) = m ((c.tc : Thread Cert.Kernel11Ideal.nD Cert.Kernel11Ideal.τ).loc Cert.Kernel11Ideal.main_arg7) := fun c => (hagree c).2.2.2.2.2.2.2.1
  have e8 : ∀ c : Dev Cert.Kernel11Ideal.nD, StableHlo.launchContents m' c (Proc.devRef .tc Cert.Reference11Ideal.main_arg8) = m ((c.tc : Thread Cert.Kernel11Ideal.nD Cert.Kernel11Ideal.τ).loc Cert.Kernel11Ideal.main_arg8) := fun c => (hagree c).2.2.2.2.2.2.2.2.1
  have e9 : ∀ c : Dev Cert.Kernel11Ideal.nD, StableHlo.launchContents m' c (Proc.devRef .tc Cert.Reference11Ideal.main_arg9) = m ((c.tc : Thread Cert.Kernel11Ideal.nD Cert.Kernel11Ideal.τ).loc Cert.Kernel11Ideal.main_arg9) := fun c => (hagree c).2.2.2.2.2.2.2.2.2.1
  have e10 : ∀ c : Dev Cert.Kernel11Ideal.nD, StableHlo.launchContents m' c (Proc.devRef .tc Cert.Reference11Ideal.main_arg10) = m ((c.tc : Thread Cert.Kernel11Ideal.nD Cert.Kernel11Ideal.τ).loc Cert.Kernel11Ideal.main_arg10) := fun c => (hagree c).2.2.2.2.2.2.2.2.2.2.1
  have e11 : ∀ c : Dev Cert.Kernel11Ideal.nD, StableHlo.launchContents m' c (Proc.devRef .tc Cert.Reference11Ideal.main_arg11) = m ((c.tc : Thread Cert.Kernel11Ideal.nD Cert.Kernel11Ideal.τ).loc Cert.Kernel11Ideal.main_arg11) := fun c => (hagree c).2.2.2.2.2.2.2.2.2.2.2.1
  have e12 : ∀ c : Dev Cert.Kernel11Ideal.nD, StableHlo.launchContents m' c (Proc.devRef .tc Cert.Reference11Ideal.main_arg12) = m ((c.tc : Thread Cert.Kernel11Ideal.nD Cert.Kernel11Ideal.τ).loc Cert.Kernel11Ideal.main_arg12) := fun c => (hagree c).2.2.2.2.2.2.2.2.2.2.2.2.1
  have e13 : ∀ c : Dev Cert.Kernel11Ideal.nD, StableHlo.launchContents m' c (Proc.devRef .tc Cert.Reference11Ideal.main_arg13) = m ((c.tc : Thread Cert.Kernel11Ideal.nD Cert.Kernel11Ideal.τ).loc Cert.Kernel11Ideal.main_arg13) := fun c => (hagree c).2.2.2.2.2.2.2.2.2.2.2.2.2.1
  have e14 : ∀ c : Dev Cert.Kernel11Ideal.nD, StableHlo.launchContents m' c (Proc.devRef .tc Cert.Reference11Ideal.main_arg14) = m ((c.tc : Thread Cert.Kernel11Ideal.nD Cert.Kernel11Ideal.τ).loc Cert.Kernel11Ideal.main_arg14) := fun c => (hagree c).2.2.2.2.2.2.2.2.2.2.2.2.2.2.1
  have e15 : ∀ c : Dev Cert.Kernel11Ideal.nD, StableHlo.launchContents m' c (Proc.devRef .tc Cert.Reference11Ideal.main_arg15) = m ((c.tc : Thread Cert.Kernel11Ideal.nD Cert.Kernel11Ideal.τ).loc Cert.Kernel11Ideal.main_arg15) := fun c => (hagree c).2.2.2.2.2.2.2.2.2.2.2.2.2.2.2.1
  have e16 : ∀ c : Dev Cert.Kernel11Ideal.nD, StableHlo.launchContents m' c (Proc.devRef .tc Cert.Reference11Ideal.main_arg16) = m ((c.tc : Thread Cert.Kernel11Ideal.nD Cert.Kernel11Ideal.τ).loc Cert.Kernel11Ideal.main_arg16) := fun c => (hagree c).2.2.2.2.2.2.2.2.2.2.2.2.2.2.2.2.1
  have e17 : ∀ c : Dev Cert.Kernel11Ideal.nD, StableHlo.launchContents m' c (Proc.devRef .tc Cert.Reference11Ideal.main_arg17) = m ((c.tc : Thread Cert.Kernel11Ideal.nD Cert.Kernel11Ideal.τ).loc Cert.Kernel11Ideal.main_arg17) := fun c => (hagree c).2.2.2.2.2.2.2.2.2.2.2.2.2.2.2.2.2.1
  have e18 : ∀ c : Dev Cert.Kernel11Ideal.nD, StableHlo.launchContents m' c (Proc.devRef .tc Cert.Reference11Ideal.main_arg18) = m ((c.tc : Thread Cert.Kernel11Ideal.nD Cert.Kernel11Ideal.τ).loc Cert.Kernel11Ideal.main_arg18) := fun c => (hagree c).2.2.2.2.2.2.2.2.2.2.2.2.2.2.2.2.2.2.1
  have e19 : ∀ c : Dev Cert.Kernel11Ideal.nD, StableHlo.launchContents m' c (Proc.devRef .tc Cert.Reference11Ideal.main_arg19) = m ((c.tc : Thread Cert.Kernel11Ideal.nD Cert.Kernel11Ideal.τ).loc Cert.Kernel11Ideal.main_arg19) := fun c => (hagree c).2.2.2.2.2.2.2.2.2.2.2.2.2.2.2.2.2.2.2.1
  have e20 : ∀ c : Dev Cert.Kernel11Ideal.nD, StableHlo.launchContents m' c (Proc.devRef .tc Cert.Reference11Ideal.main_arg20) = m ((c.tc : Thread Cert.Kernel11Ideal.nD Cert.Kernel11Ideal.τ).loc Cert.Kernel11Ideal.main_arg20) := fun c => (hagree c).2.2.2.2.2.2.2.2.2.2.2.2.2.2.2.2.2.2.2.2.1
  have e21 : ∀ c : Dev Cert.Kernel11Ideal.nD, StableHlo.launchContents m' c (Proc.devRef .tc Cert.Reference11Ideal.main_arg21) = m ((c.tc : Thread Cert.Kernel11Ideal.nD Cert.Kernel11Ideal.τ).loc Cert.Kernel11Ideal.main_arg21) := fun c => (hagree c).2.2.2.2.2.2.2.2.2.2.2.2.2.2.2.2.2.2.2.2.2.1
  have e22 : ∀ c : Dev Cert.Kernel11Ideal.nD, StableHlo.launchContents m' c (Proc.devRef .tc Cert.Reference11Ideal.main_arg22) = m ((c.tc : Thread Cert.Kernel11Ideal.nD Cert.Kernel11Ideal.τ).loc Cert.Kernel11Ideal.main_arg22) := fun c => (hagree c).2.2.2.2.2.2.2.2.2.2.2.2.2.2.2.2.2.2.2.2.2.2.1
  have e23 : ∀ c : Dev Cert.Kernel11Ideal.nD, StableHlo.launchContents m' c (Proc.devRef .tc Cert.Reference11Ideal.main_arg23) = m ((c.tc : Thread Cert.Kernel11Ideal.nD Cert.Kernel11Ideal.τ).loc Cert.Kernel11Ideal.main_arg23) := fun c => (hagree c).2.2.2.2.2.2.2.2.2.2.2.2.2.2.2.2.2.2.2.2.2.2.2.1
  have e24 : ∀ c : Dev Cert.Kernel11Ideal.nD, StableHlo.launchContents m' c (Proc.devRef .tc Cert.Reference11Ideal.main_arg24) = m ((c.tc : Thread Cert.Kernel11Ideal.nD Cert.Kernel11Ideal.τ).loc Cert.Kernel11Ideal.main_arg24) := fun c => (hagree c).2.2.2.2.2.2.2.2.2.2.2.2.2.2.2.2.2.2.2.2.2.2.2.2.1
  have e25 : ∀ c : Dev Cert.Kernel11Ideal.nD, StableHlo.launchContents m' c (Proc.devRef .tc Cert.Reference11Ideal.main_arg25) = m ((c.tc : Thread Cert.Kernel11Ideal.nD Cert.Kernel11Ideal.τ).loc Cert.Kernel11Ideal.main_arg25) := fun c => (hagree c).2.2.2.2.2.2.2.2.2.2.2.2.2.2.2.2.2.2.2.2.2.2.2.2.2.1
  have e26 : ∀ c : Dev Cert.Kernel11Ideal.nD, StableHlo.launchContents m' c (Proc.devRef .tc Cert.Reference11Ideal.main_arg26) = m ((c.tc : Thread Cert.Kernel11Ideal.nD Cert.Kernel11Ideal.τ).loc Cert.Kernel11Ideal.main_arg26) := fun c => (hagree c).2.2.2.2.2.2.2.2.2.2.2.2.2.2.2.2.2.2.2.2.2.2.2.2.2.2.1
  have e27 : ∀ c : Dev Cert.Kernel11Ideal.nD, StableHlo.launchContents m' c (Proc.devRef .tc Cert.Reference11Ideal.main_arg27) = m ((c.tc : Thread Cert.Kernel11Ideal.nD Cert.Kernel11Ideal.τ).loc Cert.Kernel11Ideal.main_arg27) := fun c => (hagree c).2.2.2.2.2.2.2.2.2.2.2.2.2.2.2.2.2.2.2.2.2.2.2.2.2.2.2.1
  have e28 : ∀ c : Dev Cert.Kernel11Ideal.nD, StableHlo.launchContents m' c (Proc.devRef .tc Cert.Reference11Ideal.main_arg28) = m ((c.tc : Thread Cert.Kernel11Ideal.nD Cert.Kernel11Ideal.τ).loc Cert.Kernel11Ideal.main_arg28) := fun c => (hagree c).2.2.2.2.2.2.2.2.2.2.2.2.2.2.2.2.2.2.2.2.2.2.2.2.2.2.2.2.1
  have e29 : ∀ c : Dev Cert.Kernel11Ideal.nD, StableHlo.launchContents m' c (Proc.devRef .tc Cert.Reference11Ideal.main_arg29) = m ((c.tc : Thread Cert.Kernel11Ideal.nD Cert.Kernel11Ideal.τ).loc Cert.Kernel11Ideal.main_arg29) := fun c => (hagree c).2.2.2.2.2.2.2.2.2.2.2.2.2.2.2.2.2.2.2.2.2.2.2.2.2.2.2.2.2.1
  have e30 : ∀ c : Dev Cert.Kernel11Ideal.nD, StableHlo.launchContents m' c (Proc.devRef .tc Cert.Reference11Ideal.main_arg30) = m ((c.tc : Thread Cert.Kernel11Ideal.nD Cert.Kernel11Ideal.τ).loc Cert.Kernel11Ideal.main_arg30) := fun c => (hagree c).2.2.2.2.2.2.2.2.2.2.2.2.2.2.2.2.2.2.2.2.2.2.2.2.2.2.2.2.2.2.1
  have e31 : ∀ c : Dev Cert.Kernel11Ideal.nD, StableHlo.launchContents m' c (Proc.devRef .tc Cert.Reference11Ideal.main_arg31) = m ((c.tc : Thread Cert.Kernel11Ideal.nD Cert.Kernel11Ideal.τ).loc Cert.Kernel11Ideal.main_arg31) := fun c => (hagree c).2.2.2.2.2.2.2.2.2.2.2.2.2.2.2.2.2.2.2.2.2.2.2.2.2.2.2.2.2.2.2.1
  have e32 : ∀ c : Dev Cert.Kernel11Ideal.nD, StableHlo.launchContents m' c (Proc.devRef .tc Cert.Reference11Ideal.main_arg32) = m ((c.tc : Thread Cert.Kernel11Ideal.nD Cert.Kernel11Ideal.τ).loc Cert.Kernel11Ideal.main_arg32) := fun c => (hagree c).2.2.2.2.2.2.2.2.2.2.2.2.2.2.2.2.2.2.2.2.2.2.2.2.2.2.2.2.2.2.2.2.1
  have e33 : ∀ c : Dev Cert.Kernel11Ideal.nD, StableHlo.launchContents m' c (Proc.devRef .tc Cert.Reference11Ideal.main_arg33) = m ((c.tc : Thread Cert.Kernel11Ideal.nD Cert.Kernel11Ideal.τ).loc Cert.Kernel11Ideal.main_arg33) := fun c => (hagree c).2.2.2.2.2.2.2.2.2.2.2.2.2.2.2.2.2.2.2.2.2.2.2.2.2.2.2.2.2.2.2.2.2.1
  have e34 : ∀ c : Dev Cert.Kernel11Ideal.nD, StableHlo.launchContents m' c (Proc.devRef .tc Cert.Reference11Ideal.main_arg34) = m ((c.tc : Thread Cert.Kernel11Ideal.nD Cert.Kernel11Ideal.τ).loc Cert.Kernel11Ideal.main_arg34) := fun c => (hagree c).2.2.2.2.2.2.2.2.2.2.2.2.2.2.2.2.2.2.2.2.2.2.2.2.2.2.2.2.2.2.2.2.2.2.1
  have e35 : ∀ c : Dev Cert.Kernel11Ideal.nD, StableHlo.launchContents m' c (Proc.devRef .tc Cert.Reference11Ideal.main_arg35) = m ((c.tc : Thread Cert.Kernel11Ideal.nD Cert.Kernel11Ideal.τ).loc Cert.Kernel11Ideal.main_arg35) := fun c => (hagree c).2.2.2.2.2.2.2.2.2.2.2.2.2.2.2.2.2.2.2.2.2.2.2.2.2.2.2.2.2.2.2.2.2.2.2
  have g_sumNorm1 : ∀ c : Dev Cert.Kernel11Ideal.nD, res_main_v19 (StableHlo.launchContents m' c) = Cert.AdamSmall.sumNorm1 (F := Ideal) (m ((c.tc : Thread Cert.Kernel11Ideal.nD Cert.Kernel11Ideal.τ).loc Cert.Kernel11Ideal.main_arg10)) (m ((c.tc : Thread Cert.Kernel11Ideal.nD Cert.Kernel11Ideal.τ).loc Cert.Kernel11Ideal.main_arg11)) := fun c => by
    rw [res_main_v19, e10 c, e11 c]
    exact (Cert.AdamSmall.sumNorm1_eq _ _).symm
  have g_sumGain : ∀ c : Dev Cert.Kernel11Ideal.nD, res_main_v5 (StableHlo.launchContents m' c) = Cert.AdamSmall.sumGain (F := Ideal) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg6)) := fun c => by
    rw [res_main_v5, e1 c, e6 c]
    exact (Cert.AdamSmall.sumGain_eq _ _).symm
  have g_sumMix : ∀ c : Dev Cert.Kernel11Ideal.nD, res_main_v10 (StableHlo.launchContents m' c) = Cert.AdamSmall.sumMix (F := Ideal) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg7)) := fun c => by
    rw [res_main_v10, e2 c, e7 c]
    exact (Cert.AdamSmall.sumMix_eq _ _).symm
  have g_sumMixBias : ∀ c : Dev Cert.Kernel11Ideal.nD, res_main_v13 (StableHlo.launchContents m' c) = Cert.AdamSmall.sumMixBias (F := Ideal) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg8)) := fun c => by
    rw [res_main_v13, e3 c, e8 c]
    exact (Cert.AdamSmall.sumMixBias_eq _ _).symm
  have g_sumSinks : ∀ c : Dev Cert.Kernel11Ideal.nD, res_main_v20 (StableHlo.launchContents m' c) = Cert.AdamSmall.sumSinks (F := Ideal) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg9)) := fun c => by
    rw [res_main_v20, res_main_v16, e4 c, e9 c]
    exact (Cert.AdamSmall.sumSinks_eq _ _).symm
  have g_sumTable : ∀ c : Dev Cert.Kernel11Ideal.nD, res_main_v21 (StableHlo.launchContents m' c) = Cert.AdamSmall.sumTable (F := Ideal) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg9)) := fun c => by
    rw [res_main_v21, res_main_v16, e4 c, e9 c]
    exact (Cert.AdamSmall.sumTable_eq _ _).symm
  have g_sumNorm2 : ∀ c : Dev Cert.Kernel11Ideal.nD, res_main_v22 (StableHlo.launchContents m' c) = Cert.AdamSmall.sumNorm2 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg5)) := fun c => by
    rw [res_main_v22, res_main_v2, e0 c, e5 c]
    exact (Cert.AdamSmall.sumNorm2_eq _ _).symm
  have g_sumFinal : ∀ c : Dev Cert.Kernel11Ideal.nD, res_main_v23 (StableHlo.launchContents m' c) = Cert.AdamSmall.sumFinal (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg5)) := fun c => by
    rw [res_main_v23, res_main_v2, e0 c, e5 c]
    exact (Cert.AdamSmall.sumFinal_eq _ _).symm
  refine ⟨fun c => Cert.AdamSmall.out36 (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg5)), fun c => Cert.AdamSmall.out37 (m ((c.tc : Thread Cert.Kernel11Ideal.nD Cert.Kernel11Ideal.τ).loc Cert.Kernel11Ideal.main_arg10)) (m ((c.tc : Thread Cert.Kernel11Ideal.nD Cert.Kernel11Ideal.τ).loc Cert.Kernel11Ideal.main_arg11)), fun c => Cert.AdamSmall.out38 (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg6)), fun c => Cert.AdamSmall.out39 (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg7)), fun c => Cert.AdamSmall.out40 (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg8)), fun c => Cert.AdamSmall.out41 (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg9)), fun c => Cert.AdamSmall.out42 (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg9)), fun c => Cert.AdamSmall.out43 (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg5)), fun c => Cert.AdamSmall.out44 (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg5)), fun c => Cert.AdamSmall.out45 (m ((c.tc : Thread Cert.Kernel11Ideal.nD Cert.Kernel11Ideal.τ).loc Cert.Kernel11Ideal.main_arg10)) (m ((c.tc : Thread Cert.Kernel11Ideal.nD Cert.Kernel11Ideal.τ).loc Cert.Kernel11Ideal.main_arg11)) (m ((c.tc : Thread Cert.Kernel11Ideal.nD Cert.Kernel11Ideal.τ).loc Cert.Kernel11Ideal.main_arg12)) (m ((c.tc : Thread Cert.Kernel11Ideal.nD Cert.Kernel11Ideal.τ).loc Cert.Kernel11Ideal.main_arg20)) (m ((c.tc : Thread Cert.Kernel11Ideal.nD Cert.Kernel11Ideal.τ).loc Cert.Kernel11Ideal.main_arg28)), fun c => Cert.AdamSmall.out46 (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg13)) (m ((c.tc : Thread Cert.Kernel11Ideal.nD Cert.Kernel11Ideal.τ).loc Cert.Kernel11Ideal.main_arg21)) (m ((c.tc : Thread Cert.Kernel11Ideal.nD Cert.Kernel11Ideal.τ).loc Cert.Kernel11Ideal.main_arg29)), fun c => Cert.AdamSmall.out47 (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg14)) (m ((c.tc : Thread Cert.Kernel11Ideal.nD Cert.Kernel11Ideal.τ).loc Cert.Kernel11Ideal.main_arg22)) (m ((c.tc : Thread Cert.Kernel11Ideal.nD Cert.Kernel11Ideal.τ).loc Cert.Kernel11Ideal.main_arg30)), fun c => Cert.AdamSmall.out48 (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg15)) (m ((c.tc : Thread Cert.Kernel11Ideal.nD Cert.Kernel11Ideal.τ).loc Cert.Kernel11Ideal.main_arg23)) (m ((c.tc : Thread Cert.Kernel11Ideal.nD Cert.Kernel11Ideal.τ).loc Cert.Kernel11Ideal.main_arg31)), fun c => Cert.AdamSmall.out49 (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg16)) (m ((c.tc : Thread Cert.Kernel11Ideal.nD Cert.Kernel11Ideal.τ).loc Cert.Kernel11Ideal.main_arg24)) (m ((c.tc : Thread Cert.Kernel11Ideal.nD Cert.Kernel11Ideal.τ).loc Cert.Kernel11Ideal.main_arg32)), fun c => Cert.AdamSmall.out50 (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg17)) (m ((c.tc : Thread Cert.Kernel11Ideal.nD Cert.Kernel11Ideal.τ).loc Cert.Kernel11Ideal.main_arg25)) (m ((c.tc : Thread Cert.Kernel11Ideal.nD Cert.Kernel11Ideal.τ).loc Cert.Kernel11Ideal.main_arg33)), fun c => Cert.AdamSmall.out51 (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg18)) (m ((c.tc : Thread Cert.Kernel11Ideal.nD Cert.Kernel11Ideal.τ).loc Cert.Kernel11Ideal.main_arg26)) (m ((c.tc : Thread Cert.Kernel11Ideal.nD Cert.Kernel11Ideal.τ).loc Cert.Kernel11Ideal.main_arg34)), fun c => Cert.AdamSmall.out52 (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg19)) (m ((c.tc : Thread Cert.Kernel11Ideal.nD Cert.Kernel11Ideal.τ).loc Cert.Kernel11Ideal.main_arg27)) (m ((c.tc : Thread Cert.Kernel11Ideal.nD Cert.Kernel11Ideal.τ).loc Cert.Kernel11Ideal.main_arg35)), fun c => Cert.AdamSmall.out53 (m ((c.tc : Thread Cert.Kernel11Ideal.nD Cert.Kernel11Ideal.τ).loc Cert.Kernel11Ideal.main_arg10)) (m ((c.tc : Thread Cert.Kernel11Ideal.nD Cert.Kernel11Ideal.τ).loc Cert.Kernel11Ideal.main_arg11)) (m ((c.tc : Thread Cert.Kernel11Ideal.nD Cert.Kernel11Ideal.τ).loc Cert.Kernel11Ideal.main_arg20)), fun c => Cert.AdamSmall.out54 (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg21)), fun c => Cert.AdamSmall.out55 (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg22)), fun c => Cert.AdamSmall.out56 (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg23)), fun c => Cert.AdamSmall.out57 (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg24)), fun c => Cert.AdamSmall.out58 (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg25)), fun c => Cert.AdamSmall.out59 (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg26)), fun c => Cert.AdamSmall.out60 (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg27)), fun c => Cert.AdamSmall.out61 (m ((c.tc : Thread Cert.Kernel11Ideal.nD Cert.Kernel11Ideal.τ).loc Cert.Kernel11Ideal.main_arg10)) (m ((c.tc : Thread Cert.Kernel11Ideal.nD Cert.Kernel11Ideal.τ).loc Cert.Kernel11Ideal.main_arg11)) (m ((c.tc : Thread Cert.Kernel11Ideal.nD Cert.Kernel11Ideal.τ).loc Cert.Kernel11Ideal.main_arg28)), fun c => Cert.AdamSmall.out62 (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg6)) (m ((c.tc : Thread Cert.Kernel11Ideal.nD Cert.Kernel11Ideal.τ).loc Cert.Kernel11Ideal.main_arg29)), fun c => Cert.AdamSmall.out63 (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg7)) (m ((c.tc : Thread Cert.Kernel11Ideal.nD Cert.Kernel11Ideal.τ).loc Cert.Kernel11Ideal.main_arg30)), fun c => Cert.AdamSmall.out64 (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg8)) (m ((c.tc : Thread Cert.Kernel11Ideal.nD Cert.Kernel11Ideal.τ).loc Cert.Kernel11Ideal.main_arg31)), fun c => Cert.AdamSmall.out65 (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg32)), fun c => Cert.AdamSmall.out66 (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg9)) (m ((c.tc : Thread Cert.Kernel11Ideal.nD Cert.Kernel11Ideal.τ).loc Cert.Kernel11Ideal.main_arg33)), fun c => Cert.AdamSmall.out67 (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg34)), fun c => Cert.AdamSmall.out68 (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg5)) (m ((c.tc : Thread Cert.Kernel11Ideal.nD Cert.Kernel11Ideal.τ).loc Cert.Kernel11Ideal.main_arg35)), Cert.AdamSmall.run_values m ρ, ?_⟩
  refine (θ_run Cert.Reference11Ideal.defs _ _).mono
    (fun _ h c => ⟨(h c).1.trans ?_,
      (h c).2.1.trans ?_,
      (h c).2.2.1.trans ?_,
      (h c).2.2.2.1.trans ?_,
      (h c).2.2.2.2.1.trans ?_,
      (h c).2.2.2.2.2.1.trans ?_,
      (h c).2.2.2.2.2.2.1.trans ?_,
      (h c).2.2.2.2.2.2.2.1.trans ?_,
      (h c).2.2.2.2.2.2.2.2.1.trans ?_,
      (h c).2.2.2.2.2.2.2.2.2.1.trans ?_,
      (h c).2.2.2.2.2.2.2.2.2.2.1.trans ?_,
      (h c).2.2.2.2.2.2.2.2.2.2.2.1.trans ?_,
      (h c).2.2.2.2.2.2.2.2.2.2.2.2.1.trans ?_,
      (h c).2.2.2.2.2.2.2.2.2.2.2.2.2.1.trans ?_,
      (h c).2.2.2.2.2.2.2.2.2.2.2.2.2.2.1.trans ?_,
      (h c).2.2.2.2.2.2.2.2.2.2.2.2.2.2.2.1.trans ?_,
      (h c).2.2.2.2.2.2.2.2.2.2.2.2.2.2.2.2.1.trans ?_,
      (h c).2.2.2.2.2.2.2.2.2.2.2.2.2.2.2.2.2.1.trans ?_,
      (h c).2.2.2.2.2.2.2.2.2.2.2.2.2.2.2.2.2.2.1.trans ?_,
      (h c).2.2.2.2.2.2.2.2.2.2.2.2.2.2.2.2.2.2.2.1.trans ?_,
      (h c).2.2.2.2.2.2.2.2.2.2.2.2.2.2.2.2.2.2.2.2.1.trans ?_,
      (h c).2.2.2.2.2.2.2.2.2.2.2.2.2.2.2.2.2.2.2.2.2.1.trans ?_,
      (h c).2.2.2.2.2.2.2.2.2.2.2.2.2.2.2.2.2.2.2.2.2.2.1.trans ?_,
      (h c).2.2.2.2.2.2.2.2.2.2.2.2.2.2.2.2.2.2.2.2.2.2.2.1.trans ?_,
      (h c).2.2.2.2.2.2.2.2.2.2.2.2.2.2.2.2.2.2.2.2.2.2.2.2.1.trans ?_,
      (h c).2.2.2.2.2.2.2.2.2.2.2.2.2.2.2.2.2.2.2.2.2.2.2.2.2.1.trans ?_,
      (h c).2.2.2.2.2.2.2.2.2.2.2.2.2.2.2.2.2.2.2.2.2.2.2.2.2.2.1.trans ?_,
      (h c).2.2.2.2.2.2.2.2.2.2.2.2.2.2.2.2.2.2.2.2.2.2.2.2.2.2.2.1.trans ?_,
      (h c).2.2.2.2.2.2.2.2.2.2.2.2.2.2.2.2.2.2.2.2.2.2.2.2.2.2.2.2.1.trans ?_,
      (h c).2.2.2.2.2.2.2.2.2.2.2.2.2.2.2.2.2.2.2.2.2.2.2.2.2.2.2.2.2.1.trans ?_,
      (h c).2.2.2.2.2.2.2.2.2.2.2.2.2.2.2.2.2.2.2.2.2.2.2.2.2.2.2.2.2.2.1.trans ?_,
      (h c).2.2.2.2.2.2.2.2.2.2.2.2.2.2.2.2.2.2.2.2.2.2.2.2.2.2.2.2.2.2.2.1.trans ?_,
      (h c).2.2.2.2.2.2.2.2.2.2.2.2.2.2.2.2.2.2.2.2.2.2.2.2.2.2.2.2.2.2.2.2.1.trans ?_, (h c).2.2.2.2.2.2.2.2.2.2.2.2.2.2.2.2.2.2.2.2.2.2.2.2.2.2.2.2.2.2.2.2.2⟩) (Cert.Reference11Ideal.Value.run m' ρ')
  · rw [res_main_v2, e0 c, e5 c]
    exact (Cert.AdamSmall.loss_eq _ _).symm
  · exact (g_sumNorm1 c).trans (Cert.AdamSmall.out37_eq _ _).symm
  · exact (g_sumGain c).trans (Cert.AdamSmall.out38_eq _ _).symm
  · exact (g_sumMix c).trans (Cert.AdamSmall.out39_eq _ _).symm
  · exact (g_sumMixBias c).trans (Cert.AdamSmall.out40_eq _ _).symm
  · exact (g_sumSinks c).trans (Cert.AdamSmall.out41_eq _ _).symm
  · exact (g_sumTable c).trans (Cert.AdamSmall.out42_eq _ _).symm
  · exact (g_sumNorm2 c).trans (Cert.AdamSmall.out43_eq _ _).symm
  · exact (g_sumFinal c).trans (Cert.AdamSmall.out44_eq _ _).symm
  · refine (Cert.AdamSmall.ref_delta_S1x1024 _ _ _ _).trans ?_
    rw [g_sumNorm1 c, e12 c, e20 c, e28 c]
    exact (Cert.AdamSmall.out45_eq _ _ _ _ _).symm
  · refine (Cert.AdamSmall.ref_delta_S1x512 _ _ _ _).trans ?_
    rw [g_sumGain c, e13 c, e21 c, e29 c]
    exact (Cert.AdamSmall.out46_eq _ _ _ _ _).symm
  · refine (Cert.AdamSmall.ref_delta_S4x128x128 _ _ _ _).trans ?_
    rw [g_sumMix c, e14 c, e22 c, e30 c]
    exact (Cert.AdamSmall.out47_eq _ _ _ _ _).symm
  · refine (Cert.AdamSmall.ref_delta_S4x128 _ _ _ _).trans ?_
    rw [g_sumMixBias c, e15 c, e23 c, e31 c]
    exact (Cert.AdamSmall.out48_eq _ _ _ _ _).symm
  · refine (Cert.AdamSmall.ref_delta_S1x8 _ _ _ _).trans ?_
    rw [g_sumSinks c, e16 c, e24 c, e32 c]
    exact (Cert.AdamSmall.out49_eq _ _ _ _ _).symm
  · refine (Cert.AdamSmall.ref_delta_S8x32 _ _ _ _).trans ?_
    rw [g_sumTable c, e17 c, e25 c, e33 c]
    exact (Cert.AdamSmall.out50_eq _ _ _ _ _).symm
  · refine (Cert.AdamSmall.ref_delta_S1x1024 _ _ _ _).trans ?_
    rw [g_sumNorm2 c, e18 c, e26 c, e34 c]
    exact (Cert.AdamSmall.out51_eq _ _ _ _ _).symm
  · refine (Cert.AdamSmall.ref_delta_S1x1024 _ _ _ _).trans ?_
    rw [g_sumFinal c, e19 c, e27 c, e35 c]
    exact (Cert.AdamSmall.out52_eq _ _ _ _ _).symm
  · refine (Cert.AdamSmall.ref_fst_S1x1024 _ _).trans ?_
    rw [g_sumNorm1 c, e20 c]
    exact (Cert.AdamSmall.out53_eq _ _ _).symm
  · refine (Cert.AdamSmall.ref_fst_S1x512 _ _).trans ?_
    rw [g_sumGain c, e21 c]
    exact (Cert.AdamSmall.out54_eq _ _ _).symm
  · refine (Cert.AdamSmall.ref_fst_S4x128x128 _ _).trans ?_
    rw [g_sumMix c, e22 c]
    exact (Cert.AdamSmall.out55_eq _ _ _).symm
  · refine (Cert.AdamSmall.ref_fst_S4x128 _ _).trans ?_
    rw [g_sumMixBias c, e23 c]
    exact (Cert.AdamSmall.out56_eq _ _ _).symm
  · refine (Cert.AdamSmall.ref_fst_S1x8 _ _).trans ?_
    rw [g_sumSinks c, e24 c]
    exact (Cert.AdamSmall.out57_eq _ _ _).symm
  · refine (Cert.AdamSmall.ref_fst_S8x32 _ _).trans ?_
    rw [g_sumTable c, e25 c]
    exact (Cert.AdamSmall.out58_eq _ _ _).symm
  · refine (Cert.AdamSmall.ref_fst_S1x1024 _ _).trans ?_
    rw [g_sumNorm2 c, e26 c]
    exact (Cert.AdamSmall.out59_eq _ _ _).symm
  · refine (Cert.AdamSmall.ref_fst_S1x1024 _ _).trans ?_
    rw [g_sumFinal c, e27 c]
    exact (Cert.AdamSmall.out60_eq _ _ _).symm
  · refine (Cert.AdamSmall.ref_snd_S1x1024 _ _).trans ?_
    rw [g_sumNorm1 c, e28 c]
    exact (Cert.AdamSmall.out61_eq _ _ _).symm
  · refine (Cert.AdamSmall.ref_snd_S1x512 _ _).trans ?_
    rw [g_sumGain c, e29 c]
    exact (Cert.AdamSmall.out62_eq _ _ _).symm
  · refine (Cert.AdamSmall.ref_snd_S4x128x128 _ _).trans ?_
    rw [g_sumMix c, e30 c]
    exact (Cert.AdamSmall.out63_eq _ _ _).symm
  · refine (Cert.AdamSmall.ref_snd_S4x128 _ _).trans ?_
    rw [g_sumMixBias c, e31 c]
    exact (Cert.AdamSmall.out64_eq _ _ _).symm
  · refine (Cert.AdamSmall.ref_snd_S1x8 _ _).trans ?_
    rw [g_sumSinks c, e32 c]
    exact (Cert.AdamSmall.out65_eq _ _ _).symm
  · refine (Cert.AdamSmall.ref_snd_S8x32 _ _).trans ?_
    rw [g_sumTable c, e33 c]
    exact (Cert.AdamSmall.out66_eq _ _ _).symm
  · refine (Cert.AdamSmall.ref_snd_S1x1024 _ _).trans ?_
    rw [g_sumNorm2 c, e34 c]
    exact (Cert.AdamSmall.out67_eq _ _ _).symm
  · refine (Cert.AdamSmall.ref_snd_S1x1024 _ _).trans ?_
    rw [g_sumFinal c, e35 c]
    exact (Cert.AdamSmall.out68_eq _ _ _).symm

end
-- ==== Proof.lean ====
/-
  The claim: every program's frame, the idealizations, and the values that are proved (NOTES.md says which).
-/
module

public import proofs.«01_k».proof.Proof.Tail
public import proofs.«01_k».proof.Proof.InProj
public import proofs.«01_k».proof.Proof.WgradFf1
public import proofs.«01_k».proof.Proof.WgradFf2
public import proofs.«01_k».proof.Proof.WgradIn
public import proofs.«01_k».proof.Proof.InBwd
public import proofs.«01_k».proof.Proof.AdamFf1
public import proofs.«01_k».proof.Proof.AdamFf2
public import proofs.«01_k».proof.Proof.AdamIn
public import proofs.«01_k».proof.Proof.AdamFew
public import proofs.«01_k».proof.Proof.AdamSmall
public import proofs.«01_k».proof.Proof.Gen.KernelIdeal.Value
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6Ideal.Value
public import proofs.«01_k».proof.Proof.Gen.Reference6Ideal.Run
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Reference11Ideal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.ReferenceIdeal
public import proofs.«01_k».proof.Proof.Gen.Reference2Ideal
public import proofs.«01_k».proof.Proof.Gen.Reference3Ideal
public import proofs.«01_k».proof.Proof.Gen.Reference4Ideal
public import proofs.«01_k».proof.Proof.Gen.Reference5Ideal
public import proofs.«01_k».proof.Proof.Gen.Reference6Ideal
public import proofs.«01_k».proof.Proof.Gen.Reference7Ideal
public import proofs.«01_k».proof.Proof.Gen.Reference8Ideal
public import proofs.«01_k».proof.Proof.Gen.Reference9Ideal
public import proofs.«01_k».proof.Proof.Gen.Reference10Ideal
public import proofs.«01_k».proof.Proof.Gen.Reference11Ideal
public import proofs.«01_k».proof.Defs
public import Idealize.ShloMosaic.Lib.Quiescent
public import Idealize.ShloMosaic.Adequacy
public import Idealize.ShloMosaic.Init

@[expose] public section

noncomputable section

namespace Cert.Proof

open Idealize.ShloMosaic Idealize.SL.Sem

/-- The reference of program 1 runs, leaves its arguments alone and ends with every semaphore at zero. -/
theorem ref_frame : Cert.quiescent_ReferenceIdeal (hReferenceIdeal := Cert.ReferenceIdeal.Gen.facts) := fun m ρ _ =>
  (θ_run Cert.ReferenceIdeal.defs _ _).mono (fun r h => ⟨fun c => (h c).2.2.2.2.2.2.2.2.2.2, sem_eq_zero_of_no_sems (by decide) r.2⟩) (Cert.ReferenceIdeal.Value.run (F := Ideal) m ρ)

/-- The reference of program 2 runs, leaves its arguments alone and ends with every semaphore at zero. -/
theorem ref_frame2 : Cert.quiescent_Reference2Ideal (hReference2Ideal := Cert.Reference2Ideal.Gen.facts) := fun m ρ _ =>
  (θ_run Cert.Reference2Ideal.defs _ _).mono (fun r h => ⟨fun c => (h c).2.2.2, sem_eq_zero_of_no_sems (by decide) r.2⟩) (Cert.Reference2Ideal.Value.run (F := Ideal) m ρ)

/-- The reference of program 3 runs, leaves its arguments alone and ends with every semaphore at zero. -/
theorem ref_frame3 : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩) (Cert.Reference3Ideal.Value.run (F := Ideal) m ρ)

/-- The reference of program 4 runs, leaves its arguments alone and ends with every semaphore at zero. -/
theorem ref_frame4 : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩) (Cert.Reference4Ideal.Value.run (F := Ideal) m ρ)

/-- The reference of program 5 runs, leaves its arguments alone and ends with every semaphore at zero. -/
theorem ref_frame5 : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩) (Cert.Reference5Ideal.Value.run (F := Ideal) m ρ)

/-- The reference of program 6 runs, leaves its arguments alone and ends with every semaphore at zero. -/
theorem ref_frame6 : Cert.quiescent_Reference6Ideal (hReference6Ideal := Cert.Reference6Ideal.Gen.facts) := fun m ρ _ =>
  (θ_run Cert.Reference6Ideal.defs _ _).mono (fun r h => ⟨fun c => (h c).2.2, sem_eq_zero_of_no_sems (by decide) r.2⟩) (Cert.Reference6Ideal.Value.run (F := Ideal) m ρ)

/-- The reference of program 7 runs, leaves its arguments alone and ends with every semaphore at zero. -/
theorem ref_frame7 : Cert.quiescent_Reference7Ideal (hReference7Ideal := Cert.Reference7Ideal.Gen.facts) := fun m ρ _ =>
  (θ_run Cert.Reference7Ideal.defs _ _).mono (fun r h => ⟨fun c => (h c).2.2.2.2, sem_eq_zero_of_no_sems (by decide) r.2⟩) (Cert.Reference7Ideal.Value.run (F := Ideal) m ρ)

/-- The reference of program 8 runs, leaves its arguments alone and ends with every semaphore at zero. -/
theorem ref_frame8 : Cert.quiescent_Reference8Ideal (hReference8Ideal := Cert.Reference8Ideal.Gen.facts) := fun m ρ _ =>
  (θ_run Cert.Reference8Ideal.defs _ _).mono (fun r h => ⟨fun c => (h c).2.2.2.2, sem_eq_zero_of_no_sems (by decide) r.2⟩) (Cert.Reference8Ideal.Value.run (F := Ideal) m ρ)

/-- The reference of program 9 runs, leaves its arguments alone and ends with every semaphore at zero. -/
theorem ref_frame9 : Cert.quiescent_Reference9Ideal (hReference9Ideal := Cert.Reference9Ideal.Gen.facts) := fun m ρ _ =>
  (θ_run Cert.Reference9Ideal.defs _ _).mono (fun r h => ⟨fun c => (h c).2.2.2.2, sem_eq_zero_of_no_sems (by decide) r.2⟩) (Cert.Reference9Ideal.Value.run (F := Ideal) m ρ)

/-- The reference of program 10 runs, leaves its arguments alone and ends with every semaphore at zero. -/
theorem ref_frame10 : Cert.quiescent_Reference10Ideal (hReference10Ideal := Cert.Reference10Ideal.Gen.facts) := fun m ρ _ =>
  (θ_run Cert.Reference10Ideal.defs _ _).mono (fun r h => ⟨fun c => (h c).2.2.2.2.2.2.2.2.2.2.2.2, sem_eq_zero_of_no_sems (by decide) r.2⟩) (Cert.Reference10Ideal.Value.run (F := Ideal) m ρ)

/-- The reference of program 11 runs, leaves its arguments alone and ends with every semaphore at zero. -/
theorem ref_frame11 : Cert.quiescent_Reference11Ideal (hReference11Ideal := Cert.Reference11Ideal.Gen.facts) := fun m ρ _ =>
  (θ_run Cert.Reference11Ideal.defs _ _).mono (fun r h => ⟨fun c => (h c).2.2.2.2.2.2.2.2.2.2.2.2.2.2.2.2.2.2.2.2.2.2.2.2.2.2.2.2.2.2.2.2.2, sem_eq_zero_of_no_sems (by decide) r.2⟩) (Cert.Reference11Ideal.Value.run (F := Ideal) m ρ)

/-- The frames and idealizations of all the programs, and the equality of values of those listed in NOTES.md. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts,
   fun m ρ _ => Cert.Kernel.Gen.frame m ρ,
   fun m ρ _ => Cert.KernelIdeal.Gen.frame m ρ,
   ref_frame,
   fun m ρ _ => Cert.Kernel2.Gen.frame m ρ,
   fun m ρ _ => Cert.Kernel2Ideal.Gen.frame m ρ,
   ref_frame2,
   fun m ρ _ => Cert.Kernel3.Gen.frame m ρ,
   fun m ρ _ => Cert.Kernel3Ideal.Gen.frame m ρ,
   ref_frame3,
   fun m ρ _ => Cert.Kernel4.Gen.frame m ρ,
   fun m ρ _ => Cert.Kernel4Ideal.Gen.frame m ρ,
   ref_frame4,
   fun m ρ _ => Cert.Kernel5.Gen.frame m ρ,
   fun m ρ _ => Cert.Kernel5Ideal.Gen.frame m ρ,
   ref_frame5,
   fun m ρ _ => Cert.Kernel6.Gen.frame m ρ,
   fun m ρ _ => Cert.Kernel6Ideal.Gen.frame m ρ,
   ref_frame6,
   fun m ρ _ => Cert.Kernel7.Gen.frame m ρ,
   fun m ρ _ => Cert.Kernel7Ideal.Gen.frame m ρ,
   ref_frame7,
   fun m ρ _ => Cert.Kernel8.Gen.frame m ρ,
   fun m ρ _ => Cert.Kernel8Ideal.Gen.frame m ρ,
   ref_frame8,
   fun m ρ _ => Cert.Kernel9.Gen.frame m ρ,
   fun m ρ _ => Cert.Kernel9Ideal.Gen.frame m ρ,
   ref_frame9,
   fun m ρ _ => Cert.Kernel10.Gen.frame m ρ,
   fun m ρ _ => Cert.Kernel10Ideal.Gen.frame m ρ,
   ref_frame10,
   Cert.AdamSmall.frame_kernel,
   Cert.AdamSmall.frame_ideal,
   ref_frame11,
   trivial,
   tail_value,
   trivial,
   in_proj_value,
   trivial,
   ff1_value,
   trivial,
   ff2_value,
   trivial,
   in_value,
   trivial,
   in_bwd_value,
   trivial,
   adam_ff1_value,
   trivial,
   adam_ff2_value,
   trivial,
   adam_in_value,
   trivial,
   adam_few_value,
   trivial,
   adam_small_value⟩

end Cert.Proof

end
